-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_ZProj (m : (ℓ : Loc Cert.ZProj.nD Cert.ZProj.τ Cert.ZProj.sig) → Buf (Elt Bits) ℓ) : Prop :=
  True

def Pre_ZProjIdeal (m : (ℓ : Loc Cert.ZProjIdeal.nD Cert.ZProjIdeal.τ Cert.ZProjIdeal.sig) → Buf (Elt Ideal) ℓ) : Prop :=
  True

def Pre_ZProjRefIdeal (m : (ℓ : Loc Cert.ZProjRefIdeal.nD Cert.ZProjRefIdeal.τ Cert.ZProjRefIdeal.sig) → Buf (Elt Ideal) ℓ) : Prop :=
  True

def Pre_RProj (m : (ℓ : Loc Cert.RProj.nD Cert.RProj.τ Cert.RProj.sig) → Buf (Elt Bits) ℓ) : Prop :=
  True

def Pre_RProjIdeal (m : (ℓ : Loc Cert.RProjIdeal.nD Cert.RProjIdeal.τ Cert.RProjIdeal.sig) → Buf (Elt Ideal) ℓ) : Prop :=
  True

def Pre_RProjRefIdeal (m : (ℓ : Loc Cert.RProjRefIdeal.nD Cert.RProjRefIdeal.τ Cert.RProjRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_heads_finite [hPre_heads_finite : Cert.Pre_heads_finite.Facts] (m : (ℓ : Loc Cert.MergeIdeal.nD Cert.MergeIdeal.τ Cert.MergeIdeal.sig) → Buf (Elt Ideal) ℓ) : Prop :=
  ∀ c : Dev Cert.MergeIdeal.nD,
    (Cert.Pre_heads_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_heads_finite [hPre_heads_finite : Cert.Pre_heads_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_heads_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15)) (m ((c.tc : Thread Cert.MergeRefIdeal.nD Cert.MergeRefIdeal.τ).loc Cert.MergeRefIdeal.main_arg16)) (m ((c.tc : Thread Cert.MergeRefIdeal.nD Cert.MergeRefIdeal.τ).loc Cert.MergeRefIdeal.main_arg17)) (m ((c.tc : Thread Cert.MergeRefIdeal.nD Cert.MergeRefIdeal.τ).loc Cert.MergeRefIdeal.main_arg18)) (m ((c.tc : Thread Cert.MergeRefIdeal.nD Cert.MergeRefIdeal.τ).loc Cert.MergeRefIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5)
      ∧ r.2.mem ((c.tc : Thread Cert.FfnLast.nD Cert.FfnLast.τ).loc Cert.FfnLast.main_arg6) = m ((c.tc : Thread Cert.FfnLast.nD Cert.FfnLast.τ).loc Cert.FfnLast.main_arg6)
      ∧ r.2.mem ((c.tc : Thread Cert.FfnLast.nD Cert.FfnLast.τ).loc Cert.FfnLast.main_arg7) = m ((c.tc : Thread Cert.FfnLast.nD Cert.FfnLast.τ).loc Cert.FfnLast.main_arg7)
      ∧ r.2.mem ((c.tc : Thread Cert.FfnLast.nD Cert.FfnLast.τ).loc Cert.FfnLast.main_arg8) = m ((c.tc : Thread Cert.FfnLast.nD Cert.FfnLast.τ).loc Cert.FfnLast.main_arg8)
      ∧ r.2.mem ((c.tc : Thread Cert.FfnLast.nD Cert.FfnLast.τ).loc Cert.FfnLast.main_arg9) = m ((c.tc : Thread Cert.FfnLast.nD Cert.FfnLast.τ).loc Cert.FfnLast.main_arg9)
      ∧ r.2.mem ((c.tc : Thread Cert.FfnLast.nD Cert.FfnLast.τ).loc Cert.FfnLast.main_arg10) = m ((c.tc : Thread Cert.FfnLast.nD Cert.FfnLast.τ).loc Cert.FfnLast.main_arg10)
      ∧ r.2.mem ((c.tc : Thread Cert.FfnLast.nD Cert.FfnLast.τ).loc Cert.FfnLast.main_arg11) = m ((c.tc : Thread Cert.FfnLast.nD Cert.FfnLast.τ).loc Cert.FfnLast.main_arg11))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5)
      ∧ r.2.mem ((c.tc : Thread Cert.FfnLastIdeal.nD Cert.FfnLastIdeal.τ).loc Cert.FfnLastIdeal.main_arg6) = m ((c.tc : Thread Cert.FfnLastIdeal.nD Cert.FfnLastIdeal.τ).loc Cert.FfnLastIdeal.main_arg6)
      ∧ r.2.mem ((c.tc : Thread Cert.FfnLastIdeal.nD Cert.FfnLastIdeal.τ).loc Cert.FfnLastIdeal.main_arg7) = m ((c.tc : Thread Cert.FfnLastIdeal.nD Cert.FfnLastIdeal.τ).loc Cert.FfnLastIdeal.main_arg7)
      ∧ r.2.mem ((c.tc : Thread Cert.FfnLastIdeal.nD Cert.FfnLastIdeal.τ).loc Cert.FfnLastIdeal.main_arg8) = m ((c.tc : Thread Cert.FfnLastIdeal.nD Cert.FfnLastIdeal.τ).loc Cert.FfnLastIdeal.main_arg8)
      ∧ r.2.mem ((c.tc : Thread Cert.FfnLastIdeal.nD Cert.FfnLastIdeal.τ).loc Cert.FfnLastIdeal.main_arg9) = m ((c.tc : Thread Cert.FfnLastIdeal.nD Cert.FfnLastIdeal.τ).loc Cert.FfnLastIdeal.main_arg9)
      ∧ r.2.mem ((c.tc : Thread Cert.FfnLastIdeal.nD Cert.FfnLastIdeal.τ).loc Cert.FfnLastIdeal.main_arg10) = m ((c.tc : Thread Cert.FfnLastIdeal.nD Cert.FfnLastIdeal.τ).loc Cert.FfnLastIdeal.main_arg10)
      ∧ r.2.mem ((c.tc : Thread Cert.FfnLastIdeal.nD Cert.FfnLastIdeal.τ).loc Cert.FfnLastIdeal.main_arg11) = m ((c.tc : Thread Cert.FfnLastIdeal.nD Cert.FfnLastIdeal.τ).loc Cert.FfnLastIdeal.main_arg11))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5)
      ∧ r.2.mem ((c.tc : Thread Cert.FfnLastRefIdeal.nD Cert.FfnLastRefIdeal.τ).loc Cert.FfnLastRefIdeal.main_arg6) = m ((c.tc : Thread Cert.FfnLastRefIdeal.nD Cert.FfnLastRefIdeal.τ).loc Cert.FfnLastRefIdeal.main_arg6)
      ∧ r.2.mem ((c.tc : Thread Cert.FfnLastRefIdeal.nD Cert.FfnLastRefIdeal.τ).loc Cert.FfnLastRefIdeal.main_arg7) = m ((c.tc : Thread Cert.FfnLastRefIdeal.nD Cert.FfnLastRefIdeal.τ).loc Cert.FfnLastRefIdeal.main_arg7)
      ∧ r.2.mem ((c.tc : Thread Cert.FfnLastRefIdeal.nD Cert.FfnLastRefIdeal.τ).loc Cert.FfnLastRefIdeal.main_arg8) = m ((c.tc : Thread Cert.FfnLastRefIdeal.nD Cert.FfnLastRefIdeal.τ).loc Cert.FfnLastRefIdeal.main_arg8)
      ∧ r.2.mem ((c.tc : Thread Cert.FfnLastRefIdeal.nD Cert.FfnLastRefIdeal.τ).loc Cert.FfnLastRefIdeal.main_arg9) = m ((c.tc : Thread Cert.FfnLastRefIdeal.nD Cert.FfnLastRefIdeal.τ).loc Cert.FfnLastRefIdeal.main_arg9)
      ∧ r.2.mem ((c.tc : Thread Cert.FfnLastRefIdeal.nD Cert.FfnLastRefIdeal.τ).loc Cert.FfnLastRefIdeal.main_arg10) = m ((c.tc : Thread Cert.FfnLastRefIdeal.nD Cert.FfnLastRefIdeal.τ).loc Cert.FfnLastRefIdeal.main_arg10)
      ∧ r.2.mem ((c.tc : Thread Cert.FfnLastRefIdeal.nD Cert.FfnLastRefIdeal.τ).loc Cert.FfnLastRefIdeal.main_arg11) = m ((c.tc : Thread Cert.FfnLastRefIdeal.nD Cert.FfnLastRefIdeal.τ).loc Cert.FfnLastRefIdeal.main_arg11))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11))
      ∧ r.2.sem = fun _ => 0)

def quiescent_ZProj [hZProj : Cert.ZProj.Facts] : Prop :=
  ∀ (m : (ℓ : Loc Cert.ZProj.nD Cert.ZProj.τ Cert.ZProj.sig) → Buf (Elt Bits) ℓ) (g : Dev Cert.ZProj.nD → PrngReg), Pre_ZProj m →
    θ_run (Cert.ZProj.defs (F := Bits)) (onTc (τ := Cert.ZProj.τ) (Cert.ZProj.main (F := Bits))) ⟨m, fun _ => 0, g⟩ (fun r => (∀ c : Dev Cert.ZProj.nD,
      r.2.mem ((c.tc : Thread Cert.ZProj.nD Cert.ZProj.τ).loc Cert.ZProj.main_arg0) = m ((c.tc : Thread Cert.ZProj.nD Cert.ZProj.τ).loc Cert.ZProj.main_arg0)
      ∧ r.2.mem ((c.tc : Thread Cert.ZProj.nD Cert.ZProj.τ).loc Cert.ZProj.main_arg1) = m ((c.tc : Thread Cert.ZProj.nD Cert.ZProj.τ).loc Cert.ZProj.main_arg1)
      ∧ r.2.mem ((c.tc : Thread Cert.ZProj.nD Cert.ZProj.τ).loc Cert.ZProj.main_arg2) = m ((c.tc : Thread Cert.ZProj.nD Cert.ZProj.τ).loc Cert.ZProj.main_arg2)
      ∧ r.2.mem ((c.tc : Thread Cert.ZProj.nD Cert.ZProj.τ).loc Cert.ZProj.main_arg3) = m ((c.tc : Thread Cert.ZProj.nD Cert.ZProj.τ).loc Cert.ZProj.main_arg3)
      ∧ r.2.mem ((c.tc : Thread Cert.ZProj.nD Cert.ZProj.τ).loc Cert.ZProj.main_arg4) = m ((c.tc : Thread Cert.ZProj.nD Cert.ZProj.τ).loc Cert.ZProj.main_arg4)
      ∧ r.2.mem ((c.tc : Thread Cert.ZProj.nD Cert.ZProj.τ).loc Cert.ZProj.main_arg5) = m ((c.tc : Thread Cert.ZProj.nD Cert.ZProj.τ).loc Cert.ZProj.main_arg5)
      ∧ r.2.mem ((c.tc : Thread Cert.ZProj.nD Cert.ZProj.τ).loc Cert.ZProj.main_arg6) = m ((c.tc : Thread Cert.ZProj.nD Cert.ZProj.τ).loc Cert.ZProj.main_arg6)
      ∧ r.2.mem ((c.tc : Thread Cert.ZProj.nD Cert.ZProj.τ).loc Cert.ZProj.main_arg7) = m ((c.tc : Thread Cert.ZProj.nD Cert.ZProj.τ).loc Cert.ZProj.main_arg7))
      ∧ r.2.sem = fun _ => 0)

def quiescent_ZProjIdeal [hZProjIdeal : Cert.ZProjIdeal.Facts] : Prop :=
  ∀ (m : (ℓ : Loc Cert.ZProjIdeal.nD Cert.ZProjIdeal.τ Cert.ZProjIdeal.sig) → Buf (Elt Ideal) ℓ) (g : Dev Cert.ZProjIdeal.nD → PrngReg), Pre_ZProjIdeal m →
    θ_run (Cert.ZProjIdeal.defs (F := Ideal)) (onTc (τ := Cert.ZProjIdeal.τ) (Cert.ZProjIdeal.main (F := Ideal))) ⟨m, fun _ => 0, g⟩ (fun r => (∀ c : Dev Cert.ZProjIdeal.nD,
      r.2.mem ((c.tc : Thread Cert.ZProjIdeal.nD Cert.ZProjIdeal.τ).loc Cert.ZProjIdeal.main_arg0) = m ((c.tc : Thread Cert.ZProjIdeal.nD Cert.ZProjIdeal.τ).loc Cert.ZProjIdeal.main_arg0)
      ∧ r.2.mem ((c.tc : Thread Cert.ZProjIdeal.nD Cert.ZProjIdeal.τ).loc Cert.ZProjIdeal.main_arg1) = m ((c.tc : Thread Cert.ZProjIdeal.nD Cert.ZProjIdeal.τ).loc Cert.ZProjIdeal.main_arg1)
      ∧ r.2.mem ((c.tc : Thread Cert.ZProjIdeal.nD Cert.ZProjIdeal.τ).loc Cert.ZProjIdeal.main_arg2) = m ((c.tc : Thread Cert.ZProjIdeal.nD Cert.ZProjIdeal.τ).loc Cert.ZProjIdeal.main_arg2)
      ∧ r.2.mem ((c.tc : Thread Cert.ZProjIdeal.nD Cert.ZProjIdeal.τ).loc Cert.ZProjIdeal.main_arg3) = m ((c.tc : Thread Cert.ZProjIdeal.nD Cert.ZProjIdeal.τ).loc Cert.ZProjIdeal.main_arg3)
      ∧ r.2.mem ((c.tc : Thread Cert.ZProjIdeal.nD Cert.ZProjIdeal.τ).loc Cert.ZProjIdeal.main_arg4) = m ((c.tc : Thread Cert.ZProjIdeal.nD Cert.ZProjIdeal.τ).loc Cert.ZProjIdeal.main_arg4)
      ∧ r.2.mem ((c.tc : Thread Cert.ZProjIdeal.nD Cert.ZProjIdeal.τ).loc Cert.ZProjIdeal.main_arg5) = m ((c.tc : Thread Cert.ZProjIdeal.nD Cert.ZProjIdeal.τ).loc Cert.ZProjIdeal.main_arg5)
      ∧ r.2.mem ((c.tc : Thread Cert.ZProjIdeal.nD Cert.ZProjIdeal.τ).loc Cert.ZProjIdeal.main_arg6) = m ((c.tc : Thread Cert.ZProjIdeal.nD Cert.ZProjIdeal.τ).loc Cert.ZProjIdeal.main_arg6)
      ∧ r.2.mem ((c.tc : Thread Cert.ZProjIdeal.nD Cert.ZProjIdeal.τ).loc Cert.ZProjIdeal.main_arg7) = m ((c.tc : Thread Cert.ZProjIdeal.nD Cert.ZProjIdeal.τ).loc Cert.ZProjIdeal.main_arg7))
      ∧ r.2.sem = fun _ => 0)

def quiescent_ZProjRefIdeal [hZProjRefIdeal : Cert.ZProjRefIdeal.Facts] : Prop :=
  ∀ (m : (ℓ : Loc Cert.ZProjRefIdeal.nD Cert.ZProjRefIdeal.τ Cert.ZProjRefIdeal.sig) → Buf (Elt Ideal) ℓ) (g : Dev Cert.ZProjRefIdeal.nD → PrngReg), Pre_ZProjRefIdeal m →
    θ_run (Cert.ZProjRefIdeal.defs (F := Ideal)) (onTc (τ := Cert.ZProjRefIdeal.τ) (Cert.ZProjRefIdeal.main (F := Ideal))) ⟨m, fun _ => 0, g⟩ (fun r => (∀ c : Dev Cert.ZProjRefIdeal.nD,
      r.2.mem ((c.tc : Thread Cert.ZProjRefIdeal.nD Cert.ZProjRefIdeal.τ).loc Cert.ZProjRefIdeal.main_arg0) = m ((c.tc : Thread Cert.ZProjRefIdeal.nD Cert.ZProjRefIdeal.τ).loc Cert.ZProjRefIdeal.main_arg0)
      ∧ r.2.mem ((c.tc : Thread Cert.ZProjRefIdeal.nD Cert.ZProjRefIdeal.τ).loc Cert.ZProjRefIdeal.main_arg1) = m ((c.tc : Thread Cert.ZProjRefIdeal.nD Cert.ZProjRefIdeal.τ).loc Cert.ZProjRefIdeal.main_arg1)
      ∧ r.2.mem ((c.tc : Thread Cert.ZProjRefIdeal.nD Cert.ZProjRefIdeal.τ).loc Cert.ZProjRefIdeal.main_arg2) = m ((c.tc : Thread Cert.ZProjRefIdeal.nD Cert.ZProjRefIdeal.τ).loc Cert.ZProjRefIdeal.main_arg2)
      ∧ r.2.mem ((c.tc : Thread Cert.ZProjRefIdeal.nD Cert.ZProjRefIdeal.τ).loc Cert.ZProjRefIdeal.main_arg3) = m ((c.tc : Thread Cert.ZProjRefIdeal.nD Cert.ZProjRefIdeal.τ).loc Cert.ZProjRefIdeal.main_arg3)
      ∧ r.2.mem ((c.tc : Thread Cert.ZProjRefIdeal.nD Cert.ZProjRefIdeal.τ).loc Cert.ZProjRefIdeal.main_arg4) = m ((c.tc : Thread Cert.ZProjRefIdeal.nD Cert.ZProjRefIdeal.τ).loc Cert.ZProjRefIdeal.main_arg4)
      ∧ r.2.mem ((c.tc : Thread Cert.ZProjRefIdeal.nD Cert.ZProjRefIdeal.τ).loc Cert.ZProjRefIdeal.main_arg5) = m ((c.tc : Thread Cert.ZProjRefIdeal.nD Cert.ZProjRefIdeal.τ).loc Cert.ZProjRefIdeal.main_arg5)
      ∧ r.2.mem ((c.tc : Thread Cert.ZProjRefIdeal.nD Cert.ZProjRefIdeal.τ).loc Cert.ZProjRefIdeal.main_arg6) = m ((c.tc : Thread Cert.ZProjRefIdeal.nD Cert.ZProjRefIdeal.τ).loc Cert.ZProjRefIdeal.main_arg6)
      ∧ r.2.mem ((c.tc : Thread Cert.ZProjRefIdeal.nD Cert.ZProjRefIdeal.τ).loc Cert.ZProjRefIdeal.main_arg7) = m ((c.tc : Thread Cert.ZProjRefIdeal.nD Cert.ZProjRefIdeal.τ).loc Cert.ZProjRefIdeal.main_arg7))
      ∧ r.2.sem = fun _ => 0)

def quiescent_RProj [hRProj : Cert.RProj.Facts] : Prop :=
  ∀ (m : (ℓ : Loc Cert.RProj.nD Cert.RProj.τ Cert.RProj.sig) → Buf (Elt Bits) ℓ) (g : Dev Cert.RProj.nD → PrngReg), Pre_RProj m →
    θ_run (Cert.RProj.defs (F := Bits)) (onTc (τ := Cert.RProj.τ) (Cert.RProj.main (F := Bits))) ⟨m, fun _ => 0, g⟩ (fun r => (∀ c : Dev Cert.RProj.nD,
      r.2.mem ((c.tc : Thread Cert.RProj.nD Cert.RProj.τ).loc Cert.RProj.main_arg0) = m ((c.tc : Thread Cert.RProj.nD Cert.RProj.τ).loc Cert.RProj.main_arg0)
      ∧ r.2.mem ((c.tc : Thread Cert.RProj.nD Cert.RProj.τ).loc Cert.RProj.main_arg1) = m ((c.tc : Thread Cert.RProj.nD Cert.RProj.τ).loc Cert.RProj.main_arg1)
      ∧ r.2.mem ((c.tc : Thread Cert.RProj.nD Cert.RProj.τ).loc Cert.RProj.main_arg2) = m ((c.tc : Thread Cert.RProj.nD Cert.RProj.τ).loc Cert.RProj.main_arg2)
      ∧ r.2.mem ((c.tc : Thread Cert.RProj.nD Cert.RProj.τ).loc Cert.RProj.main_arg3) = m ((c.tc : Thread Cert.RProj.nD Cert.RProj.τ).loc Cert.RProj.main_arg3)
      ∧ r.2.mem ((c.tc : Thread Cert.RProj.nD Cert.RProj.τ).loc Cert.RProj.main_arg4) = m ((c.tc : Thread Cert.RProj.nD Cert.RProj.τ).loc Cert.RProj.main_arg4)
      ∧ r.2.mem ((c.tc : Thread Cert.RProj.nD Cert.RProj.τ).loc Cert.RProj.main_arg5) = m ((c.tc : Thread Cert.RProj.nD Cert.RProj.τ).loc Cert.RProj.main_arg5)
      ∧ r.2.mem ((c.tc : Thread Cert.RProj.nD Cert.RProj.τ).loc Cert.RProj.main_arg6) = m ((c.tc : Thread Cert.RProj.nD Cert.RProj.τ).loc Cert.RProj.main_arg6)
      ∧ r.2.mem ((c.tc : Thread Cert.RProj.nD Cert.RProj.τ).loc Cert.RProj.main_arg7) = m ((c.tc : Thread Cert.RProj.nD Cert.RProj.τ).loc Cert.RProj.main_arg7)
      ∧ r.2.mem ((c.tc : Thread Cert.RProj.nD Cert.RProj.τ).loc Cert.RProj.main_arg8) = m ((c.tc : Thread Cert.RProj.nD Cert.RProj.τ).loc Cert.RProj.main_arg8))
      ∧ r.2.sem = fun _ => 0)

def quiescent_RProjIdeal [hRProjIdeal : Cert.RProjIdeal.Facts] : Prop :=
  ∀ (m : (ℓ : Loc Cert.RProjIdeal.nD Cert.RProjIdeal.τ Cert.RProjIdeal.sig) → Buf (Elt Ideal) ℓ) (g : Dev Cert.RProjIdeal.nD → PrngReg), Pre_RProjIdeal m →
    θ_run (Cert.RProjIdeal.defs (F := Ideal)) (onTc (τ := Cert.RProjIdeal.τ) (Cert.RProjIdeal.main (F := Ideal))) ⟨m, fun _ => 0, g⟩ (fun r => (∀ c : Dev Cert.RProjIdeal.nD,
      r.2.mem ((c.tc : Thread Cert.RProjIdeal.nD Cert.RProjIdeal.τ).loc Cert.RProjIdeal.main_arg0) = m ((c.tc : Thread Cert.RProjIdeal.nD Cert.RProjIdeal.τ).loc Cert.RProjIdeal.main_arg0)
      ∧ r.2.mem ((c.tc : Thread Cert.RProjIdeal.nD Cert.RProjIdeal.τ).loc Cert.RProjIdeal.main_arg1) = m ((c.tc : Thread Cert.RProjIdeal.nD Cert.RProjIdeal.τ).loc Cert.RProjIdeal.main_arg1)
      ∧ r.2.mem ((c.tc : Thread Cert.RProjIdeal.nD Cert.RProjIdeal.τ).loc Cert.RProjIdeal.main_arg2) = m ((c.tc : Thread Cert.RProjIdeal.nD Cert.RProjIdeal.τ).loc Cert.RProjIdeal.main_arg2)
      ∧ r.2.mem ((c.tc : Thread Cert.RProjIdeal.nD Cert.RProjIdeal.τ).loc Cert.RProjIdeal.main_arg3) = m ((c.tc : Thread Cert.RProjIdeal.nD Cert.RProjIdeal.τ).loc Cert.RProjIdeal.main_arg3)
      ∧ r.2.mem ((c.tc : Thread Cert.RProjIdeal.nD Cert.RProjIdeal.τ).loc Cert.RProjIdeal.main_arg4) = m ((c.tc : Thread Cert.RProjIdeal.nD Cert.RProjIdeal.τ).loc Cert.RProjIdeal.main_arg4)
      ∧ r.2.mem ((c.tc : Thread Cert.RProjIdeal.nD Cert.RProjIdeal.τ).loc Cert.RProjIdeal.main_arg5) = m ((c.tc : Thread Cert.RProjIdeal.nD Cert.RProjIdeal.τ).loc Cert.RProjIdeal.main_arg5)
      ∧ r.2.mem ((c.tc : Thread Cert.RProjIdeal.nD Cert.RProjIdeal.τ).loc Cert.RProjIdeal.main_arg6) = m ((c.tc : Thread Cert.RProjIdeal.nD Cert.RProjIdeal.τ).loc Cert.RProjIdeal.main_arg6)
      ∧ r.2.mem ((c.tc : Thread Cert.RProjIdeal.nD Cert.RProjIdeal.τ).loc Cert.RProjIdeal.main_arg7) = m ((c.tc : Thread Cert.RProjIdeal.nD Cert.RProjIdeal.τ).loc Cert.RProjIdeal.main_arg7)
      ∧ r.2.mem ((c.tc : Thread Cert.RProjIdeal.nD Cert.RProjIdeal.τ).loc Cert.RProjIdeal.main_arg8) = m ((c.tc : Thread Cert.RProjIdeal.nD Cert.RProjIdeal.τ).loc Cert.RProjIdeal.main_arg8))
      ∧ r.2.sem = fun _ => 0)

def quiescent_RProjRefIdeal [hRProjRefIdeal : Cert.RProjRefIdeal.Facts] : Prop :=
  ∀ (m : (ℓ : Loc Cert.RProjRefIdeal.nD Cert.RProjRefIdeal.τ Cert.RProjRefIdeal.sig) → Buf (Elt Ideal) ℓ) (g : Dev Cert.RProjRefIdeal.nD → PrngReg), Pre_RProjRefIdeal m →
    θ_run (Cert.RProjRefIdeal.defs (F := Ideal)) (onTc (τ := Cert.RProjRefIdeal.τ) (Cert.RProjRefIdeal.main (F := Ideal))) ⟨m, fun _ => 0, g⟩ (fun r => (∀ c : Dev Cert.RProjRefIdeal.nD,
      r.2.mem ((c.tc : Thread Cert.RProjRefIdeal.nD Cert.RProjRefIdeal.τ).loc Cert.RProjRefIdeal.main_arg0) = m ((c.tc : Thread Cert.RProjRefIdeal.nD Cert.RProjRefIdeal.τ).loc Cert.RProjRefIdeal.main_arg0)
      ∧ r.2.mem ((c.tc : Thread Cert.RProjRefIdeal.nD Cert.RProjRefIdeal.τ).loc Cert.RProjRefIdeal.main_arg1) = m ((c.tc : Thread Cert.RProjRefIdeal.nD Cert.RProjRefIdeal.τ).loc Cert.RProjRefIdeal.main_arg1)
      ∧ r.2.mem ((c.tc : Thread Cert.RProjRefIdeal.nD Cert.RProjRefIdeal.τ).loc Cert.RProjRefIdeal.main_arg2) = m ((c.tc : Thread Cert.RProjRefIdeal.nD Cert.RProjRefIdeal.τ).loc Cert.RProjRefIdeal.main_arg2)
      ∧ r.2.mem ((c.tc : Thread Cert.RProjRefIdeal.nD Cert.RProjRefIdeal.τ).loc Cert.RProjRefIdeal.main_arg3) = m ((c.tc : Thread Cert.RProjRefIdeal.nD Cert.RProjRefIdeal.τ).loc Cert.RProjRefIdeal.main_arg3)
      ∧ r.2.mem ((c.tc : Thread Cert.RProjRefIdeal.nD Cert.RProjRefIdeal.τ).loc Cert.RProjRefIdeal.main_arg4) = m ((c.tc : Thread Cert.RProjRefIdeal.nD Cert.RProjRefIdeal.τ).loc Cert.RProjRefIdeal.main_arg4)
      ∧ r.2.mem ((c.tc : Thread Cert.RProjRefIdeal.nD Cert.RProjRefIdeal.τ).loc Cert.RProjRefIdeal.main_arg5) = m ((c.tc : Thread Cert.RProjRefIdeal.nD Cert.RProjRefIdeal.τ).loc Cert.RProjRefIdeal.main_arg5)
      ∧ r.2.mem ((c.tc : Thread Cert.RProjRefIdeal.nD Cert.RProjRefIdeal.τ).loc Cert.RProjRefIdeal.main_arg6) = m ((c.tc : Thread Cert.RProjRefIdeal.nD Cert.RProjRefIdeal.τ).loc Cert.RProjRefIdeal.main_arg6)
      ∧ r.2.mem ((c.tc : Thread Cert.RProjRefIdeal.nD Cert.RProjRefIdeal.τ).loc Cert.RProjRefIdeal.main_arg7) = m ((c.tc : Thread Cert.RProjRefIdeal.nD Cert.RProjRefIdeal.τ).loc Cert.RProjRefIdeal.main_arg7)
      ∧ r.2.mem ((c.tc : Thread Cert.RProjRefIdeal.nD Cert.RProjRefIdeal.τ).loc Cert.RProjRefIdeal.main_arg8) = m ((c.tc : Thread Cert.RProjRefIdeal.nD Cert.RProjRefIdeal.τ).loc Cert.RProjRefIdeal.main_arg8))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18)
      ∧ r.2.mem ((c.tc : Thread Cert.Merge.nD Cert.Merge.τ).loc Cert.Merge.main_arg19) = m ((c.tc : Thread Cert.Merge.nD Cert.Merge.τ).loc Cert.Merge.main_arg19))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
      ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19))
      ∧ r.2.sem = fun _ => 0)

def quiescent_MergeIdeal_pre_heads_finite [hMergeIdeal : Cert.MergeIdeal.Facts] [hPre_heads_finite : Cert.Pre_heads_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_heads_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
      ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16)
      ∧ r.2.mem ((c.tc : Thread Cert.MergeRefIdeal.nD Cert.MergeRefIdeal.τ).loc Cert.MergeRefIdeal.main_arg17) = m ((c.tc : Thread Cert.MergeRefIdeal.nD Cert.MergeRefIdeal.τ).loc Cert.MergeRefIdeal.main_arg17)
      ∧ r.2.mem ((c.tc : Thread Cert.MergeRefIdeal.nD Cert.MergeRefIdeal.τ).loc Cert.MergeRefIdeal.main_arg18) = m ((c.tc : Thread Cert.MergeRefIdeal.nD Cert.MergeRefIdeal.τ).loc Cert.MergeRefIdeal.main_arg18)
      ∧ r.2.mem ((c.tc : Thread Cert.MergeRefIdeal.nD Cert.MergeRefIdeal.τ).loc Cert.MergeRefIdeal.main_arg19) = m ((c.tc : Thread Cert.MergeRefIdeal.nD Cert.MergeRefIdeal.τ).loc Cert.MergeRefIdeal.main_arg19))
      ∧ r.2.sem = fun _ => 0)

def quiescent_MergeRefIdeal_pre_heads_finite [hMergeRefIdeal : Cert.MergeRefIdeal.Facts] [hPre_heads_finite : Cert.Pre_heads_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_heads_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16)
      ∧ r.2.mem ((c.tc : Thread Cert.MergeRefIdeal.nD Cert.MergeRefIdeal.τ).loc Cert.MergeRefIdeal.main_arg17) = m ((c.tc : Thread Cert.MergeRefIdeal.nD Cert.MergeRefIdeal.τ).loc Cert.MergeRefIdeal.main_arg17)
      ∧ r.2.mem ((c.tc : Thread Cert.MergeRefIdeal.nD Cert.MergeRefIdeal.τ).loc Cert.MergeRefIdeal.main_arg18) = m ((c.tc : Thread Cert.MergeRefIdeal.nD Cert.MergeRefIdeal.τ).loc Cert.MergeRefIdeal.main_arg18)
      ∧ r.2.mem ((c.tc : Thread Cert.MergeRefIdeal.nD Cert.MergeRefIdeal.τ).loc Cert.MergeRefIdeal.main_arg19) = m ((c.tc : Thread Cert.MergeRefIdeal.nD Cert.MergeRefIdeal.τ).loc Cert.MergeRefIdeal.main_arg19))
      ∧ r.2.sem = fun _ => 0)

def preserves_Kernel_KernelIdeal : Prop :=
  True

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)
      ∧ m' ((c.tc : Thread Cert.FfnLastRefIdeal.nD Cert.FfnLastRefIdeal.τ).loc Cert.FfnLastRefIdeal.main_arg6) = m ((c.tc : Thread Cert.FfnLastIdeal.nD Cert.FfnLastIdeal.τ).loc Cert.FfnLastIdeal.main_arg6)
      ∧ m' ((c.tc : Thread Cert.FfnLastRefIdeal.nD Cert.FfnLastRefIdeal.τ).loc Cert.FfnLastRefIdeal.main_arg7) = m ((c.tc : Thread Cert.FfnLastIdeal.nD Cert.FfnLastIdeal.τ).loc Cert.FfnLastIdeal.main_arg7)
      ∧ m' ((c.tc : Thread Cert.FfnLastRefIdeal.nD Cert.FfnLastRefIdeal.τ).loc Cert.FfnLastRefIdeal.main_arg8) = m ((c.tc : Thread Cert.FfnLastIdeal.nD Cert.FfnLastIdeal.τ).loc Cert.FfnLastIdeal.main_arg8)
      ∧ m' ((c.tc : Thread Cert.FfnLastRefIdeal.nD Cert.FfnLastRefIdeal.τ).loc Cert.FfnLastRefIdeal.main_arg9) = m ((c.tc : Thread Cert.FfnLastIdeal.nD Cert.FfnLastIdeal.τ).loc Cert.FfnLastIdeal.main_arg9)
      ∧ m' ((c.tc : Thread Cert.FfnLastRefIdeal.nD Cert.FfnLastRefIdeal.τ).loc Cert.FfnLastRefIdeal.main_arg10) = m ((c.tc : Thread Cert.FfnLastIdeal.nD Cert.FfnLastIdeal.τ).loc Cert.FfnLastIdeal.main_arg10)
      ∧ m' ((c.tc : Thread Cert.FfnLastRefIdeal.nD Cert.FfnLastRefIdeal.τ).loc Cert.FfnLastRefIdeal.main_arg11) = m ((c.tc : Thread Cert.FfnLastIdeal.nD Cert.FfnLastIdeal.τ).loc Cert.FfnLastIdeal.main_arg11)) →
    ∃ (v0 : (c : Dev Cert.FfnLastIdeal.nD) → Buf (Elt Ideal) ((c.tc : Thread Cert.FfnLastIdeal.nD Cert.FfnLastIdeal.τ).loc Cert.FfnLastIdeal.main_v24)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v24) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5)
          ∧ r.2.mem ((c.tc : Thread Cert.FfnLastIdeal.nD Cert.FfnLastIdeal.τ).loc Cert.FfnLastIdeal.main_arg6) = m ((c.tc : Thread Cert.FfnLastIdeal.nD Cert.FfnLastIdeal.τ).loc Cert.FfnLastIdeal.main_arg6)
          ∧ r.2.mem ((c.tc : Thread Cert.FfnLastIdeal.nD Cert.FfnLastIdeal.τ).loc Cert.FfnLastIdeal.main_arg7) = m ((c.tc : Thread Cert.FfnLastIdeal.nD Cert.FfnLastIdeal.τ).loc Cert.FfnLastIdeal.main_arg7)
          ∧ r.2.mem ((c.tc : Thread Cert.FfnLastIdeal.nD Cert.FfnLastIdeal.τ).loc Cert.FfnLastIdeal.main_arg8) = m ((c.tc : Thread Cert.FfnLastIdeal.nD Cert.FfnLastIdeal.τ).loc Cert.FfnLastIdeal.main_arg8)
          ∧ r.2.mem ((c.tc : Thread Cert.FfnLastIdeal.nD Cert.FfnLastIdeal.τ).loc Cert.FfnLastIdeal.main_arg9) = m ((c.tc : Thread Cert.FfnLastIdeal.nD Cert.FfnLastIdeal.τ).loc Cert.FfnLastIdeal.main_arg9)
          ∧ r.2.mem ((c.tc : Thread Cert.FfnLastIdeal.nD Cert.FfnLastIdeal.τ).loc Cert.FfnLastIdeal.main_arg10) = m ((c.tc : Thread Cert.FfnLastIdeal.nD Cert.FfnLastIdeal.τ).loc Cert.FfnLastIdeal.main_arg10)
          ∧ r.2.mem ((c.tc : Thread Cert.FfnLastIdeal.nD Cert.FfnLastIdeal.τ).loc Cert.FfnLastIdeal.main_arg11) = m ((c.tc : Thread Cert.FfnLastIdeal.nD Cert.FfnLastIdeal.τ).loc Cert.FfnLastIdeal.main_arg11))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v49) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5)
          ∧ r.2.mem ((c.tc : Thread Cert.FfnLastRefIdeal.nD Cert.FfnLastRefIdeal.τ).loc Cert.FfnLastRefIdeal.main_arg6) = m' ((c.tc : Thread Cert.FfnLastRefIdeal.nD Cert.FfnLastRefIdeal.τ).loc Cert.FfnLastRefIdeal.main_arg6)
          ∧ r.2.mem ((c.tc : Thread Cert.FfnLastRefIdeal.nD Cert.FfnLastRefIdeal.τ).loc Cert.FfnLastRefIdeal.main_arg7) = m' ((c.tc : Thread Cert.FfnLastRefIdeal.nD Cert.FfnLastRefIdeal.τ).loc Cert.FfnLastRefIdeal.main_arg7)
          ∧ r.2.mem ((c.tc : Thread Cert.FfnLastRefIdeal.nD Cert.FfnLastRefIdeal.τ).loc Cert.FfnLastRefIdeal.main_arg8) = m' ((c.tc : Thread Cert.FfnLastRefIdeal.nD Cert.FfnLastRefIdeal.τ).loc Cert.FfnLastRefIdeal.main_arg8)
          ∧ r.2.mem ((c.tc : Thread Cert.FfnLastRefIdeal.nD Cert.FfnLastRefIdeal.τ).loc Cert.FfnLastRefIdeal.main_arg9) = m' ((c.tc : Thread Cert.FfnLastRefIdeal.nD Cert.FfnLastRefIdeal.τ).loc Cert.FfnLastRefIdeal.main_arg9)
          ∧ r.2.mem ((c.tc : Thread Cert.FfnLastRefIdeal.nD Cert.FfnLastRefIdeal.τ).loc Cert.FfnLastRefIdeal.main_arg10) = m' ((c.tc : Thread Cert.FfnLastRefIdeal.nD Cert.FfnLastRefIdeal.τ).loc Cert.FfnLastRefIdeal.main_arg10)
          ∧ r.2.mem ((c.tc : Thread Cert.FfnLastRefIdeal.nD Cert.FfnLastRefIdeal.τ).loc Cert.FfnLastRefIdeal.main_arg11) = m' ((c.tc : Thread Cert.FfnLastRefIdeal.nD Cert.FfnLastRefIdeal.τ).loc Cert.FfnLastRefIdeal.main_arg11))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)) →
    ∃ (v0 : (c : Dev Cert.FfnIdeal.nD) → Buf (Elt Ideal) ((c.tc : Thread Cert.FfnIdeal.nD Cert.FfnIdeal.τ).loc Cert.FfnIdeal.main_v24)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v24) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v74) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11))

def preserves_ZProj_ZProjIdeal : Prop :=
  True

def algebraic_ZProjIdeal_ZProjRefIdeal [hZProjIdeal : Cert.ZProjIdeal.Facts] [hZProjRefIdeal : Cert.ZProjRefIdeal.Facts] : Prop :=
  ∀ (m : (ℓ : Loc Cert.ZProjIdeal.nD Cert.ZProjIdeal.τ Cert.ZProjIdeal.sig) → Buf (Elt Ideal) ℓ) (g : Dev Cert.ZProjIdeal.nD → PrngReg)
    (m' : (ℓ : Loc Cert.ZProjRefIdeal.nD Cert.ZProjRefIdeal.τ Cert.ZProjRefIdeal.sig) → Buf (Elt Ideal) ℓ) (g' : Dev Cert.ZProjRefIdeal.nD → PrngReg), Pre_ZProjIdeal m →
    (∀ c : Dev Cert.ZProjIdeal.nD,
      m' ((c.tc : Thread Cert.ZProjRefIdeal.nD Cert.ZProjRefIdeal.τ).loc Cert.ZProjRefIdeal.main_arg0) = m ((c.tc : Thread Cert.ZProjIdeal.nD Cert.ZProjIdeal.τ).loc Cert.ZProjIdeal.main_arg0)
      ∧ m' ((c.tc : Thread Cert.ZProjRefIdeal.nD Cert.ZProjRefIdeal.τ).loc Cert.ZProjRefIdeal.main_arg1) = m ((c.tc : Thread Cert.ZProjIdeal.nD Cert.ZProjIdeal.τ).loc Cert.ZProjIdeal.main_arg1)
      ∧ m' ((c.tc : Thread Cert.ZProjRefIdeal.nD Cert.ZProjRefIdeal.τ).loc Cert.ZProjRefIdeal.main_arg2) = m ((c.tc : Thread Cert.ZProjIdeal.nD Cert.ZProjIdeal.τ).loc Cert.ZProjIdeal.main_arg2)
      ∧ m' ((c.tc : Thread Cert.ZProjRefIdeal.nD Cert.ZProjRefIdeal.τ).loc Cert.ZProjRefIdeal.main_arg3) = m ((c.tc : Thread Cert.ZProjIdeal.nD Cert.ZProjIdeal.τ).loc Cert.ZProjIdeal.main_arg3)
      ∧ m' ((c.tc : Thread Cert.ZProjRefIdeal.nD Cert.ZProjRefIdeal.τ).loc Cert.ZProjRefIdeal.main_arg4) = m ((c.tc : Thread Cert.ZProjIdeal.nD Cert.ZProjIdeal.τ).loc Cert.ZProjIdeal.main_arg4)
      ∧ m' ((c.tc : Thread Cert.ZProjRefIdeal.nD Cert.ZProjRefIdeal.τ).loc Cert.ZProjRefIdeal.main_arg5) = m ((c.tc : Thread Cert.ZProjIdeal.nD Cert.ZProjIdeal.τ).loc Cert.ZProjIdeal.main_arg5)
      ∧ m' ((c.tc : Thread Cert.ZProjRefIdeal.nD Cert.ZProjRefIdeal.τ).loc Cert.ZProjRefIdeal.main_arg6) = m ((c.tc : Thread Cert.ZProjIdeal.nD Cert.ZProjIdeal.τ).loc Cert.ZProjIdeal.main_arg6)
      ∧ m' ((c.tc : Thread Cert.ZProjRefIdeal.nD Cert.ZProjRefIdeal.τ).loc Cert.ZProjRefIdeal.main_arg7) = m ((c.tc : Thread Cert.ZProjIdeal.nD Cert.ZProjIdeal.τ).loc Cert.ZProjIdeal.main_arg7)) →
    ∃ (v0 : (c : Dev Cert.ZProjIdeal.nD) → Buf (Elt Ideal) ((c.tc : Thread Cert.ZProjIdeal.nD Cert.ZProjIdeal.τ).loc Cert.ZProjIdeal.main_v17)),
      θ_run (Cert.ZProjIdeal.defs (F := Ideal)) (onTc (τ := Cert.ZProjIdeal.τ) (Cert.ZProjIdeal.main (F := Ideal))) ⟨m, fun _ => 0, g⟩ (fun r => ∀ c : Dev Cert.ZProjIdeal.nD,
          r.2.mem ((c.tc : Thread Cert.ZProjIdeal.nD Cert.ZProjIdeal.τ).loc Cert.ZProjIdeal.main_v17) = v0 c
          ∧ r.2.mem ((c.tc : Thread Cert.ZProjIdeal.nD Cert.ZProjIdeal.τ).loc Cert.ZProjIdeal.main_arg0) = m ((c.tc : Thread Cert.ZProjIdeal.nD Cert.ZProjIdeal.τ).loc Cert.ZProjIdeal.main_arg0)
          ∧ r.2.mem ((c.tc : Thread Cert.ZProjIdeal.nD Cert.ZProjIdeal.τ).loc Cert.ZProjIdeal.main_arg1) = m ((c.tc : Thread Cert.ZProjIdeal.nD Cert.ZProjIdeal.τ).loc Cert.ZProjIdeal.main_arg1)
          ∧ r.2.mem ((c.tc : Thread Cert.ZProjIdeal.nD Cert.ZProjIdeal.τ).loc Cert.ZProjIdeal.main_arg2) = m ((c.tc : Thread Cert.ZProjIdeal.nD Cert.ZProjIdeal.τ).loc Cert.ZProjIdeal.main_arg2)
          ∧ r.2.mem ((c.tc : Thread Cert.ZProjIdeal.nD Cert.ZProjIdeal.τ).loc Cert.ZProjIdeal.main_arg3) = m ((c.tc : Thread Cert.ZProjIdeal.nD Cert.ZProjIdeal.τ).loc Cert.ZProjIdeal.main_arg3)
          ∧ r.2.mem ((c.tc : Thread Cert.ZProjIdeal.nD Cert.ZProjIdeal.τ).loc Cert.ZProjIdeal.main_arg4) = m ((c.tc : Thread Cert.ZProjIdeal.nD Cert.ZProjIdeal.τ).loc Cert.ZProjIdeal.main_arg4)
          ∧ r.2.mem ((c.tc : Thread Cert.ZProjIdeal.nD Cert.ZProjIdeal.τ).loc Cert.ZProjIdeal.main_arg5) = m ((c.tc : Thread Cert.ZProjIdeal.nD Cert.ZProjIdeal.τ).loc Cert.ZProjIdeal.main_arg5)
          ∧ r.2.mem ((c.tc : Thread Cert.ZProjIdeal.nD Cert.ZProjIdeal.τ).loc Cert.ZProjIdeal.main_arg6) = m ((c.tc : Thread Cert.ZProjIdeal.nD Cert.ZProjIdeal.τ).loc Cert.ZProjIdeal.main_arg6)
          ∧ r.2.mem ((c.tc : Thread Cert.ZProjIdeal.nD Cert.ZProjIdeal.τ).loc Cert.ZProjIdeal.main_arg7) = m ((c.tc : Thread Cert.ZProjIdeal.nD Cert.ZProjIdeal.τ).loc Cert.ZProjIdeal.main_arg7))
      ∧ θ_run (Cert.ZProjRefIdeal.defs (F := Ideal)) (onTc (τ := Cert.ZProjRefIdeal.τ) (Cert.ZProjRefIdeal.main (F := Ideal))) ⟨m', fun _ => 0, g'⟩ (fun r => ∀ c : Dev Cert.ZProjRefIdeal.nD,
          r.2.mem ((c.tc : Thread Cert.ZProjRefIdeal.nD Cert.ZProjRefIdeal.τ).loc Cert.ZProjRefIdeal.main_v48) = v0 c
          ∧ r.2.mem ((c.tc : Thread Cert.ZProjRefIdeal.nD Cert.ZProjRefIdeal.τ).loc Cert.ZProjRefIdeal.main_arg0) = m' ((c.tc : Thread Cert.ZProjRefIdeal.nD Cert.ZProjRefIdeal.τ).loc Cert.ZProjRefIdeal.main_arg0)
          ∧ r.2.mem ((c.tc : Thread Cert.ZProjRefIdeal.nD Cert.ZProjRefIdeal.τ).loc Cert.ZProjRefIdeal.main_arg1) = m' ((c.tc : Thread Cert.ZProjRefIdeal.nD Cert.ZProjRefIdeal.τ).loc Cert.ZProjRefIdeal.main_arg1)
          ∧ r.2.mem ((c.tc : Thread Cert.ZProjRefIdeal.nD Cert.ZProjRefIdeal.τ).loc Cert.ZProjRefIdeal.main_arg2) = m' ((c.tc : Thread Cert.ZProjRefIdeal.nD Cert.ZProjRefIdeal.τ).loc Cert.ZProjRefIdeal.main_arg2)
          ∧ r.2.mem ((c.tc : Thread Cert.ZProjRefIdeal.nD Cert.ZProjRefIdeal.τ).loc Cert.ZProjRefIdeal.main_arg3) = m' ((c.tc : Thread Cert.ZProjRefIdeal.nD Cert.ZProjRefIdeal.τ).loc Cert.ZProjRefIdeal.main_arg3)
          ∧ r.2.mem ((c.tc : Thread Cert.ZProjRefIdeal.nD Cert.ZProjRefIdeal.τ).loc Cert.ZProjRefIdeal.main_arg4) = m' ((c.tc : Thread Cert.ZProjRefIdeal.nD Cert.ZProjRefIdeal.τ).loc Cert.ZProjRefIdeal.main_arg4)
          ∧ r.2.mem ((c.tc : Thread Cert.ZProjRefIdeal.nD Cert.ZProjRefIdeal.τ).loc Cert.ZProjRefIdeal.main_arg5) = m' ((c.tc : Thread Cert.ZProjRefIdeal.nD Cert.ZProjRefIdeal.τ).loc Cert.ZProjRefIdeal.main_arg5)
          ∧ r.2.mem ((c.tc : Thread Cert.ZProjRefIdeal.nD Cert.ZProjRefIdeal.τ).loc Cert.ZProjRefIdeal.main_arg6) = m' ((c.tc : Thread Cert.ZProjRefIdeal.nD Cert.ZProjRefIdeal.τ).loc Cert.ZProjRefIdeal.main_arg6)
          ∧ r.2.mem ((c.tc : Thread Cert.ZProjRefIdeal.nD Cert.ZProjRefIdeal.τ).loc Cert.ZProjRefIdeal.main_arg7) = m' ((c.tc : Thread Cert.ZProjRefIdeal.nD Cert.ZProjRefIdeal.τ).loc Cert.ZProjRefIdeal.main_arg7))

def preserves_RProj_RProjIdeal : Prop :=
  True

def algebraic_RProjIdeal_RProjRefIdeal [hRProjIdeal : Cert.RProjIdeal.Facts] [hRProjRefIdeal : Cert.RProjRefIdeal.Facts] : Prop :=
  ∀ (m : (ℓ : Loc Cert.RProjIdeal.nD Cert.RProjIdeal.τ Cert.RProjIdeal.sig) → Buf (Elt Ideal) ℓ) (g : Dev Cert.RProjIdeal.nD → PrngReg)
    (m' : (ℓ : Loc Cert.RProjRefIdeal.nD Cert.RProjRefIdeal.τ Cert.RProjRefIdeal.sig) → Buf (Elt Ideal) ℓ) (g' : Dev Cert.RProjRefIdeal.nD → PrngReg), Pre_RProjIdeal m →
    (∀ c : Dev Cert.RProjIdeal.nD,
      m' ((c.tc : Thread Cert.RProjRefIdeal.nD Cert.RProjRefIdeal.τ).loc Cert.RProjRefIdeal.main_arg0) = m ((c.tc : Thread Cert.RProjIdeal.nD Cert.RProjIdeal.τ).loc Cert.RProjIdeal.main_arg0)
      ∧ m' ((c.tc : Thread Cert.RProjRefIdeal.nD Cert.RProjRefIdeal.τ).loc Cert.RProjRefIdeal.main_arg1) = m ((c.tc : Thread Cert.RProjIdeal.nD Cert.RProjIdeal.τ).loc Cert.RProjIdeal.main_arg1)
      ∧ m' ((c.tc : Thread Cert.RProjRefIdeal.nD Cert.RProjRefIdeal.τ).loc Cert.RProjRefIdeal.main_arg2) = m ((c.tc : Thread Cert.RProjIdeal.nD Cert.RProjIdeal.τ).loc Cert.RProjIdeal.main_arg2)
      ∧ m' ((c.tc : Thread Cert.RProjRefIdeal.nD Cert.RProjRefIdeal.τ).loc Cert.RProjRefIdeal.main_arg3) = m ((c.tc : Thread Cert.RProjIdeal.nD Cert.RProjIdeal.τ).loc Cert.RProjIdeal.main_arg3)
      ∧ m' ((c.tc : Thread Cert.RProjRefIdeal.nD Cert.RProjRefIdeal.τ).loc Cert.RProjRefIdeal.main_arg4) = m ((c.tc : Thread Cert.RProjIdeal.nD Cert.RProjIdeal.τ).loc Cert.RProjIdeal.main_arg4)
      ∧ m' ((c.tc : Thread Cert.RProjRefIdeal.nD Cert.RProjRefIdeal.τ).loc Cert.RProjRefIdeal.main_arg5) = m ((c.tc : Thread Cert.RProjIdeal.nD Cert.RProjIdeal.τ).loc Cert.RProjIdeal.main_arg5)
      ∧ m' ((c.tc : Thread Cert.RProjRefIdeal.nD Cert.RProjRefIdeal.τ).loc Cert.RProjRefIdeal.main_arg6) = m ((c.tc : Thread Cert.RProjIdeal.nD Cert.RProjIdeal.τ).loc Cert.RProjIdeal.main_arg6)
      ∧ m' ((c.tc : Thread Cert.RProjRefIdeal.nD Cert.RProjRefIdeal.τ).loc Cert.RProjRefIdeal.main_arg7) = m ((c.tc : Thread Cert.RProjIdeal.nD Cert.RProjIdeal.τ).loc Cert.RProjIdeal.main_arg7)
      ∧ m' ((c.tc : Thread Cert.RProjRefIdeal.nD Cert.RProjRefIdeal.τ).loc Cert.RProjRefIdeal.main_arg8) = m ((c.tc : Thread Cert.RProjIdeal.nD Cert.RProjIdeal.τ).loc Cert.RProjIdeal.main_arg8)) →
    ∃ (v0 : (c : Dev Cert.RProjIdeal.nD) → Buf (Elt Ideal) ((c.tc : Thread Cert.RProjIdeal.nD Cert.RProjIdeal.τ).loc Cert.RProjIdeal.main_v17)),
      θ_run (Cert.RProjIdeal.defs (F := Ideal)) (onTc (τ := Cert.RProjIdeal.τ) (Cert.RProjIdeal.main (F := Ideal))) ⟨m, fun _ => 0, g⟩ (fun r => ∀ c : Dev Cert.RProjIdeal.nD,
          r.2.mem ((c.tc : Thread Cert.RProjIdeal.nD Cert.RProjIdeal.τ).loc Cert.RProjIdeal.main_v17) = v0 c
          ∧ r.2.mem ((c.tc : Thread Cert.RProjIdeal.nD Cert.RProjIdeal.τ).loc Cert.RProjIdeal.main_arg0) = m ((c.tc : Thread Cert.RProjIdeal.nD Cert.RProjIdeal.τ).loc Cert.RProjIdeal.main_arg0)
          ∧ r.2.mem ((c.tc : Thread Cert.RProjIdeal.nD Cert.RProjIdeal.τ).loc Cert.RProjIdeal.main_arg1) = m ((c.tc : Thread Cert.RProjIdeal.nD Cert.RProjIdeal.τ).loc Cert.RProjIdeal.main_arg1)
          ∧ r.2.mem ((c.tc : Thread Cert.RProjIdeal.nD Cert.RProjIdeal.τ).loc Cert.RProjIdeal.main_arg2) = m ((c.tc : Thread Cert.RProjIdeal.nD Cert.RProjIdeal.τ).loc Cert.RProjIdeal.main_arg2)
          ∧ r.2.mem ((c.tc : Thread Cert.RProjIdeal.nD Cert.RProjIdeal.τ).loc Cert.RProjIdeal.main_arg3) = m ((c.tc : Thread Cert.RProjIdeal.nD Cert.RProjIdeal.τ).loc Cert.RProjIdeal.main_arg3)
          ∧ r.2.mem ((c.tc : Thread Cert.RProjIdeal.nD Cert.RProjIdeal.τ).loc Cert.RProjIdeal.main_arg4) = m ((c.tc : Thread Cert.RProjIdeal.nD Cert.RProjIdeal.τ).loc Cert.RProjIdeal.main_arg4)
          ∧ r.2.mem ((c.tc : Thread Cert.RProjIdeal.nD Cert.RProjIdeal.τ).loc Cert.RProjIdeal.main_arg5) = m ((c.tc : Thread Cert.RProjIdeal.nD Cert.RProjIdeal.τ).loc Cert.RProjIdeal.main_arg5)
          ∧ r.2.mem ((c.tc : Thread Cert.RProjIdeal.nD Cert.RProjIdeal.τ).loc Cert.RProjIdeal.main_arg6) = m ((c.tc : Thread Cert.RProjIdeal.nD Cert.RProjIdeal.τ).loc Cert.RProjIdeal.main_arg6)
          ∧ r.2.mem ((c.tc : Thread Cert.RProjIdeal.nD Cert.RProjIdeal.τ).loc Cert.RProjIdeal.main_arg7) = m ((c.tc : Thread Cert.RProjIdeal.nD Cert.RProjIdeal.τ).loc Cert.RProjIdeal.main_arg7)
          ∧ r.2.mem ((c.tc : Thread Cert.RProjIdeal.nD Cert.RProjIdeal.τ).loc Cert.RProjIdeal.main_arg8) = m ((c.tc : Thread Cert.RProjIdeal.nD Cert.RProjIdeal.τ).loc Cert.RProjIdeal.main_arg8))
      ∧ θ_run (Cert.RProjRefIdeal.defs (F := Ideal)) (onTc (τ := Cert.RProjRefIdeal.τ) (Cert.RProjRefIdeal.main (F := Ideal))) ⟨m', fun _ => 0, g'⟩ (fun r => ∀ c : Dev Cert.RProjRefIdeal.nD,
          r.2.mem ((c.tc : Thread Cert.RProjRefIdeal.nD Cert.RProjRefIdeal.τ).loc Cert.RProjRefIdeal.main_v91) = v0 c
          ∧ r.2.mem ((c.tc : Thread Cert.RProjRefIdeal.nD Cert.RProjRefIdeal.τ).loc Cert.RProjRefIdeal.main_arg0) = m' ((c.tc : Thread Cert.RProjRefIdeal.nD Cert.RProjRefIdeal.τ).loc Cert.RProjRefIdeal.main_arg0)
          ∧ r.2.mem ((c.tc : Thread Cert.RProjRefIdeal.nD Cert.RProjRefIdeal.τ).loc Cert.RProjRefIdeal.main_arg1) = m' ((c.tc : Thread Cert.RProjRefIdeal.nD Cert.RProjRefIdeal.τ).loc Cert.RProjRefIdeal.main_arg1)
          ∧ r.2.mem ((c.tc : Thread Cert.RProjRefIdeal.nD Cert.RProjRefIdeal.τ).loc Cert.RProjRefIdeal.main_arg2) = m' ((c.tc : Thread Cert.RProjRefIdeal.nD Cert.RProjRefIdeal.τ).loc Cert.RProjRefIdeal.main_arg2)
          ∧ r.2.mem ((c.tc : Thread Cert.RProjRefIdeal.nD Cert.RProjRefIdeal.τ).loc Cert.RProjRefIdeal.main_arg3) = m' ((c.tc : Thread Cert.RProjRefIdeal.nD Cert.RProjRefIdeal.τ).loc Cert.RProjRefIdeal.main_arg3)
          ∧ r.2.mem ((c.tc : Thread Cert.RProjRefIdeal.nD Cert.RProjRefIdeal.τ).loc Cert.RProjRefIdeal.main_arg4) = m' ((c.tc : Thread Cert.RProjRefIdeal.nD Cert.RProjRefIdeal.τ).loc Cert.RProjRefIdeal.main_arg4)
          ∧ r.2.mem ((c.tc : Thread Cert.RProjRefIdeal.nD Cert.RProjRefIdeal.τ).loc Cert.RProjRefIdeal.main_arg5) = m' ((c.tc : Thread Cert.RProjRefIdeal.nD Cert.RProjRefIdeal.τ).loc Cert.RProjRefIdeal.main_arg5)
          ∧ r.2.mem ((c.tc : Thread Cert.RProjRefIdeal.nD Cert.RProjRefIdeal.τ).loc Cert.RProjRefIdeal.main_arg6) = m' ((c.tc : Thread Cert.RProjRefIdeal.nD Cert.RProjRefIdeal.τ).loc Cert.RProjRefIdeal.main_arg6)
          ∧ r.2.mem ((c.tc : Thread Cert.RProjRefIdeal.nD Cert.RProjRefIdeal.τ).loc Cert.RProjRefIdeal.main_arg7) = m' ((c.tc : Thread Cert.RProjRefIdeal.nD Cert.RProjRefIdeal.τ).loc Cert.RProjRefIdeal.main_arg7)
          ∧ r.2.mem ((c.tc : Thread Cert.RProjRefIdeal.nD Cert.RProjRefIdeal.τ).loc Cert.RProjRefIdeal.main_arg8) = m' ((c.tc : Thread Cert.RProjRefIdeal.nD Cert.RProjRefIdeal.τ).loc Cert.RProjRefIdeal.main_arg8))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v10)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v10) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v48) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Merge_MergeIdeal : Prop :=
  True

def algebraic_MergeIdeal_MergeRefIdeal_pre_heads_finite [hMergeIdeal : Cert.MergeIdeal.Facts] [hMergeRefIdeal : Cert.MergeRefIdeal.Facts] [hPre_heads_finite : Cert.Pre_heads_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_heads_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)
      ∧ m' ((c.tc : Thread Cert.MergeRefIdeal.nD Cert.MergeRefIdeal.τ).loc Cert.MergeRefIdeal.main_arg17) = m ((c.tc : Thread Cert.MergeIdeal.nD Cert.MergeIdeal.τ).loc Cert.MergeIdeal.main_arg17)
      ∧ m' ((c.tc : Thread Cert.MergeRefIdeal.nD Cert.MergeRefIdeal.τ).loc Cert.MergeRefIdeal.main_arg18) = m ((c.tc : Thread Cert.MergeIdeal.nD Cert.MergeIdeal.τ).loc Cert.MergeIdeal.main_arg18)
      ∧ m' ((c.tc : Thread Cert.MergeRefIdeal.nD Cert.MergeRefIdeal.τ).loc Cert.MergeRefIdeal.main_arg19) = m ((c.tc : Thread Cert.MergeIdeal.nD Cert.MergeIdeal.τ).loc Cert.MergeIdeal.main_arg19)) →
    ∃ (v0 : (c : Dev Cert.MergeIdeal.nD) → Buf (Elt Ideal) ((c.tc : Thread Cert.MergeIdeal.nD Cert.MergeIdeal.τ).loc Cert.MergeIdeal.main_v28)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v28) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
          ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v112) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16)
          ∧ r.2.mem ((c.tc : Thread Cert.MergeRefIdeal.nD Cert.MergeRefIdeal.τ).loc Cert.MergeRefIdeal.main_arg17) = m' ((c.tc : Thread Cert.MergeRefIdeal.nD Cert.MergeRefIdeal.τ).loc Cert.MergeRefIdeal.main_arg17)
          ∧ r.2.mem ((c.tc : Thread Cert.MergeRefIdeal.nD Cert.MergeRefIdeal.τ).loc Cert.MergeRefIdeal.main_arg18) = m' ((c.tc : Thread Cert.MergeRefIdeal.nD Cert.MergeRefIdeal.τ).loc Cert.MergeRefIdeal.main_arg18)
          ∧ r.2.mem ((c.tc : Thread Cert.MergeRefIdeal.nD Cert.MergeRefIdeal.τ).loc Cert.MergeRefIdeal.main_arg19) = m' ((c.tc : Thread Cert.MergeRefIdeal.nD Cert.MergeRefIdeal.τ).loc Cert.MergeRefIdeal.main_arg19))

def Claim : Prop :=
  ∃ (hKernel : Cert.Kernel.Facts) (hKernelIdeal : Cert.KernelIdeal.Facts) (hFfnLast : Cert.FfnLast.Facts) (hFfnLastIdeal : Cert.FfnLastIdeal.Facts) (hFfnLastRefIdeal : Cert.FfnLastRefIdeal.Facts) (hFfn : Cert.Ffn.Facts) (hFfnIdeal : Cert.FfnIdeal.Facts) (hFfnRefIdeal : Cert.FfnRefIdeal.Facts) (hZProj : Cert.ZProj.Facts) (hZProjIdeal : Cert.ZProjIdeal.Facts) (hZProjRefIdeal : Cert.ZProjRefIdeal.Facts) (hRProj : Cert.RProj.Facts) (hRProjIdeal : Cert.RProjIdeal.Facts) (hRProjRefIdeal : Cert.RProjRefIdeal.Facts) (hSgu : Cert.Sgu.Facts) (hSguIdeal : Cert.SguIdeal.Facts) (hSguRefIdeal : Cert.SguRefIdeal.Facts) (hMerge : Cert.Merge.Facts) (hMergeIdeal : Cert.MergeIdeal.Facts) (hMergeRefIdeal : Cert.MergeRefIdeal.Facts) (hPre_heads_finite : Cert.Pre_heads_finite.Facts),
    quiescent_Kernel (hKernel := hKernel)
    ∧ quiescent_KernelIdeal (hKernelIdeal := hKernelIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_Ffn (hFfn := hFfn)
    ∧ quiescent_FfnIdeal (hFfnIdeal := hFfnIdeal)
    ∧ quiescent_FfnRefIdeal (hFfnRefIdeal := hFfnRefIdeal)
    ∧ quiescent_ZProj (hZProj := hZProj)
    ∧ quiescent_ZProjIdeal (hZProjIdeal := hZProjIdeal)
    ∧ quiescent_ZProjRefIdeal (hZProjRefIdeal := hZProjRefIdeal)
    ∧ quiescent_RProj (hRProj := hRProj)
    ∧ quiescent_RProjIdeal (hRProjIdeal := hRProjIdeal)
    ∧ quiescent_RProjRefIdeal (hRProjRefIdeal := hRProjRefIdeal)
    ∧ quiescent_Sgu (hSgu := hSgu)
    ∧ quiescent_SguIdeal (hSguIdeal := hSguIdeal)
    ∧ quiescent_SguRefIdeal (hSguRefIdeal := hSguRefIdeal)
    ∧ quiescent_Merge (hMerge := hMerge)
    ∧ quiescent_MergeIdeal (hMergeIdeal := hMergeIdeal)
    ∧ quiescent_MergeIdeal_pre_heads_finite (hMergeIdeal := hMergeIdeal) (hPre_heads_finite := hPre_heads_finite)
    ∧ quiescent_MergeRefIdeal (hMergeRefIdeal := hMergeRefIdeal)
    ∧ quiescent_MergeRefIdeal_pre_heads_finite (hMergeRefIdeal := hMergeRefIdeal) (hPre_heads_finite := hPre_heads_finite)
    ∧ preserves_Kernel_KernelIdeal
    ∧ preserves_FfnLast_FfnLastIdeal
    ∧ algebraic_FfnLastIdeal_FfnLastRefIdeal (hFfnLastIdeal := hFfnLastIdeal) (hFfnLastRefIdeal := hFfnLastRefIdeal)
    ∧ preserves_Ffn_FfnIdeal
    ∧ algebraic_FfnIdeal_FfnRefIdeal (hFfnIdeal := hFfnIdeal) (hFfnRefIdeal := hFfnRefIdeal)
    ∧ preserves_ZProj_ZProjIdeal
    ∧ algebraic_ZProjIdeal_ZProjRefIdeal (hZProjIdeal := hZProjIdeal) (hZProjRefIdeal := hZProjRefIdeal)
    ∧ preserves_RProj_RProjIdeal
    ∧ algebraic_RProjIdeal_RProjRefIdeal (hRProjIdeal := hRProjIdeal) (hRProjRefIdeal := hRProjRefIdeal)
    ∧ preserves_Sgu_SguIdeal
    ∧ algebraic_SguIdeal_SguRefIdeal (hSguIdeal := hSguIdeal) (hSguRefIdeal := hSguRefIdeal)
    ∧ preserves_Merge_MergeIdeal
    ∧ algebraic_MergeIdeal_MergeRefIdeal_pre_heads_finite (hMergeIdeal := hMergeIdeal) (hMergeRefIdeal := hMergeRefIdeal) (hPre_heads_finite := hPre_heads_finite)
-- ==== Pre_heads_finite.lean ====
abbrev S16x2048x1024 : Shape := ⟨3, ![16, 2048, 1024]⟩
abbrev S16x256x1024 : Shape := ⟨3, ![16, 256, 1024]⟩
abbrev S16x1024 : Shape := ⟨2, ![16, 1024]⟩
abbrev S1024 : Shape := ⟨1, ![1024]⟩
abbrev S16x2304x16x64 : Shape := ⟨4, ![16, 2304, 16, 64]⟩
abbrev S16x2304x3456 : Shape := ⟨3, ![16, 2304, 3456]⟩
abbrev S16x2304x8576 : Shape := ⟨3, ![16, 2304, 8576]⟩
abbrev S16x2304x512 : Shape := ⟨3, ![16, 2304, 512]⟩
abbrev S128x1024 : Shape := ⟨2, ![128, 1024]⟩
abbrev S512 : Shape := ⟨1, ![512]⟩
abbrev S1024x1024 : Shape := ⟨2, ![1024, 1024]⟩
abbrev S512x1024 : Shape := ⟨2, ![512, 1024]⟩
abbrev S_ : Shape := ⟨0, ![]⟩
abbrev S16x2304x2048 : Shape := ⟨3, ![16, 2304, 2048]⟩

class Facts : Prop where
  bcast_S_S16x2304x16x64 : S_.BroadcastsInDim S16x2304x16x64 (![] : Fin 0 → Fin S16x2304x16x64.rank)
  reducesTo_S16x2304x16x64_S_d0_1_2_3 : S16x2304x16x64.ReducesTo [0, 1, 2, 3] S_
  h_S_ : 0 < S_.numel
  slices_S16x2304x3456_S16x2304x2048_0_0_0 : S16x2304x3456.Slices ![0, 0, 0] S16x2304x2048
  bcast_S_S16x2304x2048 : S_.BroadcastsInDim S16x2304x2048 (![] : Fin 0 → Fin S16x2304x2048.rank)
  reducesTo_S16x2304x2048_S_d0_1_2 : S16x2304x2048.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  main_v19

def fn {F : FTy → Type} [FloatOps F] (main_arg0 : FVec F S16x2048x1024 .f32) (main_arg1 : FVec F S16x256x1024 .f32) (main_arg2 : FVec F S16x1024 .f32) (main_arg3 : FVec F S1024 .f32) (main_arg4 : FVec F S16x2304x16x64 .f32) (main_arg5 : FVec F S16x2304x16x64 .f32) (main_arg6 : FVec F S16x2304x3456 .f32) (main_arg7 : FVec F S16x2304x8576 .f32) (main_arg8 : FVec F S16x2304x512 .f32) (main_arg9 : FVec F S16x2304x512 .f32) (main_arg10 : FVec F S1024 .f32) (main_arg11 : FVec F S1024 .f32) (main_arg12 : FVec F S1024 .f32) (main_arg13 : FVec F S128x1024 .f32) (main_arg14 : FVec F S512 .f32) (main_arg15 : FVec F S512 .f32) (main_arg16 : FVec F S1024x1024 .f32) (main_arg17 : FVec F S512x1024 .f32) (main_arg18 : FVec F S512x1024 .f32) (main_arg19 : FVec F S1024x1024 .f32) : IVec S_ 1 :=
  let main_v0 : FVec F S16x2304x16x64 .f32 := Host.absf main_arg4
  let main_cst : FVec F S_ .f32 := constant S_ .f32 0x7F800000#32
  let main_v1 : FVec F S16x2304x16x64 .f32 := broadcastInDim S16x2304x16x64 ![] bcast_S_S16x2304x16x64 main_cst
  let main_v2 : IVec S16x2304x16x64 1 := cmpf .olt main_v0 main_v1
  let main_c : IVec S_ 1 := constantI S_ 1 1#1
  let main_v3 : IVec S_ 1 := (fun x v => Host.reduce IntOp.andi x v reducesTo_S16x2304x16x64_S_d0_1_2_3 h_S_) main_v2 main_c
  let main_v4 : FVec F S16x2304x16x64 .f32 := Host.absf main_arg5
  let main_cst_0 : FVec F S_ .f32 := constant S_ .f32 0x7F800000#32
  let main_v5 : FVec F S16x2304x16x64 .f32 := broadcastInDim S16x2304x16x64 ![] bcast_S_S16x2304x16x64 main_cst_0
  let main_v6 : IVec S16x2304x16x64 1 := cmpf .olt main_v4 main_v5
  let main_c_1 : IVec S_ 1 := constantI S_ 1 1#1
  let main_v7 : IVec S_ 1 := (fun x v => Host.reduce IntOp.andi x v reducesTo_S16x2304x16x64_S_d0_1_2_3 h_S_) main_v6 main_c_1
  let main_v8 : IVec S_ 1 := andi main_v3 main_v7
  let main_v9 : FVec F S16x2304x2048 .f32 := (extractStridedSlice S16x2304x2048 ![0, 0, 0] · slices_S16x2304x3456_S16x2304x2048_0_0_0) main_arg6
  let main_v10 : FVec F S16x2304x2048 .f32 := Host.absf main_v9
  let main_cst_2 : FVec F S_ .f32 := constant S_ .f32 0x7F800000#32
  let main_v11 : FVec F S16x2304x2048 .f32 := broadcastInDim S16x2304x2048 ![] bcast_S_S16x2304x2048 main_cst_2
  let main_v12 : IVec S16x2304x2048 1 := cmpf .olt main_v10 main_v11
  let main_c_3 : IVec S_ 1 := constantI S_ 1 1#1
  let main_v13 : IVec S_ 1 := (fun x v => Host.reduce IntOp.andi x v reducesTo_S16x2304x2048_S_d0_1_2 h_S_) main_v12 main_c_3
  let main_v14 : IVec S_ 1 := andi main_v8 main_v13
  let main_v15 : FVec F S1024 .f32 := Host.absf main_arg12
  let main_cst_4 : FVec F S_ .f32 := constant S_ .f32 0x7F800000#32
  let main_v16 : FVec F S1024 .f32 := broadcastInDim S1024 ![] bcast_S_S1024 main_cst_4
  fn_part1 (F := F) main_v14 main_v15 main_v16
-- ==== Kernel.lean ====
abbrev S16x2048x3456 : Shape := ⟨3, ![16, 2048, 3456]⟩
abbrev S16x256x3456 : Shape := ⟨3, ![16, 256, 3456]⟩
abbrev S2x1024 : Shape := ⟨2, ![2, 1024]⟩
abbrev S2x64x1024 : Shape := ⟨3, ![2, 64, 1024]⟩
abbrev S1024 : Shape := ⟨1, ![1024]⟩
abbrev S16x2304x3456 : Shape := ⟨3, ![16, 2304, 3456]⟩
abbrev S16x2304x27x128 : Shape := ⟨4, ![16, 2304, 27, 128]⟩
abbrev S16x27x2304x128 : Shape := ⟨4, ![16, 27, 2304, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S2x64x64 : Shape := ⟨3, ![2, 64, 64]⟩
abbrev S2x64x128 : Shape := ⟨3, ![2, 64, 128]⟩
abbrev S2x128x128 : Shape := ⟨3, ![2, 128, 128]⟩
abbrev S1x64x1024 : Shape := ⟨3, ![1, 64, 1024]⟩
abbrev S64x1024 : Shape := ⟨2, ![64, 1024]⟩
abbrev S_ : Shape := ⟨0, ![]⟩
abbrev S128x1024 : Shape := ⟨2, ![128, 1024]⟩
abbrev S1x128x1024 : Shape := ⟨3, ![1, 128, 1024]⟩
abbrev S2x128x1024 : Shape := ⟨3, ![2, 128, 1024]⟩
abbrev S2x1x1024 : Shape := ⟨3, ![2, 1, 1024]⟩
abbrev S1x1024 : Shape := ⟨2, ![1, 1024]⟩
abbrev S16x8x2304x128 : Shape := ⟨4, ![16, 8, 2304, 128]⟩
abbrev S1x24x64x128 : Shape := ⟨4, ![1, 24, 64, 128]⟩
abbrev S1x2x64x128 : Shape := ⟨4, ![1, 2, 64, 128]⟩
abbrev S1x8x64x128 : Shape := ⟨4, ![1, 8, 64, 128]⟩
abbrev S16x128x128 : Shape := ⟨3, ![16, 128, 128]⟩
abbrev S16x64x128 : Shape := ⟨3, ![16, 64, 128]⟩
abbrev S16x1x128 : Shape := ⟨3, ![16, 1, 128]⟩
abbrev S1x1x64x128 : Shape := ⟨4, ![1, 1, 64, 128]⟩
abbrev S64x128 : Shape := ⟨2, ![64, 128]⟩
abbrev S1x1x1024 : Shape := ⟨3, ![1, 1, 1024]⟩
abbrev S1x64x128 : Shape := ⟨3, ![1, 64, 128]⟩
abbrev S8x64x128 : Shape := ⟨3, ![8, 64, 128]⟩
abbrev S1x128 : Shape := ⟨2, ![1, 128]⟩
abbrev S1x1x128 : Shape := ⟨3, ![1, 1, 128]⟩
abbrev S8x1x128 : Shape := ⟨3, ![8, 1, 128]⟩
abbrev S8x64 : Shape := ⟨2, ![8, 64]⟩
abbrev S8x64x1 : Shape := ⟨3, ![8, 64, 1]⟩
abbrev S8x128x128 : Shape := ⟨3, ![8, 128, 128]⟩
abbrev S16x256x128 : Shape := ⟨3, ![16, 256, 128]⟩
abbrev S16x192x128 : Shape := ⟨3, ![16, 192, 128]⟩
abbrev S1x128x128 : Shape := ⟨3, ![1, 128, 128]⟩
abbrev S128x128 : Shape := ⟨2, ![128, 128]⟩

abbrev nBuf : Space → Nat
  | .hbm => 86
  | .vmem => 32
  | .smem => 0
  | _ => 0

abbrev bufTy : (tb : Table) → Fin (tcTables nBuf tb) → BufTy
  | .hbm, ⟨0, _⟩ => ⟨S16x2048x3456, .f32⟩
  | .hbm, ⟨1, _⟩ => ⟨S16x256x3456, .f32⟩
  | .hbm, ⟨2, _⟩ => ⟨S2x1024, .f32⟩
  | .hbm, ⟨3, _⟩ => ⟨S2x64x1024, .f32⟩
  | .hbm, ⟨4, _⟩ => ⟨S2x1024, .f32⟩
  | .hbm, ⟨5, _⟩ => ⟨S2x64x1024, .f32⟩
  | .hbm, ⟨6, _⟩ => ⟨S1024, .f32⟩
  | .hbm, ⟨7, _⟩ => ⟨S1024, .f32⟩
  | .hbm, ⟨8, _⟩ => ⟨S16x2304x3456, .f32⟩
  | .hbm, ⟨9, _⟩ => ⟨S16x2304x3456, .bf16⟩
  | .hbm, ⟨10, _⟩ => ⟨S16x2304x27x128, .bf16⟩
  | .hbm, ⟨11, _⟩ => ⟨S16x27x2304x128, .bf16⟩
  | .hbm, ⟨12, _⟩ => ⟨S64, .i32⟩
  | .hbm, ⟨13, _⟩ => ⟨S64x1, .i32⟩
  | .hbm, ⟨14, _⟩ => ⟨S1x64, .i32⟩
  | .hbm, ⟨15, _⟩ => ⟨S64x64, .i32⟩
  | .hbm, ⟨16, _⟩ => ⟨S64x64, .i32⟩
  | .hbm, ⟨17, _⟩ => ⟨S64x64, .i1⟩
  | .hbm, ⟨18, _⟩ => ⟨S64x1, .i32⟩
  | .hbm, ⟨19, _⟩ => ⟨S1x64, .i32⟩
  | .hbm, ⟨20, _⟩ => ⟨S64x64, .i32⟩
  | .hbm, ⟨21, _⟩ => ⟨S64x64, .i32⟩
  | .hbm, ⟨22, _⟩ => ⟨S64x64, .i1⟩
  | .hbm, ⟨23, _⟩ => ⟨S1x64x64, .i1⟩
  | .hbm, ⟨24, _⟩ => ⟨S1x64x64, .i1⟩
  | .hbm, ⟨25, _⟩ => ⟨S2x64x64, .i1⟩
  | .hbm, ⟨26, _⟩ => ⟨S2x64x64, .f32⟩
  | .hbm, ⟨27, _⟩ => ⟨S64x1, .i32⟩
  | .hbm, ⟨28, _⟩ => ⟨S1x64, .i32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S64x1, .i32⟩
  | .hbm, ⟨33, _⟩ => ⟨S1x64, .i32⟩
  | .hbm, ⟨34, _⟩ => ⟨S64x64, .i32⟩
  | .hbm, ⟨35, _⟩ => ⟨S64x64, .i32⟩
  | .hbm, ⟨36, _⟩ => ⟨S64x64, .i1⟩
  | .hbm, ⟨37, _⟩ => ⟨S1x64x64, .i1⟩
  | .hbm, ⟨38, _⟩ => ⟨S1x64x64, .i1⟩
  | .hbm, ⟨39, _⟩ => ⟨S2x64x64, .i1⟩
  | .hbm, ⟨40, _⟩ => ⟨S2x64x64, .f32⟩
  | .hbm, ⟨41, _⟩ => ⟨S2x64x64, .f32⟩
  | .hbm, ⟨42, _⟩ => ⟨S2x64x128, .f32⟩
  | .hbm, ⟨43, _⟩ => ⟨S2x64x64, .f32⟩
  | .hbm, ⟨44, _⟩ => ⟨S2x64x128, .f32⟩
  | .hbm, ⟨45, _⟩ => ⟨S2x128x128, .f32⟩
  | .hbm, ⟨46, _⟩ => ⟨S2x64x64, .f32⟩
  | .hbm, ⟨47, _⟩ => ⟨S2x64x128, .f32⟩
  | .hbm, ⟨48, _⟩ => ⟨S2x128x128, .f32⟩
  | .hbm, ⟨49, _⟩ => ⟨S2x128x128, .bf16⟩
  | .hbm, ⟨50, _⟩ => ⟨S2x128x128, .bf16⟩
  | .hbm, ⟨51, _⟩ => ⟨S2x64x64, .bf16⟩
  | .hbm, ⟨52, _⟩ => ⟨S1x64x1024, .f32⟩
  | .hbm, ⟨53, _⟩ => ⟨S64x1024, .f32⟩
  | .hbm, ⟨54, _⟩ => ⟨S_, .f32⟩
  | .hbm, ⟨55, _⟩ => ⟨S64x1024, .f32⟩
  | .hbm, ⟨56, _⟩ => ⟨S1x64x1024, .f32⟩
  | .hbm, ⟨57, _⟩ => ⟨S64x1024, .f32⟩
  | .hbm, ⟨58, _⟩ => ⟨S128x1024, .f32⟩
  | .hbm, ⟨59, _⟩ => ⟨S1x64x1024, .f32⟩
  | .hbm, ⟨60, _⟩ => ⟨S64x1024, .f32⟩
  | .hbm, ⟨61, _⟩ => ⟨S128x1024, .f32⟩
  | .hbm, ⟨62, _⟩ => ⟨S1x128x1024, .f32⟩
  | .hbm, ⟨63, _⟩ => ⟨S1x128x1024, .f32⟩
  | .hbm, ⟨64, _⟩ => ⟨S2x128x1024, .f32⟩
  | .hbm, ⟨65, _⟩ => ⟨S2x128x1024, .bf16⟩
  | .hbm, ⟨66, _⟩ => ⟨S2x1x1024, .f32⟩
  | .hbm, ⟨67, _⟩ => ⟨S1x64x1024, .f32⟩
  | .hbm, ⟨68, _⟩ => ⟨S64x1024, .f32⟩
  | .hbm, ⟨69, _⟩ => ⟨S_, .f32⟩
  | .hbm, ⟨70, _⟩ => ⟨S64x1024, .f32⟩
  | .hbm, ⟨71, _⟩ => ⟨S1x64x1024, .f32⟩
  | .hbm, ⟨72, _⟩ => ⟨S64x1024, .f32⟩
  | .hbm, ⟨73, _⟩ => ⟨S128x1024, .f32⟩
  | .hbm, ⟨74, _⟩ => ⟨S1x64x1024, .f32⟩
  | .hbm, ⟨75, _⟩ => ⟨S64x1024, .f32⟩
  | .hbm, ⟨76, _⟩ => ⟨S128x1024, .f32⟩
  | .hbm, ⟨77, _⟩ => ⟨S1x128x1024, .f32⟩
  | .hbm, ⟨78, _⟩ => ⟨S1x128x1024, .f32⟩
  | .hbm, ⟨79, _⟩ => ⟨S2x128x1024, .f32⟩
  | .hbm, ⟨80, _⟩ => ⟨S2x128x1024, .bf16⟩
  | .hbm, ⟨81, _⟩ => ⟨S2x1x1024, .f32⟩
  | .hbm, ⟨82, _⟩ => ⟨S1x1024, .f32⟩
  | .hbm, ⟨83, _⟩ => ⟨S1x1024, .f32⟩
  | .hbm, ⟨84, _⟩ => ⟨S16x8x2304x128, .f32⟩
  | .hbm, ⟨85, _⟩ => ⟨S16x8x2304x128, .f32⟩
  | .local _ .vmem, ⟨0, _⟩ => ⟨S1x24x64x128, .bf16⟩
  | .local _ .vmem, ⟨1, _⟩ => ⟨S1x24x64x128, .bf16⟩
  | .local _ .vmem, ⟨2, _⟩ => ⟨S1x2x64x128, .bf16⟩
  | .local _ .vmem, ⟨3, _⟩ => ⟨S1x2x64x128, .bf16⟩
  | .local _ .vmem, ⟨4, _⟩ => ⟨S1x24x64x128, .bf16⟩
  | .local _ .vmem, ⟨5, _⟩ => ⟨S1x24x64x128, .bf16⟩
  | .local _ .vmem, ⟨6, _⟩ => ⟨S1x2x64x128, .bf16⟩
  | .local _ .vmem, ⟨7, _⟩ => ⟨S1x2x64x128, .bf16⟩
  | .local _ .vmem, ⟨8, _⟩ => ⟨S2x128x1024, .bf16⟩
  | .local _ .vmem, ⟨9, _⟩ => ⟨S2x1x1024, .f32⟩
  | .local _ .vmem, ⟨10, _⟩ => ⟨S2x128x1024, .bf16⟩
  | .local _ .vmem, ⟨11, _⟩ => ⟨S2x1x1024, .f32⟩
  | .local _ .vmem, ⟨12, _⟩ => ⟨S1x1024, .f32⟩
  | .local _ .vmem, ⟨13, _⟩ => ⟨S1x1024, .f32⟩
  | .local _ .vmem, ⟨14, _⟩ => ⟨S2x64x64, .bf16⟩
  | .local _ .vmem, ⟨15, _⟩ => ⟨S2x128x128, .bf16⟩
  | .local _ .vmem, ⟨16, _⟩ => ⟨S2x128x128, .bf16⟩
  | .local _ .vmem, ⟨17, _⟩ => ⟨S1x8x64x128, .f32⟩
  | .local _ .vmem, ⟨18, _⟩ => ⟨S1x8x64x128, .f32⟩
  | .local _ .vmem, ⟨19, _⟩ => ⟨S1x8x64x128, .f32⟩
  | .local _ .vmem, ⟨20, _⟩ => ⟨S1x8x64x128, .f32⟩
  | .local _ .vmem, ⟨21, _⟩ => ⟨S16x128x128, .f32⟩
  | .local _ .vmem, ⟨22, _⟩ => ⟨S16x128x128, .bf16⟩
  | .local _ .vmem, ⟨23, _⟩ => ⟨S16x128x128, .bf16⟩
  | .local _ .vmem, ⟨24, _⟩ => ⟨S16x64x128, .bf16⟩
  | .local _ .vmem, ⟨25, _⟩ => ⟨S16x128x128, .bf16⟩
  | .local _ .vmem, ⟨26, _⟩ => ⟨S16x1x128, .f32⟩
  | .local _ .vmem, ⟨27, _⟩ => ⟨S16x128x128, .bf16⟩
  | .local _ .vmem, ⟨28, _⟩ => ⟨S16x128x128, .bf16⟩
  | .local _ .vmem, ⟨29, _⟩ => ⟨S16x64x128, .bf16⟩
  | .local _ .vmem, ⟨30, _⟩ => ⟨S16x128x128, .bf16⟩
  | .local _ .vmem, ⟨31, _⟩ => ⟨S16x1x128, .f32⟩
  | _, _ => ⟨S16x2048x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_0 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74_0 : Ref sig .tc := ⟨.hbm, 84, rfl⟩
abbrev main_v74_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![16, 37], ![false, false]⟩

def k0_cond2 (i : grid0.Coords) : BitVec 1 :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let c0_i32_6 : BitVec 32 := 0#32
  let v14 : BitVec 1 := Scalar.cmpi .sgt arg1 c0_i32_6
  let v15 : BitVec 1 := Scalar.andi v13 v14
  let c36_i32 : BitVec 32 := 36#32
  let v16 : BitVec 1 := Scalar.cmpi .slt arg1 c36_i32
  let v17 : BitVec 1 := Scalar.andi v15 v16
  let v18 : BitVec 32 := Scalar.extui v17
  let c0_i32_7 : BitVec 32 := 0#32
  let v19 : BitVec 1 := Scalar.cmpi .ne v18 c0_i32_7
  v19

def k0_cond3 (i : grid0.Coords) : BitVec 1 :=
  let arg1 : BitVec 32 := BitVec.ofNat 32 (i 1).val
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi arg1 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1_i32_14 : BitVec 32 := 1#32
  let v30 : BitVec 1 := Scalar.cmpi .eq v29 c1_i32_14
  let v31 : BitVec 32 := Scalar.extui v30
  let c0_i32_15 : BitVec 32 := 0#32
  let v32 : BitVec 1 := Scalar.cmpi .ne v31 c0_i32_15
  v32

def k0_cond4 (i : grid0.Coords) : BitVec 1 :=
  let arg1 : BitVec 32 := BitVec.ofNat 32 (i 1).val
  let c36_i32_16 : BitVec 32 := 36#32
  let v33 : BitVec 1 := Scalar.cmpi .eq arg1 c36_i32_16
  let v34 : BitVec 32 := Scalar.extui v33
  let c0_i32_17 : BitVec 32 := 0#32
  let v35 : BitVec 1 := Scalar.cmpi .ne v34 c0_i32_17
  v35

def cc0_transform_0 (i : grid0.Coords) : Fin 4 → Nat :=
  let arg0 : BitVec 32 := BitVec.ofNat 32 (i 0).val
  let arg1 : BitVec 32 := BitVec.ofNat 32 (i 1).val
  let c35_i32 : BitVec 32 := 35#32
  let v0 : BitVec 32 := Scalar.minsi arg1 c35_i32
  let c32_i32 : BitVec 32 := 32#32
  let v1 : BitVec 32 := Scalar.addi v0 c32_i32
  let c36_i32 : BitVec 32 := 36#32
  let c0_i32 : BitVec 32 := 0#32
  let v2 : BitVec 1 := Scalar.cmpi .eq c36_i32 c0_i32
  let c1_i32 : BitVec 32 := 1#32
  let v3 : BitVec 32 := Scalar.select v2 c1_i32 c36_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  let c0_i32_5 : BitVec 32 := 0#32
  ![arg0.toNat, c0_i32_3.toNat, v11.toNat, c0_i32_4.toNat]

def cc0_transform_1 (i : grid0.Coords) : Fin 4 → Nat :=
  let arg0 : BitVec 32 := BitVec.ofNat 32 (i 0).val
  let arg1 : BitVec 32 := BitVec.ofNat 32 (i 1).val
  let c35_i32 : BitVec 32 := 35#32
  let v0 : BitVec 32 := Scalar.minsi arg1 c35_i32
  let c32_i32 : BitVec 32 := 32#32
  let v1 : BitVec 32 := Scalar.addi v0 c32_i32
  let c36_i32 : BitVec 32 := 36#32
  let c0_i32 : BitVec 32 := 0#32
  let v2 : BitVec 1 := Scalar.cmpi .eq c36_i32 c0_i32
  let c1_i32 : BitVec 32 := 1#32
  let v3 : BitVec 32 := Scalar.select v2 c1_i32 c36_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c12_i32 : BitVec 32 := 12#32
  let c0_i32_3 : BitVec 32 := 0#32
  let c0_i32_4 : BitVec 32 := 0#32
  ![arg0.toNat, c12_i32.toNat, v11.toNat, c0_i32_3.toNat]

def cc0_transform_2 (i : grid0.Coords) : Fin 4 → Nat :=
  let arg0 : BitVec 32 := BitVec.ofNat 32 (i 0).val
  let arg1 : BitVec 32 := BitVec.ofNat 32 (i 1).val
  let c35_i32 : BitVec 32 := 35#32
  let v0 : BitVec 32 := Scalar.minsi arg1 c35_i32
  let c35_i32_0 : BitVec 32 := 35#32
  let v1 : BitVec 32 := Scalar.subi c35_i32_0 v0
  let c0_i32 : BitVec 32 := 0#32
  let c0_i32_1 : BitVec 32 := 0#32
  let c0_i32_2 : BitVec 32 := 0#32
  ![arg0.toNat, c0_i32.toNat, v1.toNat, c0_i32_1.toNat]

def cc0_transform_3 (i : grid0.Coords) : Fin 4 → Nat :=
  let arg0 : BitVec 32 := BitVec.ofNat 32 (i 0).val
  let arg1 : BitVec 32 := BitVec.ofNat 32 (i 1).val
  let c35_i32 : BitVec 32 := 35#32
  let v0 : BitVec 32 := Scalar.minsi arg1 c35_i32
  let c35_i32_0 : BitVec 32 := 35#32
  let v1 : BitVec 32 := Scalar.subi c35_i32_0 v0
  let c12_i32 : BitVec 32 := 12#32
  let c0_i32 : BitVec 32 := 0#32
  let c0_i32_1 : BitVec 32 := 0#32
  ![arg0.toNat, c12_i32.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c32_i32 : BitVec 32 := 32#32
  let v2 : BitVec 32 := Scalar.addi v1 c32_i32
  let c36_i32 : BitVec 32 := 36#32
  let c0_i32_0 : BitVec 32 := 0#32
  let v3 : BitVec 1 := Scalar.cmpi .eq c36_i32 c0_i32_0
  let c1_i32_1 : BitVec 32 := 1#32
  let v4 : BitVec 32 := Scalar.select v3 c1_i32_1 c36_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  let c0_i32_7 : BitVec 32 := 0#32
  ![arg0.toNat, c0_i32_5.toNat, v12.toNat, c0_i32_6.toNat]

def cc0_transform_14 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c35_i32 : BitVec 32 := 35#32
  let v2 : BitVec 32 := Scalar.subi c35_i32 v1
  let c0_i32_0 : BitVec 32 := 0#32
  let c0_i32_1 : BitVec 32 := 0#32
  let c0_i32_2 : BitVec 32 := 0#32
  ![arg0.toNat, c0_i32_0.toNat, v2.toNat, c0_i32_1.toNat]

abbrev stage0_0 : Fin 2 → Memref sig .tc .vmem S1x24x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x24x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x64x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x8x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== FfnLast.lean ====
abbrev S16x2048x1024 : Shape := ⟨3, ![16, 2048, 1024]⟩
abbrev S16x256x1024 : Shape := ⟨3, ![16, 256, 1024]⟩
abbrev S1024 : Shape := ⟨1, ![1024]⟩
abbrev S16x1024 : Shape := ⟨2, ![16, 1024]⟩
abbrev S1024x5632 : Shape := ⟨2, ![1024, 5632]⟩
abbrev S2816x1024 : Shape := ⟨2, ![2816, 1024]⟩
abbrev S16x2304x1024 : Shape := ⟨3, ![16, 2304, 1024]⟩
abbrev S1x1024 : Shape := ⟨2, ![1, 1024]⟩
abbrev S16x1x1024 : Shape := ⟨3, ![16, 1, 1024]⟩
abbrev S16x2x1024 : Shape := ⟨3, ![16, 2, 1024]⟩
abbrev S32x1x1024 : Shape := ⟨3, ![32, 1, 1024]⟩
abbrev S32x1x1x1024 : Shape := ⟨4, ![32, 1, 1, 1024]⟩
abbrev S32x3x1x1024 : Shape := ⟨4, ![32, 3, 1, 1024]⟩
abbrev S1x1024x1024 : Shape := ⟨3, ![1, 1024, 1024]⟩
abbrev S1x3x1x1024 : Shape := ⟨4, ![1, 3, 1, 1024]⟩
abbrev S1024x1024 : Shape := ⟨2, ![1024, 1024]⟩
abbrev S1024x1 : Shape := ⟨2, ![1024, 1]⟩
abbrev S1x1x1x1024 : Shape := ⟨4, ![1, 1, 1, 1024]⟩
abbrev S1024x256 : Shape := ⟨2, ![1024, 256]⟩
abbrev S256x1024 : Shape := ⟨2, ![256, 1024]⟩

abbrev nBuf : Space → Nat
  | .hbm => 37
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S16x2304x1024, .f32⟩
  | .hbm, ⟨13, _⟩ => ⟨S1x1024, .f32⟩
  | .hbm, ⟨14, _⟩ => ⟨S16x1024, .f32⟩
  | .hbm, ⟨15, _⟩ => ⟨S16x1x1024, .f32⟩
  | .hbm, ⟨16, _⟩ => ⟨S16x1x1024, .f32⟩
  | .hbm, ⟨17, _⟩ => ⟨S16x2x1024, .f32⟩
  | .hbm, ⟨18, _⟩ => ⟨S32x1x1024, .f32⟩
  | .hbm, ⟨19, _⟩ => ⟨S16x1024, .f32⟩
  | .hbm, ⟨20, _⟩ => ⟨S16x1x1024, .f32⟩
  | .hbm, ⟨21, _⟩ => ⟨S16x1x1024, .f32⟩
  | .hbm, ⟨22, _⟩ => ⟨S16x2x1024, .f32⟩
  | .hbm, ⟨23, _⟩ => ⟨S32x1x1024, .f32⟩
  | .hbm, ⟨24, _⟩ => ⟨S16x1024, .f32⟩
  | .hbm, ⟨25, _⟩ => ⟨S16x1x1024, .f32⟩
  | .hbm, ⟨26, _⟩ => ⟨S16x1x1024, .f32⟩
  | .hbm, ⟨27, _⟩ => ⟨S16x2x1024, .f32⟩
  | .hbm, ⟨28, _⟩ => ⟨S32x1x1024, .f32⟩
  | .hbm, ⟨29, _⟩ => ⟨S1024x5632, .bf16⟩
  | .hbm, ⟨30, _⟩ => ⟨S2816x1024, .bf16⟩
  | .hbm, ⟨31, _⟩ => ⟨S1x1024, .f32⟩
  | .hbm, ⟨32, _⟩ => ⟨S32x1x1x1024, .f32⟩
  | .hbm, ⟨33, _⟩ => ⟨S32x1x1x1024, .f32⟩
  | .hbm, ⟨34, _⟩ => ⟨S32x1x1x1024, .f32⟩
  | .hbm, ⟨35, _⟩ => ⟨S32x3x1x1024, .f32⟩
  | .hbm, ⟨36, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x3x1x1024, .f32⟩
  | .local _ .vmem, ⟨4, _⟩ => ⟨S1x3x1x1024, .f32⟩
  | .local _ .vmem, ⟨5, _⟩ => ⟨S1x3x1x1024, .f32⟩
  | .local _ .vmem, ⟨6, _⟩ => ⟨S1x3x1x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnLastRefIdeal.lean ====
abbrev S16x2048x1024 : Shape := ⟨3, ![16, 2048, 1024]⟩
abbrev S16x256x1024 : Shape := ⟨3, ![16, 256, 1024]⟩
abbrev S1024 : Shape := ⟨1, ![1024]⟩
abbrev S16x1024 : Shape := ⟨2, ![16, 1024]⟩
abbrev S1024x5632 : Shape := ⟨2, ![1024, 5632]⟩
abbrev S2816x1024 : Shape := ⟨2, ![2816, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S16x1x1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S16x1x1024, .f32⟩
  | .hbm, ⟨30, _⟩ => ⟨S16x1x1024, .f32⟩
  | .hbm, ⟨31, _⟩ => ⟨S_, .f32⟩
  | .hbm, ⟨32, _⟩ => ⟨S16x1x1024, .f32⟩
  | .hbm, ⟨33, _⟩ => ⟨S16x1x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x5632, .f32⟩
  | .hbm, ⟨39, _⟩ => ⟨S16x2048x2816, .f32⟩
  | .hbm, ⟨40, _⟩ => ⟨S16x2048x2816, .f32⟩
  | .hbm, ⟨41, _⟩ => ⟨S16x2048x2816, .f32⟩
  | .hbm, ⟨42, _⟩ => ⟨S_, .f32⟩
  | .hbm, ⟨43, _⟩ => ⟨S16x2048x2816, .f32⟩
  | .hbm, ⟨44, _⟩ => ⟨S16x2048x2816, .f32⟩
  | .hbm, ⟨45, _⟩ => ⟨S_, .f32⟩
  | .hbm, ⟨46, _⟩ => ⟨S16x2048x2816, .f32⟩
  | .hbm, ⟨47, _⟩ => ⟨S16x2048x2816, .f32⟩
  | .hbm, ⟨48, _⟩ => ⟨S16x2048x2816, .f32⟩
  | .hbm, ⟨49, _⟩ => ⟨S16x2048x2816, .f32⟩
  | .hbm, ⟨50, _⟩ => ⟨S16x2048x2816, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S_, .f32⟩
  | .hbm, ⟨57, _⟩ => ⟨S16x2048, .f32⟩
  | .hbm, ⟨58, _⟩ => ⟨S16x2048x1, .f32⟩
  | .hbm, ⟨59, _⟩ => ⟨S_, .f32⟩
  | .hbm, ⟨60, _⟩ => ⟨S16x2048x1, .f32⟩
  | .hbm, ⟨61, _⟩ => ⟨S16x2048x1, .f32⟩
  | .hbm, ⟨62, _⟩ => ⟨S_, .f32⟩
  | .hbm, ⟨63, _⟩ => ⟨S16x2048x1, .f32⟩
  | .hbm, ⟨64, _⟩ => ⟨S16x2048x1, .f32⟩
  | .hbm, ⟨65, _⟩ => ⟨S16x2048x1, .f32⟩
  | .hbm, ⟨66, _⟩ => ⟨S16x2048x1024, .f32⟩
  | .hbm, ⟨67, _⟩ => ⟨S16x2048x1024, .f32⟩
  | .hbm, ⟨68, _⟩ => ⟨S1x1x1024, .f32⟩
  | .hbm, ⟨69, _⟩ => ⟨S16x2048x1024, .f32⟩
  | .hbm, ⟨70, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Ffn.lean ====
abbrev S16x2048x1024 : Shape := ⟨3, ![16, 2048, 1024]⟩
abbrev S16x256x1024 : Shape := ⟨3, ![16, 256, 1024]⟩
abbrev S1024 : Shape := ⟨1, ![1024]⟩
abbrev S16x1024 : Shape := ⟨2, ![16, 1024]⟩
abbrev S1024x5632 : Shape := ⟨2, ![1024, 5632]⟩
abbrev S2816x1024 : Shape := ⟨2, ![2816, 1024]⟩
abbrev S16x2304x1024 : Shape := ⟨3, ![16, 2304, 1024]⟩
abbrev S1x1024 : Shape := ⟨2, ![1, 1024]⟩
abbrev S16x1x1024 : Shape := ⟨3, ![16, 1, 1024]⟩
abbrev S16x2x1024 : Shape := ⟨3, ![16, 2, 1024]⟩
abbrev S32x1x1024 : Shape := ⟨3, ![32, 1, 1024]⟩
abbrev S32x1x1x1024 : Shape := ⟨4, ![32, 1, 1, 1024]⟩
abbrev S32x3x1x1024 : Shape := ⟨4, ![32, 3, 1, 1024]⟩
abbrev S1x768x1024 : Shape := ⟨3, ![1, 768, 1024]⟩
abbrev S1x3x1x1024 : Shape := ⟨4, ![1, 3, 1, 1024]⟩
abbrev S768x1024 : Shape := ⟨2, ![768, 1024]⟩
abbrev S768x1 : Shape := ⟨2, ![768, 1]⟩
abbrev S1x1x1x1024 : Shape := ⟨4, ![1, 1, 1, 1024]⟩
abbrev S768 : Shape := ⟨1, ![768]⟩
abbrev S1024x256 : Shape := ⟨2, ![1024, 256]⟩
abbrev S768x256 : Shape := ⟨2, ![768, 256]⟩
abbrev S256x1024 : Shape := ⟨2, ![256, 1024]⟩

abbrev nBuf : Space → Nat
  | .hbm => 37
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S16x2304x1024, .f32⟩
  | .hbm, ⟨13, _⟩ => ⟨S1x1024, .f32⟩
  | .hbm, ⟨14, _⟩ => ⟨S16x1024, .f32⟩
  | .hbm, ⟨15, _⟩ => ⟨S16x1x1024, .f32⟩
  | .hbm, ⟨16, _⟩ => ⟨S16x1x1024, .f32⟩
  | .hbm, ⟨17, _⟩ => ⟨S16x2x1024, .f32⟩
  | .hbm, ⟨18, _⟩ => ⟨S32x1x1024, .f32⟩
  | .hbm, ⟨19, _⟩ => ⟨S16x1024, .f32⟩
  | .hbm, ⟨20, _⟩ => ⟨S16x1x1024, .f32⟩
  | .hbm, ⟨21, _⟩ => ⟨S16x1x1024, .f32⟩
  | .hbm, ⟨22, _⟩ => ⟨S16x2x1024, .f32⟩
  | .hbm, ⟨23, _⟩ => ⟨S32x1x1024, .f32⟩
  | .hbm, ⟨24, _⟩ => ⟨S16x1024, .f32⟩
  | .hbm, ⟨25, _⟩ => ⟨S16x1x1024, .f32⟩
  | .hbm, ⟨26, _⟩ => ⟨S16x1x1024, .f32⟩
  | .hbm, ⟨27, _⟩ => ⟨S16x2x1024, .f32⟩
  | .hbm, ⟨28, _⟩ => ⟨S32x1x1024, .f32⟩
  | .hbm, ⟨29, _⟩ => ⟨S1024x5632, .bf16⟩
  | .hbm, ⟨30, _⟩ => ⟨S2816x1024, .bf16⟩
  | .hbm, ⟨31, _⟩ => ⟨S1x1024, .f32⟩
  | .hbm, ⟨32, _⟩ => ⟨S32x1x1x1024, .f32⟩
  | .hbm, ⟨33, _⟩ => ⟨S32x1x1x1024, .f32⟩
  | .hbm, ⟨34, _⟩ => ⟨S32x1x1x1024, .f32⟩
  | .hbm, ⟨35, _⟩ => ⟨S32x3x1x1024, .f32⟩
  | .hbm, ⟨36, _⟩ => ⟨S16x2304x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x1024, .f32⟩
  | .local _ .vmem, ⟨3, _⟩ => ⟨S1x3x1x1024, .f32⟩
  | .local _ .vmem, ⟨4, _⟩ => ⟨S1x3x1x1024, .f32⟩
  | .local _ .vmem, ⟨5, _⟩ => ⟨S1x3x1x1024, .f32⟩
  | .local _ .vmem, ⟨6, _⟩ => ⟨S1x3x1x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1024, .f32⟩
  | .local _ .vmem, ⟨10, _⟩ => ⟨S1x768x1024, .f32⟩
  | .local _ .vmem, ⟨11, _⟩ => ⟨S1x768x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S16x2048x1024 : Shape := ⟨3, ![16, 2048, 1024]⟩
abbrev S16x256x1024 : Shape := ⟨3, ![16, 256, 1024]⟩
abbrev S1024 : Shape := ⟨1, ![1024]⟩
abbrev S16x1024 : Shape := ⟨2, ![16, 1024]⟩
abbrev S1024x5632 : Shape := ⟨2, ![1024, 5632]⟩
abbrev S2816x1024 : Shape := ⟨2, ![2816, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S16x2304x1024 : Shape := ⟨3, ![16, 2304, 1024]⟩

abbrev nBuf : Space → Nat
  | .hbm => 99
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S16x1x1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S16x1x1024, .f32⟩
  | .hbm, ⟨30, _⟩ => ⟨S16x1x1024, .f32⟩
  | .hbm, ⟨31, _⟩ => ⟨S_, .f32⟩
  | .hbm, ⟨32, _⟩ => ⟨S16x1x1024, .f32⟩
  | .hbm, ⟨33, _⟩ => ⟨S16x1x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x5632, .f32⟩
  | .hbm, ⟨39, _⟩ => ⟨S16x2048x2816, .f32⟩
  | .hbm, ⟨40, _⟩ => ⟨S16x2048x2816, .f32⟩
  | .hbm, ⟨41, _⟩ => ⟨S16x2048x2816, .f32⟩
  | .hbm, ⟨42, _⟩ => ⟨S_, .f32⟩
  | .hbm, ⟨43, _⟩ => ⟨S16x2048x2816, .f32⟩
  | .hbm, ⟨44, _⟩ => ⟨S16x2048x2816, .f32⟩
  | .hbm, ⟨45, _⟩ => ⟨S_, .f32⟩
  | .hbm, ⟨46, _⟩ => ⟨S16x2048x2816, .f32⟩
  | .hbm, ⟨47, _⟩ => ⟨S16x2048x2816, .f32⟩
  | .hbm, ⟨48, _⟩ => ⟨S16x2048x2816, .f32⟩
  | .hbm, ⟨49, _⟩ => ⟨S16x2048x2816, .f32⟩
  | .hbm, ⟨50, _⟩ => ⟨S16x2048x2816, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S16x256x1024, .f32⟩
  | .hbm, ⟨56, _⟩ => ⟨S_, .f32⟩
  | .hbm, ⟨57, _⟩ => ⟨S16x256, .f32⟩
  | .hbm, ⟨58, _⟩ => ⟨S16x256x1, .f32⟩
  | .hbm, ⟨59, _⟩ => ⟨S_, .f32⟩
  | .hbm, ⟨60, _⟩ => ⟨S16x256x1, .f32⟩
  | .hbm, ⟨61, _⟩ => ⟨S16x256x1, .f32⟩
  | .hbm, ⟨62, _⟩ => ⟨S_, .f32⟩
  | .hbm, ⟨63, _⟩ => ⟨S16x256x1, .f32⟩
  | .hbm, ⟨64, _⟩ => ⟨S16x256x1, .f32⟩
  | .hbm, ⟨65, _⟩ => ⟨S16x256x1, .f32⟩
  | .hbm, ⟨66, _⟩ => ⟨S16x256x1024, .f32⟩
  | .hbm, ⟨67, _⟩ => ⟨S16x256x1024, .f32⟩
  | .hbm, ⟨68, _⟩ => ⟨S1x1x1024, .f32⟩
  | .hbm, ⟨69, _⟩ => ⟨S16x256x1024, .f32⟩
  | .hbm, ⟨70, _⟩ => ⟨S16x256x1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1x1x1024, .f32⟩
  | .hbm, ⟨75, _⟩ => ⟨S16x256x1024, .f32⟩
  | .hbm, ⟨76, _⟩ => ⟨S16x256x1024, .f32⟩
  | .hbm, ⟨77, _⟩ => ⟨S1x1x1024, .f32⟩
  | .hbm, ⟨78, _⟩ => ⟨S16x256x1024, .f32⟩
  | .hbm, ⟨79, _⟩ => ⟨S16x256x1024, .f32⟩
  | .hbm, ⟨80, _⟩ => ⟨S16x256x5632, .f32⟩
  | .hbm, ⟨81, _⟩ => ⟨S16x256x2816, .f32⟩
  | .hbm, ⟨82, _⟩ => ⟨S16x256x2816, .f32⟩
  | .hbm, ⟨83, _⟩ => ⟨S16x256x2816, .f32⟩
  | .hbm, ⟨84, _⟩ => ⟨S_, .f32⟩
  | .hbm, ⟨85, _⟩ => ⟨S16x256x2816, .f32⟩
  | .hbm, ⟨86, _⟩ => ⟨S16x256x2816, .f32⟩
  | .hbm, ⟨87, _⟩ => ⟨S_, .f32⟩
  | .hbm, ⟨88, _⟩ => ⟨S16x256x2816, .f32⟩
  | .hbm, ⟨89, _⟩ => ⟨S16x256x2816, .f32⟩
  | .hbm, ⟨90, _⟩ => ⟨S16x256x2816, .f32⟩
  | .hbm, ⟨91, _⟩ => ⟨S16x256x2816, .f32⟩
  | .hbm, ⟨92, _⟩ => ⟨S16x256x2816, .f32⟩
  | .hbm, ⟨93, _⟩ => ⟨S16x256x1024, .f32⟩
  | .hbm, ⟨94, _⟩ => ⟨S1x1x1024, .f32⟩
  | .hbm, ⟨95, _⟩ => ⟨S16x256x1024, .f32⟩
  | .hbm, ⟨96, _⟩ => ⟨S16x256x1024, .f32⟩
  | .hbm, ⟨97, _⟩ => ⟨S16x256x1024, .f32⟩
  | .hbm, ⟨98, _⟩ => ⟨S16x2304x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_9 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== ZProj.lean ====
abbrev S16x2048x1024 : Shape := ⟨3, ![16, 2048, 1024]⟩
abbrev S16x256x1024 : Shape := ⟨3, ![16, 256, 1024]⟩
abbrev S1024 : Shape := ⟨1, ![1024]⟩
abbrev S16x1024 : Shape := ⟨2, ![16, 1024]⟩
abbrev S1024x8576 : Shape := ⟨2, ![1024, 8576]⟩
abbrev S16x2304x1024 : Shape := ⟨3, ![16, 2304, 1024]⟩
abbrev S1024x3072 : Shape := ⟨2, ![1024, 3072]⟩
abbrev S1024x2048 : Shape := ⟨2, ![1024, 2048]⟩
abbrev S1024x5120 : Shape := ⟨2, ![1024, 5120]⟩
abbrev S1024x3456 : Shape := ⟨2, ![1024, 3456]⟩
abbrev S1x1024 : Shape := ⟨2, ![1, 1024]⟩
abbrev S16x1x1024 : Shape := ⟨3, ![16, 1, 1024]⟩
abbrev S16x2x1024 : Shape := ⟨3, ![16, 2, 1024]⟩
abbrev S32x1x1024 : Shape := ⟨3, ![32, 1, 1024]⟩
abbrev S16x2304x5120 : Shape := ⟨3, ![16, 2304, 5120]⟩
abbrev S1x256x1024 : Shape := ⟨3, ![1, 256, 1024]⟩
abbrev S1x1x1024 : Shape := ⟨3, ![1, 1, 1024]⟩
abbrev S1x256x5120 : Shape := ⟨3, ![1, 256, 5120]⟩
abbrev S256x1024 : Shape := ⟨2, ![256, 1024]⟩
abbrev S256 : Shape := ⟨1, ![256]⟩
abbrev S256x1 : Shape := ⟨2, ![256, 1]⟩
abbrev S256x5120 : Shape := ⟨2, ![256, 5120]⟩

abbrev nBuf : Space → Nat
  | .hbm => 26
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S1024, .f32⟩
  | .hbm, ⟨3, _⟩ => ⟨S16x1024, .f32⟩
  | .hbm, ⟨4, _⟩ => ⟨S16x1024, .f32⟩
  | .hbm, ⟨5, _⟩ => ⟨S1024, .f32⟩
  | .hbm, ⟨6, _⟩ => ⟨S1024, .f32⟩
  | .hbm, ⟨7, _⟩ => ⟨S1024x8576, .f32⟩
  | .hbm, ⟨8, _⟩ => ⟨S16x2304x1024, .f32⟩
  | .hbm, ⟨9, _⟩ => ⟨S1024x3072, .f32⟩
  | .hbm, ⟨10, _⟩ => ⟨S1024x2048, .f32⟩
  | .hbm, ⟨11, _⟩ => ⟨S1024x5120, .f32⟩
  | .hbm, ⟨12, _⟩ => ⟨S1024x3456, .f32⟩
  | .hbm, ⟨13, _⟩ => ⟨S1x1024, .f32⟩
  | .hbm, ⟨14, _⟩ => ⟨S16x1024, .f32⟩
  | .hbm, ⟨15, _⟩ => ⟨S16x1x1024, .f32⟩
  | .hbm, ⟨16, _⟩ => ⟨S16x1x1024, .f32⟩
  | .hbm, ⟨17, _⟩ => ⟨S16x2x1024, .f32⟩
  | .hbm, ⟨18, _⟩ => ⟨S32x1x1024, .f32⟩
  | .hbm, ⟨19, _⟩ => ⟨S16x1024, .f32⟩
  | .hbm, ⟨20, _⟩ => ⟨S16x1x1024, .f32⟩
  | .hbm, ⟨21, _⟩ => ⟨S16x1x1024, .f32⟩
  | .hbm, ⟨22, _⟩ => ⟨S16x2x1024, .f32⟩
  | .hbm, ⟨23, _⟩ => ⟨S32x1x1024, .f32⟩
  | .hbm, ⟨24, _⟩ => ⟨S1024x5120, .bf16⟩
  | .hbm, ⟨25, _⟩ => ⟨S16x2304x5120, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x5120, .bf16⟩
  | .local _ .vmem, ⟨8, _⟩ => ⟨S1x256x5120, .bf16⟩
  | .local _ .vmem, ⟨9, _⟩ => ⟨S1x256x5120, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 16, 9], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c8_i32 : BitVec 32 := 8#32
  let v1 : BitVec 32 := Scalar.divsi arg2 c8_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg2 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c8_i32 : BitVec 32 := 8#32
  let v1 : BitVec 32 := Scalar.divsi arg2 c8_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg2 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S1x256x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ZProjRefIdeal.lean ====
abbrev S16x2048x1024 : Shape := ⟨3, ![16, 2048, 1024]⟩
abbrev S16x256x1024 : Shape := ⟨3, ![16, 256, 1024]⟩
abbrev S1024 : Shape := ⟨1, ![1024]⟩
abbrev S16x1024 : Shape := ⟨2, ![16, 1024]⟩
abbrev S1024x8576 : Shape := ⟨2, ![1024, 8576]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x8576 : Shape := ⟨3, ![16, 2048, 8576]⟩
abbrev S16x256 : Shape := ⟨2, ![16, 256]⟩
abbrev S16x256x1 : Shape := ⟨3, ![16, 256, 1]⟩
abbrev S16x256x8576 : Shape := ⟨3, ![16, 256, 8576]⟩
abbrev S16x2304x8576 : Shape := ⟨3, ![16, 2304, 8576]⟩
abbrev S16x2304x3072 : Shape := ⟨3, ![16, 2304, 3072]⟩
abbrev S16x2304x2048 : Shape := ⟨3, ![16, 2304, 2048]⟩
abbrev S16x2304x5120 : Shape := ⟨3, ![16, 2304, 5120]⟩

abbrev nBuf : Space → Nat
  | .hbm => 65
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S1024, .f32⟩
  | .hbm, ⟨3, _⟩ => ⟨S16x1024, .f32⟩
  | .hbm, ⟨4, _⟩ => ⟨S16x1024, .f32⟩
  | .hbm, ⟨5, _⟩ => ⟨S1024, .f32⟩
  | .hbm, ⟨6, _⟩ => ⟨S1024, .f32⟩
  | .hbm, ⟨7, _⟩ => ⟨S1024x8576, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x1x1024, .f32⟩
  | .hbm, ⟨25, _⟩ => ⟨S16x1x1024, .f32⟩
  | .hbm, ⟨26, _⟩ => ⟨S_, .f32⟩
  | .hbm, ⟨27, _⟩ => ⟨S16x1x1024, .f32⟩
  | .hbm, ⟨28, _⟩ => ⟨S16x1x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x8576, .f32⟩
  | .hbm, ⟨34, _⟩ => ⟨S16x256x1024, .f32⟩
  | .hbm, ⟨35, _⟩ => ⟨S_, .f32⟩
  | .hbm, ⟨36, _⟩ => ⟨S16x256, .f32⟩
  | .hbm, ⟨37, _⟩ => ⟨S16x256x1, .f32⟩
  | .hbm, ⟨38, _⟩ => ⟨S_, .f32⟩
  | .hbm, ⟨39, _⟩ => ⟨S16x256x1, .f32⟩
  | .hbm, ⟨40, _⟩ => ⟨S16x256x1, .f32⟩
  | .hbm, ⟨41, _⟩ => ⟨S_, .f32⟩
  | .hbm, ⟨42, _⟩ => ⟨S16x256x1, .f32⟩
  | .hbm, ⟨43, _⟩ => ⟨S16x256x1, .f32⟩
  | .hbm, ⟨44, _⟩ => ⟨S16x256x1, .f32⟩
  | .hbm, ⟨45, _⟩ => ⟨S16x256x1024, .f32⟩
  | .hbm, ⟨46, _⟩ => ⟨S16x256x1024, .f32⟩
  | .hbm, ⟨47, _⟩ => ⟨S1x1x1024, .f32⟩
  | .hbm, ⟨48, _⟩ => ⟨S16x256x1024, .f32⟩
  | .hbm, ⟨49, _⟩ => ⟨S16x256x1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1x1x1024, .f32⟩
  | .hbm, ⟨54, _⟩ => ⟨S16x256x1024, .f32⟩
  | .hbm, ⟨55, _⟩ => ⟨S16x256x1024, .f32⟩
  | .hbm, ⟨56, _⟩ => ⟨S1x1x1024, .f32⟩
  | .hbm, ⟨57, _⟩ => ⟨S16x256x1024, .f32⟩
  | .hbm, ⟨58, _⟩ => ⟨S16x256x1024, .f32⟩
  | .hbm, ⟨59, _⟩ => ⟨S16x256x8576, .f32⟩
  | .hbm, ⟨60, _⟩ => ⟨S16x2304x8576, .f32⟩
  | .hbm, ⟨61, _⟩ => ⟨S16x2304x3072, .f32⟩
  | .hbm, ⟨62, _⟩ => ⟨S16x2304x2048, .f32⟩
  | .hbm, ⟨63, _⟩ => ⟨S16x2304x5120, .f32⟩
  | .hbm, ⟨64, _⟩ => ⟨S16x2304x5120, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== RProj.lean ====
abbrev S16x2048x1024 : Shape := ⟨3, ![16, 2048, 1024]⟩
abbrev S16x256x1024 : Shape := ⟨3, ![16, 256, 1024]⟩
abbrev S1024 : Shape := ⟨1, ![1024]⟩
abbrev S16x1024 : Shape := ⟨2, ![16, 1024]⟩
abbrev S1024x8576 : Shape := ⟨2, ![1024, 8576]⟩
abbrev S3x3456 : Shape := ⟨2, ![3, 3456]⟩
abbrev S16x2304x1024 : Shape := ⟨3, ![16, 2304, 1024]⟩
abbrev S1024x3072 : Shape := ⟨2, ![1024, 3072]⟩
abbrev S1024x2048 : Shape := ⟨2, ![1024, 2048]⟩
abbrev S1024x5120 : Shape := ⟨2, ![1024, 5120]⟩
abbrev S1024x3456 : Shape := ⟨2, ![1024, 3456]⟩
abbrev S1x1024 : Shape := ⟨2, ![1, 1024]⟩
abbrev S16x1x1024 : Shape := ⟨3, ![16, 1, 1024]⟩
abbrev S16x2x1024 : Shape := ⟨3, ![16, 2, 1024]⟩
abbrev S32x1x1024 : Shape := ⟨3, ![32, 1, 1024]⟩
abbrev S16x27x2304x128 : Shape := ⟨4, ![16, 27, 2304, 128]⟩
abbrev S1x256x1024 : Shape := ⟨3, ![1, 256, 1024]⟩
abbrev S1x8x1024 : Shape := ⟨3, ![1, 8, 1024]⟩
abbrev S1x1x1024 : Shape := ⟨3, ![1, 1, 1024]⟩
abbrev S1x27x256x128 : Shape := ⟨4, ![1, 27, 256, 128]⟩
abbrev S8x1024 : Shape := ⟨2, ![8, 1024]⟩
abbrev S8 : Shape := ⟨1, ![8]⟩
abbrev S8x1 : Shape := ⟨2, ![8, 1]⟩
abbrev S256x1024 : Shape := ⟨2, ![256, 1024]⟩
abbrev S256 : Shape := ⟨1, ![256]⟩
abbrev S256x1 : Shape := ⟨2, ![256, 1]⟩
abbrev S272x1024 : Shape := ⟨2, ![272, 1024]⟩
abbrev S1024x512 : Shape := ⟨2, ![1024, 512]⟩
abbrev S272x512 : Shape := ⟨2, ![272, 512]⟩
abbrev S3x512 : Shape := ⟨2, ![3, 512]⟩
abbrev S256x512 : Shape := ⟨2, ![256, 512]⟩
abbrev S1x512 : Shape := ⟨2, ![1, 512]⟩
abbrev S256x128 : Shape := ⟨2, ![256, 128]⟩
abbrev S1x1x256x128 : Shape := ⟨4, ![1, 1, 256, 128]⟩
abbrev S1024x384 : Shape := ⟨2, ![1024, 384]⟩
abbrev S272x384 : Shape := ⟨2, ![272, 384]⟩
abbrev S3x384 : Shape := ⟨2, ![3, 384]⟩
abbrev S256x384 : Shape := ⟨2, ![256, 384]⟩
abbrev S1x384 : Shape := ⟨2, ![1, 384]⟩

abbrev nBuf : Space → Nat
  | .hbm => 27
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S1024, .f32⟩
  | .hbm, ⟨3, _⟩ => ⟨S16x1024, .f32⟩
  | .hbm, ⟨4, _⟩ => ⟨S16x1024, .f32⟩
  | .hbm, ⟨5, _⟩ => ⟨S1024, .f32⟩
  | .hbm, ⟨6, _⟩ => ⟨S1024, .f32⟩
  | .hbm, ⟨7, _⟩ => ⟨S1024x8576, .f32⟩
  | .hbm, ⟨8, _⟩ => ⟨S3x3456, .f32⟩
  | .hbm, ⟨9, _⟩ => ⟨S16x2304x1024, .f32⟩
  | .hbm, ⟨10, _⟩ => ⟨S1024x3072, .f32⟩
  | .hbm, ⟨11, _⟩ => ⟨S1024x2048, .f32⟩
  | .hbm, ⟨12, _⟩ => ⟨S1024x5120, .f32⟩
  | .hbm, ⟨13, _⟩ => ⟨S1024x3456, .f32⟩
  | .hbm, ⟨14, _⟩ => ⟨S1x1024, .f32⟩
  | .hbm, ⟨15, _⟩ => ⟨S16x1024, .f32⟩
  | .hbm, ⟨16, _⟩ => ⟨S16x1x1024, .f32⟩
  | .hbm, ⟨17, _⟩ => ⟨S16x1x1024, .f32⟩
  | .hbm, ⟨18, _⟩ => ⟨S16x2x1024, .f32⟩
  | .hbm, ⟨19, _⟩ => ⟨S32x1x1024, .f32⟩
  | .hbm, ⟨20, _⟩ => ⟨S16x1024, .f32⟩
  | .hbm, ⟨21, _⟩ => ⟨S16x1x1024, .f32⟩
  | .hbm, ⟨22, _⟩ => ⟨S16x1x1024, .f32⟩
  | .hbm, ⟨23, _⟩ => ⟨S16x2x1024, .f32⟩
  | .hbm, ⟨24, _⟩ => ⟨S32x1x1024, .f32⟩
  | .hbm, ⟨25, _⟩ => ⟨S1024x3456, .bf16⟩
  | .hbm, ⟨26, _⟩ => ⟨S16x27x2304x128, .bf16⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x3456, .bf16⟩
  | .local _ .vmem, ⟨12, _⟩ => ⟨S3x3456, .f32⟩
  | .local _ .vmem, ⟨13, _⟩ => ⟨S1x27x256x128, .bf16⟩
  | .local _ .vmem, ⟨14, _⟩ => ⟨S1x27x256x128, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c287_i32 : BitVec 32 := 287#32
  let v2 : BitVec 32 := Scalar.minsi v1 c287_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c8_i32 : BitVec 32 := 8#32
  let v1 : BitVec 32 := Scalar.divsi arg1 c8_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg1 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c8_i32 : BitVec 32 := 8#32
  let v1 : BitVec 32 := Scalar.divsi arg1 c8_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg1 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x3456 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x3456 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x27x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RProjRefIdeal.lean ====
abbrev S16x2048x1024 : Shape := ⟨3, ![16, 2048, 1024]⟩
abbrev S16x256x1024 : Shape := ⟨3, ![16, 256, 1024]⟩
abbrev S1024 : Shape := ⟨1, ![1024]⟩
abbrev S16x1024 : Shape := ⟨2, ![16, 1024]⟩
abbrev S1024x8576 : Shape := ⟨2, ![1024, 8576]⟩
abbrev S3x3456 : Shape := ⟨2, ![3, 3456]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x8576 : Shape := ⟨3, ![16, 2048, 8576]⟩
abbrev S16x256 : Shape := ⟨2, ![16, 256]⟩
abbrev S16x256x1 : Shape := ⟨3, ![16, 256, 1]⟩
abbrev S16x256x8576 : Shape := ⟨3, ![16, 256, 8576]⟩
abbrev S16x2048x3456 : Shape := ⟨3, ![16, 2048, 3456]⟩
abbrev S16x2050x3456 : Shape := ⟨3, ![16, 2050, 3456]⟩
abbrev S1x3456 : Shape := ⟨2, ![1, 3456]⟩
abbrev S3456 : Shape := ⟨1, ![3456]⟩
abbrev S1x1x3456 : Shape := ⟨3, ![1, 1, 3456]⟩
abbrev S16x256x3456 : Shape := ⟨3, ![16, 256, 3456]⟩
abbrev S16x258x3456 : Shape := ⟨3, ![16, 258, 3456]⟩
abbrev S16x2304x3456 : Shape := ⟨3, ![16, 2304, 3456]⟩
abbrev S16x2304x27x128 : Shape := ⟨4, ![16, 2304, 27, 128]⟩
abbrev S16x27x2304x128 : Shape := ⟨4, ![16, 27, 2304, 128]⟩

abbrev nBuf : Space → Nat
  | .hbm => 113
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S1024, .f32⟩
  | .hbm, ⟨3, _⟩ => ⟨S16x1024, .f32⟩
  | .hbm, ⟨4, _⟩ => ⟨S16x1024, .f32⟩
  | .hbm, ⟨5, _⟩ => ⟨S1024, .f32⟩
  | .hbm, ⟨6, _⟩ => ⟨S1024, .f32⟩
  | .hbm, ⟨7, _⟩ => ⟨S1024x8576, .f32⟩
  | .hbm, ⟨8, _⟩ => ⟨S3x3456, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S16x1x1024, .f32⟩
  | .hbm, ⟨26, _⟩ => ⟨S16x1x1024, .f32⟩
  | .hbm, ⟨27, _⟩ => ⟨S_, .f32⟩
  | .hbm, ⟨28, _⟩ => ⟨S16x1x1024, .f32⟩
  | .hbm, ⟨29, _⟩ => ⟨S16x1x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x8576, .f32⟩
  | .hbm, ⟨35, _⟩ => ⟨S16x256x1024, .f32⟩
  | .hbm, ⟨36, _⟩ => ⟨S_, .f32⟩
  | .hbm, ⟨37, _⟩ => ⟨S16x256, .f32⟩
  | .hbm, ⟨38, _⟩ => ⟨S16x256x1, .f32⟩
  | .hbm, ⟨39, _⟩ => ⟨S_, .f32⟩
  | .hbm, ⟨40, _⟩ => ⟨S16x256x1, .f32⟩
  | .hbm, ⟨41, _⟩ => ⟨S16x256x1, .f32⟩
  | .hbm, ⟨42, _⟩ => ⟨S_, .f32⟩
  | .hbm, ⟨43, _⟩ => ⟨S16x256x1, .f32⟩
  | .hbm, ⟨44, _⟩ => ⟨S16x256x1, .f32⟩
  | .hbm, ⟨45, _⟩ => ⟨S16x256x1, .f32⟩
  | .hbm, ⟨46, _⟩ => ⟨S16x256x1024, .f32⟩
  | .hbm, ⟨47, _⟩ => ⟨S16x256x1024, .f32⟩
  | .hbm, ⟨48, _⟩ => ⟨S1x1x1024, .f32⟩
  | .hbm, ⟨49, _⟩ => ⟨S16x256x1024, .f32⟩
  | .hbm, ⟨50, _⟩ => ⟨S16x256x1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1x1x1024, .f32⟩
  | .hbm, ⟨55, _⟩ => ⟨S16x256x1024, .f32⟩
  | .hbm, ⟨56, _⟩ => ⟨S16x256x1024, .f32⟩
  | .hbm, ⟨57, _⟩ => ⟨S1x1x1024, .f32⟩
  | .hbm, ⟨58, _⟩ => ⟨S16x256x1024, .f32⟩
  | .hbm, ⟨59, _⟩ => ⟨S16x256x1024, .f32⟩
  | .hbm, ⟨60, _⟩ => ⟨S16x256x8576, .f32⟩
  | .hbm, ⟨61, _⟩ => ⟨S16x2048x3456, .f32⟩
  | .hbm, ⟨62, _⟩ => ⟨S_, .i32⟩
  | .hbm, ⟨63, _⟩ => ⟨S_, .f32⟩
  | .hbm, ⟨64, _⟩ => ⟨S16x2050x3456, .f32⟩
  | .hbm, ⟨65, _⟩ => ⟨S16x2048x3456, .f32⟩
  | .hbm, ⟨66, _⟩ => ⟨S1x3456, .f32⟩
  | .hbm, ⟨67, _⟩ => ⟨S3456, .f32⟩
  | .hbm, ⟨68, _⟩ => ⟨S1x1x3456, .f32⟩
  | .hbm, ⟨69, _⟩ => ⟨S16x2048x3456, .f32⟩
  | .hbm, ⟨70, _⟩ => ⟨S16x2048x3456, .f32⟩
  | .hbm, ⟨71, _⟩ => ⟨S16x2048x3456, .f32⟩
  | .hbm, ⟨72, _⟩ => ⟨S1x3456, .f32⟩
  | .hbm, ⟨73, _⟩ => ⟨S3456, .f32⟩
  | .hbm, ⟨74, _⟩ => ⟨S1x1x3456, .f32⟩
  | .hbm, ⟨75, _⟩ => ⟨S16x2048x3456, .f32⟩
  | .hbm, ⟨76, _⟩ => ⟨S16x2048x3456, .f32⟩
  | .hbm, ⟨77, _⟩ => ⟨S16x2048x3456, .f32⟩
  | .hbm, ⟨78, _⟩ => ⟨S16x2048x3456, .f32⟩
  | .hbm, ⟨79, _⟩ => ⟨S1x3456, .f32⟩
  | .hbm, ⟨80, _⟩ => ⟨S3456, .f32⟩
  | .hbm, ⟨81, _⟩ => ⟨S1x1x3456, .f32⟩
  | .hbm, ⟨82, _⟩ => ⟨S16x2048x3456, .f32⟩
  | .hbm, ⟨83, _⟩ => ⟨S16x2048x3456, .f32⟩
  | .hbm, ⟨84, _⟩ => ⟨S16x2048x3456, .f32⟩
  | .hbm, ⟨85, _⟩ => ⟨S16x256x3456, .f32⟩
  | .hbm, ⟨86, _⟩ => ⟨S_, .i32⟩
  | .hbm, ⟨87, _⟩ => ⟨S_, .f32⟩
  | .hbm, ⟨88, _⟩ => ⟨S16x258x3456, .f32⟩
  | .hbm, ⟨89, _⟩ => ⟨S16x256x3456, .f32⟩
  | .hbm, ⟨90, _⟩ => ⟨S1x3456, .f32⟩
  | .hbm, ⟨91, _⟩ => ⟨S3456, .f32⟩
  | .hbm, ⟨92, _⟩ => ⟨S1x1x3456, .f32⟩
  | .hbm, ⟨93, _⟩ => ⟨S16x256x3456, .f32⟩
  | .hbm, ⟨94, _⟩ => ⟨S16x256x3456, .f32⟩
  | .hbm, ⟨95, _⟩ => ⟨S16x256x3456, .f32⟩
  | .hbm, ⟨96, _⟩ => ⟨S1x3456, .f32⟩
  | .hbm, ⟨97, _⟩ => ⟨S3456, .f32⟩
  | .hbm, ⟨98, _⟩ => ⟨S1x1x3456, .f32⟩
  | .hbm, ⟨99, _⟩ => ⟨S16x256x3456, .f32⟩
  | .hbm, ⟨100, _⟩ => ⟨S16x256x3456, .f32⟩
  | .hbm, ⟨101, _⟩ => ⟨S16x256x3456, .f32⟩
  | .hbm, ⟨102, _⟩ => ⟨S16x256x3456, .f32⟩
  | .hbm, ⟨103, _⟩ => ⟨S1x3456, .f32⟩
  | .hbm, ⟨104, _⟩ => ⟨S3456, .f32⟩
  | .hbm, ⟨105, _⟩ => ⟨S1x1x3456, .f32⟩
  | .hbm, ⟨106, _⟩ => ⟨S16x256x3456, .f32⟩
  | .hbm, ⟨107, _⟩ => ⟨S16x256x3456, .f32⟩
  | .hbm, ⟨108, _⟩ => ⟨S16x256x3456, .f32⟩
  | .hbm, ⟨109, _⟩ => ⟨S16x2304x3456, .f32⟩
  | .hbm, ⟨110, _⟩ => ⟨S16x2304x27x128, .f32⟩
  | .hbm, ⟨111, _⟩ => ⟨S16x27x2304x128, .f32⟩
  | .hbm, ⟨112, _⟩ => ⟨S16x27x2304x128, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c : Ref sig .tc := ⟨.hbm, 62, rfl⟩
abbrev main_call0_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_7 : Ref sig .tc := ⟨.hbm, 86, rfl⟩
abbrev main_call1_v0 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩

abbrev nD : Nat := 1
abbrev τ : Topo := Topo.v7x

variable {F : FTy → Type} [FloatOps F]
-- ==== Sgu.lean ====
abbrev S16x2304x8576 : Shape := ⟨3, ![16, 2304, 8576]⟩
abbrev S512 : Shape := ⟨1, ![512]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S16x2304x3072 : Shape := ⟨3, ![16, 2304, 3072]⟩
abbrev S16x2304x2048 : Shape := ⟨3, ![16, 2304, 2048]⟩
abbrev S16x2304x5120 : Shape := ⟨3, ![16, 2304, 5120]⟩
abbrev S1x512 : Shape := ⟨2, ![1, 512]⟩
abbrev S16x2304x512 : Shape := ⟨3, ![16, 2304, 512]⟩
abbrev S1x768x512 : Shape := ⟨3, ![1, 768, 512]⟩
abbrev S768x512 : Shape := ⟨2, ![768, 512]⟩
abbrev S768 : Shape := ⟨1, ![768]⟩
abbrev S768x1 : Shape := ⟨2, ![768, 1]⟩
abbrev S128x128 : Shape := ⟨2, ![128, 128]⟩
abbrev S1x128x128 : Shape := ⟨3, ![1, 128, 128]⟩
abbrev S1x128x512 : Shape := ⟨3, ![1, 128, 512]⟩

abbrev nBuf : Space → Nat
  | .hbm => 16
  | .vmem => 10
  | .smem => 0
  | _ => 0

abbrev bufTy : (tb : Table) → Fin (tcTables nBuf tb) → BufTy
  | .hbm, ⟨0, _⟩ => ⟨S16x2304x8576, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S128x8x64, .f32⟩
  | .hbm, ⟨7, _⟩ => ⟨S128x512, .f32⟩
  | .hbm, ⟨8, _⟩ => ⟨S16x2304x3072, .f32⟩
  | .hbm, ⟨9, _⟩ => ⟨S16x2304x2048, .f32⟩
  | .hbm, ⟨10, _⟩ => ⟨S16x2304x5120, .f32⟩
  | .hbm, ⟨11, _⟩ => ⟨S16x2304x5120, .bf16⟩
  | .hbm, ⟨12, _⟩ => ⟨S1x512, .f32⟩
  | .hbm, ⟨13, _⟩ => ⟨S1x512, .f32⟩
  | .hbm, ⟨14, _⟩ => ⟨S8x128x128, .bf16⟩
  | .hbm, ⟨15, _⟩ => ⟨S16x2304x512, .bf16⟩
  | .local _ .vmem, ⟨0, _⟩ => ⟨S1x768x512, .bf16⟩
  | .local _ .vmem, ⟨1, _⟩ => ⟨S1x768x512, .bf16⟩
  | .local _ .vmem, ⟨2, _⟩ => ⟨S1x768x512, .bf16⟩
  | .local _ .vmem, ⟨3, _⟩ => ⟨S1x768x512, .bf16⟩
  | .local _ .vmem, ⟨4, _⟩ => ⟨S1x512, .f32⟩
  | .local _ .vmem, ⟨5, _⟩ => ⟨S1x512, .f32⟩
  | .local _ .vmem, ⟨6, _⟩ => ⟨S8x128x128, .bf16⟩
  | .local _ .vmem, ⟨7, _⟩ => ⟨S128x512, .f32⟩
  | .local _ .vmem, ⟨8, _⟩ => ⟨S1x768x512, .bf16⟩
  | .local _ .vmem, ⟨9, _⟩ => ⟨S1x768x512, .bf16⟩
  | _, _ => ⟨S16x2304x8576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SguRefIdeal.lean ====
abbrev S16x2304x8576 : Shape := ⟨3, ![16, 2304, 8576]⟩
abbrev S512 : Shape := ⟨1, ![512]⟩
abbrev S8x128x128 : Shape := ⟨3, ![8, 128, 128]⟩
abbrev S8x128 : Shape := ⟨2, ![8, 128]⟩
abbrev S16x2304x1024 : Shape := ⟨3, ![16, 2304, 1024]⟩
abbrev S_ : Shape := ⟨0, ![]⟩
abbrev S16x2304x512 : Shape := ⟨3, ![16, 2304, 512]⟩
abbrev S16x2304 : Shape := ⟨2, ![16, 2304]⟩
abbrev S16x2304x1 : Shape := ⟨3, ![16, 2304, 1]⟩
abbrev S1x1x512 : Shape := ⟨3, ![1, 1, 512]⟩
abbrev S16x18x128x8x64 : Shape := ⟨5, ![16, 18, 128, 8, 64]⟩
abbrev S8x16x18x64x128 : Shape := ⟨5, ![8, 16, 18, 64, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 63
  | .vmem => 0
  | .smem => 0
  | _ => 0

abbrev bufTy : (tb : Table) → Fin (tcTables nBuf tb) → BufTy
  | .hbm, ⟨0, _⟩ => ⟨S16x2304x8576, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S16x2304x1024, .f32⟩
  | .hbm, ⟨6, _⟩ => ⟨S16x2304x1024, .f32⟩
  | .hbm, ⟨7, _⟩ => ⟨S16x2304x1024, .f32⟩
  | .hbm, ⟨8, _⟩ => ⟨S_, .f32⟩
  | .hbm, ⟨9, _⟩ => ⟨S16x2304x1024, .f32⟩
  | .hbm, ⟨10, _⟩ => ⟨S16x2304x1024, .f32⟩
  | .hbm, ⟨11, _⟩ => ⟨S16x2304x1024, .f32⟩
  | .hbm, ⟨12, _⟩ => ⟨S_, .f32⟩
  | .hbm, ⟨13, _⟩ => ⟨S16x2304x1024, .f32⟩
  | .hbm, ⟨14, _⟩ => ⟨S16x2304x1024, .f32⟩
  | .hbm, ⟨15, _⟩ => ⟨S16x2304x1024, .f32⟩
  | .hbm, ⟨16, _⟩ => ⟨S_, .f32⟩
  | .hbm, ⟨17, _⟩ => ⟨S16x2304x1024, .f32⟩
  | .hbm, ⟨18, _⟩ => ⟨S16x2304x1024, .f32⟩
  | .hbm, ⟨19, _⟩ => ⟨S_, .f32⟩
  | .hbm, ⟨20, _⟩ => ⟨S16x2304x1024, .f32⟩
  | .hbm, ⟨21, _⟩ => ⟨S16x2304x1024, .f32⟩
  | .hbm, ⟨22, _⟩ => ⟨S16x2304x1024, .f32⟩
  | .hbm, ⟨23, _⟩ => ⟨S16x2304x512, .f32⟩
  | .hbm, ⟨24, _⟩ => ⟨S16x2304x512, .f32⟩
  | .hbm, ⟨25, _⟩ => ⟨S_, .f32⟩
  | .hbm, ⟨26, _⟩ => ⟨S16x2304, .f32⟩
  | .hbm, ⟨27, _⟩ => ⟨S16x2304x1, .f32⟩
  | .hbm, ⟨28, _⟩ => ⟨S_, .f32⟩
  | .hbm, ⟨29, _⟩ => ⟨S16x2304x1, .f32⟩
  | .hbm, ⟨30, _⟩ => ⟨S16x2304x1, .f32⟩
  | .hbm, ⟨31, _⟩ => ⟨S16x2304x512, .f32⟩
  | .hbm, ⟨32, _⟩ => ⟨S16x2304x512, .f32⟩
  | .hbm, ⟨33, _⟩ => ⟨S16x2304x512, .f32⟩
  | .hbm, ⟨34, _⟩ => ⟨S_, .f32⟩
  | .hbm, ⟨35, _⟩ => ⟨S16x2304, .f32⟩
  | .hbm, ⟨36, _⟩ => ⟨S16x2304x1, .f32⟩
  | .hbm, ⟨37, _⟩ => ⟨S_, .f32⟩
  | .hbm, ⟨38, _⟩ => ⟨S16x2304x1, .f32⟩
  | .hbm, ⟨39, _⟩ => ⟨S16x2304x1, .f32⟩
  | .hbm, ⟨40, _⟩ => ⟨S_, .f32⟩
  | .hbm, ⟨41, _⟩ => ⟨S16x2304x1, .f32⟩
  | .hbm, ⟨42, _⟩ => ⟨S16x2304x1, .f32⟩
  | .hbm, ⟨43, _⟩ => ⟨S16x2304x1, .f32⟩
  | .hbm, ⟨44, _⟩ => ⟨S16x2304x512, .f32⟩
  | .hbm, ⟨45, _⟩ => ⟨S16x2304x512, .f32⟩
  | .hbm, ⟨46, _⟩ => ⟨S1x1x512, .f32⟩
  | .hbm, ⟨47, _⟩ => ⟨S16x2304x512, .f32⟩
  | .hbm, ⟨48, _⟩ => ⟨S16x2304x512, .f32⟩
  | .hbm, ⟨49, _⟩ => ⟨S1x1x512, .f32⟩
  | .hbm, ⟨50, _⟩ => ⟨S16x2304x512, .f32⟩
  | .hbm, ⟨51, _⟩ => ⟨S16x2304x512, .f32⟩
  | .hbm, ⟨52, _⟩ => ⟨S16x18x128x8x64, .f32⟩
  | .hbm, ⟨53, _⟩ => ⟨S8x16x18x64x128, .f32⟩
  | .hbm, ⟨54, _⟩ => ⟨S16x18x128x8x64, .f32⟩
  | .hbm, ⟨55, _⟩ => ⟨S128x8, .f32⟩
  | .hbm, ⟨56, _⟩ => ⟨S128x8x1, .f32⟩
  | .hbm, ⟨57, _⟩ => ⟨S1x1x128x8x1, .f32⟩
  | .hbm, ⟨58, _⟩ => ⟨S16x18x128x8x64, .f32⟩
  | .hbm, ⟨59, _⟩ => ⟨S16x18x128x8x64, .f32⟩
  | .hbm, ⟨60, _⟩ => ⟨S16x2304x512, .f32⟩
  | .hbm, ⟨61, _⟩ => ⟨S16x2304x512, .f32⟩
  | .hbm, ⟨62, _⟩ => ⟨S16x2304x512, .bf16⟩
  | _, _ => ⟨S16x2304x8576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Merge.lean ====
abbrev S16x2048x1024 : Shape := ⟨3, ![16, 2048, 1024]⟩
abbrev S16x256x1024 : Shape := ⟨3, ![16, 256, 1024]⟩
abbrev S16x1024 : Shape := ⟨2, ![16, 1024]⟩
abbrev S1024 : Shape := ⟨1, ![1024]⟩
abbrev S16x2304x16x64 : Shape := ⟨4, ![16, 2304, 16, 64]⟩
abbrev S16x2304x3456 : Shape := ⟨3, ![16, 2304, 3456]⟩
abbrev S16x2304x8576 : Shape := ⟨3, ![16, 2304, 8576]⟩
abbrev S16x2304x512 : Shape := ⟨3, ![16, 2304, 512]⟩
abbrev S128x1024 : Shape := ⟨2, ![128, 1024]⟩
abbrev S512 : Shape := ⟨1, ![512]⟩
abbrev S1024x1024 : Shape := ⟨2, ![1024, 1024]⟩
abbrev S512x1024 : Shape := ⟨2, ![512, 1024]⟩
abbrev S16x2304x1024 : Shape := ⟨3, ![16, 2304, 1024]⟩
abbrev S16x2304x8x128 : Shape := ⟨4, ![16, 2304, 8, 128]⟩
abbrev S16x8x2304x128 : Shape := ⟨4, ![16, 8, 2304, 128]⟩
abbrev S16x2304x27x128 : Shape := ⟨4, ![16, 2304, 27, 128]⟩
abbrev S16x27x2304x128 : Shape := ⟨4, ![16, 27, 2304, 128]⟩
abbrev S16x2304x3072 : Shape := ⟨3, ![16, 2304, 3072]⟩
abbrev S16x2304x2048 : Shape := ⟨3, ![16, 2304, 2048]⟩
abbrev S16x2304x5120 : Shape := ⟨3, ![16, 2304, 5120]⟩
abbrev S16x1x1024 : Shape := ⟨3, ![16, 1, 1024]⟩
abbrev S16x2x1024 : Shape := ⟨3, ![16, 2, 1024]⟩
abbrev S32x1x1024 : Shape := ⟨3, ![32, 1, 1024]⟩
abbrev S1x1024 : Shape := ⟨2, ![1, 1024]⟩
abbrev S1x512 : Shape := ⟨2, ![1, 512]⟩
abbrev S1x256x1024 : Shape := ⟨3, ![1, 256, 1024]⟩
abbrev S1x8x256x128 : Shape := ⟨4, ![1, 8, 256, 128]⟩
abbrev S1x1x256x128 : Shape := ⟨4, ![1, 1, 256, 128]⟩
abbrev S1x256x512 : Shape := ⟨3, ![1, 256, 512]⟩
abbrev S1x1x1024 : Shape := ⟨3, ![1, 1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1x128 : Shape := ⟨2, ![1, 128]⟩
abbrev S256x256 : Shape := ⟨2, ![256, 256]⟩

abbrev nBuf : Space → Nat
  | .hbm => 49
  | .vmem => 38
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S16x1024, .f32⟩
  | .hbm, ⟨3, _⟩ => ⟨S1024, .f32⟩
  | .hbm, ⟨4, _⟩ => ⟨S16x2304x16x64, .f32⟩
  | .hbm, ⟨5, _⟩ => ⟨S16x2304x16x64, .f32⟩
  | .hbm, ⟨6, _⟩ => ⟨S16x2304x3456, .f32⟩
  | .hbm, ⟨7, _⟩ => ⟨S16x2304x8576, .f32⟩
  | .hbm, ⟨8, _⟩ => ⟨S16x2304x512, .f32⟩
  | .hbm, ⟨9, _⟩ => ⟨S16x2304x512, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S128x1024, .f32⟩
  | .hbm, ⟨14, _⟩ => ⟨S512, .f32⟩
  | .hbm, ⟨15, _⟩ => ⟨S512, .f32⟩
  | .hbm, ⟨16, _⟩ => ⟨S1024x1024, .f32⟩
  | .hbm, ⟨17, _⟩ => ⟨S512x1024, .f32⟩
  | .hbm, ⟨18, _⟩ => ⟨S512x1024, .f32⟩
  | .hbm, ⟨19, _⟩ => ⟨S1024x1024, .f32⟩
  | .hbm, ⟨20, _⟩ => ⟨S16x2304x1024, .f32⟩
  | .hbm, ⟨21, _⟩ => ⟨S16x2304x8x128, .f32⟩
  | .hbm, ⟨22, _⟩ => ⟨S16x8x2304x128, .f32⟩
  | .hbm, ⟨23, _⟩ => ⟨S16x2304x8x128, .f32⟩
  | .hbm, ⟨24, _⟩ => ⟨S16x8x2304x128, .f32⟩
  | .hbm, ⟨25, _⟩ => ⟨S16x2304x3456, .bf16⟩
  | .hbm, ⟨26, _⟩ => ⟨S16x2304x27x128, .bf16⟩
  | .hbm, ⟨27, _⟩ => ⟨S16x27x2304x128, .bf16⟩
  | .hbm, ⟨28, _⟩ => ⟨S16x2304x512, .bf16⟩
  | .hbm, ⟨29, _⟩ => ⟨S16x2304x3072, .f32⟩
  | .hbm, ⟨30, _⟩ => ⟨S16x2304x2048, .f32⟩
  | .hbm, ⟨31, _⟩ => ⟨S16x2304x5120, .f32⟩
  | .hbm, ⟨32, _⟩ => ⟨S16x2304x5120, .bf16⟩
  | .hbm, ⟨33, _⟩ => ⟨S16x1024, .f32⟩
  | .hbm, ⟨34, _⟩ => ⟨S16x1x1024, .f32⟩
  | .hbm, ⟨35, _⟩ => ⟨S16x1x1024, .f32⟩
  | .hbm, ⟨36, _⟩ => ⟨S16x2x1024, .f32⟩
  | .hbm, ⟨37, _⟩ => ⟨S32x1x1024, .f32⟩
  | .hbm, ⟨38, _⟩ => ⟨S128x1024, .bf16⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x512, .f32⟩
  | .hbm, ⟨43, _⟩ => ⟨S1x512, .f32⟩
  | .hbm, ⟨44, _⟩ => ⟨S1024x1024, .bf16⟩
  | .hbm, ⟨45, _⟩ => ⟨S512x1024, .bf16⟩
  | .hbm, ⟨46, _⟩ => ⟨S512x1024, .bf16⟩
  | .hbm, ⟨47, _⟩ => ⟨S1024x1024, .bf16⟩
  | .hbm, ⟨48, _⟩ => ⟨S16x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x256x128, .f32⟩
  | .local _ .vmem, ⟨3, _⟩ => ⟨S1x8x256x128, .f32⟩
  | .local _ .vmem, ⟨4, _⟩ => ⟨S1x8x256x128, .f32⟩
  | .local _ .vmem, ⟨5, _⟩ => ⟨S1x8x256x128, .f32⟩
  | .local _ .vmem, ⟨6, _⟩ => ⟨S1x8x256x128, .bf16⟩
  | .local _ .vmem, ⟨7, _⟩ => ⟨S1x8x256x128, .bf16⟩
  | .local _ .vmem, ⟨8, _⟩ => ⟨S1x8x256x128, .bf16⟩
  | .local _ .vmem, ⟨9, _⟩ => ⟨S1x8x256x128, .bf16⟩
  | .local _ .vmem, ⟨10, _⟩ => ⟨S1x8x256x128, .bf16⟩
  | .local _ .vmem, ⟨11, _⟩ => ⟨S1x8x256x128, .bf16⟩
  | .local _ .vmem, ⟨12, _⟩ => ⟨S1x1x256x128, .bf16⟩
  | .local _ .vmem, ⟨13, _⟩ => ⟨S1x1x256x128, .bf16⟩
  | .local _ .vmem, ⟨14, _⟩ => ⟨S1x256x512, .f32⟩
  | .local _ .vmem, ⟨15, _⟩ => ⟨S1x256x512, .f32⟩
  | .local _ .vmem, ⟨16, _⟩ => ⟨S1x256x512, .bf16⟩
  | .local _ .vmem, ⟨17, _⟩ => ⟨S1x256x512, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x1x1024, .f32⟩
  | .local _ .vmem, ⟨25, _⟩ => ⟨S1x1x1024, .f32⟩
  | .local _ .vmem, ⟨26, _⟩ => ⟨S128x1024, .bf16⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x512, .f32⟩
  | .local _ .vmem, ⟨31, _⟩ => ⟨S1x512, .f32⟩
  | .local _ .vmem, ⟨32, _⟩ => ⟨S1024x1024, .bf16⟩
  | .local _ .vmem, ⟨33, _⟩ => ⟨S512x1024, .bf16⟩
  | .local _ .vmem, ⟨34, _⟩ => ⟨S512x1024, .bf16⟩
  | .local _ .vmem, ⟨35, _⟩ => ⟨S1024x1024, .bf16⟩
  | .local _ .vmem, ⟨36, _⟩ => ⟨S1x256x1024, .f32⟩
  | .local _ .vmem, ⟨37, _⟩ => ⟨S1x256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg23_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem23_0 : DmaSem sig := 36
abbrev cc0_sem23_1 : DmaSem sig := 37

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c26_i32 : BitVec 32 := 26#32
  let c0_i32 : BitVec 32 := 0#32
  let c0_i32_0 : BitVec 32 := 0#32
  ![arg0.toNat, c26_i32.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c8_i32 : BitVec 32 := 8#32
  let v1 : BitVec 32 := Scalar.divsi arg1 c8_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg1 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S512x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S512x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1024x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 2 → Memref sig .tc .vmem S1x256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== MergeRefIdeal.lean ====
abbrev S16x2048x1024 : Shape := ⟨3, ![16, 2048, 1024]⟩
abbrev S16x256x1024 : Shape := ⟨3, ![16, 256, 1024]⟩
abbrev S16x1024 : Shape := ⟨2, ![16, 1024]⟩
abbrev S1024 : Shape := ⟨1, ![1024]⟩
abbrev S16x2304x16x64 : Shape := ⟨4, ![16, 2304, 16, 64]⟩
abbrev S16x2304x3456 : Shape := ⟨3, ![16, 2304, 3456]⟩
abbrev S16x2304x8576 : Shape := ⟨3, ![16, 2304, 8576]⟩
abbrev S16x2304x512 : Shape := ⟨3, ![16, 2304, 512]⟩
abbrev S128x1024 : Shape := ⟨2, ![128, 1024]⟩
abbrev S512 : Shape := ⟨1, ![512]⟩
abbrev S1024x1024 : Shape := ⟨2, ![1024, 1024]⟩
abbrev S512x1024 : Shape := ⟨2, ![512, 1024]⟩
abbrev S16x2304x1024 : Shape := ⟨3, ![16, 2304, 1024]⟩
abbrev S16x2304x128 : Shape := ⟨3, ![16, 2304, 128]⟩
abbrev S_ : Shape := ⟨0, ![]⟩
abbrev S16x2304x16 : Shape := ⟨3, ![16, 2304, 16]⟩
abbrev S16x2304x16x1 : Shape := ⟨4, ![16, 2304, 16, 1]⟩
abbrev S1x1x1024 : Shape := ⟨3, ![1, 1, 1024]⟩
abbrev S16x64 : Shape := ⟨2, ![16, 64]⟩
abbrev S1x1x16x64 : Shape := ⟨4, ![1, 1, 16, 64]⟩
abbrev S16x2304 : Shape := ⟨2, ![16, 2304]⟩
abbrev S16x2304x1 : Shape := ⟨3, ![16, 2304, 1]⟩
abbrev S1x1x512 : Shape := ⟨3, ![1, 1, 512]⟩
abbrev S16x2304x3072 : Shape := ⟨3, ![16, 2304, 3072]⟩
abbrev S16x2304x3x1024 : Shape := ⟨4, ![16, 2304, 3, 1024]⟩
abbrev S16x2304x1x1024 : Shape := ⟨4, ![16, 2304, 1, 1024]⟩
abbrev S16x1x1024 : Shape := ⟨3, ![16, 1, 1024]⟩

abbrev nBuf : Space → Nat
  | .hbm => 150
  | .vmem => 0
  | .smem => 0
  | _ => 0

abbrev hbmTy0_0 (i : Nat) : BufTy := match i % 128 with
  | 0 => ⟨S16x2048x1024, .f32⟩
  | 1 => ⟨S16x256x1024, .f32⟩
  | 2 => ⟨S16x1024, .f32⟩
  | 3 => ⟨S1024, .f32⟩
  | 4 => ⟨S16x2304x16x64, .f32⟩
  | 5 => ⟨S16x2304x16x64, .f32⟩
  | 6 => ⟨S16x2304x3456, .f32⟩
  | 7 => ⟨S16x2304x8576, .f32⟩
  | 8 => ⟨S16x2304x512, .f32⟩
  | 9 => ⟨S16x2304x512, .f32⟩
  | 10 => ⟨S1024, .f32⟩
  | 11 => ⟨S1024, .f32⟩
  | 12 => ⟨S1024, .f32⟩
  | 13 => ⟨S128x1024, .f32⟩
  | 14 => ⟨S512, .f32⟩
  | 15 => ⟨S512, .f32⟩
  | 16 => ⟨S1024x1024, .f32⟩
  | 17 => ⟨S512x1024, .f32⟩
  | 18 => ⟨S512x1024, .f32⟩
  | 19 => ⟨S1024x1024, .f32⟩
  | 20 => ⟨S16x2304x1024, .f32⟩
  | 21 => ⟨S16x2304x16x64, .f32⟩
  | 22 => ⟨S16x2304x1024, .f32⟩
  | 23 => ⟨S16x2304x16x64, .f32⟩
  | 24 => ⟨S16x2304x1024, .f32⟩
  | 25 => ⟨S16x2304x16x64, .f32⟩
  | 26 => ⟨S16x2304x128, .f32⟩
  | 27 => ⟨S16x2304x16x64, .f32⟩
  | 28 => ⟨S_, .f32⟩
  | 29 => ⟨S16x2304x16, .f32⟩
  | 30 => ⟨S16x2304x16x1, .f32⟩
  | 31 => ⟨S_, .f32⟩
  | 32 => ⟨S16x2304x16x1, .f32⟩
  | 33 => ⟨S16x2304x16x1, .f32⟩
  | 34 => ⟨S16x2304x16x64, .f32⟩
  | 35 => ⟨S16x2304x16x64, .f32⟩
  | 36 => ⟨S16x2304x16x64, .f32⟩
  | 37 => ⟨S_, .f32⟩
  | 38 => ⟨S16x2304x16, .f32⟩
  | 39 => ⟨S16x2304x16x1, .f32⟩
  | 40 => ⟨S_, .f32⟩
  | 41 => ⟨S16x2304x16x1, .f32⟩
  | 42 => ⟨S16x2304x16x1, .f32⟩
  | 43 => ⟨S_, .f32⟩
  | 44 => ⟨S16x2304x16x1, .f32⟩
  | 45 => ⟨S16x2304x16x1, .f32⟩
  | 46 => ⟨S16x2304x16x1, .f32⟩
  | 47 => ⟨S16x2304x16x64, .f32⟩
  | 48 => ⟨S16x2304x16x64, .f32⟩
  | 49 => ⟨S16x2304x1024, .f32⟩
  | 50 => ⟨S1x1x1024, .f32⟩
  | 51 => ⟨S16x2304x1024, .f32⟩
  | 52 => ⟨S16x2304x1024, .f32⟩
  | 53 => ⟨S1x1x1024, .f32⟩
  | 54 => ⟨S16x2304x1024, .f32⟩
  | 55 => ⟨S16x2304x1024, .f32⟩
  | 56 => ⟨S16x2304x16x64, .f32⟩
  | 57 => ⟨S16x64, .f32⟩
  | 58 => ⟨S1x1x16x64, .f32⟩
  | 59 => ⟨S16x2304x16x64, .f32⟩
  | 60 => ⟨S16x2304x16x64, .f32⟩
  | 61 => ⟨S_, .f32⟩
  | 62 => ⟨S16x2304x16, .f32⟩
  | 63 => ⟨S16x2304x16x1, .f32⟩
  | 64 => ⟨S16x2304x16x64, .f32⟩
  | 65 => ⟨S16x2304x16x64, .f32⟩
  | 66 => ⟨S16x2304x1024, .f32⟩
  | 67 => ⟨S16x2304x1024, .f32⟩
  | 68 => ⟨S16x2304x128, .f32⟩
  | 69 => ⟨S16x2304x128, .f32⟩
  | 70 => ⟨S_, .f32⟩
  | 71 => ⟨S16x2304x128, .f32⟩
  | 72 => ⟨S16x2304x128, .f32⟩
  | 73 => ⟨S_, .f32⟩
  | 74 => ⟨S16x2304x128, .f32⟩
  | 75 => ⟨S16x2304x128, .f32⟩
  | 76 => ⟨S16x2304x1024, .f32⟩
  | 77 => ⟨S16x2304x1024, .f32⟩
  | 78 => ⟨S16x2304x1024, .f32⟩
  | 79 => ⟨S_, .f32⟩
  | 80 => ⟨S16x2304, .f32⟩
  | 81 => ⟨S16x2304x1, .f32⟩
  | 82 => ⟨S_, .f32⟩
  | 83 => ⟨S16x2304x1, .f32⟩
  | 84 => ⟨S16x2304x1, .f32⟩
  | 85 => ⟨S16x2304x512, .f32⟩
  | 86 => ⟨S16x2304x512, .f32⟩
  | 87 => ⟨S16x2304x512, .f32⟩
  | 88 => ⟨S_, .f32⟩
  | 89 => ⟨S16x2304, .f32⟩
  | 90 => ⟨S16x2304x1, .f32⟩
  | 91 => ⟨S_, .f32⟩
  | 92 => ⟨S16x2304x1, .f32⟩
  | 93 => ⟨S16x2304x1, .f32⟩
  | 94 => ⟨S_, .f32⟩
  | 95 => ⟨S16x2304x1, .f32⟩
  | 96 => ⟨S16x2304x1, .f32⟩
  | 97 => ⟨S16x2304x1, .f32⟩
  | 98 => ⟨S16x2304x512, .f32⟩
  | 99 => ⟨S16x2304x512, .f32⟩
  | 100 => ⟨S1x1x512, .f32⟩
  | 101 => ⟨S16x2304x512, .f32⟩
  | 102 => ⟨S16x2304x512, .f32⟩
  | 103 => ⟨S1x1x512, .f32⟩
  | 104 => ⟨S16x2304x512, .f32⟩
  | 105 => ⟨S16x2304x512, .f32⟩
  | 106 => ⟨S16x2304x512, .f32⟩
  | 107 => ⟨S16x2304x512, .f32⟩
  | 108 => ⟨S_, .f32⟩
  | 109 => ⟨S16x2304x512, .f32⟩
  | 110 => ⟨S16x2304x512, .f32⟩
  | 111 => ⟨S_, .f32⟩
  | 112 => ⟨S16x2304x512, .f32⟩
  | 113 => ⟨S16x2304x512, .f32⟩
  | 114 => ⟨S16x2304x512, .f32⟩
  | 115 => ⟨S16x2304x1024, .f32⟩
  | 116 => ⟨S16x2304x1024, .f32⟩
  | 117 => ⟨S16x2304x3072, .f32⟩
  | 118 => ⟨S16x2304x3x1024, .f32⟩
  | 119 => ⟨S16x2304x3x1024, .f32⟩
  | 120 => ⟨S16x2304x3x1024, .f32⟩
  | 121 => ⟨S_, .f32⟩
  | 122 => ⟨S16x2304x3x1024, .f32⟩
  | 123 => ⟨S16x2304x3x1024, .f32⟩
  | 124 => ⟨S_, .f32⟩
  | 125 => ⟨S16x2304x3x1024, .f32⟩
  | 126 => ⟨S16x2304x3x1024, .f32⟩
  | 127 => ⟨S16x2304x1x1024, .f32⟩
  | _ => ⟨S16x2048x1024, .f32⟩

abbrev hbmTy0_1 (i : Nat) : BufTy := match i % 128 with
  | 0 => ⟨S16x2304x1024, .f32⟩
  | 1 => ⟨S16x2304x1024, .f32⟩
  | 2 => ⟨S16x2304x1x1024, .f32⟩
  | 3 => ⟨S16x2304x1024, .f32⟩
  | 4 => ⟨S16x2304x1024, .f32⟩
  | 5 => ⟨S16x2304x1024, .f32⟩
  | 6 => ⟨S16x2304x1x1024, .f32⟩
  | 7 => ⟨S16x2304x1024, .f32⟩
  | 8 => ⟨S16x2304x1024, .f32⟩
  | 9 => ⟨S16x2304x1024, .f32⟩
  | 10 => ⟨S16x2304x1024, .f32⟩
  | 11 => ⟨S16x1x1024, .f32⟩
  | 12 => ⟨S16x2048x1024, .f32⟩
  | 13 => ⟨S16x2048x1024, .f32⟩
  | 14 => ⟨S16x2048x1024, .f32⟩
  | 15 => ⟨S16x2048x1024, .f32⟩
  | 16 => ⟨S16x256x1024, .f32⟩
  | 17 => ⟨S1x1x1024, .f32⟩
  | 18 => ⟨S16x256x1024, .f32⟩
  | 19 => ⟨S16x256x1024, .f32⟩
  | 20 => ⟨S16x256x1024, .f32⟩
  | 21 => ⟨S16x2304x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_cst_2 : Ref sig .tc := ⟨.hbm, 40, rfl⟩
abbrev main_v17 : Ref sig .tc := ⟨.hbm, 41, rfl⟩
abbrev main_v18 : Ref sig .tc := ⟨.hbm, 42, rfl⟩
abbrev main_cst_3 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_5 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_12 : Ref sig .tc := ⟨.hbm, 108, rfl⟩
abbrev main_v75 : Ref sig .tc := ⟨.hbm, 109, rfl⟩
abbrev main_v76 : Ref sig .tc := ⟨.hbm, 110, rfl⟩
abbrev main_cst_13 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_14 : Ref sig .tc := ⟨.hbm, 121, rfl⟩
abbrev main_v86 : Ref sig .tc := ⟨.hbm, 122, rfl⟩
abbrev main_v87 : Ref sig .tc := ⟨.hbm, 123, rfl⟩
abbrev main_cst_15 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩

abbrev nD : Nat := 1
abbrev τ : Topo := Topo.v7x

variable {F : FTy → Type} [FloatOps F]
-- ==== Proof.ScanBody.lean ====
/-
  The body of the scan, run once at symbolic operands, at any value type `F`. The four conditionals of the body (the first
  step, the even steps, the odd steps, the last step) are each run both ways and joined, so that one triple serves every
  point of the grid: from the input blocks at `X2 … X14`, and the two output blocks, the carried state and the two slots of
  prepared operands at anything, the body ends with the inputs as they were and the rest at something.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

set_option maxRecDepth 65536

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The triple of the body. -/
theorem kernelRun (c : Dev nD) (i : grid0.Coords)
    (arg2 : Memref sig .tc .vmem S1x24x64x128 .bf16) (harg2 : arg2.IsWhole)
    (arg3 : Memref sig .tc .vmem S1x2x64x128 .bf16) (harg3 : arg3.IsWhole)
    (arg4 : Memref sig .tc .vmem S1x24x64x128 .bf16) (harg4 : arg4.IsWhole)
    (arg5 : Memref sig .tc .vmem S1x2x64x128 .bf16) (harg5 : arg5.IsWhole)
    (arg6 : Memref sig .tc .vmem S2x128x1024 .bf16) (harg6 : arg6.IsWhole)
    (arg7 : Memref sig .tc .vmem S2x1x1024 .f32) (harg7 : arg7.IsWhole)
    (arg8 : Memref sig .tc .vmem S2x128x1024 .bf16) (harg8 : arg8.IsWhole)
    (arg9 : Memref sig .tc .vmem S2x1x1024 .f32) (harg9 : arg9.IsWhole)
    (arg10 : Memref sig .tc .vmem S1x1024 .f32) (harg10 : arg10.IsWhole)
    (arg11 : Memref sig .tc .vmem S1x1024 .f32) (harg11 : arg11.IsWhole)
    (arg12 : Memref sig .tc .vmem S2x64x64 .bf16) (harg12 : arg12.IsWhole)
    (arg13 : Memref sig .tc .vmem S2x128x128 .bf16) (harg13 : arg13.IsWhole)
    (arg14 : Memref sig .tc .vmem S2x128x128 .bf16) (harg14 : arg14.IsWhole)
    (arg15 : Memref sig .tc .vmem S1x8x64x128 .f32) (harg15 : arg15.IsWhole)
    (arg16 : Memref sig .tc .vmem S1x8x64x128 .f32) (harg16 : arg16.IsWhole)
    (arg17 : Memref sig .tc .vmem S16x128x128 .f32) (harg17 : arg17.IsWhole)
    (arg18 : Memref sig .tc .vmem S16x128x128 .bf16) (harg18 : arg18.IsWhole)
    (arg19 : Memref sig .tc .vmem S16x128x128 .bf16) (harg19 : arg19.IsWhole)
    (arg20 : Memref sig .tc .vmem S16x64x128 .bf16) (harg20 : arg20.IsWhole)
    (arg21 : Memref sig .tc .vmem S16x128x128 .bf16) (harg21 : arg21.IsWhole)
    (arg22 : Memref sig .tc .vmem S16x1x128 .f32) (harg22 : arg22.IsWhole)
    (arg23 : Memref sig .tc .vmem S16x128x128 .bf16) (harg23 : arg23.IsWhole)
    (arg24 : Memref sig .tc .vmem S16x128x128 .bf16) (harg24 : arg24.IsWhole)
    (arg25 : Memref sig .tc .vmem S16x64x128 .bf16) (harg25 : arg25.IsWhole)
    (arg26 : Memref sig .tc .vmem S16x128x128 .bf16) (harg26 : arg26.IsWhole)
    (arg27 : Memref sig .tc .vmem S16x1x128 .f32) (harg27 : arg27.IsWhole)
    (X2 : S1x24x64x128.Idx → Elt F .bf16)
    (X3 : S1x2x64x128.Idx → Elt F .bf16)
    (X4 : S1x24x64x128.Idx → Elt F .bf16)
    (X5 : S1x2x64x128.Idx → Elt F .bf16)
    (X6 : S2x128x1024.Idx → Elt F .bf16)
    (X7 : S2x1x1024.Idx → Elt F .f32)
    (X8 : S2x128x1024.Idx → Elt F .bf16)
    (X9 : S2x1x1024.Idx → Elt F .f32)
    (X10 : S1x1024.Idx → Elt F .f32)
    (X11 : S1x1024.Idx → Elt F .f32)
    (X12 : S2x64x64.Idx → Elt F .bf16)
    (X13 : S2x128x128.Idx → Elt F .bf16)
    (X14 : S2x128x128.Idx → Elt F .bf16)
    (K : PUnit → sProp 𝕄) :
    iprop(owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ owns (c : Thread nD τ) arg9 fullShare X9
        ∗ owns (c : Thread nD τ) arg10 fullShare X10
        ∗ owns (c : Thread nD τ) arg11 fullShare X11
        ∗ owns (c : Thread nD τ) arg12 fullShare X12
        ∗ owns (c : Thread nD τ) arg13 fullShare X13
        ∗ owns (c : Thread nD τ) arg14 fullShare X14
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (∃ d, owns (c : Thread nD τ) arg27 fullShare d)
        ∗ (iprop(owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ owns (c : Thread nD τ) arg9 fullShare X9
        ∗ owns (c : Thread nD τ) arg10 fullShare X10
        ∗ owns (c : Thread nD τ) arg11 fullShare X11
        ∗ owns (c : Thread nD τ) arg12 fullShare X12
        ∗ owns (c : Thread nD τ) arg13 fullShare X13
        ∗ owns (c : Thread nD τ) arg14 fullShare X14
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (∃ d, owns (c : Thread nD τ) arg27 fullShare d)) -∗ K ⟨⟩))
      ⊢ wp frame (wpE (defs₀ (F := F)) Variants.none c none) Set.univ
          (cc0_wkv_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_wkv_scan_eq_skeleton]; unfold cc0_wkv_scan_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %g15, -, H15⟩, ⟨%d16, %g16, -, H16⟩, ⟨%d17, %g17, -, H17⟩, ⟨%d18, %g18, -, H18⟩, ⟨%d19, %g19, -, H19⟩, ⟨%d20, %g20, -, H20⟩, ⟨%d21, %g21, -, H21⟩, ⟨%d22, %g22, -, H22⟩, ⟨%d23, %g23, -, H23⟩, ⟨%d24, %g24, -, H24⟩, ⟨%d25, %g25, -, H25⟩, ⟨%d26, %g26, -, H26⟩, ⟨%d27, %g27, -, H27⟩, Hk⟩
  sl_exec_parts
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; exact hf11
  isplitl [H12]
  · iexists _; isplitr; swap; · iexact H12
    ipureintro; exact hf12
  isplitl [H13]
  · iexists _; isplitr; swap; · iexact H13
    ipureintro; exact hf13
  isplitl [H14]
  · iexists _; isplitr; swap; · iexact H14
    ipureintro; exact hf14
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  iexists _, _; isplitr; swap; · iexact H27
  ipureintro; rfl

end Cert.KernelIdeal.Scan

end
-- ==== Proof.ScanFrame.lean ====
/-
  The frame of the scan, by hand: the launch of its pipeline (16 batch elements, 37 steps each), whose body is the triple of
  `ScanBody`. The two outputs are forgotten (nothing is said of what the body leaves in them) and the carried scratch — the
  state of the recurrence and the two slots of prepared operands — is held at some contents between the points; what is
  proved is that every run ends, faults nowhere, leaves the arguments as they were and every semaphore at zero.
-/
module

public import proofs.«01_k».proof.Proof.Gen.KernelIdeal.Frame
public import proofs.«01_k».proof.Proof.Gen.KernelIdeal.Skeleton
public import proofs.«01_k».proof.Proof.ScanBody
public import Idealize.ShloMosaic.Lib.Pipeline.Frame
public import Idealize.ShloMosaic.Lib.Tactic

@[expose] public section

set_option maxRecDepth 65536

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The two outputs are forgotten. -/
def forgets : Fin 15 → Bool := fun w => w.val == 13 || w.val == 14

/-- The arrays as the region finds them; after the body each input's buffer at its block; the scratch at some contents. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]

theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-! ## The body at a point -/

abbrev ms0 (t : Fin cfg0.N) : Memref sig .tc .vmem S1x24x64x128 .bf16 := win0_0.stage (cfg0.slots t 0)
abbrev ms1 (t : Fin cfg0.N) : Memref sig .tc .vmem S1x2x64x128 .bf16 := win0_1.stage (cfg0.slots t 1)
abbrev ms2 (t : Fin cfg0.N) : Memref sig .tc .vmem S1x24x64x128 .bf16 := win0_2.stage (cfg0.slots t 2)
abbrev ms3 (t : Fin cfg0.N) : Memref sig .tc .vmem S1x2x64x128 .bf16 := win0_3.stage (cfg0.slots t 3)
abbrev ms4 (t : Fin cfg0.N) : Memref sig .tc .vmem S2x128x1024 .bf16 := win0_4.stage (cfg0.slots t 4)
abbrev ms5 (t : Fin cfg0.N) : Memref sig .tc .vmem S2x1x1024 .f32 := win0_5.stage (cfg0.slots t 5)
abbrev ms6 (t : Fin cfg0.N) : Memref sig .tc .vmem S2x128x1024 .bf16 := win0_6.stage (cfg0.slots t 6)
abbrev ms7 (t : Fin cfg0.N) : Memref sig .tc .vmem S2x1x1024 .f32 := win0_7.stage (cfg0.slots t 7)
abbrev ms8 (t : Fin cfg0.N) : Memref sig .tc .vmem S1x1024 .f32 := win0_8.stage (cfg0.slots t 8)
abbrev ms9 (t : Fin cfg0.N) : Memref sig .tc .vmem S1x1024 .f32 := win0_9.stage (cfg0.slots t 9)
abbrev ms10 (t : Fin cfg0.N) : Memref sig .tc .vmem S2x64x64 .bf16 := win0_10.stage (cfg0.slots t 10)
abbrev ms11 (t : Fin cfg0.N) : Memref sig .tc .vmem S2x128x128 .bf16 := win0_11.stage (cfg0.slots t 11)
abbrev ms12 (t : Fin cfg0.N) : Memref sig .tc .vmem S2x128x128 .bf16 := win0_12.stage (cfg0.slots t 12)
abbrev ms13 (t : Fin cfg0.N) : Memref sig .tc .vmem S1x8x64x128 .f32 := win0_13.stage (cfg0.slots t 13)
abbrev ms14 (t : Fin cfg0.N) : Memref sig .tc .vmem S1x8x64x128 .f32 := win0_14.stage (cfg0.slots t 14)

/-- The invariant, buffer by buffer. -/
theorem Φ_eq (c : Dev nD) :
    (Pipeline.ΦA spec0 c : sProp 𝕄)
      = iprop(iprop((∃ d, owns (c : Thread nD τ) (Memref.whole cc0_scratch0 : Memref sig .tc .vmem S16x128x128 .f32) fullShare d)
          ∗ (∃ d, owns (c : Thread nD τ) (Memref.whole cc0_scratch1 : Memref sig .tc .vmem S16x128x128 .bf16) fullShare d)
          ∗ (∃ d, owns (c : Thread nD τ) (Memref.whole cc0_scratch2 : Memref sig .tc .vmem S16x128x128 .bf16) fullShare d)
          ∗ (∃ d, owns (c : Thread nD τ) (Memref.whole cc0_scratch3 : Memref sig .tc .vmem S16x64x128 .bf16) fullShare d)
          ∗ (∃ d, owns (c : Thread nD τ) (Memref.whole cc0_scratch4 : Memref sig .tc .vmem S16x128x128 .bf16) fullShare d)
          ∗ (∃ d, owns (c : Thread nD τ) (Memref.whole cc0_scratch5 : Memref sig .tc .vmem S16x1x128 .f32) fullShare d)
          ∗ (∃ d, owns (c : Thread nD τ) (Memref.whole cc0_scratch6 : Memref sig .tc .vmem S16x128x128 .bf16) fullShare d)
          ∗ (∃ d, owns (c : Thread nD τ) (Memref.whole cc0_scratch7 : Memref sig .tc .vmem S16x128x128 .bf16) fullShare d)
          ∗ (∃ d, owns (c : Thread nD τ) (Memref.whole cc0_scratch8 : Memref sig .tc .vmem S16x64x128 .bf16) fullShare d)
          ∗ (∃ d, owns (c : Thread nD τ) (Memref.whole cc0_scratch9 : Memref sig .tc .vmem S16x128x128 .bf16) fullShare d)
          ∗ (∃ d, owns (c : Thread nD τ) (Memref.whole cc0_scratch10 : Memref sig .tc .vmem S16x1x128 .f32) fullShare d)) ∗ ∃ r, prngReg c r) := by
  unfold Pipeline.ΦA
  rw [scopedRest0_eq]; simp only [owns_whole]; try rfl

/-- What the body is called with at the point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare d)
    ∗ (∃ d, owns (c : Thread nD τ) (ms14 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ (∃ d, owns (c : Thread nD τ) (ms13 t) fullShare d)
    ∗ (∃ d, owns (c : Thread nD τ) (ms14 t) fullShare d))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Φ_eq,
    after_0, after_1, after_2, after_3, after_4, after_5, after_6, after_7, after_8, after_9, after_10, after_11, after_12]
  iintro ⟨⟨⟨S0, S1, S2, S3, S4, S5, S6, S7, S8, S9, S10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (kernelRun c (grid0.coords t) _ _ _ _ _ _ _ _ _ _ _ _ _ _ _ _ _ _ _ _ _ _ _ _ _ _ _ _ _ _ _ _ _ _ _ _ _ _ _ _ _ _ _ _ _ _ _ _ _ _ _ _ (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iintro ⟨H0, H1, H2, H3, H4, H5, H6, H7, H8, H9, H10, H11, H12, H13, H14, S0, S1, S2, S3, S4, S5, S6, S7, S8, S9, S10⟩
  isplitl [S0 S1 S2 S3 S4 S5 S6 S7 S8 S9 S10 Hg]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

-- the launch theorem's implicit arguments are found by unifying its conclusion with this one
set_option backward.isDefEq.respectTransparency.types false in
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The frame at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_main m ρ)

end Cert.KernelIdeal.Scan

end
-- ==== Proof.ScanSame.lean ====
/- The scan's body and its ideal reading's body have the same text, so over any floats they are the same program. -/
module

public import proofs.«01_k».proof.Proof.Gen.Kernel
public import proofs.«01_k».proof.Proof.Gen.KernelIdeal

@[expose] public section

set_option maxRecDepth 65536

noncomputable section

namespace Cert.KernelIdeal.Scan

open Idealize.ShloMosaic Idealize.ShloMosaic.TcCoe Idealize.SL.Sem

variable {F : FTy → Type} [FloatOps F]

/-- The bodies. -/
theorem body_eq : @Cert.Kernel.cc0_wkv_scan F _ _ = @Cert.KernelIdeal.cc0_wkv_scan F _ _ := rfl

end Cert.KernelIdeal.Scan

end
-- ==== Proof.ScanFrames.lean ====
/- The frames of the scan, at machine floats and over the extended reals: one run, taken twice. -/
module

public import proofs.«01_k».proof.Defs
public import proofs.«01_k».proof.Proof.Gen.Kernel
public import proofs.«01_k».proof.Proof.ScanFrame
public import proofs.«01_k».proof.Proof.ScanSame

@[expose] public section

set_option maxRecDepth 16384

noncomputable section

namespace Cert.KernelIdeal.Scan

open Idealize.ShloMosaic Idealize.ShloMosaic.TcCoe Idealize.SL.Sem

/-- Over the extended reals. -/
theorem frame_ideal : Cert.quiescent_KernelIdeal := fun m ρ _ => frame (F := Ideal) m ρ

variable {F : FTy → Type} [FloatOps F]

set_option maxHeartbeats 4000000 in
/-- The tables of bodies. -/
theorem bodies_eq : Cert.Kernel.defs₀ (F := F) = Cert.KernelIdeal.defs₀ := by
  unfold Cert.Kernel.defs₀ Cert.KernelIdeal.defs₀
  refine congrArg Defs.onTc (funext fun l => funext fun a => ?_)
  match l, a with
  | 0, (t, s) =>
    dsimp only
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _) _) _) _) _) _) _) _) _) _) _) _) _) _) _) _) _) _) _) _) _) _) _) _) _) _) _) _) _) _) _

/-- The tables of procedures. -/
theorem defs_eq : Cert.Kernel.defs (F := F) = Cert.KernelIdeal.defs := by
  unfold Cert.Kernel.defs Cert.KernelIdeal.defs
  exact congrArg (Pipeline.defs Cert.KernelIdeal.pcfgs) bodies_eq

set_option maxHeartbeats 1000000 in
/-- The host programs. -/
theorem main_eq : Cert.Kernel.main (F := F) = Cert.KernelIdeal.main (F := F) := rfl

set_option maxHeartbeats 1000000 in
/-- At machine floats: the two programs are one, so the same run. -/
theorem frame_kernel : Cert.quiescent_Kernel := by
  intro m ρ _
  rw [defs_eq, main_eq]
  exact frame (F := Bits) m ρ

end Cert.KernelIdeal.Scan

end
-- ==== Proof.Rows.lean ====
/- One token's row of a residual stream, as the layers of this model read it: the root-mean-square normalisation and the
   shift-and-scale modulation that follows it. Extended reals only; no program and no buffer. -/
module

public import Idealize.ShloMosaic.Lib.Pointwise

@[expose] public section

noncomputable section

namespace Cert.Rows

open Idealize.ShloMosaic

/-- One over the root of the row's mean square, the small constant under the root added. -/
def rms (x : Fin 1024 → EReal) : EReal :=
  Ideal.rsqrt (Ideal.div (∑ k, x k * x k) (Ideal.ofBits .f32 0x44800000#32) + Ideal.ofBits .f32 0x358637BD#32)

/-- The row normalised, with gain `g`. -/
def normed (x g : Fin 1024 → EReal) (k : Fin 1024) : EReal := x k * rms x * g k

/-- The row normalised and modulated: scaled by `1 + sc` and shifted by `sh`. -/
def modulated (x g sc sh : Fin 1024 → EReal) (k : Fin 1024) : EReal := normed x g k * (1 + sc k) + sh k

/-! ## The two streams: the latent rows, then the context rows -/

/-- Arrays of the shapes the streams' programs share. -/
abbrev Lat : Type := (⟨3, ![16, 2048, 1024]⟩ : Shape).Idx → EReal
abbrev Ctx : Type := (⟨3, ![16, 256, 1024]⟩ : Shape).Idx → EReal
abbrev Gain : Type := (⟨1, ![1024]⟩ : Shape).Idx → EReal
abbrev PerBatch : Type := (⟨2, ![16, 1024]⟩ : Shape).Idx → EReal

/-- Token `i` of batch `b` of the two streams laid one after the other. -/
def token (x : Lat) (ctx : Ctx) (b : Fin 16) (i : Fin 2304) (k : Fin 1024) : EReal :=
  if h : i.val < 2048 then x (ix3 b ⟨i.val, h⟩ k) else ctx (ix3 b ⟨i.val - 2048, by omega⟩ k)

/-- The modulation row of token `i`: the batch's own on the latent stream, the shared one on the context stream. -/
def modOf (lat : PerBatch) (con : Gain) (b : Fin 16) (i : Fin 2304) (k : Fin 1024) : EReal :=
  if i.val < 2048 then lat (ix2 b k) else con (ix1 k)

/-- Token `i` of batch `b`, normalised and modulated. -/
def stream (x : Lat) (ctx : Ctx) (g : Gain) (sh sc : PerBatch) (shc scc : Gain) (b : Fin 16) (i : Fin 2304) : Fin 1024 → EReal :=
  modulated (token x ctx b i) (fun k => g (ix1 k)) (modOf sc scc b i) (modOf sh shc b i)

/-- The two streams concatenated along the token axis, at an index. -/
theorem concat_apply (x : Lat) (ctx : Ctx)
    (h : Shape.Concatenates [(⟨3, ![16, 2048, 1024]⟩ : Shape), ⟨3, ![16, 256, 1024]⟩] ⟨3, ![16, 2304, 1024]⟩ 1) (b : Fin 16) (i : Fin 2304) (k : Fin 1024) :
    concatenate ⟨3, ![16, 2304, 1024]⟩ 1 [⟨⟨3, ![16, 2048, 1024]⟩, x⟩, ⟨⟨3, ![16, 256, 1024]⟩, ctx⟩] h (ix3 b i k) = token x ctx b i k := by
  unfold token
  pointwise

/-- The modulation table: row `2 b` is batch `b`'s own, row `2 b + 1` the shared one. -/
theorem table_apply (lat : PerBatch) (con : Gain)
    (h1 : (⟨2, ![16, 1024]⟩ : Shape).BroadcastsInDim ⟨3, ![16, 1, 1024]⟩ (![0, 2] : Fin 2 → Fin 3))
    (h3 : (⟨1, ![1024]⟩ : Shape).BroadcastsInDim ⟨2, ![16, 1024]⟩ (![1] : Fin 1 → Fin 2))
    (h4 : Shape.Concatenates [(⟨3, ![16, 1, 1024]⟩ : Shape), ⟨3, ![16, 1, 1024]⟩] ⟨3, ![16, 2, 1024]⟩ 1)
    (h5 : (⟨3, ![16, 2, 1024]⟩ : Shape).ShapeCasts ⟨3, ![32, 1, 1024]⟩) (b : Fin 16) (s : Fin 2) (k : Fin 1024) :
    shapeCast ⟨3, ![32, 1, 1024]⟩ (concatenate ⟨3, ![16, 2, 1024]⟩ 1
      [⟨⟨3, ![16, 1, 1024]⟩, broadcastInDim ⟨3, ![16, 1, 1024]⟩ ![0, 2] h1 lat⟩,
       ⟨⟨3, ![16, 1, 1024]⟩, broadcastInDim ⟨3, ![16, 1, 1024]⟩ ![0, 2] h1 (broadcastInDim ⟨2, ![16, 1024]⟩ ![1] h3 con)⟩] h4) h5
      (ix3 ⟨2 * b.val + s.val, by omega⟩ 0 k) = if s.val = 0 then lat (ix2 b k) else con (ix1 k) := by
  rw [shapeCast_apply _ h5 _ (ix3 b s k) (by
    rw [Shape.rowMajor_val_three, Shape.rowMajor_val_three]
    show (b.val * 2 + s.val) * 1024 + k.val = ((2 * b.val + s.val) * 1 + 0) * 1024 + k.val
    omega)]
  have hs : s.val < 2 := s.isLt
  by_cases h : s.val = 0
  · pointwise [h]
  · have h' : ¬ s.val < 1 := by omega
    pointwise [h, h']

end Cert.Rows

end
-- ==== Proof.FfnSpec.lean ====
/- The feed-forward layer of one row, as reference and kernels both compute it. -/
module

public import proofs.«01_k».proof.Proof.Rows

@[expose] public section

noncomputable section

namespace Cert.FfnSpec

open Idealize.ShloMosaic Cert.Rows

/-- The first weight matrix: gates' columns, then values' columns. -/
abbrev WIn : Type := (⟨2, ![1024, 5632]⟩ : Shape).Idx → EReal
/-- The second weight matrix. -/
abbrev WOut : Type := (⟨2, ![2816, 1024]⟩ : Shape).Idx → EReal

/-- Column `n` of the row times the first matrix. -/
def lin (y : Fin 1024 → EReal) (w : WIn) (n : Fin 5632) : EReal := ∑ k : Fin 1024, y k * w (ix2 k n)

/-- A gate column, through `u ↦ u σ(u)`, times a value column. -/
def swish (y : Fin 1024 → EReal) (w : WIn) (n n' : Fin 5632) : EReal :=
  lin y w n * Ideal.logistic (lin y w n) * lin y w n'

/-- The part of the layer's column `q` that the 256 hidden units from `a` on give; their values' columns begin at `b`. -/
def chunk (y : Fin 1024 → EReal) (w : WIn) (wo : WOut) (q : Fin 1024) (a b : Nat) (ha : a + 256 ≤ 2816) (hb : b + 256 ≤ 5632) : EReal :=
  ∑ n : Fin 256, swish y w ⟨a + n.val, by omega⟩ ⟨b + n.val, by omega⟩ * wo (ix2 ⟨a + n.val, by omega⟩ q)

/-- The layer's column `q`: a sum over all hidden units. -/
def down (y : Fin 1024 → EReal) (w : WIn) (wo : WOut) (q : Fin 1024) : EReal :=
  ∑ n : Fin 2816, swish y w ⟨n.val, by omega⟩ ⟨2816 + n.val, by omega⟩ * wo (ix2 n q)

/-- The layer with its residual and gate: column `q` of the row `x`'s successor. -/
def step (x g sc sh gate : Fin 1024 → EReal) (w : WIn) (wo : WOut) (q : Fin 1024) : EReal :=
  x q + gate q * down (modulated x g sc sh) w wo q

/-- The layer on token `i` of batch `b`, whichever stream it is of. -/
def out (x : Lat) (ctx : Ctx) (g : Gain) (sh sc gt : PerBatch) (shc scc gtc : Gain) (w : WIn) (wo : WOut)
    (b : Fin 16) (i : Fin 2304) (q : Fin 1024) : EReal :=
  step (token x ctx b i) (fun k => g (ix1 k)) (modOf sc scc b i) (modOf sh shc b i) (modOf gt gtc b i) w wo q

/-- The last layer, which the final norm follows and which leaves the context's tokens out. -/
def last (x : Lat) (g : Gain) (sh sc gt : PerBatch) (w : WIn) (wo : WOut) (fg : Gain) (b : Fin 16) (i : Fin 2048) (q : Fin 1024) : EReal :=
  normed (step (fun k => x (ix3 b i k)) (fun k => g (ix1 k)) (fun k => sc (ix2 b k)) (fun k => sh (ix2 b k)) (fun k => gt (ix2 b k)) w wo)
    (fun k => fg (ix1 k)) q

/-- A sum over the first `a + 256` hidden units is the sum over the first `a` and that over the next 256. -/
theorem sum_step (f : Nat → EReal) (a : Nat) :
    ∑ n : Fin (a + 256), f n.val = (∑ n : Fin a, f n.val) + ∑ n : Fin 256, f (a + n.val) := by
  rw [Fin.sum_univ_add]; rfl

/-- The layer is the sum of its eleven chunks. -/
theorem down_eq (y : Fin 1024 → EReal) (w : WIn) (wo : WOut) (q : Fin 1024) :
    down y w wo q = chunk y w wo q 0 2816 (by omega) (by omega) + chunk y w wo q 256 3072 (by omega) (by omega)
      + chunk y w wo q 512 3328 (by omega) (by omega) + chunk y w wo q 768 3584 (by omega) (by omega)
      + chunk y w wo q 1024 3840 (by omega) (by omega) + chunk y w wo q 1280 4096 (by omega) (by omega)
      + chunk y w wo q 1536 4352 (by omega) (by omega) + chunk y w wo q 1792 4608 (by omega) (by omega)
      + chunk y w wo q 2048 4864 (by omega) (by omega) + chunk y w wo q 2304 5120 (by omega) (by omega)
      + chunk y w wo q 2560 5376 (by omega) (by omega) := by
  let f : Nat → EReal := fun n => if h : n < 2816 then
    swish y w ⟨n, by omega⟩ ⟨2816 + n, by omega⟩ * wo (ix2 ⟨n, h⟩ q) else 0
  have hd : down y w wo q = ∑ n : Fin 2816, f n.val :=
    Finset.sum_congr rfl fun n _ => (show f n.val = _ from dif_pos n.isLt).symm
  have hc : ∀ (a b : Nat) (ha : a + 256 ≤ 2816) (hb : b + 256 ≤ 5632), b = 2816 + a →
      chunk y w wo q a b ha hb = ∑ n : Fin 256, f (a + n.val) := by
    intro a b ha hb h
    subst h
    refine Finset.sum_congr rfl fun n _ => ?_
    have hn : a + n.val < 2816 := by omega
    rw [show f (a + n.val) = _ from dif_pos hn]
    congr 2
    apply Fin.ext; show 2816 + a + n.val = 2816 + (a + n.val); omega
  rw [hd, hc _ _ _ _ rfl, hc _ _ _ _ rfl, hc _ _ _ _ rfl, hc _ _ _ _ rfl, hc _ _ _ _ rfl, hc _ _ _ _ rfl, hc _ _ _ _ rfl,
    hc _ _ _ _ rfl, hc _ _ _ _ rfl, hc _ _ _ _ rfl, hc _ _ _ _ rfl, sum_step f 2560, sum_step f 2304, sum_step f 2048,
    sum_step f 1792, sum_step f 1536, sum_step f 1280, sum_step f 1024, sum_step f 768, sum_step f 512, sum_step f 256, sum_step f 0]
  simp

end Cert.FfnSpec

end
-- ==== Proof.FfnLastBlock.lean ====
/- What the last feed-forward body stores, entry by entry. -/
module

public import proofs.«01_k».proof.Proof.Gen.FfnLastIdeal.Value
public import proofs.«01_k».proof.Proof.FfnSpec

@[expose] public section

set_option maxRecDepth 65536

noncomputable section

namespace Cert.FfnLastIdeal.Block

open Cert.FfnLastIdeal Cert.FfnLastIdeal.Gen Cert.Rows Cert.FfnSpec Idealize.ShloMosaic Idealize.ShloMosaic.TcCoe
  Idealize.ShloMosaic.Tactic

/-- The modulated row, from the row, the norm's gain, and the scale and shift the body selected. -/
theorem row_apply (v1 v18 v29 : FVec Ideal S1024x1024 .f32) (g : Vec Ideal S1x1024 .f32) (r : Fin 1024) (k : Fin 1024) :
    k0_pay8 (F := Ideal) v1 v18 v29 g (ix2 r k)
      = modulated (fun k => v1 (ix2 r k)) (fun k => g (ix2 0 k)) (fun k => v29 (ix2 r k)) (fun k => v18 (ix2 r k)) k := by
  unfold_payloads
  pointwise [modulated, normed, rms]

theorem pay10_eq (v1 v18 v29 : FVec Ideal S1024x1024 .f32) (g : Vec Ideal S1x1024 .f32) (w : Vec Ideal S1024x256 .bf16) :
    k0_pay10 (F := Ideal) v1 v18 v29 g w = k0_pay21 (k0_pay8 v1 v18 v29 g) w := rfl
theorem pay11_eq (v1 v18 v29 : FVec Ideal S1024x1024 .f32) (g : Vec Ideal S1x1024 .f32) (w : Vec Ideal S1024x256 .bf16) :
    k0_pay11 (F := Ideal) v1 v18 v29 g w = k0_pay21 (k0_pay8 v1 v18 v29 g) w := rfl
theorem pay12_eq (v1 v18 v29 : FVec Ideal S1024x1024 .f32) (g : Vec Ideal S1x1024 .f32) (w : Vec Ideal S1024x256 .bf16) :
    k0_pay12 (F := Ideal) v1 v18 v29 g w = k0_pay21 (k0_pay8 v1 v18 v29 g) w := rfl

/-- The matrix of successors from the tile, the gate and the modulated rows. -/
def succ (v1 v40 : FVec Ideal S1024x1024 .f32) (y : FVec Ideal S1024x1024 .bf16) (x4 : Vec Ideal S1024x5632 .bf16)
    (x5 : Vec Ideal S2816x1024 .bf16) : FVec Ideal S1024x1024 .f32 :=
  k0_pay25 (F := Ideal) v1 v40 y (k0_pay21 y (View.ld x4 (Rect.unit (s := S1024x5632) ![0, 2048] S1024x256.size inb_S1024x5632_S1024x256_0_2048))) (k0_pay22 y (View.ld x4 (Rect.unit (s := S1024x5632) ![0, 4864] S1024x256.size inb_S1024x5632_S1024x256_0_4864)))
        (k0_pay23 y (k0_pay16 y (View.ld x4 (Rect.unit (s := S1024x5632) ![0, 4096] S1024x256.size inb_S1024x5632_S1024x256_0_4096)))
          (k0_pay17 y (k0_pay13 y (View.ld x4 (Rect.unit (s := S1024x5632) ![0, 768] S1024x256.size inb_S1024x5632_S1024x256_0_768))) (k0_pay14 y (View.ld x4 (Rect.unit (s := S1024x5632) ![0, 3584] S1024x256.size inb_S1024x5632_S1024x256_0_3584)))
            (k0_pay15 y (k0_pay9 (F := Ideal)) (k0_pay21 y (View.ld x4 (Rect.unit (s := S1024x5632) ![0, 0] S1024x256.size inb_S1024x5632_S1024x256_0_0))) (k0_pay21 y (View.ld x4 (Rect.unit (s := S1024x5632) ![0, 2816] S1024x256.size inb_S1024x5632_S1024x256_0_2816)))
              (k0_pay21 y (View.ld x4 (Rect.unit (s := S1024x5632) ![0, 256] S1024x256.size inb_S1024x5632_S1024x256_0_256))) (View.ld x4 (Rect.unit (s := S1024x5632) ![0, 3072] S1024x256.size inb_S1024x5632_S1024x256_0_3072)) (View.ld x5 (Rect.unit (s := S2816x1024) ![0, 0] S256x1024.size inb_S2816x1024_S256x1024_0_0)) (View.ld x4 (Rect.unit (s := S1024x5632) ![0, 512] S1024x256.size inb_S1024x5632_S1024x256_0_512)) (View.ld x4 (Rect.unit (s := S1024x5632) ![0, 3328] S1024x256.size inb_S1024x5632_S1024x256_0_3328))
              (View.ld x5 (Rect.unit (s := S2816x1024) ![256, 0] S256x1024.size inb_S2816x1024_S256x1024_256_0)) (View.ld x5 (Rect.unit (s := S2816x1024) ![512, 0] S256x1024.size inb_S2816x1024_S256x1024_512_0))) (View.ld x4 (Rect.unit (s := S1024x5632) ![0, 1024] S1024x256.size inb_S1024x5632_S1024x256_0_1024)) (View.ld x4 (Rect.unit (s := S1024x5632) ![0, 3840] S1024x256.size inb_S1024x5632_S1024x256_0_3840)) (View.ld x5 (Rect.unit (s := S2816x1024) ![768, 0] S256x1024.size inb_S2816x1024_S256x1024_768_0)) (View.ld x5 (Rect.unit (s := S2816x1024) ![1024, 0] S256x1024.size inb_S2816x1024_S256x1024_1024_0)))
          (k0_pay18 y (View.ld x4 (Rect.unit (s := S1024x5632) ![0, 1536] S1024x256.size inb_S1024x5632_S1024x256_0_1536))) (k0_pay19 y (View.ld x4 (Rect.unit (s := S1024x5632) ![0, 4352] S1024x256.size inb_S1024x5632_S1024x256_0_4352))) (k0_pay20 y (View.ld x4 (Rect.unit (s := S1024x5632) ![0, 1280] S1024x256.size inb_S1024x5632_S1024x256_0_1280))) (View.ld x5 (Rect.unit (s := S2816x1024) ![1280, 0] S256x1024.size inb_S2816x1024_S256x1024_1280_0))
          (View.ld x4 (Rect.unit (s := S1024x5632) ![0, 1792] S1024x256.size inb_S1024x5632_S1024x256_0_1792)) (View.ld x4 (Rect.unit (s := S1024x5632) ![0, 4608] S1024x256.size inb_S1024x5632_S1024x256_0_4608)) (View.ld x5 (Rect.unit (s := S2816x1024) ![1536, 0] S256x1024.size inb_S2816x1024_S256x1024_1536_0)) (View.ld x5 (Rect.unit (s := S2816x1024) ![1792, 0] S256x1024.size inb_S2816x1024_S256x1024_1792_0)))
        (k0_pay24 (View.ld x4 (Rect.unit (s := S1024x5632) ![0, 2304] S1024x256.size inb_S1024x5632_S1024x256_0_2304))) (constant S1024x256 .f32 0x00000000#32) (View.ld x4 (Rect.unit (s := S1024x5632) ![0, 5120] S1024x256.size inb_S1024x5632_S1024x256_0_5120)) (View.ld x5 (Rect.unit (s := S2816x1024) ![2048, 0] S256x1024.size inb_S2816x1024_S256x1024_2048_0))
        (View.ld x4 (Rect.unit (s := S1024x5632) ![0, 2560] S1024x256.size inb_S1024x5632_S1024x256_0_2560)) (View.ld x4 (Rect.unit (s := S1024x5632) ![0, 5376] S1024x256.size inb_S1024x5632_S1024x256_0_5376)) (View.ld x5 (Rect.unit (s := S2816x1024) ![2304, 0] S256x1024.size inb_S2816x1024_S256x1024_2304_0)) (View.ld x5 (Rect.unit (s := S2816x1024) ![2560, 0] S256x1024.size inb_S2816x1024_S256x1024_2560_0))

set_option maxHeartbeats 4000000 in
/-- The stored row from the modulated one: the row plus the gate times the layer. -/
theorem out_apply (v1 v40 : FVec Ideal S1024x1024 .f32) (y : FVec Ideal S1024x1024 .bf16) (x4 : Vec Ideal S1024x5632 .bf16)
    (x5 : Vec Ideal S2816x1024 .bf16) (r : Fin 1024) (q : Fin 1024) :
    succ v1 v40 y x4 x5 (ix2 r q)
      = v1 (ix2 r q) + v40 (ix2 r q) * down (fun k => y (ix2 r k)) x4 x5 q := by
  rw [down_eq]
  unfold succ
  simp only [View.ld_unit]
  unfold_payloads
  pointwise [chunk, swish, lin, dot_S1024x1024_S1024x256_S1024x256_1_0_0_1_n_n, dot_S1024x256_S256x1024_S1024x1024_1_0_0_1_n_n]

/-- Which rows of a tile are the context's, as the body computes it. -/
theorem mask_eq (i : Fin 2) (r : Fin 1024) :
    IntOp.cmpi CmpIPredicate.sge (IntOp.addi (Scalar.muli (BitVec.ofNat 32 i.val) 1024#32) (BitVec.ofNat 32 r.val)) 2048#32
      = if i.val * 1024 + r.val < 2048 then 0#1 else 1#1 :=
  (by decide +kernel : ∀ (i : Fin 2) (r : Fin 1024),
    IntOp.cmpi CmpIPredicate.sge (IntOp.addi (Scalar.muli (BitVec.ofNat 32 i.val) 1024#32) (BitVec.ofNat 32 r.val)) 2048#32
      = if i.val * 1024 + r.val < 2048 then 0#1 else 1#1) i r

/-- A choice by that mask. -/
theorem select_mask (i : Fin 2) (r : Fin 1024) (u v : EReal) :
    Scalar.select (IntOp.cmpi CmpIPredicate.sge (IntOp.addi (Scalar.muli (BitVec.ofNat 32 i.val) 1024#32) (BitVec.ofNat 32 r.val)) 2048#32) u v
      = if i.val * 1024 + r.val < 2048 then v else u := by
  rw [mask_eq]
  by_cases h : i.val * 1024 + r.val < 2048
  · rw [if_pos h, if_pos h]; rfl
  · rw [if_neg h, if_neg h]; rfl

/-- The selected shift. -/
theorem shift_apply (i : grid0.Coords) (x3 x2 : Vec Ideal S1x3x1x1024 .f32) (r : Fin 1024) (k : Fin 1024) :
    k0_pay4 (F := Ideal) i (View.ld x3 (Rect.unit (s := S1x3x1x1024) ![0, 0, 0, 0] S1x1x1x1024.size inb_S1x3x1x1024_S1x1x1x1024_0_0_0_0)) (View.ld x2 (Rect.unit (s := S1x3x1x1024) ![0, 0, 0, 0] S1x1x1x1024.size inb_S1x3x1x1024_S1x1x1x1024_0_0_0_0)) (ix2 r k)
      = if (i 1).val * 1024 + r.val < 2048 then x2 (ix4 0 0 0 k) else x3 (ix4 0 0 0 k) := by
  simp only [View.ld_unit]
  unfold_payloads
  pointwise
  exact select_mask (i 1) r _ _

/-- The selected scale. -/
theorem scale_apply (i : grid0.Coords) (x3 x2 : Vec Ideal S1x3x1x1024 .f32) (r : Fin 1024) (k : Fin 1024) :
    k0_pay5 (F := Ideal) i (View.ld x3 (Rect.unit (s := S1x3x1x1024) ![0, 1, 0, 0] S1x1x1x1024.size inb_S1x3x1x1024_S1x1x1x1024_0_1_0_0)) (View.ld x2 (Rect.unit (s := S1x3x1x1024) ![0, 1, 0, 0] S1x1x1x1024.size inb_S1x3x1x1024_S1x1x1x1024_0_1_0_0)) (ix2 r k)
      = if (i 1).val * 1024 + r.val < 2048 then x2 (ix4 0 1 0 k) else x3 (ix4 0 1 0 k) := by
  simp only [View.ld_unit]
  unfold_payloads
  pointwise
  exact select_mask (i 1) r _ _

/-- The selected gate. -/
theorem gate_apply (i : grid0.Coords) (x3 x2 : Vec Ideal S1x3x1x1024 .f32) (r : Fin 1024) (k : Fin 1024) :
    k0_pay7 (F := Ideal) (k0_pay3 i) (k0_pay6 (View.ld x3 (Rect.unit (s := S1x3x1x1024) ![0, 2, 0, 0] S1x1x1x1024.size inb_S1x3x1x1024_S1x1x1x1024_0_2_0_0))) (View.ld x2 (Rect.unit (s := S1x3x1x1024) ![0, 2, 0, 0] S1x1x1x1024.size inb_S1x3x1x1024_S1x1x1x1024_0_2_0_0)) (ix2 r k)
      = if (i 1).val * 1024 + r.val < 2048 then x2 (ix4 0 2 0 k) else x3 (ix4 0 2 0 k) := by
  simp only [View.ld_unit]
  unfold_payloads
  pointwise
  exact select_mask (i 1) r _ _

/-- The tile as a matrix. -/
theorem tile_apply (x0 : Vec Ideal S1x1024x1024 .f32) (r : Fin 1024) (k : Fin 1024) :
    k0_pay2 (F := Ideal) (View.ld x0 (Rect.unit (s := S1x1024x1024) ![0, 0, 0] S1x1024x1024.size inb_S1x1024x1024_S1x1024x1024_0_0_0)) (ix2 r k) = x0 (ix3 0 r k) := by
  simp only [View.ld_unit]
  unfold_payloads
  pointwise

/-- The row's successor before the final norm, as the body's loads give it. -/
def pre (i : grid0.Coords) (x0 : Vec Ideal S1x1024x1024 .f32) (x1 : Vec Ideal S1x1024 .f32) (x2 x3 : Vec Ideal S1x3x1x1024 .f32)
    (x4 : Vec Ideal S1024x5632 .bf16) (x5 : Vec Ideal S2816x1024 .bf16) : FVec Ideal S1024x1024 .f32 :=
  succ (k0_pay2 (View.ld x0 (Rect.unit (s := S1x1024x1024) ![0, 0, 0] S1x1024x1024.size inb_S1x1024x1024_S1x1024x1024_0_0_0)))
    (k0_pay7 (k0_pay3 i) (k0_pay6 (View.ld x3 (Rect.unit (s := S1x3x1x1024) ![0, 2, 0, 0] S1x1x1x1024.size inb_S1x3x1x1024_S1x1x1x1024_0_2_0_0))) (View.ld x2 (Rect.unit (s := S1x3x1x1024) ![0, 2, 0, 0] S1x1x1x1024.size inb_S1x3x1x1024_S1x1x1x1024_0_2_0_0)))
    (k0_pay8 (k0_pay2 (View.ld x0 (Rect.unit (s := S1x1024x1024) ![0, 0, 0] S1x1024x1024.size inb_S1x1024x1024_S1x1024x1024_0_0_0)))
      (k0_pay4 i (View.ld x3 (Rect.unit (s := S1x3x1x1024) ![0, 0, 0, 0] S1x1x1x1024.size inb_S1x3x1x1024_S1x1x1x1024_0_0_0_0)) (View.ld x2 (Rect.unit (s := S1x3x1x1024) ![0, 0, 0, 0] S1x1x1x1024.size inb_S1x3x1x1024_S1x1x1x1024_0_0_0_0)))
      (k0_pay5 i (View.ld x3 (Rect.unit (s := S1x3x1x1024) ![0, 1, 0, 0] S1x1x1x1024.size inb_S1x3x1x1024_S1x1x1x1024_0_1_0_0)) (View.ld x2 (Rect.unit (s := S1x3x1x1024) ![0, 1, 0, 0] S1x1x1x1024.size inb_S1x3x1x1024_S1x1x1x1024_0_1_0_0)))
      (View.ld x1 (Rect.unit (s := S1x1024) ![0, 0] S1x1024.size inb_S1x1024_S1x1024_0_0))) x4 x5

/-- The block the body leaves, from the windows' blocks. -/
def res (i : grid0.Coords) (x0 : Vec Ideal S1x1024x1024 .f32) (x1 : Vec Ideal S1x1024 .f32) (x2 x3 : Vec Ideal S1x3x1x1024 .f32)
    (x4 : Vec Ideal S1024x5632 .bf16) (x5 : Vec Ideal S2816x1024 .bf16) (x6 : Vec Ideal S1x1024 .f32) : FVec Ideal S1x1024x1024 .f32 :=
  k0_pay1 (pre i x0 x1 x2 x3 x4 x5) (shapeCast S1024x1 (multiReduction .add [1] S1024 (mulf (pre i x0 x1 x2 x3 x4 x5) (pre i x0 x1 x2 x3 x4 x5))
      0x00000000#32 reduces_S1024x1024_S1024 (.inl rfl) rfl) shapeCasts_S1024_S1024x1) (k0_pay27 (F := Ideal)) (View.ld x6 (Rect.unit (s := S1x1024) ![0, 0] S1x1024.size inb_S1x1024_S1x1024_0_0))

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 2000000 in
/-- That is what its one store leaves. -/
theorem out_res (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x3x1x1024 .f32) (harg4 : arg4.IsWhole) (arg5 : Memref sig .tc .vmem S1x3x1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024x1024 .f32) (harg9 : arg9.IsWhole)
    (x0 : Vec Ideal S1x1024x1024 .f32) (x1 : Vec Ideal S1x1024 .f32) (x2 : Vec Ideal S1x3x1x1024 .f32) (x3 : Vec Ideal S1x3x1x1024 .f32) (x4 : Vec Ideal S1024x5632 .bf16) (x5 : Vec Ideal S2816x1024 .bf16) (x6 : Vec Ideal S1x1024 .f32) :
    out0_A_7 c i arg2 harg2 arg3 harg3 arg4 harg4 arg5 harg5 arg6 harg6 arg7 harg7 arg8 harg8 arg9 harg9 x0 x1 x2 x3 x4 x5 x6 = res i x0 x1 x2 x3 x4 x5 x6 := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread,
    harg7.read_unread, harg8.read_unread]
  rfl

/-- The block entry by entry. -/
theorem res_apply (i : grid0.Coords) (x0 : Vec Ideal S1x1024x1024 .f32) (x1 : Vec Ideal S1x1024 .f32) (x2 x3 : Vec Ideal S1x3x1x1024 .f32)
    (x4 : Vec Ideal S1024x5632 .bf16) (x5 : Vec Ideal S2816x1024 .bf16) (x6 : Vec Ideal S1x1024 .f32) (r : Fin 1024) (q : Fin 1024) :
    res i x0 x1 x2 x3 x4 x5 x6 (ix3 0 r q)
      = normed (step (fun k => x0 (ix3 0 r k)) (fun k => x1 (ix2 0 k))
          (fun k => if (i 1).val * 1024 + r.val < 2048 then x2 (ix4 0 1 0 k) else x3 (ix4 0 1 0 k))
          (fun k => if (i 1).val * 1024 + r.val < 2048 then x2 (ix4 0 0 0 k) else x3 (ix4 0 0 0 k))
          (fun k => if (i 1).val * 1024 + r.val < 2048 then x2 (ix4 0 2 0 k) else x3 (ix4 0 2 0 k)) x4 x5) (fun k => x6 (ix2 0 k)) q := by
  have hp : ∀ q, pre i x0 x1 x2 x3 x4 x5 (ix2 r q) = step (fun k => x0 (ix3 0 r k)) (fun k => x1 (ix2 0 k))
          (fun k => if (i 1).val * 1024 + r.val < 2048 then x2 (ix4 0 1 0 k) else x3 (ix4 0 1 0 k))
          (fun k => if (i 1).val * 1024 + r.val < 2048 then x2 (ix4 0 0 0 k) else x3 (ix4 0 0 0 k))
          (fun k => if (i 1).val * 1024 + r.val < 2048 then x2 (ix4 0 2 0 k) else x3 (ix4 0 2 0 k)) x4 x5 q := by
    intro q
    unfold pre
    rw [View.ld_unit_zero (S := S1x1024) hz2]
    refine (out_apply _ _ _ x4 x5 r q).trans ?_
    rw [tile_apply, gate_apply]
    unfold step
    congr 3
    funext k
    rw [row_apply]
    congr 1 <;> funext k'
    · exact tile_apply x0 r k'
    · exact scale_apply i x3 x2 r k'
    · exact shift_apply i x3 x2 r k'
  rw [← funext hp]
  unfold res
  rw [View.ld_unit_zero (S := S1x1024) hz2]
  generalize pre i x0 x1 x2 x3 x4 x5 = p
  unfold_payloads
  pointwise [normed, rms]

end Cert.FfnLastIdeal.Block

end
-- ==== Proof.FfnLastArray.lean ====
/- The result array of the last feed-forward layer after its run: what each grid point writes back is its block of one
   function of the arguments, and the blocks tile the array. -/
module

public import proofs.«01_k».proof.Proof.FfnLastBlock

@[expose] public section

set_option maxRecDepth 65536

noncomputable section

namespace Cert.FfnLastIdeal.Arr

open Cert.FfnLastIdeal Cert.FfnLastIdeal.Gen Cert.Rows Cert.FfnSpec Idealize.ShloMosaic Idealize.ShloMosaic.TcCoe Idealize.SL.Sem
open Idealize.ShloMosaic.Pipeline (Dat)

variable (m : (ℓ : Loc nD τ sig) → Buf (Elt Ideal) ℓ)

/-! ## The arrays the host code prepares -/

/-- The tokens: the latent stream, then the context stream. -/
theorem V_tokens (c : Dev nD) (b : Fin 16) (i : Fin 2304) (k : Fin 1024) :
    (V m c main_v0 : (⟨3, ![16, 2304, 1024]⟩ : Shape).Idx → EReal) (ix3 b i k) = token (m ((c : Thread nD τ).loc main_arg0)) (m ((c : Thread nD τ).loc main_arg1)) b i k := by
  have e : V m c main_v0 = concatenate S16x2304x1024 1 [⟨S16x2048x1024, (m ((c : Thread nD τ).loc main_arg0))⟩, ⟨S16x256x1024, (m ((c : Thread nD τ).loc main_arg1))⟩] concatenates_S16x2048x1024_S16x256x1024_S16x2304x1024_d1 := by
    unfold V; after_results_simp <;> rfl
  rw [e]
  exact concat_apply _ _ _ b i k

/-- The norm's gain. -/
theorem V_gain (c : Dev nD) (k : Fin 1024) :
    (V m c main_v1 : (⟨2, ![1, 1024]⟩ : Shape).Idx → EReal) (ix2 0 k) = ((m ((c : Thread nD τ).loc main_arg2)) : Gain) (ix1 k) := by
  have e : V m c main_v1 = broadcastInDim S1x1024 ![1] bcast_S1024_S1x1024_1 (m ((c : Thread nD τ).loc main_arg2)) := by
    unfold V; after_results_simp <;> rfl
  rw [e]
  pointwise

/-- The final norm's gain. -/
theorem V_final (c : Dev nD) (k : Fin 1024) :
    (V m c main_v19 : (⟨2, ![1, 1024]⟩ : Shape).Idx → EReal) (ix2 0 k) = ((m ((c : Thread nD τ).loc main_arg11)) : Gain) (ix1 k) := by
  have e : V m c main_v19 = broadcastInDim S1x1024 ![1] bcast_S1024_S1x1024_1 (m ((c : Thread nD τ).loc main_arg11)) := by
    unfold V; after_results_simp <;> rfl
  rw [e]
  pointwise

/-- The shifts: batch `b`'s own, then the shared one. -/
theorem V_shift (c : Dev nD) (b : Fin 16) (s : Fin 2) (k : Fin 1024) :
    (V m c main_v6 : (⟨3, ![32, 1, 1024]⟩ : Shape).Idx → EReal) (ix3 ⟨2 * b.val + s.val, by omega⟩ 0 k)
      = if s.val = 0 then ((m ((c : Thread nD τ).loc main_arg3)) : PerBatch) (ix2 b k) else ((m ((c : Thread nD τ).loc main_arg6)) : Gain) (ix1 k) := by
  have e : V m c main_v6 = shapeCast S32x1x1024 (concatenate S16x2x1024 1
      [⟨S16x1x1024, broadcastInDim S16x1x1024 ![0, 2] bcast_S16x1024_S16x1x1024_0_2 (m ((c : Thread nD τ).loc main_arg3))⟩,
       ⟨S16x1x1024, broadcastInDim S16x1x1024 ![0, 2] bcast_S16x1024_S16x1x1024_0_2
          (broadcastInDim S16x1024 ![1] bcast_S1024_S16x1024_1 (m ((c : Thread nD τ).loc main_arg6)))⟩]
      concatenates_S16x1x1024_S16x1x1024_S16x2x1024_d1) shapeCasts_S16x2x1024_S32x1x1024 := by
    unfold V; after_results_simp <;> rfl
  rw [e]
  exact table_apply _ _ _ _ _ _ b s k

/-- The scales: batch `b`'s own, then the shared one. -/
theorem V_scale (c : Dev nD) (b : Fin 16) (s : Fin 2) (k : Fin 1024) :
    (V m c main_v11 : (⟨3, ![32, 1, 1024]⟩ : Shape).Idx → EReal) (ix3 ⟨2 * b.val + s.val, by omega⟩ 0 k)
      = if s.val = 0 then ((m ((c : Thread nD τ).loc main_arg4)) : PerBatch) (ix2 b k) else ((m ((c : Thread nD τ).loc main_arg7)) : Gain) (ix1 k) := by
  have e : V m c main_v11 = shapeCast S32x1x1024 (concatenate S16x2x1024 1
      [⟨S16x1x1024, broadcastInDim S16x1x1024 ![0, 2] bcast_S16x1024_S16x1x1024_0_2 (m ((c : Thread nD τ).loc main_arg4))⟩,
       ⟨S16x1x1024, broadcastInDim S16x1x1024 ![0, 2] bcast_S16x1024_S16x1x1024_0_2
          (broadcastInDim S16x1024 ![1] bcast_S1024_S16x1024_1 (m ((c : Thread nD τ).loc main_arg7)))⟩]
      concatenates_S16x1x1024_S16x1x1024_S16x2x1024_d1) shapeCasts_S16x2x1024_S32x1x1024 := by
    unfold V; after_results_simp <;> rfl
  rw [e]
  exact table_apply _ _ _ _ _ _ b s k

/-- The gates: batch `b`'s own, then the shared one. -/
theorem V_gate (c : Dev nD) (b : Fin 16) (s : Fin 2) (k : Fin 1024) :
    (V m c main_v16 : (⟨3, ![32, 1, 1024]⟩ : Shape).Idx → EReal) (ix3 ⟨2 * b.val + s.val, by omega⟩ 0 k)
      = if s.val = 0 then ((m ((c : Thread nD τ).loc main_arg5)) : PerBatch) (ix2 b k) else ((m ((c : Thread nD τ).loc main_arg8)) : Gain) (ix1 k) := by
  have e : V m c main_v16 = shapeCast S32x1x1024 (concatenate S16x2x1024 1
      [⟨S16x1x1024, broadcastInDim S16x1x1024 ![0, 2] bcast_S16x1024_S16x1x1024_0_2 (m ((c : Thread nD τ).loc main_arg5))⟩,
       ⟨S16x1x1024, broadcastInDim S16x1x1024 ![0, 2] bcast_S16x1024_S16x1x1024_0_2
          (broadcastInDim S16x1024 ![1] bcast_S1024_S16x1024_1 (m ((c : Thread nD τ).loc main_arg8)))⟩]
      concatenates_S16x1x1024_S16x1x1024_S16x2x1024_d1) shapeCasts_S16x2x1024_S32x1x1024 := by
    unfold V; after_results_simp <;> rfl
  rw [e]
  exact table_apply _ _ _ _ _ _ b s k

/-- The three of them in one table. -/
theorem V_mods (c : Dev nD) (p : Fin 32) (j : Fin 3) (k : Fin 1024) :
    (V m c main_v23 : (⟨4, ![32, 3, 1, 1024]⟩ : Shape).Idx → EReal) (ix4 p j 0 k)
      = if j.val = 0 then (V m c main_v6 : (⟨3, ![32, 1, 1024]⟩ : Shape).Idx → EReal) (ix3 p 0 k)
        else if j.val = 1 then (V m c main_v11 : (⟨3, ![32, 1, 1024]⟩ : Shape).Idx → EReal) (ix3 p 0 k)
        else (V m c main_v16 : (⟨3, ![32, 1, 1024]⟩ : Shape).Idx → EReal) (ix3 p 0 k) := by
  have e : V m c main_v23 = (concatenate S32x3x1x1024 1
      [⟨S32x1x1x1024, broadcastInDim S32x1x1x1024 ![0, 2, 3] bcast_S32x1x1024_S32x1x1x1024_0_2_3 (V m c main_v6)⟩,
       ⟨S32x1x1x1024, broadcastInDim S32x1x1x1024 ![0, 2, 3] bcast_S32x1x1024_S32x1x1x1024_0_2_3 (V m c main_v11)⟩,
       ⟨S32x1x1x1024, broadcastInDim S32x1x1x1024 ![0, 2, 3] bcast_S32x1x1024_S32x1x1x1024_0_2_3 (V m c main_v16)⟩]
      concatenates_S32x1x1x1024_S32x1x1x1024_S32x1x1x1024_S32x3x1x1024_d1 : FVec Ideal S32x3x1x1024 .f32) := by
    unfold V; after_results_simp <;> rfl
  rw [e]
  pointwise
  match j with
  | ⟨0, _⟩ => rfl
  | ⟨1, _⟩ => rfl
  | ⟨2, _⟩ => rfl

/-- The first weight matrix. -/
theorem V_in (c : Dev nD) : (V m c main_v17 : WIn) = (m ((c : Thread nD τ).loc main_arg9)) := by
  have e : V m c main_v17 = (truncf .bf16 (m ((c : Thread nD τ).loc main_arg9)) bitsLt_bf16_f32 : FVec Ideal S1024x5632 .bf16) := by
    unfold V; after_results_simp <;> rfl
  rw [e]; rfl

/-- The second. -/
theorem V_out (c : Dev nD) : (V m c main_v18 : WOut) = (m ((c : Thread nD τ).loc main_arg10)) := by
  have e : V m c main_v18 = (truncf .bf16 (m ((c : Thread nD τ).loc main_arg10)) bitsLt_bf16_f32 : FVec Ideal S2816x1024 .bf16) := by
    unfold V; after_results_simp <;> rfl
  rw [e]; rfl

/-! ## The blocks -/

/-- Where the windows' blocks lie at a point, in terms of the output's: the tokens' block is the output's own, the
    modulation rows are the batch's two. -/
theorem idx_facts : ∀ t : Fin cfg0.N, win0_7.index t (0 : Fin 3) < 16 ∧ win0_7.index t (1 : Fin 3) < 2 ∧ win0_7.index t (2 : Fin 3) = 0
    ∧ win0_0.index t (0 : Fin 3) = win0_7.index t (0 : Fin 3) ∧ win0_0.index t (1 : Fin 3) = win0_7.index t (1 : Fin 3) ∧ win0_0.index t (2 : Fin 3) = 0
    ∧ win0_1.index t (0 : Fin 2) = 0 ∧ win0_1.index t (1 : Fin 2) = 0
    ∧ win0_2.index t (0 : Fin 4) = 2 * win0_7.index t (0 : Fin 3) + 0 ∧ win0_2.index t (1 : Fin 4) = 0 ∧ win0_2.index t (2 : Fin 4) = 0 ∧ win0_2.index t (3 : Fin 4) = 0
    ∧ win0_3.index t (0 : Fin 4) = 2 * win0_7.index t (0 : Fin 3) + 1 ∧ win0_3.index t (1 : Fin 4) = 0 ∧ win0_3.index t (2 : Fin 4) = 0 ∧ win0_3.index t (3 : Fin 4) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 2) = 0 ∧ win0_6.index t (1 : Fin 2) = 0 ∧ (grid0.coords t 1).val = win0_7.index t (1 : Fin 3) :=
  (by decide +kernel : ∀ t : Fin grid0.N, _)

/-- Every block of the result is some point's. -/
theorem idx_onto : ∀ (b : Fin 16) (s : Fin 2), ∃ t : Fin cfg0.N, win0_7.index t = ![b.val, s.val, 0] :=
  (by decide +kernel : ∀ (b : Fin 16) (s : Fin 2), ∃ t : Fin grid0.N, win0_7.index t = ![b.val, s.val, 0])

/-- The batch of point `t`. -/
def bat (t : Fin cfg0.N) : Fin 16 := ⟨win0_7.index t (0 : Fin 3), (idx_facts t).1⟩
/-- The token that row `r` of point `t`'s block is. -/
def tok (t : Fin cfg0.N) (r : Fin 1024) : Fin 2048 :=
  ⟨win0_7.index t (1 : Fin 3) * 1024 + r.val, by have := (idx_facts t).2.1; omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The gain's block. -/
theorem blk_gain (c : Dev nD) (t : Fin cfg0.N) (k : Fin 1024) :
    (iblk m c 1 t : Vec Ideal S1x1024 .f32) (ix2 0 k) = ((m ((c : Thread nD τ).loc main_arg2)) : Gain) (ix1 k) := by
  rw [← V_gain m c]
  obtain ⟨-, -, -, -, -, -, e0, e1, -⟩ := idx_facts t
  show V m c main_v1 (((cfg0.win 1).blk t).view.emb (ix2 0 k)) = V m c main_v1 (ix2 0 k)
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

/-- The final gain's block. -/
theorem blk_final (c : Dev nD) (t : Fin cfg0.N) (k : Fin 1024) :
    (iblk m c 6 t : Vec Ideal S1x1024 .f32) (ix2 0 k) = ((m ((c : Thread nD τ).loc main_arg11)) : Gain) (ix1 k) := by
  rw [← V_final m c]
  obtain ⟨-, -, -, -, -, -, -, -, -, -, -, -, -, -, -, -, -, -, -, -, e0, e1, -⟩ := idx_facts t
  show V m c main_v19 (((cfg0.win 6).blk t).view.emb (ix2 0 k)) = V m c main_v19 (ix2 0 k)
  refine congrArg (V m c main_v19) (funext fun a => Fin.ext ?_)
  match a with
  | ⟨0, _⟩ => show win0_6.index t (0 : Fin 2) * 1 + 1 * 0 = 0; omega
  | ⟨1, _⟩ => show win0_6.index t (1 : Fin 2) * 1024 + 1 * k.val = k.val; omega

/-- The first weight matrix' block: all of it. -/
theorem blk_in (c : Dev nD) (t : Fin cfg0.N) : (iblk m c 4 t : Vec Ideal S1024x5632 .bf16) = (m ((c : Thread nD τ).loc main_arg9)) := by
  refine Eq.trans ?_ (V_in m c)
  obtain ⟨-, -, -, -, -, -, -, -, -, -, -, -, -, -, -, -, e0, e1, -⟩ := idx_facts t
  funext y
  show V m c main_v17 (((cfg0.win 4).blk t).view.emb y) = V m c main_v17 y
  refine congrArg (V m c main_v17) (funext fun a => Fin.ext ?_)
  match a with
  | ⟨0, _⟩ => show win0_4.index t (0 : Fin 2) * 1024 + 1 * (y 0).val = (y 0).val; omega
  | ⟨1, _⟩ => show win0_4.index t (1 : Fin 2) * 5632 + 1 * (y 1).val = (y 1).val; omega

/-- The second's. -/
theorem blk_out (c : Dev nD) (t : Fin cfg0.N) : (iblk m c 5 t : Vec Ideal S2816x1024 .bf16) = (m ((c : Thread nD τ).loc main_arg10)) := by
  refine Eq.trans ?_ (V_out m c)
  obtain ⟨-, -, -, -, -, -, -, -, -, -, -, -, -, -, -, -, -, -, e0, e1, -⟩ := idx_facts t
  funext y
  show V m c main_v18 (((cfg0.win 5).blk t).view.emb y) = V m c main_v18 y
  refine congrArg (V m c main_v18) (funext fun a => Fin.ext ?_)
  match a with
  | ⟨0, _⟩ => show win0_5.index t (0 : Fin 2) * 2816 + 1 * (y 0).val = (y 0).val; omega
  | ⟨1, _⟩ => show win0_5.index t (1 : Fin 2) * 1024 + 1 * (y 1).val = (y 1).val; omega

/-- The batch's own modulation rows: shift, scale and gate. -/
theorem blk_own (c : Dev nD) (t : Fin cfg0.N) (j : Fin 3) (k : Fin 1024) :
    (iblk m c 2 t : Vec Ideal S1x3x1x1024 .f32) (ix4 0 j 0 k)
      = if j.val = 0 then ((m ((c : Thread nD τ).loc main_arg3)) : PerBatch) (ix2 (bat t) k)
        else if j.val = 1 then ((m ((c : Thread nD τ).loc main_arg4)) : PerBatch) (ix2 (bat t) k) else ((m ((c : Thread nD τ).loc main_arg5)) : PerBatch) (ix2 (bat t) k) := by
  obtain ⟨-, -, -, -, -, -, -, -, e0, e1, e2, e3, -⟩ := idx_facts t
  refine Eq.trans ?_ ((V_mods m c ⟨2 * (bat t).val + (0 : Fin 2).val, by have := (bat t).isLt; show _ < 32; simp; omega⟩ j k).trans ?_)
  · show V m c main_v23 (((cfg0.win 2).blk t).view.emb (ix4 0 j 0 k)) = V m c main_v23 (ix4 _ j 0 k)
    refine congrArg (V m c main_v23) (funext fun a => Fin.ext ?_)
    match a with
    | ⟨0, _⟩ => show win0_2.index t (0 : Fin 4) * 1 + 1 * 0 = 2 * win0_7.index t (0 : Fin 3) + 0; omega
    | ⟨1, _⟩ => show win0_2.index t (1 : Fin 4) * 3 + 1 * j.val = j.val; omega
    | ⟨2, _⟩ => show win0_2.index t (2 : Fin 4) * 1 + 1 * 0 = 0; omega
    | ⟨3, _⟩ => show win0_2.index t (3 : Fin 4) * 1024 + 1 * k.val = k.val; omega
  · rw [V_shift m c, V_scale m c, V_gate m c]; rfl

/-- The shared modulation rows. -/
theorem blk_shared (c : Dev nD) (t : Fin cfg0.N) (j : Fin 3) (k : Fin 1024) :
    (iblk m c 3 t : Vec Ideal S1x3x1x1024 .f32) (ix4 0 j 0 k)
      = if j.val = 0 then ((m ((c : Thread nD τ).loc main_arg6)) : Gain) (ix1 k)
        else if j.val = 1 then ((m ((c : Thread nD τ).loc main_arg7)) : Gain) (ix1 k) else ((m ((c : Thread nD τ).loc main_arg8)) : Gain) (ix1 k) := by
  obtain ⟨-, -, -, -, -, -, -, -, -, -, -, -, e0, e1, e2, e3, -⟩ := idx_facts t
  refine Eq.trans ?_ ((V_mods m c ⟨2 * (bat t).val + (1 : Fin 2).val, by have := (bat t).isLt; show _ < 32; simp; omega⟩ j k).trans ?_)
  · show V m c main_v23 (((cfg0.win 3).blk t).view.emb (ix4 0 j 0 k)) = V m c main_v23 (ix4 _ j 0 k)
    refine congrArg (V m c main_v23) (funext fun a => Fin.ext ?_)
    match a with
    | ⟨0, _⟩ => show win0_3.index t (0 : Fin 4) * 1 + 1 * 0 = 2 * win0_7.index t (0 : Fin 3) + 1; omega
    | ⟨1, _⟩ => show win0_3.index t (1 : Fin 4) * 3 + 1 * j.val = j.val; omega
    | ⟨2, _⟩ => show win0_3.index t (2 : Fin 4) * 1 + 1 * 0 = 0; omega
    | ⟨3, _⟩ => show win0_3.index t (3 : Fin 4) * 1024 + 1 * k.val = k.val; omega
  · rw [V_shift m c, V_scale m c, V_gate m c]; rfl

/-- The tokens' block: the latent stream's alone. -/
theorem blk_tokens (c : Dev nD) (t : Fin cfg0.N) (r : Fin 1024) (k : Fin 1024) :
    (X0_0 m c t : Vec Ideal S1x1024x1024 .f32) (ix3 0 r k) = ((m ((c : Thread nD τ).loc main_arg0)) : Lat) (ix3 (bat t) (tok t r) k) := by
  obtain ⟨-, h2, -, e0, e1, e2, -⟩ := idx_facts t
  have hx : X0_0 m c t (ix3 0 r k) = V m c main_v0 (ix3 (bat t) ⟨(tok t r).val, by have := (tok t r).isLt; omega⟩ k) := by
    unfold X0_0 Pipeline.Window.fill
    refine (dif_pos (moved0_0 t (ix3 0 r k))).trans ?_
    refine congrArg (V m c main_v0) (funext fun a => Fin.ext ?_)
    match a with
    | ⟨0, _⟩ => show win0_0.index t (0 : Fin 3) * 1 + 1 * 0 = win0_7.index t (0 : Fin 3); omega
    | ⟨1, _⟩ => show win0_0.index t (1 : Fin 3) * 1024 + 1 * r.val = win0_7.index t (1 : Fin 3) * 1024 + r.val; omega
    | ⟨2, _⟩ => show win0_0.index t (2 : Fin 3) * 1024 + 1 * k.val = k.val; omega
  refine hx.trans ((V_tokens m c _ _ _).trans ?_)
  exact dif_pos (tok t r).isLt

/-- No row of these tiles is a context token. -/
theorem mod_eq (lat con : EReal) (t : Fin cfg0.N) (r : Fin 1024) :
    (if (grid0.coords t 1).val * 1024 + r.val < 2048 then lat else con) = lat := by
  obtain ⟨-, h, -, -, -, -, -, -, -, -, -, -, -, -, -, -, -, -, -, -, -, -, e⟩ := idx_facts t
  exact if_pos (by rw [e]; have := r.isLt; omega)

/-! ## The array -/

/-- The result array as one function of the arguments. -/
def G (c : Dev nD) : Buf (Elt Ideal) ((c : Thread nD τ).loc main_v24) := fun i =>
  FfnSpec.last (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (i 0) (i 1) (i 2)

/-- `G` at the place a point's block puts its row `r` and column `q`. -/
theorem G_at (c : Dev nD) (t : Fin cfg0.N) (r : Fin 1024) (q : Fin 1024) :
    G m c (((cfg0.win 7).blk t).view.emb (ix3 0 r q)) = FfnSpec.last (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (bat t) (tok t r) q := by
  obtain ⟨-, -, e2, -⟩ := idx_facts t
  unfold G
  congr 1 <;> apply Fin.ext
  · show win0_7.index t (0 : Fin 3) * 1 + 1 * 0 = win0_7.index t (0 : Fin 3); omega
  · show win0_7.index t (1 : Fin 3) * 1024 + 1 * r.val = win0_7.index t (1 : Fin 3) * 1024 + r.val; omega
  · show win0_7.index t (2 : Fin 3) * 1024 + 1 * q.val = q.val; omega

/-- What the body leaves at a point's row and column is `G` there. -/
theorem pay_eq (c : Dev nD) (t : Fin cfg0.N) (r : Fin 1024) (q : Fin 1024) :
    Block.res (grid0.coords t) (X0_0 m c t) (iblk m c 1 t) (iblk m c 2 t) (iblk m c 3 t) (iblk m c 4 t) (iblk m c 5 t) (iblk m c 6 t)
        (ix3 0 r q)
      = G m c (((cfg0.win 7).blk t).view.emb (ix3 0 r q)) := by
  rw [G_at]
  refine (Block.res_apply _ _ _ _ _ _ _ _ r q).trans ?_
  unfold last
  rw [blk_in m c t, blk_out m c t]
  rw [show (fun k => (X0_0 m c t : Vec Ideal S1x1024x1024 .f32) (ix3 0 r k)) = _ from funext fun k => blk_tokens m c t r k,
    show (fun k => (iblk m c 1 t : Vec Ideal S1x1024 .f32) (ix2 0 k)) = _ from funext fun k => blk_gain m c t k,
    show (fun k => (iblk m c 6 t : Vec Ideal S1x1024 .f32) (ix2 0 k)) = _ from funext fun k => blk_final m c t k,
    show (fun k => if (grid0.coords t 1).val * 1024 + r.val < 2048 then (iblk m c 2 t : Vec Ideal S1x3x1x1024 .f32) (ix4 0 0 0 k)
        else (iblk m c 3 t : Vec Ideal S1x3x1x1024 .f32) (ix4 0 0 0 k)) = fun k => ((m ((c : Thread nD τ).loc main_arg3)) : PerBatch) (ix2 (bat t) k) from
      funext fun k => ((congrArg₂ (fun u v => if (grid0.coords t 1).val * 1024 + r.val < 2048 then u else v) (blk_own m c t 0 k) (blk_shared m c t 0 k)).trans (mod_eq _ _ t r)),
    show (fun k => if (grid0.coords t 1).val * 1024 + r.val < 2048 then (iblk m c 2 t : Vec Ideal S1x3x1x1024 .f32) (ix4 0 1 0 k)
        else (iblk m c 3 t : Vec Ideal S1x3x1x1024 .f32) (ix4 0 1 0 k)) = fun k => ((m ((c : Thread nD τ).loc main_arg4)) : PerBatch) (ix2 (bat t) k) from
      funext fun k => ((congrArg₂ (fun u v => if (grid0.coords t 1).val * 1024 + r.val < 2048 then u else v) (blk_own m c t 1 k) (blk_shared m c t 1 k)).trans (mod_eq _ _ t r)),
    show (fun k => if (grid0.coords t 1).val * 1024 + r.val < 2048 then (iblk m c 2 t : Vec Ideal S1x3x1x1024 .f32) (ix4 0 2 0 k)
        else (iblk m c 3 t : Vec Ideal S1x3x1x1024 .f32) (ix4 0 2 0 k)) = fun k => ((m ((c : Thread nD τ).loc main_arg5)) : PerBatch) (ix2 (bat t) k) from
      funext fun k => ((congrArg₂ (fun u v => if (grid0.coords t 1).val * 1024 + r.val < 2048 then u else v) (blk_own m c t 2 k) (blk_shared m c t 2 k)).trans (mod_eq _ _ t r))]

/-- What point `t` writes back is its block of `G`. -/
theorem flushed_eq (c : Dev nD) (t : Fin cfg0.N) :
    (dats m 0 c).flushed 7 t = ((cfg0.win 7).blk t).view.read (Elt Ideal) (G m c) := by
  rw [Value.flushed7_A, Block.out_res]
  funext y
  have hy : y = ix3 0 (y 1) (y 2) := by
    funext a; apply Fin.ext
    match a with
    | ⟨0, _⟩ => have : (y 0).val < 1 := (y 0).isLt; show (y 0).val = 0; omega
    | ⟨1, _⟩ => rfl
    | ⟨2, _⟩ => rfl
  rw [hy]
  exact pay_eq m c t _ _

/-- An index of the array is in point `t`'s block iff each coordinate is in the block's range on its axis. -/
theorem mem_blk (t : Fin cfg0.N) (i : S16x2048x1024.Idx) :
    i ∈ ((cfg0.win 7).blk t).view.set ↔ ∀ a : Fin 3, win0_7.index t a * S1x1024x1024.size a ≤ (i a).val ∧ (i a).val < win0_7.index t a * S1x1024x1024.size a + S1x1024x1024.size a := by
  show i ∈ ((View.whole main_v24).slice (win0_7.rect t)).set ↔ _
  rw [View.set_slice_whole, Rect.mem_set_unit]
  exact Iff.rfl

/-- The blocks tile the array. -/
theorem cover (i : S16x2048x1024.Idx) :
    ∃ t : Fin cfg0.N, (cfg0.win 7).flush t = true ∧ i ∈ ((cfg0.win 7).blk t).view.set := by
  have h0 : (i 0).val < 16 := (i 0).isLt
  have h1 : (i 1).val < 2048 := (i 1).isLt
  have h2 : (i 2).val < 1024 := (i 2).isLt
  obtain ⟨t, ht⟩ := idx_onto ⟨(i 0).val, h0⟩ ⟨(i 1).val / 1024, by omega⟩
  have q0 : win0_7.index t (0 : Fin 3) = (i 0).val := congrFun ht 0
  have q1 : win0_7.index t (1 : Fin 3) = (i 1).val / 1024 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 1024 ≤ (i 2).val ∧ (i 2).val < win0_7.index t (2 : Fin 3) * 1024 + 1024; omega

/-- So the array ends holding `G`. -/
theorem final (c : Dev nD) : (dats m 0 c).arrAt 7 cfg0.N = G m c :=
  (dats m 0 c).arrAt_eq_of_cover 7 (G m c) (fun t _ => flushed_eq m c t) cover

end Cert.FfnLastIdeal.Arr

end
-- ==== Proof.FfnLastRef.lean ====
/- What the last feed-forward layer's reference computes, element by element. -/
module

public import proofs.«01_k».proof.Proof.Gen.FfnLastRefIdeal.Read
public import proofs.«01_k».proof.Proof.FfnSpec

@[expose] public section

set_option maxRecDepth 65536

noncomputable section

namespace Cert.FfnLastRefIdeal.Ref

open Cert.FfnLastRefIdeal Cert.FfnLastRefIdeal.Gen Cert.FfnLastRefIdeal.Read Cert.Rows Cert.FfnSpec Idealize.ShloMosaic

variable (x : Lat) (g : Gain) (sh sc gt : PerBatch) (w : WIn) (wo : WOut) (fg : Gain)

/-- The layer before the final norm. -/
theorem layer_apply (b : Fin 16) (i : Fin 2048) (q : Fin 1024) :
    val_main_v36 (F := Ideal) x g sh sc gt w wo (ix3 b i q)
      = step (fun k => x (ix3 b i k)) (fun k => g (ix1 k)) (fun k => sc (ix2 b k)) (fun k => sh (ix2 b k)) (fun k => gt (ix2 b k)) w wo q := by
  pointwise [step, down, swish, lin, modulated, normed, rms, Ideal.logistic,
      dot_S16x2048x1024_S1024x5632_S16x2048x5632_2_0_01_1_n_n, dot_S16x2048x2816_S2816x1024_S16x2048x1024_2_0_01_1_n_n,
      val_main_v0, val_main_v1, val_main_cst, val_main_v2, val_main_v3, val_main_cst_0, val_main_v4, val_main_v5,
      val_main_cst_1, val_main_v6, val_main_v7, val_main_v8, val_main_v9, val_main_v10, val_main_v11, val_main_v12,
      val_main_v13, val_main_v14, val_main_v15, val_main_cst_2, val_main_v16, val_main_v17, val_main_v18, val_main_v19,
      val_main_v20, val_main_v21, val_main_v22, val_main_v23, val_main_v24, val_main_v25, val_main_cst_3, val_main_v26,
      val_main_v27, val_main_cst_4, val_main_v28, val_main_v29, val_main_v30, val_main_v31, val_main_v32, val_main_v33,
      val_main_v34, val_main_v35, val_main_v36, val_main_v37, val_main_cst_5, val_main_v38, val_main_v39, val_main_cst_6,
      val_main_v40, val_main_v41, val_main_cst_7, val_main_v42, val_main_v43, val_main_v44, val_main_v45, val_main_v46,
      val_main_v47, val_main_v48, val_main_v49]

/-- The reference's result at an index. -/
theorem result_apply (b : Fin 16) (i : Fin 2048) (q : Fin 1024) :
    val_main_v49 (F := Ideal) x g sh sc gt w wo fg (ix3 b i q) = FfnSpec.last x g sh sc gt w wo fg b i q := by
  unfold FfnSpec.last
  rw [← funext (layer_apply x g sh sc gt w wo b i)]
  pointwise [normed, rms, val_main_v37, val_main_v38, val_main_v39, val_main_v40, val_main_v41, val_main_v42, val_main_v43, val_main_v44,
    val_main_v45, val_main_v46, val_main_v47, val_main_v48, val_main_v49, val_main_cst_5, val_main_cst_6, val_main_cst_7]

end Cert.FfnLastRefIdeal.Ref

end
-- ==== Proof.FfnLastEquation.lean ====
/- The last feed-forward layer and its reference end with the same array. -/
module

public import proofs.«01_k».proof.Defs
public import proofs.«01_k».proof.Proof.FfnLastArray
public import proofs.«01_k».proof.Proof.FfnLastRef
public import proofs.«01_k».proof.Proof.Gen.FfnLastRefIdeal.Run
public import proofs.«01_k».proof.Proof.Gen.FfnLastRefIdeal.Read

@[expose] public section

set_option maxRecDepth 16384

noncomputable section

namespace Cert.FfnLastIdeal.Eqn

open Idealize.ShloMosaic Idealize.ShloMosaic.TcCoe Idealize.SL.Sem

/-- The algebraic claim: from equal arguments both runs end with `Arr.G` of them. -/
theorem algebraic : Cert.algebraic_FfnLastIdeal_FfnLastRefIdeal := by
  intro m g m' g' _ hag
  refine ⟨fun c => Arr.G m c, (θ_run Cert.FfnLastIdeal.defs _ _).mono (fun r h c => ?_) (Cert.FfnLastIdeal.Value.run_blocks m g),
    (θ_run Cert.FfnLastRefIdeal.defs _ _).mono (fun r h c => ?_) (Cert.FfnLastRefIdeal.Value.run m' g')⟩
  · exact ⟨(h c).1.trans (Arr.final m c), (h c).2⟩
  · refine ⟨(h c).1.trans ?_, (h c).2⟩
    obtain ⟨a0, a1, a2, a3, a4, a5, a6, a7, a8, a9, a10, a11⟩ := hag c
    rw [Cert.FfnLastRefIdeal.Read.val_main_v49_eq, a0, a2, a3, a4, a5, a9, a10, a11]
    funext i
    have hi : i = ix3 (i 0) (i 1) (i 2) := by
      funext a
      match a with
      | ⟨0, _⟩ => rfl
      | ⟨1, _⟩ => rfl
      | ⟨2, _⟩ => rfl
    rw [hi]
    exact Cert.FfnLastRefIdeal.Ref.result_apply _ _ _ _ _ _ _ _ _ _ _

end Cert.FfnLastIdeal.Eqn

end
-- ==== Proof.FfnBlock.lean ====
/- What the feed-forward body stores, entry by entry. -/
module

public import proofs.«01_k».proof.Proof.Gen.FfnIdeal.Value
public import proofs.«01_k».proof.Proof.FfnSpec

@[expose] public section

set_option maxRecDepth 65536

noncomputable section

namespace Cert.FfnIdeal.Block

open Cert.FfnIdeal Cert.FfnIdeal.Gen Cert.Rows Cert.FfnSpec Idealize.ShloMosaic

/-- The modulated row, from the row, the norm's gain, and the scale and shift the body selected. -/
theorem row_apply (v1 v18 v29 : FVec Ideal S768x1024 .f32) (g : Vec Ideal S1x1024 .f32) (r : Fin 768) (k : Fin 1024) :
    k0_pay7 (F := Ideal) v1 v18 v29 g (ix2 r k)
      = modulated (fun k => v1 (ix2 r k)) (fun k => g (ix2 0 k)) (fun k => v29 (ix2 r k)) (fun k => v18 (ix2 r k)) k := by
  unfold_payloads
  pointwise [modulated, normed, rms]

theorem pay9_eq (v1 v18 v29 : FVec Ideal S768x1024 .f32) (g : Vec Ideal S1x1024 .f32) (w : Vec Ideal S1024x256 .bf16) :
    k0_pay9 (F := Ideal) v1 v18 v29 g w = k0_pay20 (k0_pay7 v1 v18 v29 g) w := rfl
theorem pay10_eq (v1 v18 v29 : FVec Ideal S768x1024 .f32) (g : Vec Ideal S1x1024 .f32) (w : Vec Ideal S1024x256 .bf16) :
    k0_pay10 (F := Ideal) v1 v18 v29 g w = k0_pay20 (k0_pay7 v1 v18 v29 g) w := rfl
theorem pay11_eq (v1 v18 v29 : FVec Ideal S768x1024 .f32) (g : Vec Ideal S1x1024 .f32) (w : Vec Ideal S1024x256 .bf16) :
    k0_pay11 (F := Ideal) v1 v18 v29 g w = k0_pay20 (k0_pay7 v1 v18 v29 g) w := rfl

set_option maxHeartbeats 4000000 in
/-- The stored row from the modulated one: the row plus the gate times the layer. -/
theorem out_apply (v1 v40 : FVec Ideal S768x1024 .f32) (y : FVec Ideal S768x1024 .bf16) (x4 : Vec Ideal S1024x5632 .bf16)
    (x5 : Vec Ideal S2816x1024 .bf16) (r : Fin 768) (q : Fin 1024) :
    k0_pay24 (F := Ideal) v1 v40 y (k0_pay20 y (View.ld x4 r0_28)) (k0_pay21 y (View.ld x4 r0_29))
        (k0_pay22 y (k0_pay15 y (View.ld x4 r0_20))
          (k0_pay16 y (k0_pay12 y (View.ld x4 r0_13)) (k0_pay13 y (View.ld x4 r0_14))
            (k0_pay14 y (k0_pay8 (F := Ideal)) (k0_pay20 y (View.ld x4 r0_5)) (k0_pay20 y (View.ld x4 r0_6))
              (k0_pay20 y (View.ld x4 r0_7)) (View.ld x4 r0_8) (View.ld x5 r0_9) (View.ld x4 r0_10) (View.ld x4 r0_11)
              (View.ld x5 r0_12) (View.ld x5 r0_15)) (View.ld x4 r0_16) (View.ld x4 r0_17) (View.ld x5 r0_18) (View.ld x5 r0_21))
          (k0_pay17 y (View.ld x4 r0_22)) (k0_pay18 y (View.ld x4 r0_23)) (k0_pay19 y (View.ld x4 r0_19)) (View.ld x5 r0_24)
          (View.ld x4 r0_25) (View.ld x4 r0_26) (View.ld x5 r0_27) (View.ld x5 r0_30))
        (k0_pay23 (View.ld x4 r0_31)) (constant S768x256 .f32 0x00000000#32) (View.ld x4 r0_32) (View.ld x5 r0_33)
        (View.ld x4 r0_34) (View.ld x4 r0_35) (View.ld x5 r0_36) (View.ld x5 r0_37) (ix3 0 r q)
      = v1 (ix2 r q) + v40 (ix2 r q) * down (fun k => y (ix2 r k)) x4 x5 q := by
  rw [down_eq]
  simp only [View.ld_unit]
  unfold_payloads
  pointwise [chunk, swish, lin, dot_S768x1024_S1024x256_S768x256_1_0_0_1_n_n, dot_S768x256_S256x1024_S768x1024_1_0_0_1_n_n]

/-- Which rows of a tile are the context's, as the body computes it. -/
theorem mask_eq (i : Fin 3) (r : Fin 768) :
    IntOp.cmpi CmpIPredicate.sge (IntOp.addi (Scalar.muli (BitVec.ofNat 32 i.val) 768#32) (BitVec.ofNat 32 r.val)) 2048#32
      = if i.val * 768 + r.val < 2048 then 0#1 else 1#1 :=
  (by decide +kernel : ∀ (i : Fin 3) (r : Fin 768),
    IntOp.cmpi CmpIPredicate.sge (IntOp.addi (Scalar.muli (BitVec.ofNat 32 i.val) 768#32) (BitVec.ofNat 32 r.val)) 2048#32
      = if i.val * 768 + r.val < 2048 then 0#1 else 1#1) i r

/-- A choice by that mask. -/
theorem select_mask (i : Fin 3) (r : Fin 768) (u v : EReal) :
    Scalar.select (IntOp.cmpi CmpIPredicate.sge (IntOp.addi (Scalar.muli (BitVec.ofNat 32 i.val) 768#32) (BitVec.ofNat 32 r.val)) 2048#32) u v
      = if i.val * 768 + r.val < 2048 then v else u := by
  rw [mask_eq]
  by_cases h : i.val * 768 + r.val < 2048
  · rw [if_pos h, if_pos h]; rfl
  · rw [if_neg h, if_neg h]; rfl

/-- The selected shift. -/
theorem shift_apply (i : grid0.Coords) (x3 x2 : Vec Ideal S1x3x1x1024 .f32) (r : Fin 768) (k : Fin 1024) :
    k0_pay3 (F := Ideal) i (View.ld x3 r0_1) (View.ld x2 r0_1) (ix2 r k)
      = if (i 1).val * 768 + r.val < 2048 then x2 (ix4 0 0 0 k) else x3 (ix4 0 0 0 k) := by
  simp only [View.ld_unit]
  unfold_payloads
  pointwise
  exact select_mask (i 1) r _ _

/-- The selected scale. -/
theorem scale_apply (i : grid0.Coords) (x3 x2 : Vec Ideal S1x3x1x1024 .f32) (r : Fin 768) (k : Fin 1024) :
    k0_pay4 (F := Ideal) i (View.ld x3 r0_2) (View.ld x2 r0_2) (ix2 r k)
      = if (i 1).val * 768 + r.val < 2048 then x2 (ix4 0 1 0 k) else x3 (ix4 0 1 0 k) := by
  simp only [View.ld_unit]
  unfold_payloads
  pointwise
  exact select_mask (i 1) r _ _

/-- The selected gate. -/
theorem gate_apply (i : grid0.Coords) (x3 x2 : Vec Ideal S1x3x1x1024 .f32) (r : Fin 768) (k : Fin 1024) :
    k0_pay6 (F := Ideal) (k0_pay2 i) (k0_pay5 (View.ld x3 r0_3)) (View.ld x2 r0_3) (ix2 r k)
      = if (i 1).val * 768 + r.val < 2048 then x2 (ix4 0 2 0 k) else x3 (ix4 0 2 0 k) := by
  simp only [View.ld_unit]
  unfold_payloads
  pointwise
  exact select_mask (i 1) r _ _

/-- The tile as a matrix. -/
theorem tile_apply (x0 : Vec Ideal S1x768x1024 .f32) (r : Fin 768) (k : Fin 1024) :
    k0_pay1 (F := Ideal) (View.ld x0 r0_0) (ix2 r k) = x0 (ix3 0 r k) := by
  simp only [View.ld_unit]
  unfold_payloads
  pointwise

theorem hz2 : (![0, 0] : Fin 2 → Nat) = fun _ => 0 := funext fun a => by fin_cases a <;> rfl
theorem hz3 : (![0, 0, 0] : Fin 3 → Nat) = fun _ => 0 := funext fun a => by fin_cases a <;> rfl

/-- The block the body leaves, entry by entry, from the windows' blocks. -/
theorem out_eq (i : grid0.Coords) (x0 : Vec Ideal S1x768x1024 .f32) (x1 : Vec Ideal S1x1024 .f32) (x2 x3 : Vec Ideal S1x3x1x1024 .f32)
    (x4 : Vec Ideal S1024x5632 .bf16) (x5 : Vec Ideal S2816x1024 .bf16) (x6 : Vec Ideal S1x1024 .f32) (r : Fin 768) (q : Fin 1024) :
    out0_7 (F := Ideal) i x0 x1 x2 x3 x4 x5 x6 (ix3 0 r q)
      = step (fun k => x0 (ix3 0 r k)) (fun k => x1 (ix2 0 k))
          (fun k => if (i 1).val * 768 + r.val < 2048 then x2 (ix4 0 1 0 k) else x3 (ix4 0 1 0 k))
          (fun k => if (i 1).val * 768 + r.val < 2048 then x2 (ix4 0 0 0 k) else x3 (ix4 0 0 0 k))
          (fun k => if (i 1).val * 768 + r.val < 2048 then x2 (ix4 0 2 0 k) else x3 (ix4 0 2 0 k)) x4 x5 q := by
  unfold out0_7
  rw [View.canon_unit_zero hz3]
  unfold k0_pay28 k0_pay25 k0_pay26 k0_pay27
  rw [pay9_eq, pay10_eq, pay11_eq, View.ld_unit_zero (S := S1x1024) hz2]
  refine (out_apply _ _ _ x4 x5 r q).trans ?_
  rw [tile_apply, gate_apply]
  unfold step
  congr 3
  funext k
  rw [row_apply]
  congr 1 <;> funext k'
  · exact tile_apply x0 r k'
  · exact scale_apply i x3 x2 r k'
  · exact shift_apply i x3 x2 r k'

end Cert.FfnIdeal.Block

end
-- ==== Proof.FfnArray.lean ====
/- The result array of the feed-forward layer after its run: what each grid point writes back is its block of one
   function of the arguments, and the blocks tile the array. -/
module

public import proofs.«01_k».proof.Proof.FfnBlock

@[expose] public section

set_option maxRecDepth 65536

noncomputable section

namespace Cert.FfnIdeal.Arr

open Cert.FfnIdeal Cert.FfnIdeal.Gen Cert.Rows Cert.FfnSpec Idealize.ShloMosaic Idealize.ShloMosaic.TcCoe Idealize.SL.Sem
open Idealize.ShloMosaic.Pipeline (Dat)

variable (m : (ℓ : Loc nD τ sig) → Buf (Elt Ideal) ℓ)

/-! ## The arrays the host code prepares -/

/-- The tokens: the latent stream, then the context stream. -/
theorem V_tokens (c : Dev nD) (b : Fin 16) (i : Fin 2304) (k : Fin 1024) :
    (V m c main_v0 : (⟨3, ![16, 2304, 1024]⟩ : Shape).Idx → EReal) (ix3 b i k) = token (m ((c : Thread nD τ).loc main_arg0)) (m ((c : Thread nD τ).loc main_arg1)) b i k := by
  have e : V m c main_v0 = concatenate S16x2304x1024 1 [⟨S16x2048x1024, (m ((c : Thread nD τ).loc main_arg0))⟩, ⟨S16x256x1024, (m ((c : Thread nD τ).loc main_arg1))⟩] concatenates_S16x2048x1024_S16x256x1024_S16x2304x1024_d1 := by
    unfold V; after_results_simp <;> rfl
  rw [e]
  exact concat_apply _ _ _ b i k

/-- The norm's gain. -/
theorem V_gain (c : Dev nD) (k : Fin 1024) :
    (V m c main_v1 : (⟨2, ![1, 1024]⟩ : Shape).Idx → EReal) (ix2 0 k) = ((m ((c : Thread nD τ).loc main_arg2)) : Gain) (ix1 k) := by
  have e : V m c main_v1 = broadcastInDim S1x1024 ![1] bcast_S1024_S1x1024_1 (m ((c : Thread nD τ).loc main_arg2)) := by
    unfold V; after_results_simp <;> rfl
  rw [e]
  pointwise

/-- The final norm's gain. -/
theorem V_final (c : Dev nD) (k : Fin 1024) :
    (V m c main_v19 : (⟨2, ![1, 1024]⟩ : Shape).Idx → EReal) (ix2 0 k) = ((m ((c : Thread nD τ).loc main_arg11)) : Gain) (ix1 k) := by
  have e : V m c main_v19 = broadcastInDim S1x1024 ![1] bcast_S1024_S1x1024_1 (m ((c : Thread nD τ).loc main_arg11)) := by
    unfold V; after_results_simp <;> rfl
  rw [e]
  pointwise

/-- The shifts: batch `b`'s own, then the shared one. -/
theorem V_shift (c : Dev nD) (b : Fin 16) (s : Fin 2) (k : Fin 1024) :
    (V m c main_v6 : (⟨3, ![32, 1, 1024]⟩ : Shape).Idx → EReal) (ix3 ⟨2 * b.val + s.val, by omega⟩ 0 k)
      = if s.val = 0 then ((m ((c : Thread nD τ).loc main_arg3)) : PerBatch) (ix2 b k) else ((m ((c : Thread nD τ).loc main_arg6)) : Gain) (ix1 k) := by
  have e : V m c main_v6 = shapeCast S32x1x1024 (concatenate S16x2x1024 1
      [⟨S16x1x1024, broadcastInDim S16x1x1024 ![0, 2] bcast_S16x1024_S16x1x1024_0_2 (m ((c : Thread nD τ).loc main_arg3))⟩,
       ⟨S16x1x1024, broadcastInDim S16x1x1024 ![0, 2] bcast_S16x1024_S16x1x1024_0_2
          (broadcastInDim S16x1024 ![1] bcast_S1024_S16x1024_1 (m ((c : Thread nD τ).loc main_arg6)))⟩]
      concatenates_S16x1x1024_S16x1x1024_S16x2x1024_d1) shapeCasts_S16x2x1024_S32x1x1024 := by
    unfold V; after_results_simp <;> rfl
  rw [e]
  exact table_apply _ _ _ _ _ _ b s k

/-- The scales: batch `b`'s own, then the shared one. -/
theorem V_scale (c : Dev nD) (b : Fin 16) (s : Fin 2) (k : Fin 1024) :
    (V m c main_v11 : (⟨3, ![32, 1, 1024]⟩ : Shape).Idx → EReal) (ix3 ⟨2 * b.val + s.val, by omega⟩ 0 k)
      = if s.val = 0 then ((m ((c : Thread nD τ).loc main_arg4)) : PerBatch) (ix2 b k) else ((m ((c : Thread nD τ).loc main_arg7)) : Gain) (ix1 k) := by
  have e : V m c main_v11 = shapeCast S32x1x1024 (concatenate S16x2x1024 1
      [⟨S16x1x1024, broadcastInDim S16x1x1024 ![0, 2] bcast_S16x1024_S16x1x1024_0_2 (m ((c : Thread nD τ).loc main_arg4))⟩,
       ⟨S16x1x1024, broadcastInDim S16x1x1024 ![0, 2] bcast_S16x1024_S16x1x1024_0_2
          (broadcastInDim S16x1024 ![1] bcast_S1024_S16x1024_1 (m ((c : Thread nD τ).loc main_arg7)))⟩]
      concatenates_S16x1x1024_S16x1x1024_S16x2x1024_d1) shapeCasts_S16x2x1024_S32x1x1024 := by
    unfold V; after_results_simp <;> rfl
  rw [e]
  exact table_apply _ _ _ _ _ _ b s k

/-- The gates: batch `b`'s own, then the shared one. -/
theorem V_gate (c : Dev nD) (b : Fin 16) (s : Fin 2) (k : Fin 1024) :
    (V m c main_v16 : (⟨3, ![32, 1, 1024]⟩ : Shape).Idx → EReal) (ix3 ⟨2 * b.val + s.val, by omega⟩ 0 k)
      = if s.val = 0 then ((m ((c : Thread nD τ).loc main_arg5)) : PerBatch) (ix2 b k) else ((m ((c : Thread nD τ).loc main_arg8)) : Gain) (ix1 k) := by
  have e : V m c main_v16 = shapeCast S32x1x1024 (concatenate S16x2x1024 1
      [⟨S16x1x1024, broadcastInDim S16x1x1024 ![0, 2] bcast_S16x1024_S16x1x1024_0_2 (m ((c : Thread nD τ).loc main_arg5))⟩,
       ⟨S16x1x1024, broadcastInDim S16x1x1024 ![0, 2] bcast_S16x1024_S16x1x1024_0_2
          (broadcastInDim S16x1024 ![1] bcast_S1024_S16x1024_1 (m ((c : Thread nD τ).loc main_arg8)))⟩]
      concatenates_S16x1x1024_S16x1x1024_S16x2x1024_d1) shapeCasts_S16x2x1024_S32x1x1024 := by
    unfold V; after_results_simp <;> rfl
  rw [e]
  exact table_apply _ _ _ _ _ _ b s k

/-- The three of them in one table. -/
theorem V_mods (c : Dev nD) (p : Fin 32) (j : Fin 3) (k : Fin 1024) :
    (V m c main_v23 : (⟨4, ![32, 3, 1, 1024]⟩ : Shape).Idx → EReal) (ix4 p j 0 k)
      = if j.val = 0 then (V m c main_v6 : (⟨3, ![32, 1, 1024]⟩ : Shape).Idx → EReal) (ix3 p 0 k)
        else if j.val = 1 then (V m c main_v11 : (⟨3, ![32, 1, 1024]⟩ : Shape).Idx → EReal) (ix3 p 0 k)
        else (V m c main_v16 : (⟨3, ![32, 1, 1024]⟩ : Shape).Idx → EReal) (ix3 p 0 k) := by
  have e : V m c main_v23 = (concatenate S32x3x1x1024 1
      [⟨S32x1x1x1024, broadcastInDim S32x1x1x1024 ![0, 2, 3] bcast_S32x1x1024_S32x1x1x1024_0_2_3 (V m c main_v6)⟩,
       ⟨S32x1x1x1024, broadcastInDim S32x1x1x1024 ![0, 2, 3] bcast_S32x1x1024_S32x1x1x1024_0_2_3 (V m c main_v11)⟩,
       ⟨S32x1x1x1024, broadcastInDim S32x1x1x1024 ![0, 2, 3] bcast_S32x1x1024_S32x1x1x1024_0_2_3 (V m c main_v16)⟩]
      concatenates_S32x1x1x1024_S32x1x1x1024_S32x1x1x1024_S32x3x1x1024_d1 : FVec Ideal S32x3x1x1024 .f32) := by
    unfold V; after_results_simp <;> rfl
  rw [e]
  pointwise
  match j with
  | ⟨0, _⟩ => rfl
  | ⟨1, _⟩ => rfl
  | ⟨2, _⟩ => rfl

/-- The first weight matrix. -/
theorem V_in (c : Dev nD) : (V m c main_v17 : WIn) = (m ((c : Thread nD τ).loc main_arg9)) := by
  have e : V m c main_v17 = (truncf .bf16 (m ((c : Thread nD τ).loc main_arg9)) bitsLt_bf16_f32 : FVec Ideal S1024x5632 .bf16) := by
    unfold V; after_results_simp <;> rfl
  rw [e]; rfl

/-- The second. -/
theorem V_out (c : Dev nD) : (V m c main_v18 : WOut) = (m ((c : Thread nD τ).loc main_arg10)) := by
  have e : V m c main_v18 = (truncf .bf16 (m ((c : Thread nD τ).loc main_arg10)) bitsLt_bf16_f32 : FVec Ideal S2816x1024 .bf16) := by
    unfold V; after_results_simp <;> rfl
  rw [e]; rfl

/-! ## The blocks -/

/-- Where the windows' blocks lie at a point, in terms of the output's: the tokens' block is the output's own, the
    modulation rows are the batch's two. -/
theorem idx_facts : ∀ t : Fin cfg0.N, win0_7.index t (0 : Fin 3) < 16 ∧ win0_7.index t (1 : Fin 3) < 3 ∧ win0_7.index t (2 : Fin 3) = 0
    ∧ win0_0.index t (0 : Fin 3) = win0_7.index t (0 : Fin 3) ∧ win0_0.index t (1 : Fin 3) = win0_7.index t (1 : Fin 3) ∧ win0_0.index t (2 : Fin 3) = 0
    ∧ win0_1.index t (0 : Fin 2) = 0 ∧ win0_1.index t (1 : Fin 2) = 0
    ∧ win0_2.index t (0 : Fin 4) = 2 * win0_7.index t (0 : Fin 3) + 0 ∧ win0_2.index t (1 : Fin 4) = 0 ∧ win0_2.index t (2 : Fin 4) = 0 ∧ win0_2.index t (3 : Fin 4) = 0
    ∧ win0_3.index t (0 : Fin 4) = 2 * win0_7.index t (0 : Fin 3) + 1 ∧ win0_3.index t (1 : Fin 4) = 0 ∧ win0_3.index t (2 : Fin 4) = 0 ∧ win0_3.index t (3 : Fin 4) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 2) = 0 ∧ win0_6.index t (1 : Fin 2) = 0 ∧ (grid0.coords t 1).val = win0_7.index t (1 : Fin 3) :=
  (by decide +kernel : ∀ t : Fin grid0.N, _)

/-- Every block of the result is some point's. -/
theorem idx_onto : ∀ (b : Fin 16) (s : Fin 3), ∃ t : Fin cfg0.N, win0_7.index t = ![b.val, s.val, 0] :=
  (by decide +kernel : ∀ (b : Fin 16) (s : Fin 3), ∃ t : Fin grid0.N, win0_7.index t = ![b.val, s.val, 0])

/-- The batch of point `t`. -/
def bat (t : Fin cfg0.N) : Fin 16 := ⟨win0_7.index t (0 : Fin 3), (idx_facts t).1⟩
/-- The token that row `r` of point `t`'s block is. -/
def tok (t : Fin cfg0.N) (r : Fin 768) : Fin 2304 :=
  ⟨win0_7.index t (1 : Fin 3) * 768 + r.val, by have := (idx_facts t).2.1; omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The gain's block. -/
theorem blk_gain (c : Dev nD) (t : Fin cfg0.N) (k : Fin 1024) :
    (iblk m c 1 t : Vec Ideal S1x1024 .f32) (ix2 0 k) = ((m ((c : Thread nD τ).loc main_arg2)) : Gain) (ix1 k) := by
  rw [← V_gain m c]
  obtain ⟨-, -, -, -, -, -, e0, e1, -⟩ := idx_facts t
  show V m c main_v1 (((cfg0.win 1).blk t).view.emb (ix2 0 k)) = V m c main_v1 (ix2 0 k)
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

/-- The final gain's block. -/
theorem blk_final (c : Dev nD) (t : Fin cfg0.N) (k : Fin 1024) :
    (iblk m c 6 t : Vec Ideal S1x1024 .f32) (ix2 0 k) = ((m ((c : Thread nD τ).loc main_arg11)) : Gain) (ix1 k) := by
  rw [← V_final m c]
  obtain ⟨-, -, -, -, -, -, -, -, -, -, -, -, -, -, -, -, -, -, -, -, e0, e1, -⟩ := idx_facts t
  show V m c main_v19 (((cfg0.win 6).blk t).view.emb (ix2 0 k)) = V m c main_v19 (ix2 0 k)
  refine congrArg (V m c main_v19) (funext fun a => Fin.ext ?_)
  match a with
  | ⟨0, _⟩ => show win0_6.index t (0 : Fin 2) * 1 + 1 * 0 = 0; omega
  | ⟨1, _⟩ => show win0_6.index t (1 : Fin 2) * 1024 + 1 * k.val = k.val; omega

/-- The first weight matrix' block: all of it. -/
theorem blk_in (c : Dev nD) (t : Fin cfg0.N) : (iblk m c 4 t : Vec Ideal S1024x5632 .bf16) = (m ((c : Thread nD τ).loc main_arg9)) := by
  refine Eq.trans ?_ (V_in m c)
  obtain ⟨-, -, -, -, -, -, -, -, -, -, -, -, -, -, -, -, e0, e1, -⟩ := idx_facts t
  funext y
  show V m c main_v17 (((cfg0.win 4).blk t).view.emb y) = V m c main_v17 y
  refine congrArg (V m c main_v17) (funext fun a => Fin.ext ?_)
  match a with
  | ⟨0, _⟩ => show win0_4.index t (0 : Fin 2) * 1024 + 1 * (y 0).val = (y 0).val; omega
  | ⟨1, _⟩ => show win0_4.index t (1 : Fin 2) * 5632 + 1 * (y 1).val = (y 1).val; omega

/-- The second's. -/
theorem blk_out (c : Dev nD) (t : Fin cfg0.N) : (iblk m c 5 t : Vec Ideal S2816x1024 .bf16) = (m ((c : Thread nD τ).loc main_arg10)) := by
  refine Eq.trans ?_ (V_out m c)
  obtain ⟨-, -, -, -, -, -, -, -, -, -, -, -, -, -, -, -, -, -, e0, e1, -⟩ := idx_facts t
  funext y
  show V m c main_v18 (((cfg0.win 5).blk t).view.emb y) = V m c main_v18 y
  refine congrArg (V m c main_v18) (funext fun a => Fin.ext ?_)
  match a with
  | ⟨0, _⟩ => show win0_5.index t (0 : Fin 2) * 2816 + 1 * (y 0).val = (y 0).val; omega
  | ⟨1, _⟩ => show win0_5.index t (1 : Fin 2) * 1024 + 1 * (y 1).val = (y 1).val; omega

/-- The batch's own modulation rows: shift, scale and gate. -/
theorem blk_own (c : Dev nD) (t : Fin cfg0.N) (j : Fin 3) (k : Fin 1024) :
    (iblk m c 2 t : Vec Ideal S1x3x1x1024 .f32) (ix4 0 j 0 k)
      = if j.val = 0 then ((m ((c : Thread nD τ).loc main_arg3)) : PerBatch) (ix2 (bat t) k)
        else if j.val = 1 then ((m ((c : Thread nD τ).loc main_arg4)) : PerBatch) (ix2 (bat t) k) else ((m ((c : Thread nD τ).loc main_arg5)) : PerBatch) (ix2 (bat t) k) := by
  obtain ⟨-, -, -, -, -, -, -, -, e0, e1, e2, e3, -⟩ := idx_facts t
  refine Eq.trans ?_ ((V_mods m c ⟨2 * (bat t).val + (0 : Fin 2).val, by have := (bat t).isLt; show _ < 32; simp; omega⟩ j k).trans ?_)
  · show V m c main_v23 (((cfg0.win 2).blk t).view.emb (ix4 0 j 0 k)) = V m c main_v23 (ix4 _ j 0 k)
    refine congrArg (V m c main_v23) (funext fun a => Fin.ext ?_)
    match a with
    | ⟨0, _⟩ => show win0_2.index t (0 : Fin 4) * 1 + 1 * 0 = 2 * win0_7.index t (0 : Fin 3) + 0; omega
    | ⟨1, _⟩ => show win0_2.index t (1 : Fin 4) * 3 + 1 * j.val = j.val; omega
    | ⟨2, _⟩ => show win0_2.index t (2 : Fin 4) * 1 + 1 * 0 = 0; omega
    | ⟨3, _⟩ => show win0_2.index t (3 : Fin 4) * 1024 + 1 * k.val = k.val; omega
  · rw [V_shift m c, V_scale m c, V_gate m c]; rfl

/-- The shared modulation rows. -/
theorem blk_shared (c : Dev nD) (t : Fin cfg0.N) (j : Fin 3) (k : Fin 1024) :
    (iblk m c 3 t : Vec Ideal S1x3x1x1024 .f32) (ix4 0 j 0 k)
      = if j.val = 0 then ((m ((c : Thread nD τ).loc main_arg6)) : Gain) (ix1 k)
        else if j.val = 1 then ((m ((c : Thread nD τ).loc main_arg7)) : Gain) (ix1 k) else ((m ((c : Thread nD τ).loc main_arg8)) : Gain) (ix1 k) := by
  obtain ⟨-, -, -, -, -, -, -, -, -, -, -, -, e0, e1, e2, e3, -⟩ := idx_facts t
  refine Eq.trans ?_ ((V_mods m c ⟨2 * (bat t).val + (1 : Fin 2).val, by have := (bat t).isLt; show _ < 32; simp; omega⟩ j k).trans ?_)
  · show V m c main_v23 (((cfg0.win 3).blk t).view.emb (ix4 0 j 0 k)) = V m c main_v23 (ix4 _ j 0 k)
    refine congrArg (V m c main_v23) (funext fun a => Fin.ext ?_)
    match a with
    | ⟨0, _⟩ => show win0_3.index t (0 : Fin 4) * 1 + 1 * 0 = 2 * win0_7.index t (0 : Fin 3) + 1; omega
    | ⟨1, _⟩ => show win0_3.index t (1 : Fin 4) * 3 + 1 * j.val = j.val; omega
    | ⟨2, _⟩ => show win0_3.index t (2 : Fin 4) * 1 + 1 * 0 = 0; omega
    | ⟨3, _⟩ => show win0_3.index t (3 : Fin 4) * 1024 + 1 * k.val = k.val; omega
  · rw [V_shift m c, V_scale m c, V_gate m c]; rfl

/-- The tokens' block. -/
theorem blk_tokens (c : Dev nD) (t : Fin cfg0.N) (r : Fin 768) (k : Fin 1024) :
    (iblk m c 0 t : Vec Ideal S1x768x1024 .f32) (ix3 0 r k) = token (m ((c : Thread nD τ).loc main_arg0)) (m ((c : Thread nD τ).loc main_arg1)) (bat t) (tok t r) k := by
  rw [← V_tokens m c]
  obtain ⟨-, -, -, e0, e1, e2, -⟩ := idx_facts t
  show V m c main_v0 (((cfg0.win 0).blk t).view.emb (ix3 0 r k)) = V m c main_v0 (ix3 (bat t) (tok t r) k)
  refine congrArg (V m c main_v0) (funext fun a => Fin.ext ?_)
  match a with
  | ⟨0, _⟩ => show win0_0.index t (0 : Fin 3) * 1 + 1 * 0 = win0_7.index t (0 : Fin 3); omega
  | ⟨1, _⟩ => show win0_0.index t (1 : Fin 3) * 768 + 1 * r.val = win0_7.index t (1 : Fin 3) * 768 + r.val; omega
  | ⟨2, _⟩ => show win0_0.index t (2 : Fin 3) * 1024 + 1 * k.val = k.val; omega

/-- The row the body takes of the two modulation tables is the token's. -/
theorem mod_eq (lat : PerBatch) (con : Gain) (t : Fin cfg0.N) (r : Fin 768) (k : Fin 1024) :
    (if (grid0.coords t 1).val * 768 + r.val < 2048 then lat (ix2 (bat t) k) else con (ix1 k)) = modOf lat con (bat t) (tok t r) k := by
  obtain ⟨-, -, -, -, -, -, -, -, -, -, -, -, -, -, -, -, -, -, -, -, -, -, e⟩ := idx_facts t
  rw [e]; rfl

/-! ## The array -/

/-- The result array as one function of the arguments. -/
def G (c : Dev nD) : Buf (Elt Ideal) ((c : Thread nD τ).loc main_v24) := fun i =>
  FfnSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1) (i 2)

/-- `G` at the place a point's block puts its row `r` and column `q`. -/
theorem G_at (c : Dev nD) (t : Fin cfg0.N) (r : Fin 768) (q : Fin 1024) :
    G m c (((cfg0.win 7).blk t).view.emb (ix3 0 r q)) = FfnSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (bat t) (tok t r) q := by
  obtain ⟨-, -, e2, -⟩ := idx_facts t
  unfold G
  congr 1 <;> apply Fin.ext
  · show win0_7.index t (0 : Fin 3) * 1 + 1 * 0 = win0_7.index t (0 : Fin 3); omega
  · show win0_7.index t (1 : Fin 3) * 768 + 1 * r.val = win0_7.index t (1 : Fin 3) * 768 + r.val; omega
  · show win0_7.index t (2 : Fin 3) * 1024 + 1 * q.val = q.val; omega

/-- What the body leaves at a point's row and column is `G` there. -/
theorem pay_eq (c : Dev nD) (t : Fin cfg0.N) (r : Fin 768) (q : Fin 1024) :
    out0_7 (F := Ideal) (grid0.coords t) (iblk m c 0 t) (iblk m c 1 t) (iblk m c 2 t) (iblk m c 3 t) (iblk m c 4 t) (iblk m c 5 t) (iblk m c 6 t)
        (ix3 0 r q)
      = G m c (((cfg0.win 7).blk t).view.emb (ix3 0 r q)) := by
  rw [G_at]
  refine (Block.out_eq _ _ _ _ _ _ _ _ r q).trans ?_
  unfold FfnSpec.out
  rw [blk_in m c t, blk_out m c t]
  rw [show (fun k => (iblk m c 0 t : Vec Ideal S1x768x1024 .f32) (ix3 0 r k)) = _ from funext fun k => blk_tokens m c t r k,
    show (fun k => (iblk m c 1 t : Vec Ideal S1x1024 .f32) (ix2 0 k)) = _ from funext fun k => blk_gain m c t k,
    show (fun k => if (grid0.coords t 1).val * 768 + r.val < 2048 then (iblk m c 2 t : Vec Ideal S1x3x1x1024 .f32) (ix4 0 0 0 k)
        else (iblk m c 3 t : Vec Ideal S1x3x1x1024 .f32) (ix4 0 0 0 k)) = modOf (m ((c : Thread nD τ).loc main_arg3)) (m ((c : Thread nD τ).loc main_arg6)) (bat t) (tok t r) from
      funext fun k => ((congrArg₂ (fun u v => if (grid0.coords t 1).val * 768 + r.val < 2048 then u else v) (blk_own m c t 0 k) (blk_shared m c t 0 k)).trans (mod_eq _ _ t r k)),
    show (fun k => if (grid0.coords t 1).val * 768 + r.val < 2048 then (iblk m c 2 t : Vec Ideal S1x3x1x1024 .f32) (ix4 0 1 0 k)
        else (iblk m c 3 t : Vec Ideal S1x3x1x1024 .f32) (ix4 0 1 0 k)) = modOf (m ((c : Thread nD τ).loc main_arg4)) (m ((c : Thread nD τ).loc main_arg7)) (bat t) (tok t r) from
      funext fun k => ((congrArg₂ (fun u v => if (grid0.coords t 1).val * 768 + r.val < 2048 then u else v) (blk_own m c t 1 k) (blk_shared m c t 1 k)).trans (mod_eq _ _ t r k)),
    show (fun k => if (grid0.coords t 1).val * 768 + r.val < 2048 then (iblk m c 2 t : Vec Ideal S1x3x1x1024 .f32) (ix4 0 2 0 k)
        else (iblk m c 3 t : Vec Ideal S1x3x1x1024 .f32) (ix4 0 2 0 k)) = modOf (m ((c : Thread nD τ).loc main_arg5)) (m ((c : Thread nD τ).loc main_arg8)) (bat t) (tok t r) from
      funext fun k => ((congrArg₂ (fun u v => if (grid0.coords t 1).val * 768 + r.val < 2048 then u else v) (blk_own m c t 2 k) (blk_shared m c t 2 k)).trans (mod_eq _ _ t r k))]

/-- What point `t` writes back is its block of `G`. -/
theorem flushed_eq (c : Dev nD) (t : Fin cfg0.N) :
    (dats m 0 c).flushed 7 t = ((cfg0.win 7).blk t).view.read (Elt Ideal) (G m c) := by
  rw [Value.flushed7]
  funext y
  have hy : y = ix3 0 (y 1) (y 2) := by
    funext a; apply Fin.ext
    match a with
    | ⟨0, _⟩ => have : (y 0).val < 1 := (y 0).isLt; show (y 0).val = 0; omega
    | ⟨1, _⟩ => rfl
    | ⟨2, _⟩ => rfl
  rw [hy]
  exact pay_eq m c t _ _

/-- An index of the array is in point `t`'s block iff each coordinate is in the block's range on its axis. -/
theorem mem_blk (t : Fin cfg0.N) (i : S16x2304x1024.Idx) :
    i ∈ ((cfg0.win 7).blk t).view.set ↔ ∀ a : Fin 3, win0_7.index t a * S1x768x1024.size a ≤ (i a).val ∧ (i a).val < win0_7.index t a * S1x768x1024.size a + S1x768x1024.size a := by
  show i ∈ ((View.whole main_v24).slice (win0_7.rect t)).set ↔ _
  rw [View.set_slice_whole, Rect.mem_set_unit]
  exact Iff.rfl

/-- The blocks tile the array. -/
theorem cover (i : S16x2304x1024.Idx) :
    ∃ t : Fin cfg0.N, (cfg0.win 7).flush t = true ∧ i ∈ ((cfg0.win 7).blk t).view.set := by
  have h0 : (i 0).val < 16 := (i 0).isLt
  have h1 : (i 1).val < 2304 := (i 1).isLt
  have h2 : (i 2).val < 1024 := (i 2).isLt
  obtain ⟨t, ht⟩ := idx_onto ⟨(i 0).val, h0⟩ ⟨(i 1).val / 768, by omega⟩
  have q0 : win0_7.index t (0 : Fin 3) = (i 0).val := congrFun ht 0
  have q1 : win0_7.index t (1 : Fin 3) = (i 1).val / 768 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 768 ≤ (i 1).val ∧ (i 1).val < win0_7.index t (1 : Fin 3) * 768 + 768; omega
  | ⟨2, _⟩ => show win0_7.index t (2 : Fin 3) * 1024 ≤ (i 2).val ∧ (i 2).val < win0_7.index t (2 : Fin 3) * 1024 + 1024; omega

/-- So the array ends holding `G`. -/
theorem final (c : Dev nD) : (dats m 0 c).arrAt 7 cfg0.N = G m c :=
  (dats m 0 c).arrAt_eq_of_cover 7 (G m c) (fun t _ => flushed_eq m c t) cover

end Cert.FfnIdeal.Arr

end
-- ==== Proof.FfnRef.lean ====
/- What the feed-forward layer's reference computes, element by element. -/
module

public import proofs.«01_k».proof.Proof.Gen.FfnRefIdeal.Read
public import proofs.«01_k».proof.Proof.FfnSpec

@[expose] public section

set_option maxRecDepth 65536

noncomputable section

namespace Cert.FfnRefIdeal.Ref

open Cert.FfnRefIdeal Cert.FfnRefIdeal.Gen Cert.FfnRefIdeal.Read Cert.Rows Cert.FfnSpec Idealize.ShloMosaic

variable (x : Lat) (ctx : Ctx) (g : Gain) (sh sc gt : PerBatch) (shc scc gtc : Gain) (w : WIn) (wo : WOut)

/-- The latent stream's layer. -/
theorem latent_apply (b : Fin 16) (i : Fin 2048) (q : Fin 1024) :
    val_main_v36 (F := Ideal) x g sh sc gt w wo (ix3 b i q)
      = step (fun k => x (ix3 b i k)) (fun k => g (ix1 k)) (fun k => sc (ix2 b k)) (fun k => sh (ix2 b k)) (fun k => gt (ix2 b k)) w wo q := by
  pointwise [step, down, swish, lin, modulated, normed, rms, Ideal.logistic,
      dot_S16x2048x1024_S1024x5632_S16x2048x5632_2_0_01_1_n_n, dot_S16x2048x2816_S2816x1024_S16x2048x1024_2_0_01_1_n_n,
      val_main_v0, val_main_v1, val_main_v2, val_main_v3, val_main_v4, val_main_v5, val_main_v6, val_main_v7, val_main_v8,
      val_main_v9, val_main_v10, val_main_v11, val_main_v12, val_main_v13, val_main_v14, val_main_v15, val_main_v16,
      val_main_v17, val_main_v18, val_main_v19, val_main_v20, val_main_v21, val_main_v22, val_main_v23, val_main_v24,
      val_main_v25, val_main_v26, val_main_v27, val_main_v28, val_main_v29, val_main_v30, val_main_v31, val_main_v32,
      val_main_v33, val_main_v34, val_main_v35, val_main_v36, val_main_cst, val_main_cst_0, val_main_cst_1, val_main_cst_2,
      val_main_cst_3, val_main_cst_4, val_main_cst_5, val_main_cst_6, val_main_cst_7, val_main_cst_8, val_main_cst_9,
      val_main_cst_10]

/-- The context stream's. -/
theorem context_apply (b : Fin 16) (i : Fin 256) (q : Fin 1024) :
    val_main_v73 (F := Ideal) ctx g shc scc gtc w wo (ix3 b i q)
      = step (fun k => ctx (ix3 b i k)) (fun k => g (ix1 k)) (fun k => scc (ix1 k)) (fun k => shc (ix1 k)) (fun k => gtc (ix1 k)) w wo q := by
  pointwise [step, down, swish, lin, modulated, normed, rms, Ideal.logistic,
      dot_S16x256x1024_S1024x5632_S16x256x5632_2_0_01_1_n_n, dot_S16x256x2816_S2816x1024_S16x256x1024_2_0_01_1_n_n,
      val_main_v37, val_main_v38, val_main_v39, val_main_v40, val_main_v41, val_main_v42, val_main_v43, val_main_v44,
      val_main_v45, val_main_v46, val_main_v47, val_main_v48, val_main_v49, val_main_v50, val_main_v51, val_main_v52,
      val_main_v53, val_main_v54, val_main_v55, val_main_v56, val_main_v57, val_main_v58, val_main_v59, val_main_v60,
      val_main_v61, val_main_v62, val_main_v63, val_main_v64, val_main_v65, val_main_v66, val_main_v67, val_main_v68,
      val_main_v69, val_main_v70, val_main_v71, val_main_v72, val_main_v73, val_main_cst, val_main_cst_0, val_main_cst_1,
      val_main_cst_2, val_main_cst_3, val_main_cst_4, val_main_cst_5, val_main_cst_6, val_main_cst_7, val_main_cst_8,
      val_main_cst_9, val_main_cst_10]

/-- The reference's result at an index. -/
theorem result_apply (b : Fin 16) (i : Fin 2304) (q : Fin 1024) :
    val_main_v74 (F := Ideal) x ctx g sh sc gt shc scc gtc w wo (ix3 b i q) = out x ctx g sh sc gt shc scc gtc w wo b i q := by
  unfold val_main_v74 out
  by_cases h : i.val < 2048
  · have e1 : token x ctx b i = fun k => x (ix3 b ⟨i.val, h⟩ k) := funext fun k => dif_pos h
    have e2 : modOf sc scc b i = fun k => sc (ix2 b k) := funext fun k => if_pos h
    have e3 : modOf sh shc b i = fun k => sh (ix2 b k) := funext fun k => if_pos h
    have e4 : modOf gt gtc b i = fun k => gt (ix2 b k) := funext fun k => if_pos h
    rw [e1, e2, e3, e4, ← latent_apply x g sh sc gt w wo]
    pointwise [h]
  · have e1 : token x ctx b i = fun k => ctx (ix3 b ⟨i.val - 2048, by omega⟩ k) := funext fun k => dif_neg h
    have e2 : modOf sc scc b i = fun k => scc (ix1 k) := funext fun k => if_neg h
    have e3 : modOf sh shc b i = fun k => shc (ix1 k) := funext fun k => if_neg h
    have e4 : modOf gt gtc b i = fun k => gtc (ix1 k) := funext fun k => if_neg h
    rw [e1, e2, e3, e4, ← context_apply ctx g shc scc gtc w wo]
    pointwise [h]

end Cert.FfnRefIdeal.Ref

end
-- ==== Proof.FfnEquation.lean ====
/- The feed-forward layer and its reference end with the same array. -/
module

public import proofs.«01_k».proof.Defs
public import proofs.«01_k».proof.Proof.FfnArray
public import proofs.«01_k».proof.Proof.FfnRef
public import proofs.«01_k».proof.Proof.Gen.FfnRefIdeal.Run
public import proofs.«01_k».proof.Proof.Gen.FfnRefIdeal.Read

@[expose] public section

set_option maxRecDepth 16384

noncomputable section

namespace Cert.FfnIdeal.Eqn

open Idealize.ShloMosaic Idealize.ShloMosaic.TcCoe Idealize.SL.Sem

/-- The algebraic claim: from equal arguments both runs end with `Arr.G` of them. -/
theorem algebraic : Cert.algebraic_FfnIdeal_FfnRefIdeal := by
  intro m g m' g' _ hag
  refine ⟨fun c => Arr.G m c, (θ_run Cert.FfnIdeal.defs _ _).mono (fun r h c => ?_) (Cert.FfnIdeal.Value.run_blocks m g),
    (θ_run Cert.FfnRefIdeal.defs _ _).mono (fun r h c => ?_) (Cert.FfnRefIdeal.Value.run m' g')⟩
  · exact ⟨(h c).1.trans (Arr.final m c), (h c).2⟩
  · refine ⟨(h c).1.trans ?_, (h c).2⟩
    obtain ⟨a0, a1, a2, a3, a4, a5, a6, a7, a8, a9, a10, a11⟩ := hag c
    rw [Cert.FfnRefIdeal.Read.val_main_v74_eq, a0, a1, a2, a3, a4, a5, a6, a7, a8, a9, a10]
    funext i
    have hi : i = ix3 (i 0) (i 1) (i 2) := by
      funext a
      match a with
      | ⟨0, _⟩ => rfl
      | ⟨1, _⟩ => rfl
      | ⟨2, _⟩ => rfl
    rw [hi]
    exact Cert.FfnRefIdeal.Ref.result_apply _ _ _ _ _ _ _ _ _ _ _ _ _ _

end Cert.FfnIdeal.Eqn

end
-- ==== Proof.ZProjBlock.lean ====
/- What one grid point of the first in-projection stores: each of its 256 rows normalised, modulated, and multiplied into
   the weight matrix. -/
module

public import proofs.«01_k».proof.Proof.Gen.ZProjIdeal.Value
public import proofs.«01_k».proof.Proof.Rows

@[expose] public section

noncomputable section

namespace Cert.ZProjIdeal.Block

open Cert.ZProjIdeal Cert.ZProjIdeal.Gen Cert.Rows Idealize.ShloMosaic

/-- The stored block at row `r` and column `q`. -/
theorem pay_apply (x : Vec Ideal S1x256x1024 .f32) (g : Vec Ideal S1x1024 .f32) (sh sc : Vec Ideal S1x1x1024 .f32)
    (w : Vec Ideal S1024x5120 .bf16) (r : Fin 256) (q : Fin 5120) :
    k0_pay1 (F := Ideal) x g sh sc w (ix3 0 r q)
      = ∑ k : Fin 1024, modulated (fun k => x (ix3 0 r k)) (fun k => g (ix2 0 k)) (fun k => sc (ix3 0 0 k))
          (fun k => sh (ix3 0 0 k)) k * w (ix2 k q) := by
  unfold_payloads
  pointwise [modulated, normed, rms, dot_S256x1024_S1024x5120_S256x5120_1_0_0_1_n_n]

end Cert.ZProjIdeal.Block

end
-- ==== Proof.ZProjSpec.lean ====
/- The gate, convolution and gating-unit columns of the in-projection, as one function of the arguments. -/
module

public import proofs.«01_k».proof.Proof.Rows

@[expose] public section

noncomputable section

namespace Cert.ZProjSpec

open Cert.Rows Idealize.ShloMosaic

/-- Column `q` of the result is this column of the in-projection's weights: the gate columns first, then the two
    branches' columns. -/
def col (q : Fin 5120) : Fin 8576 := if h : q.val < 3072 then ⟨5504 + q.val, by omega⟩ else ⟨384 + q.val, by omega⟩

/-- Token `i` of batch `b`, normalised, modulated and projected on column `q`. -/
def out (x : Lat) (ctx : Ctx) (g : Gain) (sh sc : PerBatch) (shc scc : Gain)
    (w : (⟨2, ![1024, 8576]⟩ : Shape).Idx → EReal) (b : Fin 16) (i : Fin 2304) (q : Fin 5120) : EReal :=
  ∑ k : Fin 1024, stream x ctx g sh sc shc scc b i k * w (ix2 k (col q))

end Cert.ZProjSpec

end
-- ==== Proof.ZProjArray.lean ====
/- The result array of the first in-projection after its run: what each grid point writes back is its block of one function of
   the arguments, and the blocks tile the array. -/
module

public import proofs.«01_k».proof.Proof.ZProjBlock
public import proofs.«01_k».proof.Proof.ZProjSpec

@[expose] public section

set_option maxRecDepth 16384

noncomputable section

namespace Cert.ZProjIdeal.Arr

open Cert.ZProjIdeal Cert.ZProjIdeal.Gen Cert.Rows Idealize.ShloMosaic Idealize.ShloMosaic.TcCoe Idealize.SL.Sem
open Idealize.ShloMosaic.Pipeline (Dat)

variable (m : (ℓ : Loc nD τ sig) → Buf (Elt Ideal) ℓ)

/-! ## The arrays the host code prepares -/

/-- The tokens: the latent stream, then the context stream. -/
theorem V_tokens (c : Dev nD) (b : Fin 16) (i : Fin 2304) (k : Fin 1024) :
    (V m c main_v0 : (⟨3, ![16, 2304, 1024]⟩ : Shape).Idx → EReal) (ix3 b i k)
      = token (m ((c : Thread nD τ).loc main_arg0)) (m ((c : Thread nD τ).loc main_arg1)) b i k := by
  have e : V m c main_v0 = concatenate S16x2304x1024 1 [⟨S16x2048x1024, m ((c : Thread nD τ).loc main_arg0)⟩, ⟨S16x256x1024, m ((c : Thread nD τ).loc main_arg1)⟩] concatenates_S16x2048x1024_S16x256x1024_S16x2304x1024_d1 := by
    unfold V; after_results_simp <;> rfl
  rw [e]
  exact concat_apply _ _ _ b i k

/-- The norm's gain. -/
theorem V_gain (c : Dev nD) (k : Fin 1024) :
    (V m c main_v5 : (⟨2, ![1, 1024]⟩ : Shape).Idx → EReal) (ix2 0 k) = (m ((c : Thread nD τ).loc main_arg2) : Gain) (ix1 k) := by
  have e : V m c main_v5 = broadcastInDim S1x1024 ![1] bcast_S1024_S1x1024_1 (m ((c : Thread nD τ).loc main_arg2)) := by
    unfold V; after_results_simp <;> rfl
  rw [e]
  pointwise

/-- The shifts: batch `b`'s own, then the shared one. -/
theorem V_shift (c : Dev nD) (b : Fin 16) (s : Fin 2) (k : Fin 1024) :
    (V m c main_v10 : (⟨3, ![32, 1, 1024]⟩ : Shape).Idx → EReal) (ix3 ⟨2 * b.val + s.val, by omega⟩ 0 k)
      = if s.val = 0 then (m ((c : Thread nD τ).loc main_arg3) : PerBatch) (ix2 b k)
        else (m ((c : Thread nD τ).loc main_arg5) : Gain) (ix1 k) := by
  have e : V m c main_v10 = shapeCast S32x1x1024 (concatenate S16x2x1024 1
      [⟨S16x1x1024, broadcastInDim S16x1x1024 ![0, 2] bcast_S16x1024_S16x1x1024_0_2 (m ((c : Thread nD τ).loc main_arg3))⟩,
       ⟨S16x1x1024, broadcastInDim S16x1x1024 ![0, 2] bcast_S16x1024_S16x1x1024_0_2
          (broadcastInDim S16x1024 ![1] bcast_S1024_S16x1024_1 (m ((c : Thread nD τ).loc main_arg5)))⟩]
      concatenates_S16x1x1024_S16x1x1024_S16x2x1024_d1) shapeCasts_S16x2x1024_S32x1x1024 := by
    unfold V; after_results_simp <;> rfl
  rw [e]
  exact table_apply _ _ _ _ _ _ b s k

/-- The scales likewise. -/
theorem V_scale (c : Dev nD) (b : Fin 16) (s : Fin 2) (k : Fin 1024) :
    (V m c main_v15 : (⟨3, ![32, 1, 1024]⟩ : Shape).Idx → EReal) (ix3 ⟨2 * b.val + s.val, by omega⟩ 0 k)
      = if s.val = 0 then (m ((c : Thread nD τ).loc main_arg4) : PerBatch) (ix2 b k)
        else (m ((c : Thread nD τ).loc main_arg6) : Gain) (ix1 k) := by
  have e : V m c main_v15 = shapeCast S32x1x1024 (concatenate S16x2x1024 1
      [⟨S16x1x1024, broadcastInDim S16x1x1024 ![0, 2] bcast_S16x1024_S16x1x1024_0_2 (m ((c : Thread nD τ).loc main_arg4))⟩,
       ⟨S16x1x1024, broadcastInDim S16x1x1024 ![0, 2] bcast_S16x1024_S16x1x1024_0_2
          (broadcastInDim S16x1024 ![1] bcast_S1024_S16x1024_1 (m ((c : Thread nD τ).loc main_arg6)))⟩]
      concatenates_S16x1x1024_S16x1x1024_S16x2x1024_d1) shapeCasts_S16x2x1024_S32x1x1024 := by
    unfold V; after_results_simp <;> rfl
  rw [e]
  exact table_apply _ _ _ _ _ _ b s k

/-- The weights' columns, gathered. -/
theorem V_weight (c : Dev nD) (k : Fin 1024) (q : Fin 5120) :
    (V m c main_v16 : (⟨2, ![1024, 5120]⟩ : Shape).Idx → EReal) (ix2 k q)
      = (m ((c : Thread nD τ).loc main_arg7) : (⟨2, ![1024, 8576]⟩ : Shape).Idx → EReal) (ix2 k (ZProjSpec.col q)) := by
  have e : V m c main_v16 = (truncf .bf16 (concatenate S1024x5120 1
      [⟨S1024x3072, extractStridedSlice S1024x3072 ![0, 5504] (m ((c : Thread nD τ).loc main_arg7)) slices_S1024x8576_S1024x3072_0_5504⟩,
       ⟨S1024x2048, extractStridedSlice S1024x2048 ![0, 3456] (m ((c : Thread nD τ).loc main_arg7)) slices_S1024x8576_S1024x2048_0_3456⟩]
      concatenates_S1024x3072_S1024x2048_S1024x5120_d1) bitsLt_bf16_f32 : FVec Ideal S1024x5120 .bf16) := by
    unfold V; after_results_simp <;> rfl
  rw [e]
  unfold ZProjSpec.col
  by_cases h : q.val < 3072
  · rw [dif_pos h]
    pointwise [h]
  · rw [dif_neg h]
    pointwise [h]
    congr 2; apply Fin.ext; show 3456 + (q.val - 3072) = 384 + q.val; omega

/-! ## The blocks -/

/-- Where the windows' blocks lie at a point, in terms of the output's: the tokens' block is the output's own, the
    modulation row is the batch's first up to the eighth tile and its second from there. -/
theorem idx_facts : ∀ t : Fin cfg0.N, win0_5.index t (0 : Fin 3) < 16 ∧ win0_5.index t (1 : Fin 3) < 9 ∧ win0_5.index t (2 : Fin 3) = 0
    ∧ win0_0.index t (0 : Fin 3) = win0_5.index t (0 : Fin 3) ∧ win0_0.index t (1 : Fin 3) = win0_5.index t (1 : Fin 3) ∧ win0_0.index t (2 : Fin 3) = 0
    ∧ win0_1.index t (0 : Fin 2) = 0 ∧ win0_1.index t (1 : Fin 2) = 0
    ∧ win0_2.index t (0 : Fin 3) = 2 * win0_5.index t (0 : Fin 3) + win0_5.index t (1 : Fin 3) / 8 ∧ win0_2.index t (1 : Fin 3) = 0 ∧ win0_2.index t (2 : Fin 3) = 0
    ∧ win0_3.index t (0 : Fin 3) = 2 * win0_5.index t (0 : Fin 3) + win0_5.index t (1 : Fin 3) / 8 ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

/-- Every block of the result is some point's. -/
theorem idx_onto : ∀ (b : Fin 16) (s : Fin 9), ∃ t : Fin cfg0.N, win0_5.index t = ![b.val, s.val, 0] :=
  (by decide +kernel : ∀ (b : Fin 16) (s : Fin 9), ∃ t : Fin grid0.N, win0_5.index t = ![b.val, s.val, 0])

/-- The batch of point `t`. -/
def bat (t : Fin cfg0.N) : Fin 16 := ⟨win0_5.index t (0 : Fin 3), (idx_facts t).1⟩
/-- The token that row `r` of point `t`'s block is. -/
def tok (t : Fin cfg0.N) (r : Fin 256) : Fin 2304 :=
  ⟨win0_5.index t (1 : Fin 3) * 256 + r.val, by have := (idx_facts t).2.1; omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The tokens' block. -/
theorem blk_tokens (c : Dev nD) (t : Fin cfg0.N) (r : Fin 256) (k : Fin 1024) :
    (iblk m c 0 t : Vec Ideal S1x256x1024 .f32) (ix3 0 r k)
      = token (m ((c : Thread nD τ).loc main_arg0)) (m ((c : Thread nD τ).loc main_arg1)) (bat t) (tok t r) k := by
  rw [← V_tokens m c]
  obtain ⟨-, -, -, e0, e1, e2, -⟩ := idx_facts t
  show V m c main_v0 (((cfg0.win 0).blk t).view.emb (ix3 0 r k)) = V m c main_v0 (ix3 (bat t) (tok t r) k)
  refine congrArg (V m c main_v0) (funext fun a => Fin.ext ?_)
  match a with
  | ⟨0, _⟩ => show win0_0.index t (0 : Fin 3) * 1 + 1 * 0 = win0_5.index t (0 : Fin 3); omega
  | ⟨1, _⟩ => show win0_0.index t (1 : Fin 3) * 256 + 1 * r.val = win0_5.index t (1 : Fin 3) * 256 + r.val; omega
  | ⟨2, _⟩ => show win0_0.index t (2 : Fin 3) * 1024 + 1 * k.val = k.val; omega

/-- The gain's block. -/
theorem blk_gain (c : Dev nD) (t : Fin cfg0.N) (k : Fin 1024) :
    (iblk m c 1 t : Vec Ideal S1x1024 .f32) (ix2 0 k) = (m ((c : Thread nD τ).loc main_arg2) : Gain) (ix1 k) := by
  rw [← V_gain m c]
  obtain ⟨-, -, -, -, -, -, e0, e1, -⟩ := idx_facts t
  show V m c main_v5 (((cfg0.win 1).blk t).view.emb (ix2 0 k)) = V m c main_v5 (ix2 0 k)
  refine congrArg (V m c main_v5) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

/-- A tile's tokens are all of one stream. -/
theorem mod_eq (lat : PerBatch) (con : Gain) (t : Fin cfg0.N) (r : Fin 256) (k : Fin 1024) (s : Fin 2)
    (hs : s.val = win0_5.index t (1 : Fin 3) / 8) :
    (if s.val = 0 then lat (ix2 (bat t) k) else con (ix1 k)) = modOf lat con (bat t) (tok t r) k := by
  have h9 := (idx_facts t).2.1
  unfold modOf
  by_cases h : s.val = 0
  · exact (if_pos h).trans (if_pos (show win0_5.index t (1 : Fin 3) * 256 + r.val < 2048 by omega)).symm
  · exact (if_neg h).trans (if_neg (show ¬ win0_5.index t (1 : Fin 3) * 256 + r.val < 2048 by omega)).symm

/-- The shift's block. -/
theorem blk_shift (c : Dev nD) (t : Fin cfg0.N) (r : Fin 256) (k : Fin 1024) :
    (iblk m c 2 t : Vec Ideal S1x1x1024 .f32) (ix3 0 0 k)
      = modOf (m ((c : Thread nD τ).loc main_arg3)) (m ((c : Thread nD τ).loc main_arg5)) (bat t) (tok t r) k := by
  obtain ⟨-, h9, -, -, -, -, -, -, e0, e1, e2, -⟩ := idx_facts t
  rw [← mod_eq _ _ t r k ⟨win0_5.index t (1 : Fin 3) / 8, by omega⟩ rfl, ← V_shift m c]
  show V m c main_v10 (((cfg0.win 2).blk t).view.emb (ix3 0 0 k)) = V m c main_v10 (ix3 _ 0 k)
  refine congrArg (V m c main_v10) (funext fun a => Fin.ext ?_)
  match a with
  | ⟨0, _⟩ => show win0_2.index t (0 : Fin 3) * 1 + 1 * 0 = 2 * win0_5.index t (0 : Fin 3) + win0_5.index t (1 : Fin 3) / 8; omega
  | ⟨1, _⟩ => show win0_2.index t (1 : Fin 3) * 1 + 1 * 0 = 0; omega
  | ⟨2, _⟩ => show win0_2.index t (2 : Fin 3) * 1024 + 1 * k.val = k.val; omega

/-- The scale's block. -/
theorem blk_scale (c : Dev nD) (t : Fin cfg0.N) (r : Fin 256) (k : Fin 1024) :
    (iblk m c 3 t : Vec Ideal S1x1x1024 .f32) (ix3 0 0 k)
      = modOf (m ((c : Thread nD τ).loc main_arg4)) (m ((c : Thread nD τ).loc main_arg6)) (bat t) (tok t r) k := by
  obtain ⟨-, h9, -, -, -, -, -, -, -, -, -, e0, e1, e2, -⟩ := idx_facts t
  rw [← mod_eq _ _ t r k ⟨win0_5.index t (1 : Fin 3) / 8, by omega⟩ rfl, ← V_scale m c]
  show V m c main_v15 (((cfg0.win 3).blk t).view.emb (ix3 0 0 k)) = V m c main_v15 (ix3 _ 0 k)
  refine congrArg (V m c main_v15) (funext fun a => Fin.ext ?_)
  match a with
  | ⟨0, _⟩ => show win0_3.index t (0 : Fin 3) * 1 + 1 * 0 = 2 * win0_5.index t (0 : Fin 3) + win0_5.index t (1 : Fin 3) / 8; omega
  | ⟨1, _⟩ => show win0_3.index t (1 : Fin 3) * 1 + 1 * 0 = 0; omega
  | ⟨2, _⟩ => show win0_3.index t (2 : Fin 3) * 1024 + 1 * k.val = k.val; omega

/-- The weights' block: the whole matrix. -/
theorem blk_weight (c : Dev nD) (t : Fin cfg0.N) (k : Fin 1024) (q : Fin 5120) :
    (iblk m c 4 t : Vec Ideal S1024x5120 .bf16) (ix2 k q)
      = (m ((c : Thread nD τ).loc main_arg7) : (⟨2, ![1024, 8576]⟩ : Shape).Idx → EReal) (ix2 k (ZProjSpec.col q)) := by
  rw [← V_weight m c]
  obtain ⟨-, -, -, -, -, -, -, -, -, -, -, -, -, -, e0, e1⟩ := idx_facts t
  show V m c main_v16 (((cfg0.win 4).blk t).view.emb (ix2 k q)) = V m c main_v16 (ix2 k q)
  refine congrArg (V m c main_v16) (funext fun a => Fin.ext ?_)
  match a with
  | ⟨0, _⟩ => show win0_4.index t (0 : Fin 2) * 1024 + 1 * k.val = k.val; omega
  | ⟨1, _⟩ => show win0_4.index t (1 : Fin 2) * 5120 + 1 * q.val = q.val; omega

/-! ## The array -/

/-- The result array as one function of the arguments. -/
def G (c : Dev nD) : Buf (Elt Ideal) ((c : Thread nD τ).loc main_v17) := fun i =>
  ZProjSpec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1) (i 2)

/-- The body's result at a point's row and column is `G` at the place the block puts them. -/
theorem pay_eq (c : Dev nD) (t : Fin cfg0.N) (r : Fin 256) (q : Fin 5120) :
    k0_pay1 (F := Ideal) (iblk m c 0 t) (iblk m c 1 t) (iblk m c 2 t) (iblk m c 3 t) (iblk m c 4 t) (ix3 0 r q)
      = G m c (((cfg0.win 5).blk t).view.emb (ix3 0 r q)) := by
  obtain ⟨-, -, e2, -⟩ := idx_facts t
  have hG : G m c (((cfg0.win 5).blk t).view.emb (ix3 0 r q))
      = ZProjSpec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (bat t) (tok t r) q := by
    unfold G
    congr 1 <;> apply Fin.ext
    · show win0_5.index t (0 : Fin 3) * 1 + 1 * 0 = win0_5.index t (0 : Fin 3); omega
    · show win0_5.index t (1 : Fin 3) * 256 + 1 * r.val = win0_5.index t (1 : Fin 3) * 256 + r.val; omega
    · show win0_5.index t (2 : Fin 3) * 5120 + 1 * q.val = q.val; omega
  rw [hG]
  refine (Block.pay_apply _ _ _ _ _ r q).trans ?_
  unfold ZProjSpec.out stream
  rw [show (fun k => (iblk m c 0 t : Vec Ideal S1x256x1024 .f32) (ix3 0 r k)) = _ from funext fun k => blk_tokens m c t r k,
    show (fun k => (iblk m c 1 t : Vec Ideal S1x1024 .f32) (ix2 0 k)) = _ from funext fun k => blk_gain m c t k,
    show (fun k => (iblk m c 2 t : Vec Ideal S1x1x1024 .f32) (ix3 0 0 k)) = _ from funext fun k => blk_shift m c t r k,
    show (fun k => (iblk m c 3 t : Vec Ideal S1x1x1024 .f32) (ix3 0 0 k)) = _ from funext fun k => blk_scale m c t r k]
  exact Finset.sum_congr rfl fun k _ => congrArg (_ * ·) (blk_weight m c t k q)

/-- What point `t` writes back is its block of `G`. -/
theorem flushed_eq (c : Dev nD) (t : Fin cfg0.N) :
    (dats m 0 c).flushed 5 t = ((cfg0.win 5).blk t).view.read (Elt Ideal) (G m c) := by
  rw [Value.flushed5]
  unfold out0_5
  rw [View.canon_unit_zero hz3]
  simp only [View.ld_unit_zero (S := S1x256x1024) hz3, View.ld_unit_zero (S := S1x1024) hz2, View.ld_unit_zero (S := S1x1x1024) hz3,
    View.ld_unit_zero (S := S1024x5120) hz2]
  funext y
  have hy : y = ix3 0 (y 1) (y 2) := by
    funext a; apply Fin.ext
    match a with
    | ⟨0, _⟩ => have : (y 0).val < 1 := (y 0).isLt; show (y 0).val = 0; omega
    | ⟨1, _⟩ => rfl
    | ⟨2, _⟩ => rfl
  rw [hy]
  exact pay_eq m c t _ _

/-- An index of the array is in point `t`'s block iff each coordinate is in the block's range on its axis. -/
theorem mem_blk (t : Fin cfg0.N) (i : S16x2304x5120.Idx) :
    i ∈ ((cfg0.win 5).blk t).view.set ↔ ∀ a : Fin 3, win0_5.index t a * S1x256x5120.size a ≤ (i a).val ∧ (i a).val < win0_5.index t a * S1x256x5120.size a + S1x256x5120.size a := by
  show i ∈ ((View.whole main_v17).slice (win0_5.rect t)).set ↔ _
  rw [View.set_slice_whole, Rect.mem_set_unit]
  exact Iff.rfl

/-- The blocks tile the array. -/
theorem cover (i : S16x2304x5120.Idx) :
    ∃ t : Fin cfg0.N, (cfg0.win 5).flush t = true ∧ i ∈ ((cfg0.win 5).blk t).view.set := by
  have h0 : (i 0).val < 16 := (i 0).isLt
  have h1 : (i 1).val < 2304 := (i 1).isLt
  have h2 : (i 2).val < 5120 := (i 2).isLt
  obtain ⟨t, ht⟩ := idx_onto ⟨(i 0).val, h0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 5120 ≤ (i 2).val ∧ (i 2).val < win0_5.index t (2 : Fin 3) * 5120 + 5120; omega

/-- So the array ends holding `G`. -/
theorem final (c : Dev nD) : (dats m 0 c).arrAt 5 cfg0.N = G m c :=
  (dats m 0 c).arrAt_eq_of_cover 5 (G m c) (fun t _ => flushed_eq m c t) cover

end Cert.ZProjIdeal.Arr

end
-- ==== Proof.ZProjRef.lean ====
/- What the reference of the first in-projection computes, element by element. -/
module

public import proofs.«01_k».proof.Proof.Gen.ZProjRefIdeal.Read
public import proofs.«01_k».proof.Proof.ZProjSpec

@[expose] public section

set_option maxRecDepth 16384

noncomputable section

namespace Cert.ZProjRefIdeal.Ref

open Cert.ZProjRefIdeal Cert.ZProjRefIdeal.Gen Cert.ZProjRefIdeal.Read Cert.Rows Idealize.ShloMosaic

variable (x : Lat) (ctx : Ctx) (g : Gain) (sh sc : PerBatch) (shc scc : Gain) (w : (⟨2, ![1024, 8576]⟩ : Shape).Idx → EReal)

/-- The latent stream's projection. -/
theorem latent_apply (b : Fin 16) (i : Fin 2048) (n : Fin 8576) :
    val_main_v21 (F := Ideal) x g sh sc w (ix3 b i n)
      = ∑ k : Fin 1024, modulated (fun k => x (ix3 b i k)) (fun k => g (ix1 k)) (fun k => sc (ix2 b k)) (fun k => sh (ix2 b k)) k
          * w (ix2 k n) := by
  pointwise [modulated, normed, rms, val_main_v21, dot_S16x2048x1024_S1024x8576_S16x2048x8576_2_0_01_1_n_n,
      val_main_v0, val_main_v1, val_main_v2, val_main_v3, val_main_v4, val_main_v5,
      val_main_v6, val_main_v7, val_main_v8, val_main_v9, val_main_v10, val_main_v11,
      val_main_v12, val_main_v13, val_main_v14, val_main_v15, val_main_v16, val_main_v17,
      val_main_v18, val_main_v19, val_main_v20,
      val_main_cst, val_main_cst_0, val_main_cst_1, val_main_cst_2]

/-- The context stream's projection. -/
theorem context_apply (b : Fin 16) (i : Fin 256) (n : Fin 8576) :
    val_main_v43 (F := Ideal) ctx g shc scc w (ix3 b i n)
      = ∑ k : Fin 1024, modulated (fun k => ctx (ix3 b i k)) (fun k => g (ix1 k)) (fun k => scc (ix1 k)) (fun k => shc (ix1 k)) k
          * w (ix2 k n) := by
  pointwise [modulated, normed, rms, val_main_v43, dot_S16x256x1024_S1024x8576_S16x256x8576_2_0_01_1_n_n,
      val_main_v22, val_main_v23, val_main_v24, val_main_v25, val_main_v26, val_main_v27,
      val_main_v28, val_main_v29, val_main_v30, val_main_v31, val_main_v32, val_main_v33,
      val_main_v34, val_main_v35, val_main_v36, val_main_v37, val_main_v38, val_main_v39,
      val_main_v40, val_main_v41, val_main_v42,
      val_main_cst_3, val_main_cst_4, val_main_cst_5, val_main_cst_6]

/-- The two streams' projections, one after the other. -/
theorem both_apply (b : Fin 16) (i : Fin 2304) (n : Fin 8576) :
    val_main_v44 (F := Ideal) x ctx g sh sc shc scc w (ix3 b i n)
      = ∑ k : Fin 1024, stream x ctx g sh sc shc scc b i k * w (ix2 k n) := by
  unfold val_main_v44 stream
  by_cases h : i.val < 2048
  · have e1 : token x ctx b i = fun k => x (ix3 b ⟨i.val, h⟩ k) := funext fun k => dif_pos h
    have e2 : modOf sc scc b i = fun k => sc (ix2 b k) := funext fun k => if_pos h
    have e3 : modOf sh shc b i = fun k => sh (ix2 b k) := funext fun k => if_pos h
    rw [e1, e2, e3, ← latent_apply x g sh sc w]
    pointwise [h]
  · have e1 : token x ctx b i = fun k => ctx (ix3 b ⟨i.val - 2048, by omega⟩ k) := funext fun k => dif_neg h
    have e2 : modOf sc scc b i = fun k => scc (ix1 k) := funext fun k => if_neg h
    have e3 : modOf sh shc b i = fun k => shc (ix1 k) := funext fun k => if_neg h
    rw [e1, e2, e3, ← context_apply ctx g shc scc w]
    pointwise [h]

/-- The reference's result at an index. -/
theorem result_apply (b : Fin 16) (i : Fin 2304) (q : Fin 5120) :
    val_main_v48 (F := Ideal) x ctx g sh sc shc scc w (ix3 b i q) = ZProjSpec.out x ctx g sh sc shc scc w b i q := by
  unfold val_main_v48 val_main_v47 val_main_v46 val_main_v45 ZProjSpec.out ZProjSpec.col
  by_cases h : q.val < 3072
  · rw [dif_pos h, ← both_apply]
    pointwise [h]
  · rw [dif_neg h, ← both_apply]
    pointwise [h]
    congr 2; apply Fin.ext; show 3456 + (q.val - 3072) = 384 + q.val; omega

end Cert.ZProjRefIdeal.Ref

end
-- ==== Proof.ZProjEquation.lean ====
/- The first in-projection and its reference end with the same array. -/
module

public import proofs.«01_k».proof.Defs
public import proofs.«01_k».proof.Proof.ZProjArray
public import proofs.«01_k».proof.Proof.ZProjRef
public import proofs.«01_k».proof.Proof.Gen.ZProjRefIdeal.Run
public import proofs.«01_k».proof.Proof.Gen.ZProjRefIdeal.Read

@[expose] public section

set_option maxRecDepth 16384

noncomputable section

namespace Cert.ZProjIdeal.Eqn

open Idealize.ShloMosaic Idealize.ShloMosaic.TcCoe Idealize.SL.Sem

/-- The algebraic claim: from equal arguments both runs end with `Arr.G` of them. -/
theorem algebraic : Cert.algebraic_ZProjIdeal_ZProjRefIdeal := by
  intro m g m' g' _ hag
  refine ⟨fun c => Arr.G m c, (θ_run Cert.ZProjIdeal.defs _ _).mono (fun r h c => ?_) (Cert.ZProjIdeal.Value.run_blocks m g),
    (θ_run Cert.ZProjRefIdeal.defs _ _).mono (fun r h c => ?_) (Cert.ZProjRefIdeal.Value.run m' g')⟩
  · exact ⟨(h c).1.trans (Arr.final m c), (h c).2⟩
  · refine ⟨(h c).1.trans ?_, (h c).2⟩
    obtain ⟨a0, a1, a2, a3, a4, a5, a6, a7⟩ := hag c
    rw [Cert.ZProjRefIdeal.Read.val_main_v48_eq, a0, a1, a2, a3, a4, a5, a6, a7]
    funext i
    have hi : i = ix3 (i 0) (i 1) (i 2) := by
      funext a
      match a with
      | ⟨0, _⟩ => rfl
      | ⟨1, _⟩ => rfl
      | ⟨2, _⟩ => rfl
    rw [hi]
    exact Cert.ZProjRefIdeal.Ref.result_apply _ _ _ _ _ _ _ _ _ _ _

end Cert.ZProjIdeal.Eqn

end
-- ==== Proof.RProjSpec.lean ====
/- The token-shift columns of the in-projection, as one function of the arguments: the projection's rows filtered along
   the tokens, each stream apart. -/
module

public import proofs.«01_k».proof.Proof.Rows

@[expose] public section

noncomputable section

namespace Cert.RProjSpec

open Cert.Rows Idealize.ShloMosaic

/-- Arrays of the shapes of the projection's weights and of the filter's taps. -/
abbrev Weight : Type := (⟨2, ![1024, 8576]⟩ : Shape).Idx → EReal
abbrev Taps : Type := (⟨2, ![3, 3456]⟩ : Shape).Idx → EReal

variable (x : Lat) (ctx : Ctx) (g : Gain) (sh sc : PerBatch) (shc scc : Gain) (w : Weight) (ws : Taps)

/-- Token `i` of batch `b`, normalised, modulated and projected on column `n`. -/
def proj (b : Fin 16) (i : Fin 2304) (n : Fin 3456) : EReal :=
  ∑ k : Fin 1024, stream x ctx g sh sc shc scc b i k * w (ix2 k ⟨n.val, by omega⟩)

/-- The token before, zero at the start of either stream. -/
def before (b : Fin 16) (i : Fin 2304) (n : Fin 3456) : EReal :=
  if i.val = 0 ∨ i.val = 2048 then 0 else proj x ctx g sh sc shc scc w b ⟨i.val - 1, by omega⟩ n

/-- The token after, zero at the end of either stream. -/
def after (b : Fin 16) (i : Fin 2304) (n : Fin 3456) : EReal :=
  if h : i.val = 2047 ∨ i.val = 2303 then 0 else proj x ctx g sh sc shc scc w b ⟨i.val + 1, by omega⟩ n

/-- The filtered projection at token `i` and column `n`. -/
def out (b : Fin 16) (i : Fin 2304) (n : Fin 3456) : EReal :=
  before x ctx g sh sc shc scc w b i n * ws (ix2 0 n) + proj x ctx g sh sc shc scc w b i n * ws (ix2 1 n)
    + after x ctx g sh sc shc scc w b i n * ws (ix2 2 n)

/-- Column `l` of tile `t`. -/
def tileCol (t : Fin 27) (l : Fin 128) : Fin 3456 := ⟨t.val * 128 + l.val, by omega⟩

end Cert.RProjSpec

end
-- ==== Proof.RProjHalo.lean ====
/- The 272 rows that one grid point of the token-shift in-projection multiplies into the weights: eight rows before its
   block, the block's 256, and eight after, all normalised and modulated; a neighbour beyond the stream's end is zero. -/
module

public import proofs.«01_k».proof.Proof.Gen.RProjIdeal.Value
public import proofs.«01_k».proof.Proof.RProjSpec
public import Idealize.ShloMosaic.Lib.Pipeline.ValueKit

@[expose] public section

set_option maxRecDepth 16384

noncomputable section

namespace Cert.RProjIdeal.Halo

open Cert.RProjIdeal Cert.RProjIdeal.Gen Cert.Rows Idealize.ShloMosaic

variable (i : grid0.Coords) (x0 : Vec Ideal S1x256x1024 .f32) (x1 x2 : Vec Ideal S1x8x1024 .f32) (x3 : Vec Ideal S1x1024 .f32)
    (x4 x5 : Vec Ideal S1x1x1024 .f32) (x6 : Vec Ideal S1024x3456 .bf16) (x7 : Vec Ideal S3x3456 .f32)

/-- The first tile of either stream. -/
def first : BitVec 1 := Scalar.ori (Scalar.cmpi .eq (BitVec.ofNat 32 (i 1).val) 0#32) (Scalar.cmpi .eq (BitVec.ofNat 32 (i 1).val) 8#32)
/-- The last tile of either stream. -/
def last : BitVec 1 := Scalar.ori (Scalar.cmpi .eq (BitVec.ofNat 32 (i 1).val) 7#32) (Scalar.cmpi .eq (BitVec.ofNat 32 (i 1).val) 8#32)

/-- The block's own rows. -/
theorem own_apply (r : Fin 256) (k : Fin 1024) :
    k0_pay50 i x0 x1 x2 x3 x4 x5 x6 x7 (ix2 ⟨8 + r.val, by omega⟩ k)
      = modulated (fun k => x0 (ix3 0 r k)) (fun k => x3 (ix2 0 k)) (fun k => x5 (ix3 0 0 k)) (fun k => x4 (ix3 0 0 k)) k := by
  unfold k0_pay50
  unfold_payloads
  simp only [View.ld_unit]
  pointwise [modulated, normed, rms]

/-- The row before the block. -/
theorem before_apply (k : Fin 1024) :
    k0_pay50 i x0 x1 x2 x3 x4 x5 x6 x7 (ix2 7 k)
      = modulated (fun k => x1 (ix3 0 7 k)) (fun k => x3 (ix2 0 k)) (fun k => x5 (ix3 0 0 k)) (fun k => x4 (ix3 0 0 k)) k
        * Scalar.select (first i) 0 1 := by
  unfold k0_pay50
  unfold_payloads
  simp only [View.ld_unit]
  pointwise [modulated, normed, rms, first]

/-- The row after the block. -/
theorem after_apply (k : Fin 1024) :
    k0_pay50 i x0 x1 x2 x3 x4 x5 x6 x7 (ix2 264 k)
      = modulated (fun k => x2 (ix3 0 0 k)) (fun k => x3 (ix2 0 k)) (fun k => x5 (ix3 0 0 k)) (fun k => x4 (ix3 0 0 k)) k
        * Scalar.select (last i) 0 1 := by
  unfold k0_pay50
  unfold_payloads
  simp only [View.ld_unit]
  pointwise [modulated, normed, rms, last]

end Cert.RProjIdeal.Halo

end
-- ==== Proof.RProjBlock.lean ====
/- What one grid point of the token-shift in-projection stores: the projections of its 256 rows and of the row on either
   side of them, filtered along the rows. -/
module

public import proofs.«01_k».proof.Proof.Gen.RProjIdeal.Value
public import proofs.«01_k».proof.Proof.RProjSpec
public import Idealize.ShloMosaic.Lib.Pipeline.ValueKit

@[expose] public section

set_option maxRecDepth 16384

noncomputable section

namespace Cert.RProjIdeal.Block

open Cert.RProjIdeal Cert.RProjIdeal.Gen Cert.Rows Idealize.ShloMosaic

/-- Row `r` of the 256 and column `n`: the three taps on the 272 rows' projections, the block's rows lying from row 8. -/
def shifted (y : FVec Ideal S272x1024 .bf16) (x6 : Vec Ideal S1024x3456 .bf16) (x7 : Vec Ideal S3x3456 .f32) (r : Fin 256) (n : Fin 3456) : EReal :=
  (∑ k : Fin 1024, y (ix2 ⟨7 + r.val, by omega⟩ k) * x6 (ix2 k n)) * x7 (ix2 0 n)
    + (∑ k : Fin 1024, y (ix2 ⟨8 + r.val, by omega⟩ k) * x6 (ix2 k n)) * x7 (ix2 1 n)
    + (∑ k : Fin 1024, y (ix2 ⟨9 + r.val, by omega⟩ k) * x6 (ix2 k n)) * x7 (ix2 2 n)

/-- The 512 columns from column `off`, filtered. -/
theorem filtered_apply (y : FVec Ideal S272x1024 .bf16) (w : Vec Ideal S1024x512 .bf16) (ws : Vec Ideal S3x512 .f32) (r : Fin 256) (j : Fin 512) :
    k0_pay10 y w ws (ix2 r j)
      = (∑ k : Fin 1024, y (ix2 ⟨7 + r.val, by omega⟩ k) * w (ix2 k j)) * ws (ix2 0 j)
    + (∑ k : Fin 1024, y (ix2 ⟨8 + r.val, by omega⟩ k) * w (ix2 k j)) * ws (ix2 1 j)
    + (∑ k : Fin 1024, y (ix2 ⟨9 + r.val, by omega⟩ k) * w (ix2 k j)) * ws (ix2 2 j) := by
  have e1 : (⟨(8 + r.val + 272 - 1) % 272, by omega⟩ : Fin 272) = ⟨7 + r.val, by omega⟩ := Fin.ext (by show (8 + r.val + 272 - 1) % 272 = 7 + r.val; omega)
  have e2 : (⟨(8 + r.val + 272 - 271) % 272, by omega⟩ : Fin 272) = ⟨9 + r.val, by omega⟩ := Fin.ext (by show (8 + r.val + 272 - 271) % 272 = 9 + r.val; omega)
  unfold_payloads
  pointwise [dot_S272x1024_S1024x512_S272x512_1_0_0_1_n_n, e1, e2]

/-- The stored block at tile `t`, row `r` and lane `l`. -/
theorem out_apply (i : grid0.Coords) (x0 : Vec Ideal S1x256x1024 .f32) (x1 x2 : Vec Ideal S1x8x1024 .f32) (x3 : Vec Ideal S1x1024 .f32)
    (x4 x5 : Vec Ideal S1x1x1024 .f32) (x6 : Vec Ideal S1024x3456 .bf16) (x7 : Vec Ideal S3x3456 .f32) (t : Fin 27) (r : Fin 256) (l : Fin 128) :
    out0_8 i x0 x1 x2 x3 x4 x5 x6 x7 (ix4 0 t r l)
      = shifted (k0_pay50 i x0 x1 x2 x3 x4 x5 x6 x7) x6 x7 r (RProjSpec.tileCol t l) := by
  have e1 : (⟨(8 + r.val + 272 - 1) % 272, by omega⟩ : Fin 272) = ⟨7 + r.val, by omega⟩ := Fin.ext (by show (8 + r.val + 272 - 1) % 272 = 7 + r.val; omega)
  have e2 : (⟨(8 + r.val + 272 - 271) % 272, by omega⟩ : Fin 272) = ⟨9 + r.val, by omega⟩ := Fin.ext (by show (8 + r.val + 272 - 271) % 272 = 9 + r.val; omega)
  unfold out0_8 k0_pay58 k0_pay57 k0_pay56 k0_pay55 k0_pay54 k0_pay53 k0_pay52 k0_pay51
  generalize k0_pay50 i x0 x1 x2 x3 x4 x5 x6 x7 = y
  canon_tiles x h
  all_goals (
    unfold_payloads
    simp only [View.ld_unit]
    have hx : x = ix4 0 0 r l := by
      funext a; apply Fin.ext
      match a with
      | ⟨0, _⟩ => exact Nat.lt_one_iff.mp x0_lt
      | ⟨1, _⟩ => exact Nat.lt_one_iff.mp x1_lt
      | ⟨2, _⟩ => exact h2.symm
      | ⟨3, _⟩ => exact h3.symm
    rw [Nat.lt_one_iff.mp x1_lt] at h1
    replace h1 : t.val = _ := h1
    subst hx
    pointwise [dot_S272x1024_S1024x512_S272x512_1_0_0_1_n_n, dot_S272x1024_S1024x384_S272x384_1_0_0_1_n_n, e1, e2, shifted, RProjSpec.tileCol]
    try simp only [h1, Nat.reduceMul, Nat.reduceAdd, Nat.zero_add, ← Nat.add_assoc])

end Cert.RProjIdeal.Block

end
-- ==== Proof.RProjArray.lean ====
/- The result array of the token-shift in-projection after its run: what each grid point writes back is its block of one function
   of the arguments, and the blocks tile the array. -/
module

public import proofs.«01_k».proof.Proof.RProjHalo
public import proofs.«01_k».proof.Proof.RProjBlock
public import proofs.«01_k».proof.Proof.RProjSpec

@[expose] public section

set_option maxRecDepth 16384

noncomputable section

namespace Cert.RProjIdeal.Arr

open Cert.RProjIdeal Cert.RProjIdeal.Gen Cert.Rows Idealize.ShloMosaic Idealize.ShloMosaic.TcCoe Idealize.SL.Sem
open Idealize.ShloMosaic.Pipeline (Dat)

variable (m : (ℓ : Loc nD τ sig) → Buf (Elt Ideal) ℓ)

/-! ## The arrays the host code prepares -/

/-- The tokens: the latent stream, then the context stream. -/
theorem V_tokens (c : Dev nD) (b : Fin 16) (i : Fin 2304) (k : Fin 1024) :
    (V m c main_v0 : (⟨3, ![16, 2304, 1024]⟩ : Shape).Idx → EReal) (ix3 b i k)
      = token (m ((c : Thread nD τ).loc main_arg0)) (m ((c : Thread nD τ).loc main_arg1)) b i k := by
  have e : V m c main_v0 = concatenate S16x2304x1024 1 [⟨S16x2048x1024, m ((c : Thread nD τ).loc main_arg0)⟩, ⟨S16x256x1024, m ((c : Thread nD τ).loc main_arg1)⟩] concatenates_S16x2048x1024_S16x256x1024_S16x2304x1024_d1 := by
    unfold V; after_results_simp <;> rfl
  rw [e]
  exact concat_apply _ _ _ b i k

/-- The norm's gain. -/
theorem V_gain (c : Dev nD) (k : Fin 1024) :
    (V m c main_v5 : (⟨2, ![1, 1024]⟩ : Shape).Idx → EReal) (ix2 0 k) = (m ((c : Thread nD τ).loc main_arg2) : Gain) (ix1 k) := by
  have e : V m c main_v5 = broadcastInDim S1x1024 ![1] bcast_S1024_S1x1024_1 (m ((c : Thread nD τ).loc main_arg2)) := by
    unfold V; after_results_simp <;> rfl
  rw [e]
  pointwise

/-- The shifts: batch `b`'s own, then the shared one. -/
theorem V_shift (c : Dev nD) (b : Fin 16) (s : Fin 2) (k : Fin 1024) :
    (V m c main_v10 : (⟨3, ![32, 1, 1024]⟩ : Shape).Idx → EReal) (ix3 ⟨2 * b.val + s.val, by omega⟩ 0 k)
      = if s.val = 0 then (m ((c : Thread nD τ).loc main_arg3) : PerBatch) (ix2 b k)
        else (m ((c : Thread nD τ).loc main_arg5) : Gain) (ix1 k) := by
  have e : V m c main_v10 = shapeCast S32x1x1024 (concatenate S16x2x1024 1
      [⟨S16x1x1024, broadcastInDim S16x1x1024 ![0, 2] bcast_S16x1024_S16x1x1024_0_2 (m ((c : Thread nD τ).loc main_arg3))⟩,
       ⟨S16x1x1024, broadcastInDim S16x1x1024 ![0, 2] bcast_S16x1024_S16x1x1024_0_2
          (broadcastInDim S16x1024 ![1] bcast_S1024_S16x1024_1 (m ((c : Thread nD τ).loc main_arg5)))⟩]
      concatenates_S16x1x1024_S16x1x1024_S16x2x1024_d1) shapeCasts_S16x2x1024_S32x1x1024 := by
    unfold V; after_results_simp <;> rfl
  rw [e]
  exact table_apply _ _ _ _ _ _ b s k

/-- The scales likewise. -/
theorem V_scale (c : Dev nD) (b : Fin 16) (s : Fin 2) (k : Fin 1024) :
    (V m c main_v15 : (⟨3, ![32, 1, 1024]⟩ : Shape).Idx → EReal) (ix3 ⟨2 * b.val + s.val, by omega⟩ 0 k)
      = if s.val = 0 then (m ((c : Thread nD τ).loc main_arg4) : PerBatch) (ix2 b k)
        else (m ((c : Thread nD τ).loc main_arg6) : Gain) (ix1 k) := by
  have e : V m c main_v15 = shapeCast S32x1x1024 (concatenate S16x2x1024 1
      [⟨S16x1x1024, broadcastInDim S16x1x1024 ![0, 2] bcast_S16x1024_S16x1x1024_0_2 (m ((c : Thread nD τ).loc main_arg4))⟩,
       ⟨S16x1x1024, broadcastInDim S16x1x1024 ![0, 2] bcast_S16x1024_S16x1x1024_0_2
          (broadcastInDim S16x1024 ![1] bcast_S1024_S16x1024_1 (m ((c : Thread nD τ).loc main_arg6)))⟩]
      concatenates_S16x1x1024_S16x1x1024_S16x2x1024_d1) shapeCasts_S16x2x1024_S32x1x1024 := by
    unfold V; after_results_simp <;> rfl
  rw [e]
  exact table_apply _ _ _ _ _ _ b s k

/-- The weights' first columns. -/
theorem V_weight (c : Dev nD) (k : Fin 1024) (n : Fin 3456) :
    (V m c main_v16 : (⟨2, ![1024, 3456]⟩ : Shape).Idx → EReal) (ix2 k n)
      = (m ((c : Thread nD τ).loc main_arg7) : RProjSpec.Weight) (ix2 k ⟨n.val, by omega⟩) := by
  have e : V m c main_v16 = (truncf .bf16 (extractStridedSlice S1024x3456 ![0, 0] (m ((c : Thread nD τ).loc main_arg7)) slices_S1024x8576_S1024x3456_0_0) bitsLt_bf16_f32 : FVec Ideal S1024x3456 .bf16) := by
    unfold V; after_results_simp <;> rfl
  rw [e]
  pointwise

/-- The taps. -/
theorem V_taps (c : Dev nD) : V m c main_arg8 = m ((c : Thread nD τ).loc main_arg8) := by
  unfold V; after_results_simp <;> rfl

/-! ## The blocks -/

/-- Where the windows' blocks lie at a point, in terms of the output's: the tokens' block is the output's own, its
    neighbours' blocks of eight rows the ones before and after it where there are such, the modulation row is the batch's
    first up to the eighth tile and its second from there. -/
theorem idx_facts : ∀ t : Fin cfg0.N, win0_8.index t (0 : Fin 4) < 16 ∧ win0_8.index t (1 : Fin 4) = 0 ∧ win0_8.index t (2 : Fin 4) < 9 ∧ win0_8.index t (3 : Fin 4) = 0
    ∧ (grid0.coords t 1).val = win0_8.index t (2 : Fin 4)
    ∧ win0_0.index t (0 : Fin 3) = win0_8.index t (0 : Fin 4) ∧ win0_0.index t (1 : Fin 3) = win0_8.index t (2 : Fin 4) ∧ win0_0.index t (2 : Fin 3) = 0
    ∧ win0_1.index t (0 : Fin 3) = win0_8.index t (0 : Fin 4) ∧ win0_1.index t (1 : Fin 3) = win0_8.index t (2 : Fin 4) * 32 - 1 ∧ win0_1.index t (2 : Fin 3) = 0
    ∧ win0_2.index t (0 : Fin 3) = win0_8.index t (0 : Fin 4) ∧ win0_2.index t (1 : Fin 3) = min (win0_8.index t (2 : Fin 4) * 32 + 32) 287 ∧ win0_2.index t (2 : Fin 3) = 0
    ∧ win0_3.index t (0 : Fin 2) = 0 ∧ win0_3.index t (1 : Fin 2) = 0
    ∧ win0_4.index t (0 : Fin 3) = 2 * win0_8.index t (0 : Fin 4) + win0_8.index t (2 : Fin 4) / 8 ∧ win0_4.index t (1 : Fin 3) = 0 ∧ win0_4.index t (2 : Fin 3) = 0
    ∧ win0_5.index t (0 : Fin 3) = 2 * win0_8.index t (0 : Fin 4) + win0_8.index t (2 : Fin 4) / 8 ∧ win0_5.index t (1 : Fin 3) = 0 ∧ win0_5.index t (2 : Fin 3) = 0
    ∧ win0_6.index t (0 : Fin 2) = 0 ∧ win0_6.index t (1 : Fin 2) = 0 ∧ win0_7.index t (0 : Fin 2) = 0 ∧ win0_7.index t (1 : Fin 2) = 0 :=
  (by decide +kernel : ∀ t : Fin grid0.N, _)

/-- Every block of the result is some point's. -/
theorem idx_onto : ∀ (b : Fin 16) (s : Fin 9), ∃ t : Fin cfg0.N, win0_8.index t = ![b.val, 0, s.val, 0] :=
  (by decide +kernel : ∀ (b : Fin 16) (s : Fin 9), ∃ t : Fin grid0.N, win0_8.index t = ![b.val, 0, s.val, 0])

/-- The batch of point `t`. -/
def bat (t : Fin cfg0.N) : Fin 16 := ⟨win0_8.index t (0 : Fin 4), (idx_facts t).1⟩
/-- The tile of tokens of point `t`. -/
def tile (t : Fin cfg0.N) : Fin 9 := ⟨win0_8.index t (2 : Fin 4), (idx_facts t).2.2.1⟩
/-- The token that row `r` of a tile is. -/
def tok (s : Fin 9) (r : Fin 256) : Fin 2304 := ⟨s.val * 256 + r.val, by omega⟩

theorem hz2 : (![0, 0] : Fin 2 → Nat) = fun _ => 0 := funext fun a => by fin_cases a <;> rfl

/-- The tokens' block. -/
theorem blk_tokens (c : Dev nD) (t : Fin cfg0.N) (r : Fin 256) (k : Fin 1024) :
    (iblk m c 0 t : Vec Ideal S1x256x1024 .f32) (ix3 0 r k)
      = token (m ((c : Thread nD τ).loc main_arg0)) (m ((c : Thread nD τ).loc main_arg1)) (bat t) (tok (tile t) r) k := by
  rw [← V_tokens m c]
  obtain ⟨-, -, -, -, -, e0, e1, e2, -⟩ := idx_facts t
  show V m c main_v0 (((cfg0.win 0).blk t).view.emb (ix3 0 r k)) = V m c main_v0 (ix3 (bat t) (tok (tile t) r) k)
  refine congrArg (V m c main_v0) (funext fun a => Fin.ext ?_)
  match a with
  | ⟨0, _⟩ => show win0_0.index t (0 : Fin 3) * 1 + 1 * 0 = win0_8.index t (0 : Fin 4); omega
  | ⟨1, _⟩ => show win0_0.index t (1 : Fin 3) * 256 + 1 * r.val = win0_8.index t (2 : Fin 4) * 256 + r.val; omega
  | ⟨2, _⟩ => show win0_0.index t (2 : Fin 3) * 1024 + 1 * k.val = k.val; omega

/-- The last row of the block before: the token before the tile, if there is a tile before. -/
theorem blk_before (c : Dev nD) (t : Fin cfg0.N) (i : Fin 2304) (hi : i.val + 1 = (tile t).val * 256) (k : Fin 1024) :
    (iblk m c 1 t : Vec Ideal S1x8x1024 .f32) (ix3 0 7 k)
      = token (m ((c : Thread nD τ).loc main_arg0)) (m ((c : Thread nD τ).loc main_arg1)) (bat t) i k := by
  rw [← V_tokens m c]
  obtain ⟨-, -, -, -, -, -, -, -, e0, e1, e2, -⟩ := idx_facts t
  replace hi : i.val + 1 = win0_8.index t (2 : Fin 4) * 256 := hi
  show V m c main_v0 (((cfg0.win 1).blk t).view.emb (ix3 0 7 k)) = V m c main_v0 (ix3 (bat t) i k)
  refine congrArg (V m c main_v0) (funext fun a => Fin.ext ?_)
  match a with
  | ⟨0, _⟩ => show win0_1.index t (0 : Fin 3) * 1 + 1 * 0 = win0_8.index t (0 : Fin 4); omega
  | ⟨1, _⟩ => show win0_1.index t (1 : Fin 3) * 8 + 1 * 7 = i.val; omega
  | ⟨2, _⟩ => show win0_1.index t (2 : Fin 3) * 1024 + 1 * k.val = k.val; omega

/-- The first row of the block after: the token after the tile, if there is a tile after. -/
theorem blk_after (c : Dev nD) (t : Fin cfg0.N) (i : Fin 2304) (hi : i.val = (tile t).val * 256 + 256) (k : Fin 1024) :
    (iblk m c 2 t : Vec Ideal S1x8x1024 .f32) (ix3 0 0 k)
      = token (m ((c : Thread nD τ).loc main_arg0)) (m ((c : Thread nD τ).loc main_arg1)) (bat t) i k := by
  rw [← V_tokens m c]
  obtain ⟨-, -, -, -, -, -, -, -, -, -, -, e0, e1, e2, -⟩ := idx_facts t
  replace hi : i.val = win0_8.index t (2 : Fin 4) * 256 + 256 := hi
  have := i.isLt
  show V m c main_v0 (((cfg0.win 2).blk t).view.emb (ix3 0 0 k)) = V m c main_v0 (ix3 (bat t) i k)
  refine congrArg (V m c main_v0) (funext fun a => Fin.ext ?_)
  match a with
  | ⟨0, _⟩ => show win0_2.index t (0 : Fin 3) * 1 + 1 * 0 = win0_8.index t (0 : Fin 4); omega
  | ⟨1, _⟩ => show win0_2.index t (1 : Fin 3) * 8 + 1 * 0 = i.val; omega
  | ⟨2, _⟩ => show win0_2.index t (2 : Fin 3) * 1024 + 1 * k.val = k.val; omega

/-- The gain's block. -/
theorem blk_gain (c : Dev nD) (t : Fin cfg0.N) (k : Fin 1024) :
    (iblk m c 3 t : Vec Ideal S1x1024 .f32) (ix2 0 k) = (m ((c : Thread nD τ).loc main_arg2) : Gain) (ix1 k) := by
  rw [← V_gain m c]
  obtain ⟨-, -, -, -, -, -, -, -, -, -, -, -, -, -, e0, e1, -⟩ := idx_facts t
  show V m c main_v5 (((cfg0.win 3).blk t).view.emb (ix2 0 k)) = V m c main_v5 (ix2 0 k)
  refine congrArg (V m c main_v5) (funext fun a => Fin.ext ?_)
  match a with
  | ⟨0, _⟩ => show win0_3.index t (0 : Fin 2) * 1 + 1 * 0 = 0; omega
  | ⟨1, _⟩ => show win0_3.index t (1 : Fin 2) * 1024 + 1 * k.val = k.val; omega

/-- The tokens of a tile, and those next to it in its stream, have one modulation row. -/
theorem mod_eq (lat : PerBatch) (con : Gain) (b : Fin 16) (s : Fin 9) (i : Fin 2304) (k : Fin 1024)
    (hi : i.val < 2048 ↔ s.val < 8) :
    (if s.val / 8 = 0 then lat (ix2 b k) else con (ix1 k)) = modOf lat con b i k := by
  unfold modOf
  by_cases h : s.val < 8
  · exact (if_pos (by omega)).trans (if_pos (hi.mpr h)).symm
  · exact (if_neg (by omega)).trans (if_neg (fun h' => h (hi.mp h'))).symm

/-- The shift's block. -/
theorem blk_shift (c : Dev nD) (t : Fin cfg0.N) (i : Fin 2304) (hi : i.val < 2048 ↔ (tile t).val < 8) (k : Fin 1024) :
    (iblk m c 4 t : Vec Ideal S1x1x1024 .f32) (ix3 0 0 k)
      = modOf (m ((c : Thread nD τ).loc main_arg3)) (m ((c : Thread nD τ).loc main_arg5)) (bat t) i k := by
  obtain ⟨-, -, h9, -, -, -, -, -, -, -, -, -, -, -, -, -, e0, e1, e2, -⟩ := idx_facts t
  rw [← mod_eq _ _ _ (tile t) i k hi]
  refine Eq.trans ?_ (V_shift m c (bat t) ⟨(tile t).val / 8, by omega⟩ k)
  show V m c main_v10 (((cfg0.win 4).blk t).view.emb (ix3 0 0 k)) = V m c main_v10 (ix3 _ 0 k)
  refine congrArg (V m c main_v10) (funext fun a => Fin.ext ?_)
  match a with
  | ⟨0, _⟩ => show win0_4.index t (0 : Fin 3) * 1 + 1 * 0 = 2 * win0_8.index t (0 : Fin 4) + win0_8.index t (2 : Fin 4) / 8; omega
  | ⟨1, _⟩ => show win0_4.index t (1 : Fin 3) * 1 + 1 * 0 = 0; omega
  | ⟨2, _⟩ => show win0_4.index t (2 : Fin 3) * 1024 + 1 * k.val = k.val; omega

/-- The scale's block. -/
theorem blk_scale (c : Dev nD) (t : Fin cfg0.N) (i : Fin 2304) (hi : i.val < 2048 ↔ (tile t).val < 8) (k : Fin 1024) :
    (iblk m c 5 t : Vec Ideal S1x1x1024 .f32) (ix3 0 0 k)
      = modOf (m ((c : Thread nD τ).loc main_arg4)) (m ((c : Thread nD τ).loc main_arg6)) (bat t) i k := by
  obtain ⟨-, -, h9, -, -, -, -, -, -, -, -, -, -, -, -, -, -, -, -, e0, e1, e2, -⟩ := idx_facts t
  rw [← mod_eq _ _ _ (tile t) i k hi]
  refine Eq.trans ?_ (V_scale m c (bat t) ⟨(tile t).val / 8, by omega⟩ k)
  show V m c main_v15 (((cfg0.win 5).blk t).view.emb (ix3 0 0 k)) = V m c main_v15 (ix3 _ 0 k)
  refine congrArg (V m c main_v15) (funext fun a => Fin.ext ?_)
  match a with
  | ⟨0, _⟩ => show win0_5.index t (0 : Fin 3) * 1 + 1 * 0 = 2 * win0_8.index t (0 : Fin 4) + win0_8.index t (2 : Fin 4) / 8; omega
  | ⟨1, _⟩ => show win0_5.index t (1 : Fin 3) * 1 + 1 * 0 = 0; omega
  | ⟨2, _⟩ => show win0_5.index t (2 : Fin 3) * 1024 + 1 * k.val = k.val; omega

/-- The weights' block: all of the columns. -/
theorem blk_weight (c : Dev nD) (t : Fin cfg0.N) (k : Fin 1024) (n : Fin 3456) :
    (iblk m c 6 t : Vec Ideal S1024x3456 .bf16) (ix2 k n)
      = (m ((c : Thread nD τ).loc main_arg7) : RProjSpec.Weight) (ix2 k ⟨n.val, by omega⟩) := by
  rw [← V_weight m c]
  obtain ⟨-, -, -, -, -, -, -, -, -, -, -, -, -, -, -, -, -, -, -, -, -, -, e0, e1, -⟩ := idx_facts t
  show V m c main_v16 (((cfg0.win 6).blk t).view.emb (ix2 k n)) = V m c main_v16 (ix2 k n)
  refine congrArg (V m c main_v16) (funext fun a => Fin.ext ?_)
  match a with
  | ⟨0, _⟩ => show win0_6.index t (0 : Fin 2) * 1024 + 1 * k.val = k.val; omega
  | ⟨1, _⟩ => show win0_6.index t (1 : Fin 2) * 3456 + 1 * n.val = n.val; omega

/-- The taps' block: all of them. -/
theorem blk_taps (c : Dev nD) (t : Fin cfg0.N) (a : Fin 3) (n : Fin 3456) :
    (iblk m c 7 t : Vec Ideal S3x3456 .f32) (ix2 a n) = (m ((c : Thread nD τ).loc main_arg8) : RProjSpec.Taps) (ix2 a n) := by
  rw [← V_taps m c]
  obtain ⟨-, -, -, -, -, -, -, -, -, -, -, -, -, -, -, -, -, -, -, -, -, -, -, -, e0, e1⟩ := idx_facts t
  show V m c main_arg8 (((cfg0.win 7).blk t).view.emb (ix2 a n)) = V m c main_arg8 (ix2 a n)
  refine congrArg (V m c main_arg8) (funext fun d => Fin.ext ?_)
  match d with
  | ⟨0, _⟩ => show win0_7.index t (0 : Fin 2) * 3 + 1 * a.val = a.val; omega
  | ⟨1, _⟩ => show win0_7.index t (1 : Fin 2) * 3456 + 1 * n.val = n.val; omega

/-! ## The rows' projections -/

/-- A point's 272 rows. -/
abbrev rows (c : Dev nD) (t : Fin cfg0.N) : FVec Ideal S272x1024 .bf16 :=
  k0_pay50 (F := Ideal) (grid0.coords t) (iblk m c 0 t) (iblk m c 1 t) (iblk m c 2 t) (iblk m c 3 t) (iblk m c 4 t) (iblk m c 5 t) (iblk m c 6 t) (iblk m c 7 t)

/-- A row of the 272 multiplied into the weights. -/
def sum (c : Dev nD) (t : Fin cfg0.N) (r : Fin 272) (n : Fin 3456) : EReal :=
  ∑ k : Fin 1024, rows m c t (ix2 r k) * (iblk m c 6 t : Vec Ideal S1024x3456 .bf16) (ix2 k n)

/-- The projection of a token, of the arguments. -/
abbrev proj (c : Dev nD) : Fin 16 → Fin 2304 → Fin 3456 → EReal :=
  RProjSpec.proj (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- A row that holds a token of the tile's stream, modulated, has that token's projection. -/
theorem sum_eq (c : Dev nD) (t : Fin cfg0.N) (r : Fin 272) (x : Fin 1024 → EReal) (i : Fin 2304) (n : Fin 3456)
    (hr : ∀ k, rows m c t (ix2 r k) = modulated x (fun k => (iblk m c 3 t : Vec Ideal S1x1024 .f32) (ix2 0 k))
      (fun k => (iblk m c 5 t : Vec Ideal S1x1x1024 .f32) (ix3 0 0 k)) (fun k => (iblk m c 4 t : Vec Ideal S1x1x1024 .f32) (ix3 0 0 k)) k)
    (hx : ∀ k, x k = token (m ((c : Thread nD τ).loc main_arg0)) (m ((c : Thread nD τ).loc main_arg1)) (bat t) i k)
    (hi : i.val < 2048 ↔ (tile t).val < 8) : sum m c t r n = proj m c (bat t) i n := by
  unfold sum proj RProjSpec.proj stream
  refine Finset.sum_congr rfl fun k _ => congrArg₂ (· * ·) ((hr k).trans ?_) (blk_weight m c t k n)
  rw [show x = _ from funext hx,
    show (fun k => (iblk m c 3 t : Vec Ideal S1x1024 .f32) (ix2 0 k)) = _ from funext fun k => blk_gain m c t k,
    show (fun k => (iblk m c 4 t : Vec Ideal S1x1x1024 .f32) (ix3 0 0 k)) = _ from funext fun k => blk_shift m c t i hi k,
    show (fun k => (iblk m c 5 t : Vec Ideal S1x1x1024 .f32) (ix3 0 0 k)) = _ from funext fun k => blk_scale m c t i hi k]

/-- A row of zeros has none. -/
theorem sum_zero (c : Dev nD) (t : Fin cfg0.N) (r : Fin 272) (n : Fin 3456) (hr : ∀ k, rows m c t (ix2 r k) = 0) :
    sum m c t r n = 0 := by
  unfold sum
  exact Finset.sum_eq_zero fun k _ => by rw [hr k, zero_mul]

/-- The tile's own rows. -/
theorem sum_own (c : Dev nD) (t : Fin cfg0.N) (r : Fin 256) (n : Fin 3456) :
    sum m c t ⟨8 + r.val, by omega⟩ n = proj m c (bat t) (tok (tile t) r) n :=
  sum_eq m c t _ _ _ n (fun k => Halo.own_apply _ _ _ _ _ _ _ _ _ r k) (fun k => blk_tokens m c t r k)
    (by show (tile t).val * 256 + r.val < 2048 ↔ _; omega)

/-- The two flags of a tile. -/
theorem flags : ∀ s : Fin 9,
    Scalar.ori (Scalar.cmpi .eq (BitVec.ofNat 32 s.val) 0#32) (Scalar.cmpi .eq (BitVec.ofNat 32 s.val) 8#32) = (if s.val = 0 ∨ s.val = 8 then 1#1 else 0#1)
    ∧ Scalar.ori (Scalar.cmpi .eq (BitVec.ofNat 32 s.val) 7#32) (Scalar.cmpi .eq (BitVec.ofNat 32 s.val) 8#32) = (if s.val = 7 ∨ s.val = 8 then 1#1 else 0#1) := by
  decide

theorem first_eq (t : Fin cfg0.N) : Halo.first (grid0.coords t) = (if (tile t).val = 0 ∨ (tile t).val = 8 then 1#1 else 0#1) := by
  unfold Halo.first
  rw [(idx_facts t).2.2.2.2.1]
  exact (flags (tile t)).1

theorem last_eq (t : Fin cfg0.N) : Halo.last (grid0.coords t) = (if (tile t).val = 7 ∨ (tile t).val = 8 then 1#1 else 0#1) := by
  unfold Halo.last
  rw [(idx_facts t).2.2.2.2.1]
  exact (flags (tile t)).2

/-- A flag keeps a row or makes it zero. -/
theorem keep (a : EReal) : a * Scalar.select 0#1 0 1 = a := by
  rw [show Scalar.select 0#1 (0 : EReal) 1 = 1 from rfl, mul_one]
theorem drop (a : EReal) : a * Scalar.select 1#1 0 1 = 0 := by
  rw [show Scalar.select 1#1 (0 : EReal) 1 = 0 from rfl, mul_zero]

/-- The row before one of the tile's. -/
theorem sum_before (c : Dev nD) (t : Fin cfg0.N) (r : Fin 256) (n : Fin 3456) :
    sum m c t ⟨7 + r.val, by omega⟩ n
      = RProjSpec.before (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (bat t) (tok (tile t) r) n := by
  have h9 := (tile t).isLt
  have hr := r.isLt
  have hv : (tok (tile t) r).val = (tile t).val * 256 + r.val := rfl
  unfold RProjSpec.before
  by_cases h : r.val = 0
  · have e : (⟨7 + r.val, by omega⟩ : Fin 272) = 7 := Fin.ext (by show 7 + r.val = 7; omega)
    rw [e]
    by_cases hs : (tile t).val = 0 ∨ (tile t).val = 8
    · rw [if_pos (by omega)]
      refine sum_zero m c t 7 n fun k => ?_
      refine (Halo.before_apply _ _ _ _ _ _ _ _ _ k).trans ?_
      rw [first_eq, if_pos hs, drop]
    · rw [if_neg (by omega)]
      refine sum_eq m c t 7 _ _ n (fun k => ?_) (fun k => blk_before m c t _ (by show (tok (tile t) r).val - 1 + 1 = _; omega) k)
        (by show (tok (tile t) r).val - 1 < 2048 ↔ _; omega)
      refine (Halo.before_apply _ _ _ _ _ _ _ _ _ k).trans ?_
      rw [first_eq, if_neg hs, keep]
  · rw [if_neg (by omega)]
    have e : (⟨7 + r.val, by omega⟩ : Fin 272) = ⟨8 + (⟨r.val - 1, by omega⟩ : Fin 256).val, by show 8 + (r.val - 1) < 272; omega⟩ :=
      Fin.ext (by show 7 + r.val = 8 + (r.val - 1); omega)
    rw [e, sum_own]
    exact congrArg (fun i => proj m c (bat t) i n) (Fin.ext (by show (tile t).val * 256 + (r.val - 1) = (tile t).val * 256 + r.val - 1; omega))

/-- The row after one of the tile's. -/
theorem sum_after (c : Dev nD) (t : Fin cfg0.N) (r : Fin 256) (n : Fin 3456) :
    sum m c t ⟨9 + r.val, by omega⟩ n
      = RProjSpec.after (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (bat t) (tok (tile t) r) n := by
  have h9 := (tile t).isLt
  have hr := r.isLt
  have hv : (tok (tile t) r).val = (tile t).val * 256 + r.val := rfl
  unfold RProjSpec.after
  by_cases h : r.val = 255
  · have e : (⟨9 + r.val, by omega⟩ : Fin 272) = 264 := Fin.ext (by show 9 + r.val = 264; omega)
    rw [e]
    by_cases hs : (tile t).val = 7 ∨ (tile t).val = 8
    · rw [dif_pos (by omega)]
      refine sum_zero m c t 264 n fun k => ?_
      refine (Halo.after_apply _ _ _ _ _ _ _ _ _ k).trans ?_
      rw [last_eq, if_pos hs, drop]
    · rw [dif_neg (by omega)]
      refine sum_eq m c t 264 _ _ n (fun k => ?_) (fun k => blk_after m c t _ (by show (tok (tile t) r).val + 1 = _; omega) k)
        (by show (tok (tile t) r).val + 1 < 2048 ↔ _; omega)
      refine (Halo.after_apply _ _ _ _ _ _ _ _ _ k).trans ?_
      rw [last_eq, if_neg hs, keep]
  · rw [dif_neg (by omega)]
    have e : (⟨9 + r.val, by omega⟩ : Fin 272) = ⟨8 + (⟨r.val + 1, by omega⟩ : Fin 256).val, by show 8 + (r.val + 1) < 272; omega⟩ :=
      Fin.ext (by show 9 + r.val = 8 + (r.val + 1); omega)
    rw [e, sum_own]
    exact congrArg (fun i => proj m c (bat t) i n) (Fin.ext (by show (tile t).val * 256 + (r.val + 1) = (tile t).val * 256 + r.val + 1; omega))

/-! ## The array -/

/-- The result array as one function of the arguments. -/
def G (c : Dev nD) : Buf (Elt Ideal) ((c : Thread nD τ).loc main_v17) := fun i =>
  RProjSpec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (i 0) (i 2) (RProjSpec.tileCol (i 1) (i 3))

/-- `G` at an index whose batch, token and column are known. -/
theorem G_apply (c : Dev nD) (i : S16x27x2304x128.Idx) (b : Fin 16) (s : Fin 2304) (n : Fin 3456)
    (h0 : (i 0).val = b.val) (h2 : (i 2).val = s.val) (h13 : (i 1).val * 128 + (i 3).val = n.val) :
    G m c i = RProjSpec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) b s n :=
  congr (congrArg₂ (RProjSpec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)))
      (show (i 0 : Fin 16) = b from Fin.ext h0) (show (i 2 : Fin 2304) = s from Fin.ext h2))
    (show RProjSpec.tileCol (i 1) (i 3) = n from Fin.ext h13)

/-- The body's result at a point's column tile, row and lane is `G` at the place the block puts them. -/
theorem pay_eq (c : Dev nD) (t : Fin cfg0.N) (q : Fin 27) (r : Fin 256) (l : Fin 128) :
    out0_8 (F := Ideal) (grid0.coords t) (iblk m c 0 t) (iblk m c 1 t) (iblk m c 2 t) (iblk m c 3 t) (iblk m c 4 t) (iblk m c 5 t) (iblk m c 6 t) (iblk m c 7 t) (ix4 0 q r l)
      = G m c (((cfg0.win 8).blk t).view.emb (ix4 0 q r l)) := by
  obtain ⟨-, e1, -, e3, -⟩ := idx_facts t
  have hG : G m c (((cfg0.win 8).blk t).view.emb (ix4 0 q r l))
      = RProjSpec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (bat t) (tok (tile t) r) (RProjSpec.tileCol q l) := by
    refine G_apply m c _ _ _ _ ?_ ?_ ?_
    · show win0_8.index t (0 : Fin 4) * 1 + 1 * 0 = win0_8.index t (0 : Fin 4); omega
    · show win0_8.index t (2 : Fin 4) * 256 + 1 * r.val = win0_8.index t (2 : Fin 4) * 256 + r.val; omega
    · show (win0_8.index t (1 : Fin 4) * 27 + 1 * q.val) * 128 + (win0_8.index t (3 : Fin 4) * 128 + 1 * l.val) = q.val * 128 + l.val; omega
  rw [hG]
  refine (Block.out_apply _ _ _ _ _ _ _ _ _ q r l).trans ?_
  unfold RProjSpec.out Block.shifted
  refine congrArg₂ (· + ·) (congrArg₂ (· + ·) (congrArg₂ (· * ·) (sum_before m c t r _) (blk_taps m c t 0 _))
    (congrArg₂ (· * ·) (sum_own m c t r _) (blk_taps m c t 1 _))) (congrArg₂ (· * ·) (sum_after m c t r _) (blk_taps m c t 2 _))

/-- What point `t` writes back is its block of `G`. -/
theorem flushed_eq (c : Dev nD) (t : Fin cfg0.N) :
    (dats m 0 c).flushed 8 t = ((cfg0.win 8).blk t).view.read (Elt Ideal) (G m c) := by
  rw [Value.flushed8]
  funext y
  have hy : y = ix4 0 (y 1) (y 2) (y 3) := by
    funext a; apply Fin.ext
    match a with
    | ⟨0, _⟩ => have : (y 0).val < 1 := (y 0).isLt; show (y 0).val = 0; omega
    | ⟨1, _⟩ => rfl
    | ⟨2, _⟩ => rfl
    | ⟨3, _⟩ => rfl
  rw [hy]
  exact pay_eq m c t _ _ _

/-- An index of the array is in point `t`'s block iff each coordinate is in the block's range on its axis. -/
theorem mem_blk (t : Fin cfg0.N) (i : S16x27x2304x128.Idx) :
    i ∈ ((cfg0.win 8).blk t).view.set ↔ ∀ a : Fin 4, win0_8.index t a * S1x27x256x128.size a ≤ (i a).val ∧ (i a).val < win0_8.index t a * S1x27x256x128.size a + S1x27x256x128.size a := by
  show i ∈ ((View.whole main_v17).slice (win0_8.rect t)).set ↔ _
  rw [View.set_slice_whole, Rect.mem_set_unit]
  exact Iff.rfl

/-- The blocks tile the array. -/
theorem cover (i : S16x27x2304x128.Idx) :
    ∃ t : Fin cfg0.N, (cfg0.win 8).flush t = true ∧ i ∈ ((cfg0.win 8).blk t).view.set := by
  have h0 : (i 0).val < 16 := (i 0).isLt
  have h1 : (i 1).val < 27 := (i 1).isLt
  have h2 : (i 2).val < 2304 := (i 2).isLt
  have h3 : (i 3).val < 128 := (i 3).isLt
  obtain ⟨t, ht⟩ := idx_onto ⟨(i 0).val, h0⟩ ⟨(i 2).val / 256, by omega⟩
  have q0 : win0_8.index t (0 : Fin 4) = (i 0).val := congrFun ht 0
  have q1 : win0_8.index t (1 : Fin 4) = 0 := congrFun ht 1
  have q2 : win0_8.index t (2 : Fin 4) = (i 2).val / 256 := congrFun ht 2
  have q3 : win0_8.index t (3 : Fin 4) = 0 := congrFun ht 3
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 27 ≤ (i 1).val ∧ (i 1).val < win0_8.index t (1 : Fin 4) * 27 + 27; omega
  | ⟨2, _⟩ => show win0_8.index t (2 : Fin 4) * 256 ≤ (i 2).val ∧ (i 2).val < win0_8.index t (2 : Fin 4) * 256 + 256; omega
  | ⟨3, _⟩ => show win0_8.index t (3 : Fin 4) * 128 ≤ (i 3).val ∧ (i 3).val < win0_8.index t (3 : Fin 4) * 128 + 128; omega

/-- So the array ends holding `G`. -/
theorem final (c : Dev nD) : (dats m 0 c).arrAt 8 cfg0.N = G m c :=
  (dats m 0 c).arrAt_eq_of_cover 8 (G m c) (fun t _ => flushed_eq m c t) cover

end Cert.RProjIdeal.Arr

end
-- ==== Proof.RProjRef.lean ====
/- What the reference of the token-shift in-projection computes, element by element. -/
module

public import proofs.«01_k».proof.Proof.Gen.RProjRefIdeal.Read
public import proofs.«01_k».proof.Proof.RProjSpec

@[expose] public section

set_option maxRecDepth 16384

noncomputable section

namespace Cert.RProjRefIdeal.Ref

open Cert.RProjRefIdeal Cert.RProjRefIdeal.Gen Cert.RProjRefIdeal.Read Cert.Rows Idealize.ShloMosaic

variable (x : Lat) (ctx : Ctx) (g : Gain) (sh sc : PerBatch) (shc scc : Gain) (w : RProjSpec.Weight) (ws : RProjSpec.Taps)

/-- The latent stream's projection. -/
theorem latent_apply (b : Fin 16) (i : Fin 2048) (n : Fin 8576) :
    val_main_v21 (F := Ideal) x g sh sc w (ix3 b i n)
      = ∑ k : Fin 1024, modulated (fun k => x (ix3 b i k)) (fun k => g (ix1 k)) (fun k => sc (ix2 b k)) (fun k => sh (ix2 b k)) k
          * w (ix2 k n) := by
  pointwise [modulated, normed, rms, val_main_v21, dot_S16x2048x1024_S1024x8576_S16x2048x8576_2_0_01_1_n_n,
      val_main_v0, val_main_v1, val_main_v2, val_main_v3, val_main_v4, val_main_v5,
      val_main_v6, val_main_v7, val_main_v8, val_main_v9, val_main_v10, val_main_v11,
      val_main_v12, val_main_v13, val_main_v14, val_main_v15, val_main_v16, val_main_v17,
      val_main_v18, val_main_v19, val_main_v20,
      val_main_cst, val_main_cst_0, val_main_cst_1, val_main_cst_2]

/-- The context stream's projection. -/
theorem context_apply (b : Fin 16) (i : Fin 256) (n : Fin 8576) :
    val_main_v43 (F := Ideal) ctx g shc scc w (ix3 b i n)
      = ∑ k : Fin 1024, modulated (fun k => ctx (ix3 b i k)) (fun k => g (ix1 k)) (fun k => scc (ix1 k)) (fun k => shc (ix1 k)) k
          * w (ix2 k n) := by
  pointwise [modulated, normed, rms, val_main_v43, dot_S16x256x1024_S1024x8576_S16x256x8576_2_0_01_1_n_n,
      val_main_v22, val_main_v23, val_main_v24, val_main_v25, val_main_v26, val_main_v27,
      val_main_v28, val_main_v29, val_main_v30, val_main_v31, val_main_v32, val_main_v33,
      val_main_v34, val_main_v35, val_main_v36, val_main_v37, val_main_v38, val_main_v39,
      val_main_v40, val_main_v41, val_main_v42,
      val_main_cst_3, val_main_cst_4, val_main_cst_5, val_main_cst_6]

/-- The latent stream's projection on one of the filtered columns is the two streams' there. -/
theorem latent_proj (b : Fin 16) (i : Fin 2304) (h : i.val < 2048) (n : Fin 3456) :
    val_main_v21 (F := Ideal) x g sh sc w (ix3 b ⟨i.val, h⟩ ⟨n.val, by omega⟩) = RProjSpec.proj x ctx g sh sc shc scc w b i n := by
  rw [latent_apply]
  unfold RProjSpec.proj stream
  have e1 : token x ctx b i = fun k => x (ix3 b ⟨i.val, h⟩ k) := funext fun k => dif_pos h
  have e2 : modOf sc scc b i = fun k => sc (ix2 b k) := funext fun k => if_pos h
  have e3 : modOf sh shc b i = fun k => sh (ix2 b k) := funext fun k => if_pos h
  rw [e1, e2, e3]

/-- The context stream's likewise. -/
theorem context_proj (b : Fin 16) (i : Fin 2304) (h : ¬ i.val < 2048) (n : Fin 3456) :
    val_main_v43 (F := Ideal) ctx g shc scc w (ix3 b ⟨i.val - 2048, by omega⟩ ⟨n.val, by omega⟩)
      = RProjSpec.proj x ctx g sh sc shc scc w b i n := by
  rw [context_apply]
  unfold RProjSpec.proj stream
  have e1 : token x ctx b i = fun k => ctx (ix3 b ⟨i.val - 2048, by omega⟩ k) := funext fun k => dif_neg h
  have e2 : modOf sc scc b i = fun k => scc (ix1 k) := funext fun k => if_neg h
  have e3 : modOf sh shc b i = fun k => shc (ix1 k) := funext fun k => if_neg h
  rw [e1, e2, e3]

/-- The padding. -/
theorem zero_eq : FloatOps.sitofp (F := Ideal) FTy.f32 0#32 = (0 : EReal) := by
  show ((BitVec.toInt 0#32 : ℝ) : EReal) = 0
  norm_num

/-- The latent stream filtered. -/
theorem latent_filtered (b : Fin 16) (i : Fin 2304) (h : i.val < 2048) (n : Fin 3456) :
    val_main_v65 (F := Ideal) x g sh sc w ws (ix3 b ⟨i.val, h⟩ n) = RProjSpec.out x ctx g sh sc shc scc w ws b i n := by
  unfold RProjSpec.out RProjSpec.before RProjSpec.after
  rw [← latent_proj x ctx g sh sc shc scc w b i h n]
  pointwise [val_main_v44, val_main_v45, val_main_v46, val_main_v47, val_main_v48, val_main_v49, val_main_v50,
      val_main_v51, val_main_v52, val_main_v53, val_main_v54, val_main_v55, val_main_v56, val_main_v57,
      val_main_v58, val_main_v59, val_main_v60, val_main_v61, val_main_v62, val_main_v63, val_main_v64,
      val_main_v65, val_main_c, val_main_call0_v0]
  refine congrArg₂ (· + ·) (congrArg₂ (· + ·) (congrArg (· * _) ?_) (congrArg (· * _) (dif_pos h))) (congrArg (· * _) ?_)
  · by_cases h0 : i.val = 0
    · rw [dif_neg (by omega), if_pos (Or.inl h0), zero_eq]
    · rw [dif_pos (by omega), if_neg (by omega)]
      exact latent_proj x ctx g sh sc shc scc w b ⟨i.val - 1, by omega⟩ (by show i.val - 1 < 2048; omega) n
  · by_cases h0 : i.val = 2047
    · rw [dif_neg (by omega), dif_pos (Or.inl h0), zero_eq]
    · rw [dif_pos (by omega), dif_neg (by omega)]
      refine Eq.trans ?_ (latent_proj x ctx g sh sc shc scc w b ⟨i.val + 1, by omega⟩ (by show i.val + 1 < 2048; omega) n)
      refine congrArg (fun j => val_main_v21 (F := Ideal) x g sh sc w (ix3 b j _)) (Fin.ext ?_)
      show 2 + i.val - 1 = i.val + 1; omega

/-- The context stream filtered. -/
theorem context_filtered (b : Fin 16) (i : Fin 2304) (h : ¬ i.val < 2048) (n : Fin 3456) :
    val_main_v87 (F := Ideal) ctx g shc scc w ws (ix3 b ⟨i.val - 2048, by omega⟩ n)
      = RProjSpec.out x ctx g sh sc shc scc w ws b i n := by
  unfold RProjSpec.out RProjSpec.before RProjSpec.after
  rw [← context_proj x ctx g sh sc shc scc w b i h n]
  pointwise [val_main_v66, val_main_v67, val_main_v68, val_main_v69, val_main_v70, val_main_v71, val_main_v72,
      val_main_v73, val_main_v74, val_main_v75, val_main_v76, val_main_v77, val_main_v78, val_main_v79,
      val_main_v80, val_main_v81, val_main_v82, val_main_v83, val_main_v84, val_main_v85, val_main_v86,
      val_main_v87, val_main_c_7, val_main_call1_v0]
  refine congrArg₂ (· + ·) (congrArg₂ (· + ·) (congrArg (· * _) ?_) (congrArg (· * _) (dif_pos (by omega)))) (congrArg (· * _) ?_)
  · by_cases h0 : i.val = 2048
    · rw [dif_neg (by omega), if_pos (Or.inr h0), zero_eq]
    · rw [dif_pos (by omega), if_neg (by omega)]
      refine Eq.trans ?_ (context_proj x ctx g sh sc shc scc w b ⟨i.val - 1, by omega⟩ (by show ¬ i.val - 1 < 2048; omega) n)
      refine congrArg (fun j => val_main_v43 (F := Ideal) ctx g shc scc w (ix3 b j _)) (Fin.ext ?_)
      show i.val - 2048 - 1 = i.val - 1 - 2048; omega
  · by_cases h0 : i.val = 2303
    · rw [dif_neg (by omega), dif_pos (Or.inr h0), zero_eq]
    · rw [dif_pos (by omega), dif_neg (by omega)]
      refine Eq.trans ?_ (context_proj x ctx g sh sc shc scc w b ⟨i.val + 1, by omega⟩ (by show ¬ i.val + 1 < 2048; omega) n)
      refine congrArg (fun j => val_main_v43 (F := Ideal) ctx g shc scc w (ix3 b j _)) (Fin.ext ?_)
      show 2 + (i.val - 2048) - 1 = i.val + 1 - 2048; omega

/-- The columns grouped in tiles of 128, the tiles before the tokens. -/
theorem tiles_apply (v : FVec Ideal S16x2304x3456 .f32) (b : Fin 16) (t : Fin 27) (i : Fin 2304) (l : Fin 128) :
    (truncf .bf16 (transpose S16x27x2304x128 [0, 2, 1, 3] (shapeCast S16x2304x27x128 v shapeCasts_S16x2304x3456_S16x2304x27x128)
        transposes_S16x2304x27x128_S16x27x2304x128_0_2_1_3) bitsLt_bf16_f32 : FVec Ideal S16x27x2304x128 .bf16) (ix4 b t i l)
      = v (ix3 b i (RProjSpec.tileCol t l)) := by
  pointwise [RProjSpec.tileCol]

/-- Two streams laid one after the other. -/
theorem joined_apply (u : FVec Ideal S16x2048x3456 .f32) (v : FVec Ideal S16x256x3456 .f32) (b : Fin 16) (i : Fin 2304) (n : Fin 3456) :
    concatenate S16x2304x3456 1 [⟨S16x2048x3456, u⟩, ⟨S16x256x3456, v⟩] concatenates_S16x2048x3456_S16x256x3456_S16x2304x3456_d1 (ix3 b i n)
      = if h : i.val < 2048 then u (ix3 b ⟨i.val, h⟩ n) else v (ix3 b ⟨i.val - 2048, by omega⟩ n) := by
  pointwise

/-- The reference's result at an index: column `l` of tile `t` of the two streams, one after the other. -/
theorem result_apply (b : Fin 16) (t : Fin 27) (i : Fin 2304) (l : Fin 128) :
    val_main_v91 (F := Ideal) x ctx g sh sc shc scc w ws (ix4 b t i l)
      = RProjSpec.out x ctx g sh sc shc scc w ws b i (RProjSpec.tileCol t l) := by
  unfold val_main_v91 val_main_v90 val_main_v89 val_main_v88
  rw [tiles_apply, joined_apply]
  by_cases h : i.val < 2048
  · rw [dif_pos h]
    exact latent_filtered x ctx g sh sc shc scc w ws b i h _
  · rw [dif_neg h]
    exact context_filtered x ctx g sh sc shc scc w ws b i h _

end Cert.RProjRefIdeal.Ref

end
-- ==== Proof.RProjEquation.lean ====
/- The token-shift in-projection and its reference end with the same array. -/
module

public import proofs.«01_k».proof.Defs
public import proofs.«01_k».proof.Proof.RProjArray
public import proofs.«01_k».proof.Proof.RProjRef
public import proofs.«01_k».proof.Proof.Gen.RProjRefIdeal.Run
public import proofs.«01_k».proof.Proof.Gen.RProjRefIdeal.Read

@[expose] public section

set_option maxRecDepth 16384

noncomputable section

namespace Cert.RProjIdeal.Eqn

open Idealize.ShloMosaic Idealize.ShloMosaic.TcCoe Idealize.SL.Sem

/-- The algebraic claim: from equal arguments both runs end with `Arr.G` of them. -/
theorem algebraic : Cert.algebraic_RProjIdeal_RProjRefIdeal := by
  intro m g m' g' _ hag
  refine ⟨fun c => Arr.G m c, (θ_run Cert.RProjIdeal.defs _ _).mono (fun r h c => ?_) (Cert.RProjIdeal.Value.run_blocks m g),
    (θ_run Cert.RProjRefIdeal.defs _ _).mono (fun r h c => ?_) (Cert.RProjRefIdeal.Value.run m' g')⟩
  · exact ⟨(h c).1.trans (Arr.final m c), (h c).2⟩
  · refine ⟨(h c).1.trans ?_, (h c).2⟩
    obtain ⟨a0, a1, a2, a3, a4, a5, a6, a7, a8⟩ := hag c
    rw [Cert.RProjRefIdeal.Read.val_main_v91_eq, a0, a1, a2, a3, a4, a5, a6, a7, a8]
    funext i
    have hi : i = ix4 (i 0) (i 1) (i 2) (i 3) := by
      funext a
      match a with
      | ⟨0, _⟩ => rfl
      | ⟨1, _⟩ => rfl
      | ⟨2, _⟩ => rfl
      | ⟨3, _⟩ => rfl
    rw [hi]
    exact Cert.RProjRefIdeal.Ref.result_apply _ _ _ _ _ _ _ _ _ _ _ _ _

end Cert.RProjIdeal.Eqn

end
-- ==== Proof.SguSpec.lean ====
/- The spatial gate of one token, as reference and kernel both compute it: half of the columns through the tanh form of GELU
   and a layer norm, mixed across the 128 tokens of their chunk group by group, and multiplied into the other half. -/
module

public import Idealize.ShloMosaic.Lib.Pointwise

@[expose] public section

noncomputable section

namespace Cert.SguSpec

open Idealize.ShloMosaic

/-- GELU by the hyperbolic tangent. -/
def gelu (x : EReal) : EReal :=
  Ideal.ofBits .f32 0x3F000000#32 * x
    * (Ideal.ofBits .f32 0x3F800000#32
        + Ideal.tanh (Ideal.ofBits .f32 0x3F4C422A#32 * (x + Ideal.ofBits .f32 0x3D372713#32 * (x * x * x))))

/-- The mean of a row. -/
def mean (x : Fin 512 → EReal) : EReal := Ideal.div (∑ d, x d) (Ideal.ofBits .f32 0x44000000#32)

/-- The layer norm of a row. -/
def layerNorm (x g b : Fin 512 → EReal) (j : Fin 512) : EReal :=
  (x j - mean x) * Ideal.rsqrt (Ideal.div (∑ d, (x d - mean x) * (x d - mean x)) (Ideal.ofBits .f32 0x44000000#32)
    + Ideal.ofBits .f32 0x3727C5AC#32) * g j + b j

/-- The value columns of a token: through GELU, normalised. -/
def values (v g b : Fin 512 → EReal) (j : Fin 512) : EReal := layerNorm (fun d => gelu (v d)) g b j

/-- The mixing weights and their biases: per group of 64 columns. -/
abbrev Mix : Type := (⟨3, ![8, 128, 128]⟩ : Shape).Idx → EReal

/-- Column `d` of the `p`th token of a chunk, `v q` the value row of the chunk's `q`th token. -/
def spatial (v : Fin 128 → Fin 512 → EReal) (w : Mix) (p : Fin 128) (d : Fin 512) : EReal :=
  ∑ q : Fin 128, w (ix3 ⟨d.val / 64, by omega⟩ p q) * v q d

/-- The gate: a GELU column times the mixed column and its bias. -/
def gated (u : EReal) (v : Fin 128 → Fin 512 → EReal) (w : Mix) (bias : EReal) (p : Fin 128) (d : Fin 512) : EReal :=
  gelu u * (spatial v w p d + bias)

/-- The projected columns, a row, and the biases as the reference takes them. -/
abbrev Cols : Type := (⟨3, ![16, 2304, 8576]⟩ : Shape).Idx → EReal
abbrev Row : Type := (⟨1, ![512]⟩ : Shape).Idx → EReal
abbrev Bias : Type := (⟨2, ![8, 128]⟩ : Shape).Idx → EReal

/-- The result: column `d` of token `i` in batch `n`. -/
def out (z : Cols) (g b : Row) (w : Mix) (bs : Bias) (n : Fin 16) (i : Fin 2304) (d : Fin 512) : EReal :=
  gated (z (ix3 n i ⟨4480 + d.val, by omega⟩))
    (fun q e => values (fun k => z (ix3 n ⟨128 * (i.val / 128) + q.val, by omega⟩ ⟨4992 + k.val, by omega⟩)) (fun k => g (ix1 k)) (fun k => b (ix1 k)) e)
    w (bs (ix2 ⟨d.val / 64, by omega⟩ ⟨i.val % 128, by omega⟩)) ⟨i.val % 128, by omega⟩ d

/-- GELU in the order of multiplications a library takes. -/
theorem gelu_comm (x : EReal) :
    x * (Ideal.ofBits .f32 0x3F000000#32 * (Ideal.ofBits .f32 0x3F800000#32
        + Ideal.tanh (Ideal.ofBits .f32 0x3F4C422A#32 * (x + Ideal.ofBits .f32 0x3D372713#32 * (x * x * x))))) = gelu x := by
  unfold gelu
  rw [← mul_assoc, mul_comm x]

end Cert.SguSpec

end
-- ==== Proof.SguBlock.lean ====
/- What the spatial gate's body stores, entry by entry. -/
module

public import proofs.«01_k».proof.Proof.Gen.SguIdeal.Value
public import proofs.«01_k».proof.Proof.SguSpec
public import Idealize.ShloMosaic.Lib.Pipeline.ValueKit

@[expose] public section

set_option maxRecDepth 65536

noncomputable section

namespace Cert.SguIdeal.Block

open Cert.SguIdeal Cert.SguIdeal.Gen Cert.SguSpec Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- The value rows of a tile. -/
theorem values_apply (x : Vec Ideal S1x768x512 .bf16) (g b : Vec Ideal S1x512 .f32) (r : Fin 768) (d : Fin 512) :
    k0_pay2 (F := Ideal) x g b (ix2 r d)
      = values (fun d => x (ix3 0 r d)) (fun d => g (ix2 0 d)) (fun d => b (ix2 0 d)) d := by
  unfold_payloads
  pointwise [values, layerNorm, mean, gelu]

/-- Which lanes of a tile of 128 columns are the first group's. -/
theorem mask_eq (l : Fin 128) : IntOp.cmpi CmpIPredicate.slt (BitVec.ofNat 32 l.val) 64#32 = if l.val < 64 then 1#1 else 0#1 :=
  (by decide +kernel : ∀ l : Fin 128, IntOp.cmpi CmpIPredicate.slt (BitVec.ofNat 32 l.val) 64#32 = if l.val < 64 then 1#1 else 0#1) l

/-- A column's group among the eight: each tile of 128 columns holds two, told apart by the lane. -/
theorem pick (f : Fin 8 → Fin 512 → EReal) (d : Fin 512) :
    (if h : d.val < 128 then
        Scalar.select (IntOp.cmpi CmpIPredicate.slt (BitVec.ofNat 32 d.val) 64#32) (f 0 d) (f 1 d)
      else if h : d.val - 128 < 128 then
        Scalar.select (IntOp.cmpi CmpIPredicate.slt (BitVec.ofNat 32 (d.val - 128)) 64#32)
          (f 2 ⟨128 + (d.val - 128), by omega⟩) (f 3 ⟨128 + (d.val - 128), by omega⟩)
      else if h : d.val - 128 - 128 < 128 then
        Scalar.select (IntOp.cmpi CmpIPredicate.slt (BitVec.ofNat 32 (d.val - 128 - 128)) 64#32)
          (f 4 ⟨256 + (d.val - 128 - 128), by omega⟩) (f 5 ⟨256 + (d.val - 128 - 128), by omega⟩)
      else
        Scalar.select (IntOp.cmpi CmpIPredicate.slt (BitVec.ofNat 32 (d.val - 128 - 128 - 128)) 64#32)
          (f 6 ⟨384 + (d.val - 128 - 128 - 128), by omega⟩) (f 7 ⟨384 + (d.val - 128 - 128 - 128), by omega⟩))
      = f ⟨d.val / 64, by omega⟩ d := by
  have key : ∀ (l : Nat) (hl : l < 128) (a b : EReal),
      Scalar.select (IntOp.cmpi CmpIPredicate.slt (BitVec.ofNat 32 l) 64#32) a b = if l < 64 then a else b := by
    intro l hl a b
    rw [mask_eq ⟨l, hl⟩]
    by_cases h : l < 64 <;> simp [h, Scalar.select]
  have hd := d.isLt
  have e : ∀ (g : Nat) (hg : g < 8) (e : Nat) (he : e < 512), g = d.val / 64 → e = d.val → f ⟨g, hg⟩ ⟨e, he⟩ = f ⟨d.val / 64, by omega⟩ d := by
    intro g hg e he h1 h2; subst h1; subst h2; rfl
  split_ifs with h1 h2 h3
  · rw [key _ h1]; split_ifs with h
    · exact e 0 (by omega) d.val hd (by omega) rfl
    · exact e 1 (by omega) d.val hd (by omega) rfl
  · rw [key _ h2]; split_ifs with h
    · exact e 2 (by omega) _ _ (by omega) (by omega)
    · exact e 3 (by omega) _ _ (by omega) (by omega)
  · rw [key _ h3]; split_ifs with h
    · exact e 4 (by omega) _ _ (by omega) (by omega)
    · exact e 5 (by omega) _ _ (by omega) (by omega)
  · rw [key _ (by omega)]; split_ifs with h
    · exact e 6 (by omega) _ _ (by omega) (by omega)
    · exact e 7 (by omega) _ _ (by omega) (by omega)

set_option maxHeartbeats 1000000 in
/-- What the body stores: the gate of each token, its chunk's 128 value rows being the block's own. -/
theorem out_apply (x0 : Vec Ideal S1x768x512 .bf16) (x1 : Vec Ideal S1x768x512 .bf16) (x2 : Vec Ideal S1x512 .f32) (x3 : Vec Ideal S1x512 .f32) (x4 : Vec Ideal S8x128x128 .bf16) (x5 : Vec Ideal S128x512 .f32)
    (r : Fin 768) (d : Fin 512) :
    out0_6 (F := Ideal) x0 x1 x2 x3 x4 x5 (ix3 0 r d)
      = gated (x0 (ix3 0 r d)) (fun q e => values (fun d => x1 (ix3 0 ⟨128 * (r.val / 128) + q.val, by omega⟩ d)) (fun d => x2 (ix2 0 d)) (fun d => x3 (ix2 0 d)) e)
          x4 (x5 (ix2 ⟨r.val % 128, by omega⟩ d)) ⟨r.val % 128, by omega⟩ d := by
  unfold out0_6 k0_pay42 k0_pay40
  have hv : ∀ (r : Fin 768) (d : Fin 512), k0_pay41 (F := Ideal) x0 x1 x2 x3 x4 x5 (ix2 r d)
      = values (fun d => x1 (ix3 0 r d)) (fun d => x2 (ix2 0 d)) (fun d => x3 (ix2 0 d)) d := by
    intro r d
    unfold k0_pay41
    unfold r0_0 r0_1
    rw [View.ld_unit_zero hz3, View.ld_unit_zero hz2, View.ld_unit_zero hz2]
    exact values_apply _ _ _ r d
  generalize k0_pay41 (F := Ideal) x0 x1 x2 x3 x4 x5 = v at hv ⊢
  simp only [← hv]
  canon_tiles x h
  all_goals (
    unfold_payloads
    simp only [View.ld_unit]
    have hx : x = ix3 0 ⟨(x 1).val, x1_lt⟩ d := by
      funext a; apply Fin.ext
      match a with
      | ⟨0, _⟩ => exact Nat.lt_one_iff.mp x0_lt
      | ⟨1, _⟩ => rfl
      | ⟨2, _⟩ => exact h2.symm
    replace h1 : r.val = _ := h1
    generalize hp : (⟨(x 1).val, x1_lt⟩ : Fin 128) = p at hx
    replace hp : (x 1).val = p.val := congrArg Fin.val hp
    rw [hp] at h1
    subst hx
    have em : (⟨r.val % 128, by omega⟩ : Fin 128) = p := Fin.ext (by show r.val % 128 = p.val; omega)
    rw [em]
    pointwise [dot_S128x128_S128x128_S128x128_1_0_0_1_n_n])
  · have hr : r = ⟨640 + p.val, by omega⟩ := Fin.ext h1
    have hq : ∀ q : Fin 128, (⟨128 * (r.val / 128) + q.val, by omega⟩ : Fin 768) = ⟨640 + q.val, by omega⟩ :=
      fun q => Fin.ext (by show 128 * (r.val / 128) + q.val = 640 + q.val; omega)
    unfold gated spatial gelu
    simp only [hq]
    rw [Ideal.ofBits_one_f32, ← hr]
    refine congrArg₂ (· * ·) rfl (congrArg (· + x5 (ix2 p d)) ?_)
    exact pick (fun g e => ∑ q : Fin 128, x4 (ix3 g p q) * v (ix2 ⟨640 + q.val, by omega⟩ e)) d
  · have hr : r = ⟨512 + p.val, by omega⟩ := Fin.ext h1
    have hq : ∀ q : Fin 128, (⟨128 * (r.val / 128) + q.val, by omega⟩ : Fin 768) = ⟨512 + q.val, by omega⟩ :=
      fun q => Fin.ext (by show 128 * (r.val / 128) + q.val = 512 + q.val; omega)
    unfold gated spatial gelu
    simp only [hq]
    rw [Ideal.ofBits_one_f32, ← hr]
    refine congrArg₂ (· * ·) rfl (congrArg (· + x5 (ix2 p d)) ?_)
    exact pick (fun g e => ∑ q : Fin 128, x4 (ix3 g p q) * v (ix2 ⟨512 + q.val, by omega⟩ e)) d
  · have hr : r = ⟨384 + p.val, by omega⟩ := Fin.ext h1
    have hq : ∀ q : Fin 128, (⟨128 * (r.val / 128) + q.val, by omega⟩ : Fin 768) = ⟨384 + q.val, by omega⟩ :=
      fun q => Fin.ext (by show 128 * (r.val / 128) + q.val = 384 + q.val; omega)
    unfold gated spatial gelu
    simp only [hq]
    rw [Ideal.ofBits_one_f32, ← hr]
    refine congrArg₂ (· * ·) rfl (congrArg (· + x5 (ix2 p d)) ?_)
    exact pick (fun g e => ∑ q : Fin 128, x4 (ix3 g p q) * v (ix2 ⟨384 + q.val, by omega⟩ e)) d
  · have hr : r = ⟨256 + p.val, by omega⟩ := Fin.ext h1
    have hq : ∀ q : Fin 128, (⟨128 * (r.val / 128) + q.val, by omega⟩ : Fin 768) = ⟨256 + q.val, by omega⟩ :=
      fun q => Fin.ext (by show 128 * (r.val / 128) + q.val = 256 + q.val; omega)
    unfold gated spatial gelu
    simp only [hq]
    rw [Ideal.ofBits_one_f32, ← hr]
    refine congrArg₂ (· * ·) rfl (congrArg (· + x5 (ix2 p d)) ?_)
    exact pick (fun g e => ∑ q : Fin 128, x4 (ix3 g p q) * v (ix2 ⟨256 + q.val, by omega⟩ e)) d
  · have hr : r = ⟨128 + p.val, by omega⟩ := Fin.ext h1
    have hq : ∀ q : Fin 128, (⟨128 * (r.val / 128) + q.val, by omega⟩ : Fin 768) = ⟨128 + q.val, by omega⟩ :=
      fun q => Fin.ext (by show 128 * (r.val / 128) + q.val = 128 + q.val; omega)
    unfold gated spatial gelu
    simp only [hq]
    rw [Ideal.ofBits_one_f32, ← hr]
    refine congrArg₂ (· * ·) rfl (congrArg (· + x5 (ix2 p d)) ?_)
    exact pick (fun g e => ∑ q : Fin 128, x4 (ix3 g p q) * v (ix2 ⟨128 + q.val, by omega⟩ e)) d
  · have hr : r = ⟨p.val, by omega⟩ := Fin.ext h1
    have hq : ∀ q : Fin 128, (⟨128 * (r.val / 128) + q.val, by omega⟩ : Fin 768) = ⟨q.val, by omega⟩ :=
      fun q => Fin.ext (by show 128 * (r.val / 128) + q.val = q.val; omega)
    unfold gated spatial gelu
    simp only [hq]
    rw [Ideal.ofBits_one_f32, ← hr]
    refine congrArg₂ (· * ·) rfl (congrArg (· + x5 (ix2 p d)) ?_)
    exact pick (fun g e => ∑ q : Fin 128, x4 (ix3 g p q) * v (ix2 ⟨q.val, by omega⟩ e)) d

end Cert.SguIdeal.Block

end
-- ==== Proof.SguArray.lean ====
/- The result array of the spatial gate after its run: what each grid point writes back is its block of one function of the
   arguments, and the blocks tile the array. -/
module

public import proofs.«01_k».proof.Proof.SguBlock

@[expose] public section

set_option maxRecDepth 65536

noncomputable section

namespace Cert.SguIdeal.Arr

open Cert.SguIdeal Cert.SguIdeal.Gen Cert.SguSpec Idealize.ShloMosaic Idealize.ShloMosaic.TcCoe Idealize.SL.Sem
open Idealize.ShloMosaic.Pipeline (Dat)

variable (m : (ℓ : Loc nD τ sig) → Buf (Elt Ideal) ℓ)

/-! ## The arrays the host code prepares -/

/-- The columns the gate reads: the last two thousand of the reordered array are the convolution's and the gate's own. -/
theorem V_cols (c : Dev nD) (b : Fin 16) (i : Fin 2304) (k : Fin 5120) (h : 3072 ≤ k.val) :
    (V m c main_v6 : (⟨3, ![16, 2304, 5120]⟩ : Shape).Idx → EReal) (ix3 b i k) = ((m ((c : Thread nD τ).loc main_arg0)) : Cols) (ix3 b i ⟨384 + k.val, by omega⟩) := by
  have e : V m c main_v6 = (truncf .bf16 (concatenate S16x2304x5120 2
      [⟨S16x2304x3072, extractStridedSlice S16x2304x3072 ![0, 0, 5504] (m ((c : Thread nD τ).loc main_arg0)) slices_S16x2304x8576_S16x2304x3072_0_0_5504⟩,
       ⟨S16x2304x2048, extractStridedSlice S16x2304x2048 ![0, 0, 3456] (m ((c : Thread nD τ).loc main_arg0)) slices_S16x2304x8576_S16x2304x2048_0_0_3456⟩]
      concatenates_S16x2304x3072_S16x2304x2048_S16x2304x5120_d2 : FVec Ideal S16x2304x5120 .f32) bitsLt_bf16_f32 : FVec Ideal S16x2304x5120 .bf16) := by
    unfold V; after_results_simp <;> rfl
  rw [e]
  have h' : ¬ k.val < 3072 := by omega
  pointwise [h']
  refine congrArg (fun k => (m ((c : Thread nD τ).loc main_arg0)) (ix3 b i k)) (Fin.ext ?_)
  show 3456 + (k.val - 3072) = 384 + k.val
  omega

/-- The norm's gain. -/
theorem V_gain (c : Dev nD) (k : Fin 512) :
    (V m c main_v7 : (⟨2, ![1, 512]⟩ : Shape).Idx → EReal) (ix2 0 k) = ((m ((c : Thread nD τ).loc main_arg1)) : Row) (ix1 k) := by
  have e : V m c main_v7 = broadcastInDim S1x512 ![1] bcast_S512_S1x512_1 (m ((c : Thread nD τ).loc main_arg1)) := by
    unfold V; after_results_simp <;> rfl
  rw [e]
  pointwise

/-- Its bias. -/
theorem V_bias (c : Dev nD) (k : Fin 512) :
    (V m c main_v8 : (⟨2, ![1, 512]⟩ : Shape).Idx → EReal) (ix2 0 k) = ((m ((c : Thread nD τ).loc main_arg2)) : Row) (ix1 k) := by
  have e : V m c main_v8 = broadcastInDim S1x512 ![1] bcast_S512_S1x512_1 (m ((c : Thread nD τ).loc main_arg2)) := by
    unfold V; after_results_simp <;> rfl
  rw [e]
  pointwise

/-- The mixing weights. -/
theorem V_mix (c : Dev nD) : (V m c main_v9 : Mix) = (m ((c : Thread nD τ).loc main_arg3)) := by
  have e : V m c main_v9 = (truncf .bf16 (m ((c : Thread nD τ).loc main_arg3)) bitsLt_bf16_f32 : FVec Ideal S8x128x128 .bf16) := by
    unfold V; after_results_simp <;> rfl
  rw [e]; rfl

/-- The mixing biases: one per token of a chunk and group, repeated over the group's columns. -/
theorem V_tile (c : Dev nD) (p : Fin 128) (d : Fin 512) :
    (V m c main_v2 : (⟨2, ![128, 512]⟩ : Shape).Idx → EReal) (ix2 p d) = ((m ((c : Thread nD τ).loc main_arg4)) : Bias) (ix2 ⟨d.val / 64, by omega⟩ p) := by
  have e : V m c main_v2 = shapeCast S128x512 (broadcastInDim S128x8x64 ![0, 1] bcast_S128x8_S128x8x64_0_1
      (transpose S128x8 [1, 0] (m ((c : Thread nD τ).loc main_arg4)) transposes_S8x128_S128x8_1_0)) shapeCasts_S128x8x64_S128x512 := by
    unfold V; after_results_simp <;> rfl
  rw [e]
  pointwise

/-! ## The blocks -/

/-- Where the windows' blocks lie at a point, in terms of the result's. -/
theorem idx_facts : ∀ t : Fin cfg0.N, win0_6.index t (0 : Fin 3) < 16 ∧ win0_6.index t (1 : Fin 3) < 3 ∧ win0_6.index t (2 : Fin 3) = 0
    ∧ win0_0.index t (0 : Fin 3) = win0_6.index t (0 : Fin 3) ∧ win0_0.index t (1 : Fin 3) = win0_6.index t (1 : Fin 3) ∧ win0_0.index t (2 : Fin 3) = 8
    ∧ win0_1.index t (0 : Fin 3) = win0_6.index t (0 : Fin 3) ∧ win0_1.index t (1 : Fin 3) = win0_6.index t (1 : Fin 3) ∧ win0_1.index t (2 : Fin 3) = 9
    ∧ win0_2.index t (0 : Fin 2) = 0 ∧ win0_2.index t (1 : Fin 2) = 0 ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0 :=
  (by decide +kernel : ∀ t : Fin grid0.N, _)

/-- Every block of the result is some point's. -/
theorem idx_onto : ∀ (b : Fin 16) (s : Fin 3), ∃ t : Fin cfg0.N, win0_6.index t = ![b.val, s.val, 0] :=
  (by decide +kernel : ∀ (b : Fin 16) (s : Fin 3), ∃ t : Fin grid0.N, win0_6.index t = ![b.val, s.val, 0])

/-- The batch of point `t`. -/
def bat (t : Fin cfg0.N) : Fin 16 := ⟨win0_6.index t (0 : Fin 3), (idx_facts t).1⟩
/-- The token that row `r` of point `t`'s block is. -/
def tok (t : Fin cfg0.N) (r : Fin 768) : Fin 2304 :=
  ⟨win0_6.index t (1 : Fin 3) * 768 + r.val, by have := (idx_facts t).2.1; omega⟩

/-- The gain's block. -/
theorem blk_gain (c : Dev nD) (t : Fin cfg0.N) (k : Fin 512) :
    (iblk m c 2 t : Vec Ideal S1x512 .f32) (ix2 0 k) = ((m ((c : Thread nD τ).loc main_arg1)) : Row) (ix1 k) := by
  rw [← V_gain m c]
  obtain ⟨-, -, -, -, -, -, -, -, -, e0, e1, -⟩ := idx_facts t
  show V m c main_v7 (((cfg0.win 2).blk t).view.emb (ix2 0 k)) = V m c main_v7 (ix2 0 k)
  refine congrArg (V m c main_v7) (funext fun a => Fin.ext ?_)
  match a with
  | ⟨0, _⟩ => show win0_2.index t (0 : Fin 2) * 1 + 1 * 0 = 0; omega
  | ⟨1, _⟩ => show win0_2.index t (1 : Fin 2) * 512 + 1 * k.val = k.val; omega

/-- The bias's. -/
theorem blk_bias (c : Dev nD) (t : Fin cfg0.N) (k : Fin 512) :
    (iblk m c 3 t : Vec Ideal S1x512 .f32) (ix2 0 k) = ((m ((c : Thread nD τ).loc main_arg2)) : Row) (ix1 k) := by
  rw [← V_bias m c]
  obtain ⟨-, -, -, -, -, -, -, -, -, -, -, e0, e1, -⟩ := idx_facts t
  show V m c main_v8 (((cfg0.win 3).blk t).view.emb (ix2 0 k)) = V m c main_v8 (ix2 0 k)
  refine congrArg (V m c main_v8) (funext fun a => Fin.ext ?_)
  match a with
  | ⟨0, _⟩ => show win0_3.index t (0 : Fin 2) * 1 + 1 * 0 = 0; omega
  | ⟨1, _⟩ => show win0_3.index t (1 : Fin 2) * 512 + 1 * k.val = k.val; omega

/-- The mixing weights' block: all of them. -/
theorem blk_mix (c : Dev nD) (t : Fin cfg0.N) : (iblk m c 4 t : Vec Ideal S8x128x128 .bf16) = (m ((c : Thread nD τ).loc main_arg3)) := by
  refine Eq.trans ?_ (V_mix m c)
  obtain ⟨-, -, -, -, -, -, -, -, -, -, -, -, -, e0, e1, e2, -⟩ := idx_facts t
  funext y
  show V m c main_v9 (((cfg0.win 4).blk t).view.emb y) = V m c main_v9 y
  refine congrArg (V m c main_v9) (funext fun a => Fin.ext ?_)
  match a with
  | ⟨0, _⟩ => show win0_4.index t (0 : Fin 3) * 8 + 1 * (y 0).val = (y 0).val; omega
  | ⟨1, _⟩ => show win0_4.index t (1 : Fin 3) * 128 + 1 * (y 1).val = (y 1).val; omega
  | ⟨2, _⟩ => show win0_4.index t (2 : Fin 3) * 128 + 1 * (y 2).val = (y 2).val; omega

/-- The mixing biases' block: all of them. -/
theorem blk_tile (c : Dev nD) (t : Fin cfg0.N) (p : Fin 128) (d : Fin 512) :
    (iblk m c 5 t : Vec Ideal S128x512 .f32) (ix2 p d) = ((m ((c : Thread nD τ).loc main_arg4)) : Bias) (ix2 ⟨d.val / 64, by omega⟩ p) := by
  rw [← V_tile m c]
  obtain ⟨-, -, -, -, -, -, -, -, -, -, -, -, -, -, -, -, e0, e1⟩ := idx_facts t
  show V m c main_v2 (((cfg0.win 5).blk t).view.emb (ix2 p d)) = V m c main_v2 (ix2 p d)
  refine congrArg (V m c main_v2) (funext fun a => Fin.ext ?_)
  match a with
  | ⟨0, _⟩ => show win0_5.index t (0 : Fin 2) * 128 + 1 * p.val = p.val; omega
  | ⟨1, _⟩ => show win0_5.index t (1 : Fin 2) * 512 + 1 * d.val = d.val; omega

/-- The gating columns' block. -/
theorem blk_u (c : Dev nD) (t : Fin cfg0.N) (r : Fin 768) (k : Fin 512) :
    (iblk m c 0 t : Vec Ideal S1x768x512 .bf16) (ix3 0 r k) = ((m ((c : Thread nD τ).loc main_arg0)) : Cols) (ix3 (bat t) (tok t r) ⟨4480 + k.val, by omega⟩) := by
  obtain ⟨-, -, -, e0, e1, e2, -⟩ := idx_facts t
  refine Eq.trans ?_ ((V_cols m c (bat t) (tok t r) ⟨4096 + k.val, by omega⟩ (by show 3072 ≤ 4096 + k.val; omega)).trans
    (congrArg (fun k => (m ((c : Thread nD τ).loc main_arg0)) (ix3 (bat t) (tok t r) k)) (Fin.ext (by show 384 + (4096 + k.val) = 4480 + k.val; omega))))
  show V m c main_v6 (((cfg0.win 0).blk t).view.emb (ix3 0 r k)) = V m c main_v6 (ix3 (bat t) (tok t r) ⟨4096 + k.val, by omega⟩)
  refine congrArg (V m c main_v6) (funext fun a => Fin.ext ?_)
  match a with
  | ⟨0, _⟩ => show win0_0.index t (0 : Fin 3) * 1 + 1 * 0 = win0_6.index t (0 : Fin 3); omega
  | ⟨1, _⟩ => show win0_0.index t (1 : Fin 3) * 768 + 1 * r.val = win0_6.index t (1 : Fin 3) * 768 + r.val; omega
  | ⟨2, _⟩ => show win0_0.index t (2 : Fin 3) * 512 + 1 * k.val = 4096 + k.val; omega

/-- The value columns' block. -/
theorem blk_v (c : Dev nD) (t : Fin cfg0.N) (r : Fin 768) (k : Fin 512) :
    (iblk m c 1 t : Vec Ideal S1x768x512 .bf16) (ix3 0 r k) = ((m ((c : Thread nD τ).loc main_arg0)) : Cols) (ix3 (bat t) (tok t r) ⟨4992 + k.val, by omega⟩) := by
  obtain ⟨-, -, -, -, -, -, e0, e1, e2, -⟩ := idx_facts t
  refine Eq.trans ?_ ((V_cols m c (bat t) (tok t r) ⟨4608 + k.val, by omega⟩ (by show 3072 ≤ 4608 + k.val; omega)).trans
    (congrArg (fun k => (m ((c : Thread nD τ).loc main_arg0)) (ix3 (bat t) (tok t r) k)) (Fin.ext (by show 384 + (4608 + k.val) = 4992 + k.val; omega))))
  show V m c main_v6 (((cfg0.win 1).blk t).view.emb (ix3 0 r k)) = V m c main_v6 (ix3 (bat t) (tok t r) ⟨4608 + k.val, by omega⟩)
  refine congrArg (V m c main_v6) (funext fun a => Fin.ext ?_)
  match a with
  | ⟨0, _⟩ => show win0_1.index t (0 : Fin 3) * 1 + 1 * 0 = win0_6.index t (0 : Fin 3); omega
  | ⟨1, _⟩ => show win0_1.index t (1 : Fin 3) * 768 + 1 * r.val = win0_6.index t (1 : Fin 3) * 768 + r.val; omega
  | ⟨2, _⟩ => show win0_1.index t (2 : Fin 3) * 512 + 1 * k.val = 4608 + k.val; omega

/-! ## The array -/

/-- The result array as one function of the arguments. -/
def G (c : Dev nD) : Buf (Elt Ideal) ((c : Thread nD τ).loc main_v10) := fun i =>
  SguSpec.out (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2)

/-- `G` at the place a point's block puts its row `r` and column `q`. -/
theorem G_at (c : Dev nD) (t : Fin cfg0.N) (r : Fin 768) (q : Fin 512) :
    G m c (((cfg0.win 6).blk t).view.emb (ix3 0 r q)) = SguSpec.out (m ((c : Thread nD τ).loc main_arg0)) (m ((c : Thread nD τ).loc main_arg1)) (m ((c : Thread nD τ).loc main_arg2)) (m ((c : Thread nD τ).loc main_arg3)) (m ((c : Thread nD τ).loc main_arg4)) (bat t) (tok t r) q := by
  obtain ⟨-, -, e2, -⟩ := idx_facts t
  unfold G
  congr 1 <;> apply Fin.ext
  · show win0_6.index t (0 : Fin 3) * 1 + 1 * 0 = win0_6.index t (0 : Fin 3); omega
  · show win0_6.index t (1 : Fin 3) * 768 + 1 * r.val = win0_6.index t (1 : Fin 3) * 768 + r.val; omega
  · show win0_6.index t (2 : Fin 3) * 512 + 1 * q.val = q.val; omega

/-- The gate from equal reads. -/
theorem gated_congr {u u' : EReal} {v v' : Fin 128 → Fin 512 → EReal} {w w' : Mix} {b b' : EReal} {p p' : Fin 128} (d : Fin 512)
    (hu : u = u') (hv : v = v') (hw : w = w') (hb : b = b') (hp : p = p') : gated u v w b p d = gated u' v' w' b' p' d := by
  subst hu; subst hv; subst hw; subst hb; subst hp; rfl

/-- What the body leaves at a point's row and column is `G` there. -/
theorem pay_eq (c : Dev nD) (t : Fin cfg0.N) (r : Fin 768) (q : Fin 512) :
    out0_6 (F := Ideal) (iblk m c 0 t) (iblk m c 1 t) (iblk m c 2 t) (iblk m c 3 t) (iblk m c 4 t) (iblk m c 5 t) (ix3 0 r q)
      = G m c (((cfg0.win 6).blk t).view.emb (ix3 0 r q)) := by
  rw [G_at]
  refine (Block.out_apply _ _ _ _ _ _ r q).trans ?_
  unfold SguSpec.out
  have hp : (⟨r.val % 128, by omega⟩ : Fin 128) = ⟨(tok t r).val % 128, by omega⟩ :=
    Fin.ext (by show r.val % 128 = (win0_6.index t (1 : Fin 3) * 768 + r.val) % 128; omega)
  refine gated_congr q (blk_u m c t r q) (funext fun j => funext fun e => ?_) (blk_mix m c t) ?_ hp
  · have ht : tok t ⟨128 * (r.val / 128) + j.val, by omega⟩ = ⟨128 * ((tok t r).val / 128) + j.val, by have := (tok t r).isLt; omega⟩ :=
      Fin.ext (by show win0_6.index t (1 : Fin 3) * 768 + (128 * (r.val / 128) + j.val) = 128 * ((win0_6.index t (1 : Fin 3) * 768 + r.val) / 128) + j.val; omega)
    rw [← ht]
    rw [show (fun d => (iblk m c 1 t : Vec Ideal S1x768x512 .bf16) (ix3 0 ⟨128 * (r.val / 128) + j.val, by omega⟩ d)) = _ from funext fun d => blk_v m c t _ d,
      show (fun d => (iblk m c 2 t : Vec Ideal S1x512 .f32) (ix2 0 d)) = _ from funext fun d => blk_gain m c t d,
      show (fun d => (iblk m c 3 t : Vec Ideal S1x512 .f32) (ix2 0 d)) = _ from funext fun d => blk_bias m c t d]
  · rw [← hp]
    exact blk_tile m c t _ q

/-- What point `t` writes back is its block of `G`. -/
theorem flushed_eq (c : Dev nD) (t : Fin cfg0.N) :
    (dats m 0 c).flushed 6 t = ((cfg0.win 6).blk t).view.read (Elt Ideal) (G m c) := by
  rw [Value.flushed6]
  funext y
  have hy : y = ix3 0 (y 1) (y 2) := by
    funext a; apply Fin.ext
    match a with
    | ⟨0, _⟩ => have : (y 0).val < 1 := (y 0).isLt; show (y 0).val = 0; omega
    | ⟨1, _⟩ => rfl
    | ⟨2, _⟩ => rfl
  rw [hy]
  exact pay_eq m c t _ _

/-- An index of the array is in point `t`'s block iff each coordinate is in the block's range on its axis. -/
theorem mem_blk (t : Fin cfg0.N) (i : S16x2304x512.Idx) :
    i ∈ ((cfg0.win 6).blk t).view.set ↔ ∀ a : Fin 3, win0_6.index t a * S1x768x512.size a ≤ (i a).val ∧ (i a).val < win0_6.index t a * S1x768x512.size a + S1x768x512.size a := by
  show i ∈ ((View.whole main_v10).slice (win0_6.rect t)).set ↔ _
  rw [View.set_slice_whole, Rect.mem_set_unit]
  exact Iff.rfl

/-- The blocks tile the array. -/
theorem cover (i : S16x2304x512.Idx) :
    ∃ t : Fin cfg0.N, (cfg0.win 6).flush t = true ∧ i ∈ ((cfg0.win 6).blk t).view.set := by
  have h0 : (i 0).val < 16 := (i 0).isLt
  have h1 : (i 1).val < 2304 := (i 1).isLt
  have h2 : (i 2).val < 512 := (i 2).isLt
  obtain ⟨t, ht⟩ := idx_onto ⟨(i 0).val, h0⟩ ⟨(i 1).val / 768, by omega⟩
  have q0 : win0_6.index t (0 : Fin 3) = (i 0).val := congrFun ht 0
  have q1 : win0_6.index t (1 : Fin 3) = (i 1).val / 768 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 768 ≤ (i 1).val ∧ (i 1).val < win0_6.index t (1 : Fin 3) * 768 + 768; omega
  | ⟨2, _⟩ => show win0_6.index t (2 : Fin 3) * 512 ≤ (i 2).val ∧ (i 2).val < win0_6.index t (2 : Fin 3) * 512 + 512; omega

/-- So the array ends holding `G`. -/
theorem final (c : Dev nD) : (dats m 0 c).arrAt 6 cfg0.N = G m c :=
  (dats m 0 c).arrAt_eq_of_cover 6 (G m c) (fun t _ => flushed_eq m c t) cover

end Cert.SguIdeal.Arr

end
-- ==== Proof.SguRef.lean ====
/- What the spatial gate's reference computes, element by element. -/
module

public import proofs.«01_k».proof.Proof.Gen.SguRefIdeal.Read
public import proofs.«01_k».proof.Proof.SguSpec

@[expose] public section

set_option maxRecDepth 65536

noncomputable section

namespace Cert.SguRefIdeal.Ref

open Cert.SguRefIdeal Cert.SguRefIdeal.Gen Cert.SguRefIdeal.Read Cert.SguSpec Idealize.ShloMosaic

variable (z : Cols) (g b : Row) (w : Mix) (bs : Bias)

/-- The gate's own columns through GELU. -/
theorem gelu_apply (n : Fin 16) (i : Fin 2304) (d : Fin 1024) :
    val_main_v13 (F := Ideal) z (ix3 n i d) = gelu (z (ix3 n i ⟨4480 + d.val, by omega⟩)) := by
  refine Eq.trans ?_ (gelu_comm _)
  pointwise [val_main_v0, val_main_v1, val_main_v2, val_main_v3, val_main_v4, val_main_v5, val_main_v6, val_main_v7, val_main_v8,
      val_main_v9, val_main_v10, val_main_v11, val_main_v12, val_main_v13, val_main_cst, val_main_cst_0, val_main_cst_1, val_main_cst_2]

/-- The value columns, normalised. -/
theorem values_apply (n : Fin 16) (i : Fin 2304) (d : Fin 512) :
    val_main_v37 (F := Ideal) z g b (ix3 n i d) = values (fun d => z (ix3 n i ⟨4992 + d.val, by omega⟩)) (fun d => g (ix1 d)) (fun d => b (ix1 d)) d := by
  have e : ∀ d : Fin 512, val_main_v15 (F := Ideal) z (ix3 n i d) = gelu (z (ix3 n i ⟨4992 + d.val, by omega⟩)) := by
    intro d
    unfold val_main_v15
    refine Eq.trans ?_ ((gelu_apply z n i ⟨512 + d.val, by omega⟩).trans (congrArg (fun k => gelu (z (ix3 n i k))) (Fin.ext (by show 4480 + (512 + d.val) = 4992 + d.val; omega))))
    pointwise
  unfold values
  simp only [← e]
  pointwise [layerNorm, mean, val_main_v16, val_main_v17, val_main_v18, val_main_v19, val_main_v20, val_main_v21, val_main_v22, val_main_v23, val_main_v24, val_main_v25,
      val_main_v26, val_main_v27, val_main_v28, val_main_v29, val_main_v30, val_main_v31, val_main_v32, val_main_v33, val_main_v34,
      val_main_v35, val_main_v36, val_main_v37, val_main_cst_3, val_main_cst_4, val_main_cst_5, val_main_cst_6, val_main_cst_7]

/-- The reference's result at an index. -/
theorem result_apply (n : Fin 16) (i : Fin 2304) (d : Fin 512) :
    val_main_v48 (F := Ideal) z g b w bs (ix3 n i d) = out z g b w bs n i d := by
  unfold val_main_v48 val_main_v47 val_main_v46 val_main_v45 val_main_v44 val_main_v43 val_main_v42 val_main_v41 val_main_v40 val_main_v39 val_main_v38
  have hv := values_apply z g b
  generalize val_main_v37 (F := Ideal) z g b = v at hv ⊢
  unfold out gated spatial
  simp only [← hv]
  have hu : val_main_v14 (F := Ideal) z (ix3 n i d) = gelu (z (ix3 n i ⟨4480 + d.val, by omega⟩)) := by
    unfold val_main_v14
    refine Eq.trans ?_ (gelu_apply z n i ⟨d.val, by omega⟩)
    pointwise
  rw [← hu]
  generalize val_main_v14 (F := Ideal) z = u
  pointwise [dot_S16x18x128x8x64_S8x128x128_S8x16x18x64x128_2_2_014_1_3_0]
  have hq : ∀ q : Fin 128, (⟨i.val / 128 * 128 + q.val, by omega⟩ : Fin 2304) = ⟨128 * (i.val / 128) + q.val, by omega⟩ :=
    fun q => Fin.ext (by show i.val / 128 * 128 + q.val = 128 * (i.val / 128) + q.val; omega)
  refine congrArg (fun s => u (ix3 n i d) * (s + bs (ix2 ⟨d.val / 64, by omega⟩ ⟨i.val % 128, by omega⟩))) (Finset.sum_congr rfl fun q _ => ?_)
  rw [hq q, mul_comm]

end Cert.SguRefIdeal.Ref

end
-- ==== Proof.SguEquation.lean ====
/- The spatial gate and its reference end with the same array. -/
module

public import proofs.«01_k».proof.Defs
public import proofs.«01_k».proof.Proof.SguArray
public import proofs.«01_k».proof.Proof.SguRef
public import proofs.«01_k».proof.Proof.Gen.SguRefIdeal.Run
public import proofs.«01_k».proof.Proof.Gen.SguRefIdeal.Read

@[expose] public section

set_option maxRecDepth 16384

noncomputable section

namespace Cert.SguIdeal.Eqn

open Idealize.ShloMosaic Idealize.ShloMosaic.TcCoe Idealize.SL.Sem

/-- The algebraic claim: from equal arguments both runs end with `Arr.G` of them. -/
theorem algebraic : Cert.algebraic_SguIdeal_SguRefIdeal := by
  intro m g m' g' _ hag
  refine ⟨fun c => Arr.G m c, (θ_run Cert.SguIdeal.defs _ _).mono (fun r h c => ?_) (Cert.SguIdeal.Value.run_blocks m g),
    (θ_run Cert.SguRefIdeal.defs _ _).mono (fun r h c => ?_) (Cert.SguRefIdeal.Value.run m' g')⟩
  · exact ⟨(h c).1.trans (Arr.final m c), (h c).2⟩
  · refine ⟨(h c).1.trans ?_, (h c).2⟩
    obtain ⟨a0, a1, a2, a3, a4⟩ := hag c
    rw [Cert.SguRefIdeal.Read.val_main_v48_eq, a0, a1, a2, a3, a4]
    funext i
    have hi : i = ix3 (i 0) (i 1) (i 2) := by
      funext a
      match a with
      | ⟨0, _⟩ => rfl
      | ⟨1, _⟩ => rfl
      | ⟨2, _⟩ => rfl
    rw [hi]
    exact Cert.SguRefIdeal.Ref.result_apply _ _ _ _ _ _ _ _

end Cert.SguIdeal.Eqn

end
-- ==== Proof.MergeRun.lean ====
/- The merge's body over the reals: from whole staging buffers it runs to its end, and what it leaves in the result's buffer is one
   store that covers it. -/
module

public import proofs.«01_k».proof.Proof.Gen.MergeIdeal.Frame.Runs

@[expose] public section

set_option maxRecDepth 16384

noncomputable section

namespace Cert.MergeIdeal.Own

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the body is long, and so is the proof that walks through it
set_option maxHeartbeats 0 in
/-- The pieces the body leaves in the result's staging buffer, with the proof that it runs to its end on whole staging
    buffers and leaves its inputs as they were. -/
noncomputable def bodyRun (c : Dev nD) (i : grid0.Coords) (arg2 : Memref sig .tc .vmem S1x256x1024 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .bf16) (harg5 : arg5.IsWhole) (arg6 : Memref sig .tc .vmem S1x8x256x128 .bf16) (harg6 : arg6.IsWhole) (arg7 : Memref sig .tc .vmem S1x8x256x128 .bf16) (harg7 : arg7.IsWhole) (arg8 : Memref sig .tc .vmem S1x1x256x128 .bf16) (harg8 : arg8.IsWhole) (arg9 : Memref sig .tc .vmem S1x256x512 .f32) (harg9 : arg9.IsWhole) (arg10 : Memref sig .tc .vmem S1x256x512 .bf16) (harg10 : arg10.IsWhole) (arg11 : Memref sig .tc .vmem S1x256x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S1x1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S1024x1024 .bf16) (harg24 : arg24.IsWhole) (arg25 : Memref sig .tc .vmem S1x256x1024 .f32) (harg25 : arg25.IsWhole)
    (x0 : Vec F S1x256x1024 .f32) (x1 : Vec F S1x8x256x128 .f32) (x2 : Vec F S1x8x256x128 .f32) (x3 : Vec F S1x8x256x128 .bf16) (x4 : Vec F S1x8x256x128 .bf16) (x5 : Vec F S1x8x256x128 .bf16) (x6 : Vec F S1x1x256x128 .bf16) (x7 : Vec F S1x256x512 .f32) (x8 : Vec F S1x256x512 .bf16) (x9 : Vec F S1x256x1024 .bf16) (x10 : Vec F S1x256x1024 .bf16) (x11 : Vec F S1x256x1024 .bf16) (x12 : Vec F S1x1x1024 .f32) (x13 : Vec F S128x1024 .bf16) (x14 : Vec F S1x1024 .f32) (x15 : Vec F S1x1024 .f32) (x16 : Vec F S1x1024 .f32) (x17 : Vec F S1x512 .f32) (x18 : Vec F S1x512 .f32) (x19 : Vec F S1024x1024 .bf16) (x20 : Vec F S512x1024 .bf16) (x21 : Vec F S512x1024 .bf16) (x22 : Vec F S1024x1024 .bf16) :
    { L23 : List (View.Piece (Elt F) S1x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ f, arg25.view.loc (c : Thread nD τ) ↦[arg25.view.set]{fullShare} arg25.view.writes (Elt F) f L23)) -∗ K ⟨⟩))
          ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, fun E K => ?run⟩
  case run =>
    simp only [cc0_merge_eq_skeleton]; unfold cc0_merge_skel
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    iexists _; iexact H23

end Cert.MergeIdeal.Own

end
-- ==== Proof.MergeFrame.lean ====
/- The merge's launch over the reals: every run ends, faults nowhere, leaves its arguments as they were and every semaphore at
   zero, and its result array holds what the grid's points wrote back. -/
module

public import proofs.«01_k».proof.Proof.MergeRun
public import Idealize.ShloMosaic.Lib.Claim
public import Idealize.ShloMosaic.Lib.Pipeline.Value

@[expose] public section

set_option maxRecDepth 16384

noncomputable section

namespace Cert.MergeIdeal.Own

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The one store covers the result's block. -/
theorem covers (c : Dev nD) (i : grid0.Coords) (arg2 : Memref sig .tc .vmem S1x256x1024 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .bf16) (harg5 : arg5.IsWhole) (arg6 : Memref sig .tc .vmem S1x8x256x128 .bf16) (harg6 : arg6.IsWhole) (arg7 : Memref sig .tc .vmem S1x8x256x128 .bf16) (harg7 : arg7.IsWhole) (arg8 : Memref sig .tc .vmem S1x1x256x128 .bf16) (harg8 : arg8.IsWhole) (arg9 : Memref sig .tc .vmem S1x256x512 .f32) (harg9 : arg9.IsWhole) (arg10 : Memref sig .tc .vmem S1x256x512 .bf16) (harg10 : arg10.IsWhole) (arg11 : Memref sig .tc .vmem S1x256x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S1x1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S1024x1024 .bf16) (harg24 : arg24.IsWhole) (arg25 : Memref sig .tc .vmem S1x256x1024 .f32) (harg25 : arg25.IsWhole)
    (x0 : Vec F S1x256x1024 .f32) (x1 : Vec F S1x8x256x128 .f32) (x2 : Vec F S1x8x256x128 .f32) (x3 : Vec F S1x8x256x128 .bf16) (x4 : Vec F S1x8x256x128 .bf16) (x5 : Vec F S1x8x256x128 .bf16) (x6 : Vec F S1x1x256x128 .bf16) (x7 : Vec F S1x256x512 .f32) (x8 : Vec F S1x256x512 .bf16) (x9 : Vec F S1x256x1024 .bf16) (x10 : Vec F S1x256x1024 .bf16) (x11 : Vec F S1x256x1024 .bf16) (x12 : Vec F S1x1x1024 .f32) (x13 : Vec F S128x1024 .bf16) (x14 : Vec F S1x1024 .f32) (x15 : Vec F S1x1024 .f32) (x16 : Vec F S1x1024 .f32) (x17 : Vec F S1x512 .f32) (x18 : Vec F S1x512 .f32) (x19 : Vec F S1024x1024 .bf16) (x20 : Vec F S512x1024 .bf16) (x21 : Vec F S512x1024 .bf16) (x22 : Vec F S1024x1024 .bf16) (y : S1x256x1024.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1, y ∈ pc.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1 S1x256x1024.size (by sl_kernel_rfl) y

/-- What the body leaves in the result's staging buffer. -/
def left (c : Dev nD) (i : grid0.Coords) (arg2 : Memref sig .tc .vmem S1x256x1024 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .bf16) (harg5 : arg5.IsWhole) (arg6 : Memref sig .tc .vmem S1x8x256x128 .bf16) (harg6 : arg6.IsWhole) (arg7 : Memref sig .tc .vmem S1x8x256x128 .bf16) (harg7 : arg7.IsWhole) (arg8 : Memref sig .tc .vmem S1x1x256x128 .bf16) (harg8 : arg8.IsWhole) (arg9 : Memref sig .tc .vmem S1x256x512 .f32) (harg9 : arg9.IsWhole) (arg10 : Memref sig .tc .vmem S1x256x512 .bf16) (harg10 : arg10.IsWhole) (arg11 : Memref sig .tc .vmem S1x256x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S1x1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S1024x1024 .bf16) (harg24 : arg24.IsWhole) (arg25 : Memref sig .tc .vmem S1x256x1024 .f32) (harg25 : arg25.IsWhole)
    (x0 : Vec F S1x256x1024 .f32) (x1 : Vec F S1x8x256x128 .f32) (x2 : Vec F S1x8x256x128 .f32) (x3 : Vec F S1x8x256x128 .bf16) (x4 : Vec F S1x8x256x128 .bf16) (x5 : Vec F S1x8x256x128 .bf16) (x6 : Vec F S1x1x256x128 .bf16) (x7 : Vec F S1x256x512 .f32) (x8 : Vec F S1x256x512 .bf16) (x9 : Vec F S1x256x1024 .bf16) (x10 : Vec F S1x256x1024 .bf16) (x11 : Vec F S1x256x1024 .bf16) (x12 : Vec F S1x1x1024 .f32) (x13 : Vec F S128x1024 .bf16) (x14 : Vec F S1x1024 .f32) (x15 : Vec F S1x1024 .f32) (x16 : Vec F S1x1024 .f32) (x17 : Vec F S1x512 .f32) (x18 : Vec F S1x512 .f32) (x19 : Vec F S1024x1024 .bf16) (x20 : Vec F S512x1024 .bf16) (x21 : Vec F S512x1024 .bf16) (x22 : Vec F S1024x1024 .bf16) : Vec F S1x256x1024 .f32 :=
  VO0_23.read (Elt F) (VO0_23.writes (Elt F) VO0_23.junk (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1)

/-- The same at a grid point, from the point's blocks. -/
def leftAt (c : Dev nD) (t : Fin cfg0.N) : Vec F S1x256x1024 .f32 :=
  left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)

/-- The data of the pipeline: the arrays as the launch finds them, each input's buffer at its block after the body, the result's at `leftAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X0_4 m c t
    | ⟨5, _⟩ => X0_5 m c t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (leftAt m c t)
    | ⟨_ + 24, h⟩ => absurd h (Nat.not_lt.2 (Nat.le_add_left _ _))
  Φ _ := Pipeline.ΦA spec0 c
  q w := Pipeline.shareOf spec0 w
  owed _ := 0

/-- The arrays are those the launch finds. -/
theorem A_eq (c : Dev nD) (w : Fin cfg0.W) : (dats m 0 c).A w = V m c (Pipeline.arrRef spec0 w) := by
  dsimp only [dats]

/-- What the body leaves, buffer by buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = (leftAt m c t) := by dsimp only [dats]

/-- Each input's buffer holds its block when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 0 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  unfold leftAt
  unfold left
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((bodyRun c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, ⟨%e23, H23⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  unfold owns; iexists _; isplitr
  swap; · iexact H23
  ipureintro; exact View.read_writes_of_cover _ _ _ _ _ (covers c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body at a point's slots. -/
theorem defs₀_row (t : Fin cfg0.N) :
    defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every run ends with every array at what the pipeline leaves. -/
theorem run_main : θ_run defs (onTc (τ := τ) (main (F := F))) (s₀ m ρ) (Pipeline.FramePost cfgs (dats m) 0 (V m)) :=
  (θ_run defs _ _).mono (fun _ h => h.1) (run_main_quiescent m ρ)

/-- Every run leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- Every run ends, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

/-- What a grid point writes back. -/
theorem flushed23 (c : Dev nD) (t : Fin cfg0.N) :
    (dats m 0 c).flushed 23 t = (cfg0.win 23).cut (grid0.coords t) (leftAt m c t) := by
  show (cfg0.win 23).cut (grid0.coords t) ((dats m 0 c).after 23 t) = _
  rw [after0_23]

/-- The result array after a run, and the arguments. -/
theorem post23 (r : PUnit × MemSt nD τ sig (Elt F)) (h : Pipeline.FramePost cfgs (dats m) 0 (V m) r) (c : Dev nD) :
    r.2.mem ((c : Thread nD τ).loc main_v28) = (dats m 0 c).arrAt 23 cfg0.N :=
  (h c).1 23

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 7).trans (((dats m 0 c).arrAt_in 7 rfl _).trans ((A_eq m c 7).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

theorem run_blocks : θ_run defs (onTc (τ := τ) (main (F := F))) ⟨m, fun _ => 0, ρ⟩ fun r => ∀ c : Dev nD,
      r.2.mem ((c : Thread nD τ).loc main_v28) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c⟩)
    (run_main m ρ)

end Cert.MergeIdeal.Own

end
-- ==== Proof.MergeSpec.lean ====
/- One token's merge of the three branches, as reference and kernel both compute it: the read-out of the recurrence head by
   head, the layer norm of the convolution's branch, the gated sum and the last product. The kernel holds two heads of 64
   columns in one row of 128 lanes and takes the second head's sums as the row's sum less the first head's, which for finite
   entries is the same. -/
module

public import proofs.«01_k».proof.Proof.Rows

@[expose] public section

noncomputable section

namespace Cert.MergeSpec

open Idealize.ShloMosaic Cert.Rows

/-! ## One head -/

/-- A head's mean. -/
def mean (y : Fin 64 → EReal) : EReal := Ideal.div (∑ d, y d) (Ideal.ofBits .f32 0x42800000#32)

/-- Entries less the mean. -/
def dev (y : Fin 64 → EReal) (d : Fin 64) : EReal := y d - mean y

/-- One over the root of the head's variance, the small constant under the root added. -/
def invStd (y : Fin 64 → EReal) : EReal :=
  Ideal.rsqrt (Ideal.div (∑ d, dev y d * dev y d) (Ideal.ofBits .f32 0x42800000#32) + Ideal.ofBits .f32 0x3A27C5AC#32)

/-- Column `n` of the heads' concatenation: column `d` of head `h`. -/
def col (h : Fin 16) (d : Fin 64) : Fin 1024 := ⟨64 * h.val + d.val, by omega⟩
/-- The head a column belongs to. -/
def hd (n : Fin 1024) : Fin 16 := ⟨n.val / 64, by omega⟩
/-- Its place in that head. -/
def dm (n : Fin 1024) : Fin 64 := ⟨n.val % 64, by omega⟩

/-- The read-out of one column before the gate: the normalised head with gain and bias, and the bonus. -/
def headOut (y : Fin 16 → Fin 64 → EReal) (r k v ga be rk : Fin 1024 → EReal) (n : Fin 1024) : EReal :=
  dev (y (hd n)) (dm n) * invStd (y (hd n)) * ga n + be n
    + (∑ d : Fin 64, r (col (hd n) d) * k (col (hd n) d) * rk (col (hd n) d)) * v n

/-- The weights. -/
abbrev Sq : Type := (⟨2, ![1024, 1024]⟩ : Shape).Idx → EReal
abbrev Half : Type := (⟨2, ![512, 1024]⟩ : Shape).Idx → EReal
abbrev Lora : Type := (⟨2, ![128, 1024]⟩ : Shape).Idx → EReal

/-- The read-out's gate. -/
def gateOut (gz : Fin 128 → EReal) (gup : Lora) (n : Fin 1024) : EReal := ∑ j : Fin 128, Ideal.logistic (gz j) * gup (ix2 j n)

/-- A read-out row times its matrix. -/
def proj (h : Fin 1024 → EReal) (w : Sq) (q : Fin 1024) : EReal := ∑ n : Fin 1024, h n * w (ix2 n q)

/-- The 256 rows from `a` on of such a product. -/
def piece (h : Fin 1024 → EReal) (w : Sq) (q : Fin 1024) (a : Nat) (ha : a + 256 ≤ 1024) : EReal :=
  ∑ n : Fin 256, h ⟨a + n.val, by omega⟩ * w (ix2 ⟨a + n.val, by omega⟩ q)

/-- The product is the sum of its four pieces. -/
theorem proj_eq (h : Fin 1024 → EReal) (w : Sq) (q : Fin 1024) :
    proj h w q = piece h w q 0 (by omega) + piece h w q 256 (by omega) + piece h w q 512 (by omega) + piece h w q 768 (by omega) := by
  let f : Nat → EReal := fun n => if hn : n < 1024 then h ⟨n, hn⟩ * w (ix2 ⟨n, hn⟩ q) else 0
  have step : ∀ a : Nat, ∑ n : Fin (a + 256), f n.val = (∑ n : Fin a, f n.val) + ∑ n : Fin 256, f (a + n.val) := by
    intro a; rw [Fin.sum_univ_add]; rfl
  have hp : ∀ (a : Nat) (ha : a + 256 ≤ 1024), piece h w q a ha = ∑ n : Fin 256, f (a + n.val) := by
    intro a ha
    refine Finset.sum_congr rfl fun n _ => ?_
    have hn : a + n.val < 1024 := by omega
    exact (show f (a + n.val) = _ from dif_pos hn).symm
  have hd : proj h w q = ∑ n : Fin 1024, f n.val :=
    Finset.sum_congr rfl fun n _ => (show f n.val = _ from dif_pos n.isLt).symm
  rw [hd, hp, hp, hp, hp, step 768, step 512, step 256, step 0]
  simp

/-! ## The convolution's branch -/

/-- The mean of a row of 512. -/
def mean512 (x : Fin 512 → EReal) : EReal := Ideal.div (∑ d, x d) (Ideal.ofBits .f32 0x44000000#32)

/-- The layer norm of a row of 512. -/
def layerNorm (x g b : Fin 512 → EReal) (j : Fin 512) : EReal :=
  (x j - mean512 x) * Ideal.rsqrt (Ideal.div (∑ d, (x d - mean512 x) * (x d - mean512 x)) (Ideal.ofBits .f32 0x44000000#32)
    + Ideal.ofBits .f32 0x3727C5AC#32) * g j + b j

/-- The branch: the normalised row through `u ↦ u σ(u)`, times its matrix. -/
def convOut (x g b : Fin 512 → EReal) (w : Half) (q : Fin 1024) : EReal :=
  ∑ j : Fin 512, layerNorm x g b j * Ideal.logistic (layerNorm x g b j) * w (ix2 j q)

/-- The spatial branch times its matrix. -/
def spatialOut (x : Fin 512 → EReal) (w : Half) (q : Fin 1024) : EReal := ∑ j : Fin 512, x j * w (ix2 j q)

/-! ## The merge -/

/-- The three branches under their gates. -/
def mixed (a b c z0 z1 z2 : Fin 1024 → EReal) (q : Fin 1024) : EReal :=
  a q * Ideal.logistic (z0 q) + b q * Ideal.logistic (z1 q) + c q * Ideal.logistic (z2 q)

/-- The residual row after the layer. -/
def step (x gt h : Fin 1024 → EReal) (wro : Sq) (b c z0 z1 z2 : Fin 1024 → EReal) (wm : Sq) (q : Fin 1024) : EReal :=
  x q + gt q * proj (mixed (proj h wro) b c z0 z1 z2) wm q

/-! ## Two heads in one row of lanes -/

/-- The sum over the first head's lanes. -/
def low (x : Fin 128 → EReal) : EReal := ∑ j : Fin 128, if j.val < 64 then x j else 0

/-- A lane's head's sum, the second head's by a difference. -/
def headSum (x : Fin 128 → EReal) (l : Fin 128) : EReal := if l.val < 64 then low x else (∑ j, x j) - low x

/-- The lane at place `d` of lane `l`'s head. -/
def mate (l : Fin 128) (d : Fin 64) : Fin 128 := ⟨64 * (l.val / 64) + d.val, by omega⟩

theorem low_eq (x : Fin 128 → EReal) : low x = ∑ d : Fin 64, x ⟨d.val, by omega⟩ := by
  unfold low
  rw [show (∑ j : Fin 128, if j.val < 64 then x j else 0) = ∑ j : Fin (64 + 64), if j.val < 64 then x j else 0 from rfl,
    Fin.sum_univ_add]
  have h2 : (∑ i : Fin 64, if (Fin.natAdd 64 i).val < 64 then x (Fin.natAdd 64 i) else 0) = 0 :=
    Finset.sum_eq_zero fun i _ => if_neg (by show ¬ (64 + i.val < 64); omega)
  rw [h2, add_zero]
  exact Finset.sum_congr rfl fun i _ => if_pos i.isLt

theorem sum_split (x : Fin 128 → EReal) :
    ∑ j, x j = (∑ d : Fin 64, x ⟨d.val, by omega⟩) + ∑ d : Fin 64, x ⟨64 + d.val, by omega⟩ := by
  rw [show (∑ j : Fin 128, x j) = ∑ j : Fin (64 + 64), x j from rfl, Fin.sum_univ_add]
  rfl

/-- A sum of reals is real. -/
theorem coe_sum {n : Nat} (f : Fin n → ℝ) : ∑ i, ((f i : ℝ) : EReal) = ((∑ i, f i : ℝ) : EReal) :=
  (map_sum (⟨⟨Real.toEReal, EReal.coe_zero⟩, EReal.coe_add⟩ : ℝ →+ EReal) f Finset.univ).symm

/-- Over real entries the difference is the second head's own sum. -/
theorem headSum_eq (f : Fin 128 → ℝ) (l : Fin 128) :
    headSum (fun j => (f j : EReal)) l = ∑ d : Fin 64, ((f (mate l d) : ℝ) : EReal) := by
  unfold headSum
  by_cases h : l.val < 64
  · rw [if_pos h, low_eq]
    refine Finset.sum_congr rfl fun d _ => ?_
    congr 2
    apply Fin.ext; show d.val = 64 * (l.val / 64) + d.val; omega
  · rw [if_neg h, low_eq, sum_split, coe_sum, coe_sum, ← EReal.coe_add, ← EReal.coe_sub, add_sub_cancel_left, ← coe_sum]
    refine Finset.sum_congr rfl fun d _ => ?_
    congr 2
    apply Fin.ext; show 64 + d.val = 64 * (l.val / 64) + d.val; have := l.isLt; omega

theorem c64 : Ideal.ofBits .f32 0x42800000#32 = ((64 : ℝ) : EReal) := by
  simp [Ideal.ofBits, Ideal.ieee]; rw [← EReal.coe_mul]; norm_num
theorem c64inv : Ideal.ofBits .f32 0x3C800000#32 = ((1 / 64 : ℝ) : EReal) := by
  simp [Ideal.ofBits, Ideal.ieee]; rw [← EReal.coe_mul]; norm_num

/-- Multiplying by the reciprocal is dividing. -/
theorem mul_inv (x : EReal) : x * Ideal.ofBits .f32 0x3C800000#32 = Ideal.div x (Ideal.ofBits .f32 0x42800000#32) := by
  rw [c64, c64inv, Ideal.div_coe (by norm_num)]

/-- The lanes' deviation from their heads' means. -/
def lDev (y : Fin 128 → EReal) (l : Fin 128) : EReal := y l - headSum y l * Ideal.ofBits .f32 0x3C800000#32
/-- The lanes' inverse deviations. -/
def lInv (y : Fin 128 → EReal) (l : Fin 128) : EReal :=
  Ideal.rsqrt (headSum (fun j => lDev y j * lDev y j) l * Ideal.ofBits .f32 0x3C800000#32 + Ideal.ofBits .f32 0x3A27C5AC#32)

/-- One lane's read-out before the gate, as the kernel has it. -/
def lOut (y r k v ga be rk : Fin 128 → EReal) (l : Fin 128) : EReal :=
  lDev y l * lInv y l * ga l + be l + headSum (fun j => r j * k j * rk j) l * v l

/-- What is finite is a real. -/
theorem real_of {x : EReal} (h : x ≠ ⊤ ∧ x ≠ ⊥) : ∃ r : ℝ, x = r := ⟨x.toReal, (EReal.coe_toReal h.1 h.2).symm⟩

theorem mate_self (l : Fin 128) : mate l ⟨l.val % 64, by omega⟩ = l := by
  apply Fin.ext; show 64 * (l.val / 64) + l.val % 64 = l.val; omega
theorem mate_mate (l : Fin 128) (d : Fin 64) (e : Fin 64) : mate (mate l d) e = mate l e := by
  apply Fin.ext; show 64 * ((64 * (l.val / 64) + d.val) / 64) + e.val = 64 * (l.val / 64) + e.val; omega
theorem mate_mod (l : Fin 128) (d : Fin 64) : (⟨(mate l d).val % 64, by omega⟩ : Fin 64) = d := by
  apply Fin.ext; show (64 * (l.val / 64) + d.val) % 64 = d.val; omega

/-- Over real entries a lane's deviation is its head's. -/
theorem lDev_eq (f : Fin 128 → ℝ) (l : Fin 128) :
    lDev (fun j => (f j : EReal)) l = dev (fun d => ((f (mate l d) : ℝ) : EReal)) ⟨l.val % 64, by omega⟩ := by
  unfold lDev dev mean
  rw [headSum_eq, mul_inv]
  dsimp only
  rw [mate_self]

/-- … and is real. -/
theorem lDev_real (f : Fin 128 → ℝ) : ∃ g : Fin 128 → ℝ, ∀ l, lDev (fun j => (f j : EReal)) l = ((g l : ℝ) : EReal) := by
  refine ⟨fun l => f l - (∑ d : Fin 64, f (mate l d)) * (1 / 64), fun l => ?_⟩
  unfold lDev
  rw [headSum_eq, c64inv, coe_sum, ← EReal.coe_mul, ← EReal.coe_sub]

/-- So is its inverse deviation. -/
theorem lInv_eq (f : Fin 128 → ℝ) (l : Fin 128) :
    lInv (fun j => (f j : EReal)) l = invStd (fun d => ((f (mate l d) : ℝ) : EReal)) := by
  obtain ⟨g, hg⟩ := lDev_real f
  unfold lInv invStd
  rw [show (fun j => lDev (fun j => (f j : EReal)) j * lDev (fun j => (f j : EReal)) j) = fun j => ((g j * g j : ℝ) : EReal) from
    funext fun j => by rw [hg j, ← EReal.coe_mul], headSum_eq, mul_inv]
  congr 3
  refine Finset.sum_congr rfl fun d _ => ?_
  have e : dev (fun d => ((f (mate l d) : ℝ) : EReal)) d = ((g (mate l d) : ℝ) : EReal) := by
    rw [← hg, lDev_eq, mate_mod]
    congr 1; funext e; rw [mate_mate]
  rw [e, ← EReal.coe_mul]

/-- Lane `l` of pair `p`: its column. -/
def lane (p : Fin 8) (l : Fin 128) : Fin 1024 := ⟨128 * p.val + l.val, by omega⟩

/-- A lane's read-out is its column's. -/
theorem lOut_eq (y : Fin 16 → Fin 64 → EReal) (r k v ga be rk : Fin 1024 → EReal) (p : Fin 8) (l : Fin 128)
    (hy : ∀ h d, ∃ x : ℝ, y h d = x) (hr : ∀ n, ∃ x : ℝ, r n = x) (hk : ∀ n, ∃ x : ℝ, k n = x) (hrk : ∀ n, ∃ x : ℝ, rk n = x) :
    lOut (fun j => y (hd (lane p j)) (dm (lane p j))) (fun j => r (lane p j)) (fun j => k (lane p j)) (fun j => v (lane p j))
        (fun j => ga (lane p j)) (fun j => be (lane p j)) (fun j => rk (lane p j)) l
      = headOut y r k v ga be rk (lane p l) := by
  choose fy hfy using hy
  choose fr hfr using hr
  choose fk hfk using hk
  choose fq hfq using hrk
  have hh : ∀ d, hd (lane p (mate l d)) = hd (lane p l) := fun d => by
    apply Fin.ext; show (128 * p.val + (64 * (l.val / 64) + d.val)) / 64 = (128 * p.val + l.val) / 64; omega
  have hdm : ∀ d, dm (lane p (mate l d)) = d := fun d => by
    apply Fin.ext; show (128 * p.val + (64 * (l.val / 64) + d.val)) % 64 = d.val; omega
  have hl : (⟨l.val % 64, by omega⟩ : Fin 64) = dm (lane p l) := by
    apply Fin.ext; show l.val % 64 = (128 * p.val + l.val) % 64; omega
  have hc : ∀ d, lane p (mate l d) = col (hd (lane p l)) d := fun d => by
    apply Fin.ext
    show 128 * p.val + (64 * (l.val / 64) + d.val) = 64 * ((128 * p.val + l.val) / 64) + d.val; omega
  have ey : (fun j => y (hd (lane p j)) (dm (lane p j))) = fun j => ((fy (hd (lane p j)) (dm (lane p j)) : ℝ) : EReal) :=
    funext fun j => hfy _ _
  have er : (fun j => r (lane p j) * k (lane p j) * rk (lane p j))
      = fun j => ((fr (lane p j) * fk (lane p j) * fq (lane p j) : ℝ) : EReal) :=
    funext fun j => by rw [hfr, hfk, hfq, ← EReal.coe_mul, ← EReal.coe_mul]
  have eh : (fun d => ((fy (hd (lane p (mate l d))) (dm (lane p (mate l d))) : ℝ) : EReal)) = y (hd (lane p l)) :=
    funext fun d => by rw [hh, hdm, ← hfy]
  unfold lOut headOut
  rw [ey, er, lDev_eq, lInv_eq, headSum_eq, eh, hl]
  congr 2
  refine Finset.sum_congr rfl fun d _ => ?_
  rw [hc, EReal.coe_mul, EReal.coe_mul, ← hfr, ← hfk, ← hfq]

/-! ## Of the arrays -/

/-- Every entry is a real number. -/
def AllReal {ι : Type} (f : ι → EReal) : Prop := ∀ j, ∃ x : ℝ, f j = x

abbrev Heads : Type := (⟨4, ![16, 2304, 16, 64]⟩ : Shape).Idx → EReal
abbrev Zr : Type := (⟨3, ![16, 2304, 3456]⟩ : Shape).Idx → EReal
abbrev Zed : Type := (⟨3, ![16, 2304, 8576]⟩ : Shape).Idx → EReal
abbrev Row512 : Type := (⟨3, ![16, 2304, 512]⟩ : Shape).Idx → EReal
abbrev Vec512 : Type := (⟨1, ![512]⟩ : Shape).Idx → EReal

/-- The receptance and key columns of the recurrence's inputs, the first 2048, are real. -/
def RkReal (zr : Zr) : Prop := ∀ (b : Fin 16) (i : Fin 2304) (k : Fin 2048), ∃ x : ℝ, zr (ix3 b i ⟨k.val, by omega⟩) = x

/-- The two directions of the recurrence added. -/
def both (yf yb : Heads) (b : Fin 16) (i : Fin 2304) (h : Fin 16) (d : Fin 64) : EReal := yf (ix4 b i h d) + yb (ix4 b i h d)

theorem both_real (yf yb : Heads) (hf : AllReal yf) (hb : AllReal yb) (b : Fin 16) (i : Fin 2304) (h : Fin 16) (d : Fin 64) :
    ∃ x : ℝ, both yf yb b i h d = x := by
  obtain ⟨u, hu⟩ := hf (ix4 b i h d)
  obtain ⟨v, hv⟩ := hb (ix4 b i h d)
  refine ⟨u + v, ?_⟩
  unfold both
  rw [hu, hv, EReal.coe_add]

/-- The gated read-out of token `i` of batch `b`. -/
def readOut (yf yb : Heads) (zr : Zr) (ga be rk : Gain) (gup : Lora) (b : Fin 16) (i : Fin 2304) (n : Fin 1024) : EReal :=
  headOut (both yf yb b i) (fun n => zr (ix3 b i ⟨n.val, by omega⟩))
      (fun n => zr (ix3 b i ⟨1024 + n.val, by omega⟩)) (fun n => zr (ix3 b i ⟨2048 + n.val, by omega⟩))
      (fun n => ga (ix1 n)) (fun n => be (ix1 n)) (fun n => rk (ix1 n)) n
    * gateOut (fun j => zr (ix3 b i ⟨3328 + j.val, by omega⟩)) gup n

/-- The residual stream after the layer: token `i` of batch `b`, column `q`. -/
def merge (x : Lat) (ctx : Ctx) (gt : PerBatch) (gtc : Gain) (yf yb : Heads) (zr : Zr) (z : Zed) (conv cpre : Row512)
    (ga be rk : Gain) (gup : Lora) (lg lb : Vec512) (wro : Sq) (wco wso : Half) (wm : Sq)
    (b : Fin 16) (i : Fin 2304) (q : Fin 1024) : EReal :=
  step (token x ctx b i) (modOf gt gtc b i) (readOut yf yb zr ga be rk gup b i) wro
    (convOut (fun j => conv (ix3 b i j)) (fun j => lg (ix1 j)) (fun j => lb (ix1 j)) wco) (spatialOut (fun j => cpre (ix3 b i j)) wso)
    (fun k => z (ix3 b i ⟨5504 + k.val, by omega⟩)) (fun k => z (ix3 b i ⟨6528 + k.val, by omega⟩)) (fun k => z (ix3 b i ⟨7552 + k.val, by omega⟩))
    wm q

end Cert.MergeSpec

end
-- ==== Proof.MergePair.lean ====
/- The block the merge's body leaves, as one expression of the windows' blocks: the eight head pairs are one function of the pair's
   number, the read-out's product is taken in four pieces. -/
module

public import proofs.«01_k».proof.Proof.MergeFrame
public import proofs.«01_k».proof.Proof.MergeSpec

@[expose] public section

set_option maxRecDepth 65536

noncomputable section

namespace Cert.MergeIdeal.Block

open Cert.MergeIdeal Cert.MergeIdeal.Gen Cert.Rows Cert.MergeSpec Idealize.ShloMosaic Idealize.ShloMosaic.TcCoe

variable {F : FTy → Type} [FloatOps F]

theorem inbHead (p : Fin 8) : ∀ a, (![0, p.val, 0, 0] : Fin 4 → Nat) a + S1x1x256x128.size a ≤ S1x8x256x128.size a :=
  (by decide : ∀ p : Fin 8, ∀ a, (![0, p.val, 0, 0] : Fin 4 → Nat) a + S1x1x256x128.size a ≤ S1x8x256x128.size a) p
theorem inbCols (p : Fin 8) : ∀ a, (![0, 128 * p.val] : Fin 2 → Nat) a + S1x128.size a ≤ S1x1024.size a :=
  (by decide : ∀ p : Fin 8, ∀ a, (![0, 128 * p.val] : Fin 2 → Nat) a + S1x128.size a ≤ S1x1024.size a) p
theorem inbRows (s : Fin 4) : ∀ a, (![256 * s.val, 0] : Fin 2 → Nat) a + S256x1024.size a ≤ S1024x1024.size a :=
  (by decide : ∀ s : Fin 4, ∀ a, (![256 * s.val, 0] : Fin 2 → Nat) a + S256x1024.size a ≤ S1024x1024.size a) s
theorem slicesCols (p : Fin 8) : S256x1024.Slices ![0, 128 * p.val] S256x128 :=
  (by decide : ∀ p : Fin 8, S256x1024.Slices ![0, 128 * p.val] S256x128) p

/-- Pair `p` of a block of heads. -/
def headOf {e : EltTy} (x : Vec F S1x8x256x128 e) (p : Fin 8) : Vec F S1x1x256x128 e :=
  View.ld x (Rect.unit (s := S1x8x256x128) ![0, p.val, 0, 0] S1x1x256x128.size (inbHead p))
/-- Pair `p`'s 128 columns of a row. -/
def colsOf (x : Vec F S1x1024 .f32) (p : Fin 8) : Vec F S1x128 .f32 :=
  View.ld x (Rect.unit (s := S1x1024) ![0, 128 * p.val] S1x128.size (inbCols p))
/-- Piece `s` of the read-out's weights. -/
def rowsOf (x : Vec F S1024x1024 .bf16) (s : Fin 4) : Vec F S256x1024 .bf16 :=
  View.ld x (Rect.unit (s := S1024x1024) ![256 * s.val, 0] S256x1024.size (inbRows s))

/-- Which lanes are the first head's. -/
def firstV : IVec S256x128 1 := cmpi .slt (iota .tc S256x128 32 [1] iota_S256x128_d1_w32) (broadcast S256x128 64#32)

/-- The first head's sums. -/
def lowV (x : FVec F S256x128 .f32) : FVec F S256x1 .f32 :=
  shapeCast S256x1 (multiReduction .add [1] S256 (select firstV x (broadcast S256x128 (Scalar.ofBits .f32 0x00000000#32)))
    0x00000000#32 reduces_S256x128_S256 (.inl rfl) rfl) shapeCasts_S256_S256x1
/-- The pair's sums. -/
def allV (x : FVec F S256x128 .f32) : FVec F S256x1 .f32 :=
  shapeCast S256x1 (multiReduction .add [1] S256 x 0x00000000#32 reduces_S256x128_S256 (.inl rfl) rfl) shapeCasts_S256_S256x1
/-- Each lane's head's sum. -/
def sumV (x : FVec F S256x128 .f32) : FVec F S256x128 .f32 :=
  select firstV (broadcastTo S256x128 (shapeCast S256x1 (lowV x) shapeCasts_S256x1_S256x1) broadcasts_S256x1_S256x128)
    (broadcastTo S256x128 (shapeCast S256x1 (subf (allV x) (lowV x)) shapeCasts_S256x1_S256x1) broadcasts_S256x1_S256x128)

/-- The lanes' deviations. -/
def devV (y : FVec F S256x128 .f32) : FVec F S256x128 .f32 :=
  subf y (mulf (sumV y) (broadcast S256x128 (Scalar.ofBits .f32 0x3C800000#32)))
/-- The pair's two directions added. -/
def bothV (yf yb : Vec F S1x1x256x128 .f32) : FVec F S256x128 .f32 :=
  addf (shapeCast S256x128 yf shapeCasts_S1x1x256x128_S256x128) (shapeCast S256x128 yb shapeCasts_S1x1x256x128_S256x128)
/-- The normalised lanes with gain and bias. -/
def normV (d : FVec F S256x128 .f32) (ga be : Vec F S1x128 .f32) : FVec F S256x128 .f32 :=
  addf (mulf (mulf d (rsqrt (addf (mulf (sumV (mulf d d)) (broadcast S256x128 (Scalar.ofBits .f32 0x3C800000#32)))
      (broadcast S256x128 (Scalar.ofBits .f32 0x3A27C5AC#32)))))
      (broadcastTo S256x128 (shapeCast S1x128 ga shapeCasts_S1x128_S1x128) broadcasts_S1x128_S256x128))
    (broadcastTo S256x128 (shapeCast S1x128 be shapeCasts_S1x128_S1x128) broadcasts_S1x128_S256x128)
/-- The bonus's products. -/
def bonusV (r k : Vec F S1x1x256x128 .bf16) (rk : Vec F S1x128 .f32) : FVec F S256x128 .f32 :=
  mulf (mulf (extf .f32 (shapeCast S256x128 r shapeCasts_S1x1x256x128_S256x128) bitsLt_bf16_f32)
      (extf .f32 (shapeCast S256x128 k shapeCasts_S1x1x256x128_S256x128) bitsLt_bf16_f32))
    (broadcastTo S256x128 (shapeCast S1x128 rk shapeCasts_S1x128_S1x128) broadcasts_S1x128_S256x128)
/-- A pair's read-out under its gate. -/
def pairV (yf yb : Vec F S1x1x256x128 .f32) (r k v : Vec F S1x1x256x128 .bf16) (ga be rk : Vec F S1x128 .f32)
    (g : FVec F S256x128 .f32) : FVec F S256x128 .bf16 :=
  truncf .bf16 (mulf (addf (normV (devV (bothV yf yb)) ga be)
    (mulf (sumV (bonusV r k rk)) (extf .f32 (shapeCast S256x128 v shapeCasts_S1x1x256x128_S256x128) bitsLt_bf16_f32))) g) bitsLt_bf16_f32

/-- Pair `p`'s, from the blocks. -/
def pairAt (gate : FVec F S256x1024 .f32) (x1 x2 : Vec F S1x8x256x128 .f32) (x3 x4 x5 : Vec F S1x8x256x128 .bf16)
    (x14 x15 x16 : Vec F S1x1024 .f32) (p : Fin 8) : FVec F S256x128 .bf16 :=
  pairV (headOf x1 p) (headOf x2 p) (headOf x3 p) (headOf x4 p) (headOf x5 p) (colsOf x14 p) (colsOf x15 p) (colsOf x16 p)
    (extractStridedSlice S256x128 ![0, 128 * p.val] gate (slicesCols p))

/-- Two pairs side by side. -/
def catV (a b : FVec F S256x128 .bf16) : FVec F S256x256 .bf16 :=
  concatenate S256x256 1 [⟨S256x128, a⟩, ⟨S256x128, b⟩] concatenates_S256x128_S256x128_S256x256_d1
/-- A piece of the product added on. -/
def accV (acc : FVec F S256x1024 .f32) (h : FVec F S256x256 .bf16) (w : Vec F S256x1024 .bf16) : FVec F S256x1024 .f32 :=
  addf acc (matmul dot_S256x256_S256x1024_S256x1024_1_0_0_1_n_n none h (shapeCast S256x1024 w shapeCasts_S256x1024_S256x1024)
    (constant S256x1024 .f32 0x00000000#32))

/-- The read-out through its first three pieces. -/
def acc3 (P : Fin 8 → FVec F S256x128 .bf16) (x19 : Vec F S1024x1024 .bf16) : FVec F S256x1024 .f32 :=
  accV (accV (accV k0_pay5 (catV (P 0) (P 1)) (rowsOf x19 0)) (catV (P 2) (P 3)) (rowsOf x19 1)) (catV (P 4) (P 5)) (rowsOf x19 2)

/-- The block the body leaves. -/
def res (x0 : Vec F S1x256x1024 .f32) (x1 : Vec F S1x8x256x128 .f32) (x2 : Vec F S1x8x256x128 .f32) (x3 : Vec F S1x8x256x128 .bf16) (x4 : Vec F S1x8x256x128 .bf16) (x5 : Vec F S1x8x256x128 .bf16) (x6 : Vec F S1x1x256x128 .bf16) (x7 : Vec F S1x256x512 .f32) (x8 : Vec F S1x256x512 .bf16) (x9 : Vec F S1x256x1024 .bf16) (x10 : Vec F S1x256x1024 .bf16) (x11 : Vec F S1x256x1024 .bf16) (x12 : Vec F S1x1x1024 .f32) (x13 : Vec F S128x1024 .bf16) (x14 : Vec F S1x1024 .f32) (x15 : Vec F S1x1024 .f32) (x16 : Vec F S1x1024 .f32) (x17 : Vec F S1x512 .f32) (x18 : Vec F S1x512 .f32) (x19 : Vec F S1024x1024 .bf16) (x20 : Vec F S512x1024 .bf16) (x21 : Vec F S512x1024 .bf16) (x22 : Vec F S1024x1024 .bf16) : FVec F S1x256x1024 .f32 :=
  k0_pay1 (k0_pay61 (k0_pay2 x8 x21) (k0_pay3 x7 x17 x18 x20) (acc3 (pairAt (k0_pay4 x6 x13) x1 x2 x3 x4 x5 x14 x15 x16) x19)
      (catV (pairAt (k0_pay4 x6 x13) x1 x2 x3 x4 x5 x14 x15 x16 6) (pairAt (k0_pay4 x6 x13) x1 x2 x3 x4 x5 x14 x15 x16 7))
      (rowsOf x19 3) x9 x10 x11)
    (k0_pay62 x0) x12 x22

end Cert.MergeIdeal.Block

end
-- ==== Proof.MergeBlock.lean ====
/- What the merge's one store leaves is the block of MergePair.lean. -/
module

public import proofs.«01_k».proof.Proof.MergePair

@[expose] public section

set_option maxRecDepth 65536

noncomputable section

namespace Cert.MergeIdeal.Block

open Cert.MergeIdeal Cert.MergeIdeal.Gen Cert.Rows Cert.MergeSpec Idealize.ShloMosaic Idealize.ShloMosaic.TcCoe

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

set_option maxHeartbeats 4000000 in
/-- What the one store leaves. -/
theorem left_res (c : Dev nD) (i : grid0.Coords) (arg2 : Memref sig .tc .vmem S1x256x1024 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .bf16) (harg5 : arg5.IsWhole) (arg6 : Memref sig .tc .vmem S1x8x256x128 .bf16) (harg6 : arg6.IsWhole) (arg7 : Memref sig .tc .vmem S1x8x256x128 .bf16) (harg7 : arg7.IsWhole) (arg8 : Memref sig .tc .vmem S1x1x256x128 .bf16) (harg8 : arg8.IsWhole) (arg9 : Memref sig .tc .vmem S1x256x512 .f32) (harg9 : arg9.IsWhole) (arg10 : Memref sig .tc .vmem S1x256x512 .bf16) (harg10 : arg10.IsWhole) (arg11 : Memref sig .tc .vmem S1x256x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S1x1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S1024x1024 .bf16) (harg24 : arg24.IsWhole) (arg25 : Memref sig .tc .vmem S1x256x1024 .f32) (harg25 : arg25.IsWhole)
    (x0 : Vec Ideal S1x256x1024 .f32) (x1 : Vec Ideal S1x8x256x128 .f32) (x2 : Vec Ideal S1x8x256x128 .f32) (x3 : Vec Ideal S1x8x256x128 .bf16) (x4 : Vec Ideal S1x8x256x128 .bf16) (x5 : Vec Ideal S1x8x256x128 .bf16) (x6 : Vec Ideal S1x1x256x128 .bf16) (x7 : Vec Ideal S1x256x512 .f32) (x8 : Vec Ideal S1x256x512 .bf16) (x9 : Vec Ideal S1x256x1024 .bf16) (x10 : Vec Ideal S1x256x1024 .bf16) (x11 : Vec Ideal S1x256x1024 .bf16) (x12 : Vec Ideal S1x1x1024 .f32) (x13 : Vec Ideal S128x1024 .bf16) (x14 : Vec Ideal S1x1024 .f32) (x15 : Vec Ideal S1x1024 .f32) (x16 : Vec Ideal S1x1024 .f32) (x17 : Vec Ideal S1x512 .f32) (x18 : Vec Ideal S1x512 .f32) (x19 : Vec Ideal S1024x1024 .bf16) (x20 : Vec Ideal S512x1024 .bf16) (x21 : Vec Ideal S512x1024 .bf16) (x22 : Vec Ideal S1024x1024 .bf16) :
    Own.left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22 = res x0 x1 x2 x3 x4 x5 x6 x7 x8 x9 x10 x11 x12 x13 x14 x15 x16 x17 x18 x19 x20 x21 x22 := by
  unfold Own.left
  rw [View.read_writes_eq_canon _ _ _ (Own.covers c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22)]
  unfold Own.bodyRun
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread]
  rw [View.ld_unit_zero (S := S1x256x1024) hz3, View.ld_unit_zero (S := S1x1x1024) hz3, View.ld_unit_zero (S := S1024x1024) hz2]
  simp only [View.ld_unit_zero (S := S1x256x1024) hz3, View.ld_unit_zero (S := S1x256x512) hz3, View.ld_unit_zero (S := S512x1024) hz2,
    View.ld_unit_zero (S := S1x512) hz2, View.ld_unit_zero (S := S128x1024) hz2, View.ld_unit_zero (S := S1x1x256x128) hz4]
  rfl

end Cert.MergeIdeal.Block

end
-- ==== Proof.MergeHost.lean ====
/- The arrays the merge's host code prepares, entry by entry. -/
module

public import proofs.«01_k».proof.Proof.MergeBlock

@[expose] public section

set_option maxRecDepth 65536

noncomputable section

namespace Cert.MergeIdeal.Arr

open Cert.MergeIdeal Cert.MergeIdeal.Gen Cert.Rows Cert.MergeSpec Idealize.ShloMosaic Idealize.ShloMosaic.TcCoe Idealize.SL.Sem
open Idealize.ShloMosaic.Pipeline (Dat)

variable (m : (ℓ : Loc nD τ sig) → Buf (Elt Ideal) ℓ)

/-- The tokens: the latent stream, then the context stream. -/
theorem V_tokens (c : Dev nD) (b : Fin 16) (i : Fin 2304) (k : Fin 1024) :
    (V m c main_v0 : (⟨3, ![16, 2304, 1024]⟩ : Shape).Idx → EReal) (ix3 b i k) = token (m ((c : Thread nD τ).loc main_arg0)) (m ((c : Thread nD τ).loc main_arg1)) b i k := by
  have e : V m c main_v0 = concatenate S16x2304x1024 1 [⟨S16x2048x1024, (m ((c : Thread nD τ).loc main_arg0))⟩, ⟨S16x256x1024, (m ((c : Thread nD τ).loc main_arg1))⟩] concatenates_S16x2048x1024_S16x256x1024_S16x2304x1024_d1 := by
    unfold V; after_results_simp <;> rfl
  rw [e]
  exact concat_apply _ _ _ b i k

theorem swap8_apply (y : (⟨4, ![16, 2304, 8, 128]⟩ : Shape).Idx → EReal) (h2 : S16x2304x8x128.Transposes [0, 2, 1, 3] S16x8x2304x128)
    (b : Fin 16) (p : Fin 8) (i : Fin 2304) (l : Fin 128) :
    transpose S16x8x2304x128 [0, 2, 1, 3] y h2 (ix4 b p i l) = y (ix4 b i p l) := by
  pointwise
theorem swap27_apply (y : (⟨4, ![16, 2304, 27, 128]⟩ : Shape).Idx → EReal) (h2 : S16x2304x27x128.Transposes [0, 2, 1, 3] S16x27x2304x128)
    (b : Fin 16) (p : Fin 27) (i : Fin 2304) (l : Fin 128) :
    transpose S16x27x2304x128 [0, 2, 1, 3] y h2 (ix4 b p i l) = y (ix4 b i p l) := by
  pointwise

/-- The heads' columns by pairs. -/
theorem pairs_apply (x : Heads) (h1 : S16x2304x16x64.ShapeCasts S16x2304x8x128) (h2 : S16x2304x8x128.Transposes [0, 2, 1, 3] S16x8x2304x128)
    (b : Fin 16) (p : Fin 8) (i : Fin 2304) (l : Fin 128) :
    transpose S16x8x2304x128 [0, 2, 1, 3] (shapeCast S16x2304x8x128 x h1) h2 (ix4 b p i l) = x (ix4 b i (hd (lane p l)) (dm (lane p l))) := by
  rw [swap8_apply]
  exact shapeCast_apply _ h1 _ (ix4 b i (hd (lane p l)) (dm (lane p l))) (by
    rw [Shape.rowMajor_val_four, Shape.rowMajor_val_four]
    show ((b.val * 2304 + i.val) * 16 + (128 * p.val + l.val) / 64) * 64 + (128 * p.val + l.val) % 64 = ((b.val * 2304 + i.val) * 8 + p.val) * 128 + l.val
    omega)

/-- The forward heads. -/
theorem V_yf (c : Dev nD) (b : Fin 16) (p : Fin 8) (i : Fin 2304) (l : Fin 128) :
    (V m c main_v2 : (⟨4, ![16, 8, 2304, 128]⟩ : Shape).Idx → EReal) (ix4 b p i l) = ((m ((c : Thread nD τ).loc main_arg4)) : Heads) (ix4 b i (hd (lane p l)) (dm (lane p l))) := by
  have e : V m c main_v2 = transpose S16x8x2304x128 [0, 2, 1, 3] (shapeCast S16x2304x8x128 (m ((c : Thread nD τ).loc main_arg4)) shapeCasts_S16x2304x16x64_S16x2304x8x128) transposes_S16x2304x8x128_S16x8x2304x128_0_2_1_3 := by
    unfold V; after_results_simp <;> rfl
  rw [e]
  exact pairs_apply _ _ _ b p i l

/-- The backward heads. -/
theorem V_yb (c : Dev nD) (b : Fin 16) (p : Fin 8) (i : Fin 2304) (l : Fin 128) :
    (V m c main_v4 : (⟨4, ![16, 8, 2304, 128]⟩ : Shape).Idx → EReal) (ix4 b p i l) = ((m ((c : Thread nD τ).loc main_arg5)) : Heads) (ix4 b i (hd (lane p l)) (dm (lane p l))) := by
  have e : V m c main_v4 = transpose S16x8x2304x128 [0, 2, 1, 3] (shapeCast S16x2304x8x128 (m ((c : Thread nD τ).loc main_arg5)) shapeCasts_S16x2304x16x64_S16x2304x8x128) transposes_S16x2304x8x128_S16x8x2304x128_0_2_1_3 := by
    unfold V; after_results_simp <;> rfl
  rw [e]
  exact pairs_apply _ _ _ b p i l

/-- The recurrence's columns by groups of 128. -/
theorem V_zr (c : Dev nD) (b : Fin 16) (p : Fin 27) (i : Fin 2304) (l : Fin 128) :
    (V m c main_v7 : (⟨4, ![16, 27, 2304, 128]⟩ : Shape).Idx → EReal) (ix4 b p i l) = ((m ((c : Thread nD τ).loc main_arg6)) : Zr) (ix3 b i ⟨128 * p.val + l.val, by omega⟩) := by
  have e : V m c main_v7 = transpose S16x27x2304x128 [0, 2, 1, 3] (shapeCast S16x2304x27x128 (truncf .bf16 (m ((c : Thread nD τ).loc main_arg6)) bitsLt_bf16_f32 : FVec Ideal S16x2304x3456 .bf16) shapeCasts_S16x2304x3456_S16x2304x27x128) transposes_S16x2304x27x128_S16x27x2304x128_0_2_1_3 := by
    unfold V; after_results_simp <;> rfl
  rw [e]
  rw [swap27_apply]
  refine (shapeCast_apply _ shapeCasts_S16x2304x3456_S16x2304x27x128 _ (ix3 b i ⟨128 * p.val + l.val, by omega⟩) (by
    rw [Shape.rowMajor_val_four, Shape.rowMajor_val_three]
    show (b.val * 2304 + i.val) * 3456 + (128 * p.val + l.val) = ((b.val * 2304 + i.val) * 27 + p.val) * 128 + l.val
    omega)).trans ?_
  rfl

/-- The gates' columns. -/
theorem V_z (c : Dev nD) (b : Fin 16) (i : Fin 2304) (k : Fin 5120) (h : k.val < 3072) :
    (V m c main_v12 : (⟨3, ![16, 2304, 5120]⟩ : Shape).Idx → EReal) (ix3 b i k) = ((m ((c : Thread nD τ).loc main_arg7)) : Zed) (ix3 b i ⟨5504 + k.val, by omega⟩) := by
  have e : V m c main_v12 = (truncf .bf16 (concatenate S16x2304x5120 2
      [⟨S16x2304x3072, extractStridedSlice S16x2304x3072 ![0, 0, 5504] (m ((c : Thread nD τ).loc main_arg7)) slices_S16x2304x8576_S16x2304x3072_0_0_5504⟩,
       ⟨S16x2304x2048, extractStridedSlice S16x2304x2048 ![0, 0, 3456] (m ((c : Thread nD τ).loc main_arg7)) slices_S16x2304x8576_S16x2304x2048_0_0_3456⟩]
      concatenates_S16x2304x3072_S16x2304x2048_S16x2304x5120_d2 : FVec Ideal S16x2304x5120 .f32) bitsLt_bf16_f32 : FVec Ideal S16x2304x5120 .bf16) := by
    unfold V; after_results_simp <;> rfl
  rw [e]
  pointwise [h]

/-- The layer's gates: batch `b`'s own, then the shared one. -/
theorem V_mod (c : Dev nD) (b : Fin 16) (s : Fin 2) (k : Fin 1024) :
    (V m c main_v17 : (⟨3, ![32, 1, 1024]⟩ : Shape).Idx → EReal) (ix3 ⟨2 * b.val + s.val, by omega⟩ 0 k)
      = if s.val = 0 then ((m ((c : Thread nD τ).loc main_arg2)) : PerBatch) (ix2 b k) else ((m ((c : Thread nD τ).loc main_arg3)) : Gain) (ix1 k) := by
  have e : V m c main_v17 = shapeCast S32x1x1024 (concatenate S16x2x1024 1
      [⟨S16x1x1024, broadcastInDim S16x1x1024 ![0, 2] bcast_S16x1024_S16x1x1024_0_2 (m ((c : Thread nD τ).loc main_arg2))⟩,
       ⟨S16x1x1024, broadcastInDim S16x1x1024 ![0, 2] bcast_S16x1024_S16x1x1024_0_2
          (broadcastInDim S16x1024 ![1] bcast_S1024_S16x1024_1 (m ((c : Thread nD τ).loc main_arg3)))⟩]
      concatenates_S16x1x1024_S16x1x1024_S16x2x1024_d1) shapeCasts_S16x2x1024_S32x1x1024 := by
    unfold V; after_results_simp <;> rfl
  rw [e]
  exact table_apply _ _ _ _ _ _ b s k

theorem V_ga (c : Dev nD) (k : Fin 1024) :
    (V m c main_v19 : (⟨2, ![1, 1024]⟩ : Shape).Idx → EReal) (ix2 0 k) = ((m ((c : Thread nD τ).loc main_arg10)) : Gain) (ix1 k) := by
  have e : V m c main_v19 = broadcastInDim S1x1024 ![1] bcast_S1024_S1x1024_1 (m ((c : Thread nD τ).loc main_arg10)) := by
    unfold V; after_results_simp <;> rfl
  rw [e]
  pointwise

theorem V_be (c : Dev nD) (k : Fin 1024) :
    (V m c main_v20 : (⟨2, ![1, 1024]⟩ : Shape).Idx → EReal) (ix2 0 k) = ((m ((c : Thread nD τ).loc main_arg11)) : Gain) (ix1 k) := by
  have e : V m c main_v20 = broadcastInDim S1x1024 ![1] bcast_S1024_S1x1024_1 (m ((c : Thread nD τ).loc main_arg11)) := by
    unfold V; after_results_simp <;> rfl
  rw [e]
  pointwise

theorem V_rk (c : Dev nD) (k : Fin 1024) :
    (V m c main_v21 : (⟨2, ![1, 1024]⟩ : Shape).Idx → EReal) (ix2 0 k) = ((m ((c : Thread nD τ).loc main_arg12)) : Gain) (ix1 k) := by
  have e : V m c main_v21 = broadcastInDim S1x1024 ![1] bcast_S1024_S1x1024_1 (m ((c : Thread nD τ).loc main_arg12)) := by
    unfold V; after_results_simp <;> rfl
  rw [e]
  pointwise

theorem V_lg (c : Dev nD) (k : Fin 512) :
    (V m c main_v22 : (⟨2, ![1, 512]⟩ : Shape).Idx → EReal) (ix2 0 k) = ((m ((c : Thread nD τ).loc main_arg14)) : Vec512) (ix1 k) := by
  have e : V m c main_v22 = broadcastInDim S1x512 ![1] bcast_S512_S1x512_1 (m ((c : Thread nD τ).loc main_arg14)) := by
    unfold V; after_results_simp <;> rfl
  rw [e]
  pointwise

theorem V_lb (c : Dev nD) (k : Fin 512) :
    (V m c main_v23 : (⟨2, ![1, 512]⟩ : Shape).Idx → EReal) (ix2 0 k) = ((m ((c : Thread nD τ).loc main_arg15)) : Vec512) (ix1 k) := by
  have e : V m c main_v23 = broadcastInDim S1x512 ![1] bcast_S512_S1x512_1 (m ((c : Thread nD τ).loc main_arg15)) := by
    unfold V; after_results_simp <;> rfl
  rw [e]
  pointwise

theorem V_cpre (c : Dev nD) : (V m c main_v8 : Row512) = (m ((c : Thread nD τ).loc main_arg9)) := by
  have e : V m c main_v8 = (truncf .bf16 (m ((c : Thread nD τ).loc main_arg9)) bitsLt_bf16_f32 : FVec Ideal S16x2304x512 .bf16) := by
    unfold V; after_results_simp <;> rfl
  rw [e]; rfl

theorem V_gup (c : Dev nD) : (V m c main_v18 : Lora) = (m ((c : Thread nD τ).loc main_arg13)) := by
  have e : V m c main_v18 = (truncf .bf16 (m ((c : Thread nD τ).loc main_arg13)) bitsLt_bf16_f32 : FVec Ideal S128x1024 .bf16) := by
    unfold V; after_results_simp <;> rfl
  rw [e]; rfl

theorem V_wro (c : Dev nD) : (V m c main_v24 : Sq) = (m ((c : Thread nD τ).loc main_arg16)) := by
  have e : V m c main_v24 = (truncf .bf16 (m ((c : Thread nD τ).loc main_arg16)) bitsLt_bf16_f32 : FVec Ideal S1024x1024 .bf16) := by
    unfold V; after_results_simp <;> rfl
  rw [e]; rfl

theorem V_wco (c : Dev nD) : (V m c main_v25 : Half) = (m ((c : Thread nD τ).loc main_arg17)) := by
  have e : V m c main_v25 = (truncf .bf16 (m ((c : Thread nD τ).loc main_arg17)) bitsLt_bf16_f32 : FVec Ideal S512x1024 .bf16) := by
    unfold V; after_results_simp <;> rfl
  rw [e]; rfl

theorem V_wso (c : Dev nD) : (V m c main_v26 : Half) = (m ((c : Thread nD τ).loc main_arg18)) := by
  have e : V m c main_v26 = (truncf .bf16 (m ((c : Thread nD τ).loc main_arg18)) bitsLt_bf16_f32 : FVec Ideal S512x1024 .bf16) := by
    unfold V; after_results_simp <;> rfl
  rw [e]; rfl

theorem V_wm (c : Dev nD) : (V m c main_v27 : Sq) = (m ((c : Thread nD τ).loc main_arg19)) := by
  have e : V m c main_v27 = (truncf .bf16 (m ((c : Thread nD τ).loc main_arg19)) bitsLt_bf16_f32 : FVec Ideal S1024x1024 .bf16) := by
    unfold V; after_results_simp <;> rfl
  rw [e]; rfl

theorem V_conv (c : Dev nD) : (V m c main_arg8 : Row512) = (m ((c : Thread nD τ).loc main_arg8)) := V_main_arg8 m c

end Cert.MergeIdeal.Arr

end
-- ==== Proof.MergeValue.lean ====
/- The block the merge's body leaves, entry by entry. -/
module

public import proofs.«01_k».proof.Proof.MergePair
public import Idealize.ShloMosaic.Lib.Pipeline.ValueKit

@[expose] public section

set_option maxRecDepth 65536

noncomputable section

namespace Cert.MergeIdeal.Block

open Cert.MergeIdeal Cert.MergeIdeal.Gen Cert.Rows Cert.MergeSpec Idealize.ShloMosaic Idealize.ShloMosaic.TcCoe

/-! ## A pair -/

/-- Which lanes of a row of 128 are the first head's. -/
theorem mask_eq (l : Fin 128) : IntOp.cmpi CmpIPredicate.slt (BitVec.ofNat 32 l.val) 64#32 = if l.val < 64 then 1#1 else 0#1 :=
  (by decide +kernel : ∀ l : Fin 128, IntOp.cmpi CmpIPredicate.slt (BitVec.ofNat 32 l.val) 64#32 = if l.val < 64 then 1#1 else 0#1) l

/-- A choice by that mask. -/
theorem select_mask (l : Fin 128) (u v : EReal) :
    Scalar.select (IntOp.cmpi CmpIPredicate.slt (BitVec.ofNat 32 l.val) 64#32) u v = if l.val < 64 then u else v := by
  rw [mask_eq]
  by_cases h : l.val < 64
  · rw [if_pos h, if_pos h]; rfl
  · rw [if_neg h, if_neg h]; rfl

theorem low_apply (x : FVec Ideal S256x128 .f32) (i : Fin 256) : lowV x (ix2 i 0) = low (fun j => x (ix2 i j)) := by
  refine Eq.trans (b := ∑ j : Fin 128, Scalar.select (IntOp.cmpi CmpIPredicate.slt (BitVec.ofNat 32 j.val) 64#32) (x (ix2 i j)) 0) ?_
    (Finset.sum_congr rfl fun j _ => select_mask j _ _)
  pointwise [lowV, firstV]
theorem all_apply (x : FVec Ideal S256x128 .f32) (i : Fin 256) : allV x (ix2 i 0) = ∑ j, x (ix2 i j) := by
  pointwise [allV]
theorem sum_apply (x : FVec Ideal S256x128 .f32) (i : Fin 256) (l : Fin 128) : sumV x (ix2 i l) = headSum (fun j => x (ix2 i j)) l := by
  unfold headSum
  rw [← low_apply, ← all_apply]
  pointwise [sumV, firstV]
  exact select_mask l _ _

theorem dev_apply (y : FVec Ideal S256x128 .f32) (i : Fin 256) (l : Fin 128) : devV y (ix2 i l) = lDev (fun j => y (ix2 i j)) l := by
  unfold lDev
  rw [← sum_apply]
  pointwise [devV]

theorem norm_apply (d : FVec Ideal S256x128 .f32) (ga be : Vec Ideal S1x128 .f32) (i : Fin 256) (l : Fin 128) :
    normV d ga be (ix2 i l) = d (ix2 i l) * Ideal.rsqrt (headSum (fun j => d (ix2 i j) * d (ix2 i j)) l * Ideal.ofBits .f32 0x3C800000#32
      + Ideal.ofBits .f32 0x3A27C5AC#32) * ga (ix2 0 l) + be (ix2 0 l) := by
  rw [show (fun j => d (ix2 i j) * d (ix2 i j)) = fun j => (mulf d d) (ix2 i j) from rfl, ← sum_apply]
  pointwise [normV]

theorem both_apply (yf yb : Vec Ideal S1x1x256x128 .f32) (i : Fin 256) (l : Fin 128) :
    bothV yf yb (ix2 i l) = yf (ix4 0 0 i l) + yb (ix4 0 0 i l) := by
  pointwise [bothV]
theorem bonus_apply (r k : Vec Ideal S1x1x256x128 .bf16) (rk : Vec Ideal S1x128 .f32) (i : Fin 256) (l : Fin 128) :
    bonusV r k rk (ix2 i l) = r (ix4 0 0 i l) * k (ix4 0 0 i l) * rk (ix2 0 l) := by
  pointwise [bonusV]

/-- A pair's read-out, lane by lane. -/
theorem pair_apply (yf yb : Vec Ideal S1x1x256x128 .f32) (r k v : Vec Ideal S1x1x256x128 .bf16) (ga be rk : Vec Ideal S1x128 .f32)
    (g : FVec Ideal S256x128 .f32) (i : Fin 256) (l : Fin 128) :
    pairV yf yb r k v ga be rk g (ix2 i l)
      = lOut (fun j => yf (ix4 0 0 i j) + yb (ix4 0 0 i j)) (fun j => r (ix4 0 0 i j)) (fun j => k (ix4 0 0 i j)) (fun j => v (ix4 0 0 i j))
          (fun j => ga (ix2 0 j)) (fun j => be (ix2 0 j)) (fun j => rk (ix2 0 j)) l * g (ix2 i l) := by
  have h : pairV yf yb r k v ga be rk g (ix2 i l)
      = (normV (devV (bothV yf yb)) ga be (ix2 i l) + sumV (bonusV r k rk) (ix2 i l) * v (ix4 0 0 i l)) * g (ix2 i l) := by
    pointwise [pairV]
  rw [h, norm_apply, sum_apply]
  simp only [dev_apply, both_apply, bonus_apply]
  rfl

theorem head_of {e : EltTy} (x : Vec Ideal S1x8x256x128 e) (p : Fin 8) (i : Fin 256) (j : Fin 128) :
    headOf x p (ix4 0 0 i j) = x (ix4 0 p i j) :=
  View.ld_unit_apply_of x _ _ (inbHead p) (ix4 0 0 i j) (ix4 0 p i j) fun a => by
    match a with
    | ⟨0, _⟩ => rfl
    | ⟨1, _⟩ => rfl
    | ⟨2, _⟩ => show i.val = 0 + i.val; omega
    | ⟨3, _⟩ => show j.val = 0 + j.val; omega
theorem cols_of (x : Vec Ideal S1x1024 .f32) (p : Fin 8) (j : Fin 128) : colsOf x p (ix2 0 j) = x (ix2 0 (lane p j)) :=
  View.ld_unit_apply_of x _ _ (inbCols p) (ix2 0 j) (ix2 0 (lane p j)) fun a => by
    match a with
    | ⟨0, _⟩ => rfl
    | ⟨1, _⟩ => rfl
theorem rows_of (x : Vec Ideal S1024x1024 .bf16) (s : Fin 4) (n : Fin 256) (q : Fin 1024) :
    rowsOf x s (ix2 n q) = x (ix2 ⟨256 * s.val + n.val, by omega⟩ q) :=
  View.ld_unit_apply_of x _ _ (inbRows s) (ix2 n q) (ix2 ⟨256 * s.val + n.val, by omega⟩ q) fun a => by
    match a with
    | ⟨0, _⟩ => rfl
    | ⟨1, _⟩ => show q.val = 0 + q.val; omega

/-- Pair `p`'s read-out from the blocks. -/
theorem at_apply (gate : FVec Ideal S256x1024 .f32) (x1 x2 : Vec Ideal S1x8x256x128 .f32) (x3 x4 x5 : Vec Ideal S1x8x256x128 .bf16)
    (x14 x15 x16 : Vec Ideal S1x1024 .f32) (p : Fin 8) (i : Fin 256) (l : Fin 128) :
    pairAt gate x1 x2 x3 x4 x5 x14 x15 x16 p (ix2 i l)
      = lOut (fun j => x1 (ix4 0 p i j) + x2 (ix4 0 p i j)) (fun j => x3 (ix4 0 p i j)) (fun j => x4 (ix4 0 p i j)) (fun j => x5 (ix4 0 p i j))
          (fun j => x14 (ix2 0 (lane p j))) (fun j => x15 (ix2 0 (lane p j))) (fun j => x16 (ix2 0 (lane p j))) l * gate (ix2 i (lane p l)) := by
  unfold pairAt
  rw [pair_apply]
  simp only [head_of, cols_of]
  refine congrArg₂ (· * ·) rfl (congrArg gate (funext fun a => Fin.ext ?_))
  match a with
  | ⟨0, _⟩ => show 0 + i.val = i.val; omega
  | ⟨1, _⟩ => rfl

/-! ## The product in pieces -/

theorem acc_apply (acc : FVec Ideal S256x1024 .f32) (a b : FVec Ideal S256x128 .bf16) (w : Vec Ideal S256x1024 .bf16) (i : Fin 256) (q : Fin 1024) :
    accV acc (catV a b) w (ix2 i q) = acc (ix2 i q) + ∑ n : Fin 256,
      (if h : n.val < 128 then a (ix2 i ⟨n.val, h⟩) else b (ix2 i ⟨n.val - 128, by omega⟩)) * w (ix2 n q) := by
  pointwise [accV, catV, dot_S256x256_S256x1024_S256x1024_1_0_0_1_n_n]

/-- A row of all pairs' lanes. -/
def rowOf (P : Fin 8 → FVec Ideal S256x128 .bf16) (i : Fin 256) (n : Fin 1024) : EReal := P ⟨n.val / 128, by omega⟩ (ix2 i ⟨n.val % 128, by omega⟩)

theorem piece_apply (P : Fin 8 → FVec Ideal S256x128 .bf16) (acc : FVec Ideal S256x1024 .f32) (x19 : Vec Ideal S1024x1024 .bf16) (s : Fin 4)
    (p p' : Fin 8) (hp : p.val = 2 * s.val) (hp' : p'.val = 2 * s.val + 1) (i : Fin 256) (q : Fin 1024) :
    accV acc (catV (P p) (P p')) (rowsOf x19 s) (ix2 i q) = acc (ix2 i q) + Cert.MergeSpec.piece (rowOf P i) x19 q (256 * s.val) (by omega) := by
  rw [acc_apply]
  unfold Cert.MergeSpec.piece rowOf
  refine congrArg₂ (· + ·) rfl (Finset.sum_congr rfl fun n _ => ?_)
  rw [rows_of]
  refine congrArg₂ (· * ·) ?_ rfl
  have key : ∀ (a a' : Fin 8) (b b' : Fin 128), a.val = a'.val → b.val = b'.val → P a (ix2 i b) = P a' (ix2 i b') := by
    intro a a' b b' ha hb; cases Fin.ext ha; cases Fin.ext hb; rfl
  have hn := n.isLt
  by_cases h : n.val < 128
  · rw [dif_pos h]
    exact key _ _ _ _ (by show p.val = (256 * s.val + n.val) / 128; omega) (by show n.val = (256 * s.val + n.val) % 128; omega)
  · rw [dif_neg h]
    exact key _ _ _ _ (by show p'.val = (256 * s.val + n.val) / 128; omega) (by show n.val - 128 = (256 * s.val + n.val) % 128; omega)

/-- The read-out's product. -/
theorem out_proj (P : Fin 8 → FVec Ideal S256x128 .bf16) (x19 : Vec Ideal S1024x1024 .bf16) (i : Fin 256) (q : Fin 1024) :
    accV (acc3 P x19) (catV (P 6) (P 7)) (rowsOf x19 3) (ix2 i q) = proj (rowOf P i) x19 q := by
  have h5 : (k0_pay5 (F := Ideal)) (ix2 i q) = 0 := by unfold_payloads; pointwise
  rw [proj_eq, piece_apply P _ x19 3 6 7 rfl rfl]
  unfold acc3
  rw [piece_apply P _ x19 2 4 5 rfl rfl, piece_apply P _ x19 1 2 3 rfl rfl, piece_apply P _ x19 0 0 1 rfl rfl, h5, zero_add]
  rfl

/-! ## The other branches -/

theorem gate_apply (x6 : Vec Ideal S1x1x256x128 .bf16) (x13 : Vec Ideal S128x1024 .bf16) (i : Fin 256) (n : Fin 1024) :
    k0_pay4 (F := Ideal) x6 x13 (ix2 i n) = gateOut (fun j => x6 (ix4 0 0 i j)) x13 n := by
  unfold_payloads
  pointwise [gateOut, Ideal.logistic, dot_S256x128_S128x1024_S256x1024_1_0_0_1_n_n]

theorem conv_apply (x7 : Vec Ideal S1x256x512 .f32) (x17 x18 : Vec Ideal S1x512 .f32) (x20 : Vec Ideal S512x1024 .bf16) (i : Fin 256) (q : Fin 1024) :
    k0_pay3 (F := Ideal) x7 x17 x18 x20 (ix2 i q)
      = convOut (fun j => x7 (ix3 0 i j)) (fun j => x17 (ix2 0 j)) (fun j => x18 (ix2 0 j)) x20 q := by
  unfold_payloads
  pointwise [convOut, layerNorm, mean512, Ideal.logistic, dot_S256x512_S512x1024_S256x1024_1_0_0_1_n_n]

theorem spatial_apply (x8 : Vec Ideal S1x256x512 .bf16) (x21 : Vec Ideal S512x1024 .bf16) (i : Fin 256) (q : Fin 1024) :
    k0_pay2 (F := Ideal) x8 x21 (ix2 i q) = spatialOut (fun j => x8 (ix3 0 i j)) x21 q := by
  unfold_payloads
  pointwise [spatialOut, dot_S256x512_S512x1024_S256x1024_1_0_0_1_n_n]

theorem mix_apply (c b : FVec Ideal S256x1024 .f32) (acc : FVec Ideal S256x1024 .f32) (h : FVec Ideal S256x256 .bf16) (w : Vec Ideal S256x1024 .bf16)
    (x9 x10 x11 : Vec Ideal S1x256x1024 .bf16) (i : Fin 256) (q : Fin 1024) :
    k0_pay61 (F := Ideal) c b acc h w x9 x10 x11 (ix2 i q)
      = accV acc h w (ix2 i q) * Ideal.logistic (x9 (ix3 0 i q)) + b (ix2 i q) * Ideal.logistic (x10 (ix3 0 i q))
        + c (ix2 i q) * Ideal.logistic (x11 (ix3 0 i q)) := by
  unfold_payloads
  pointwise [accV, Ideal.logistic]

theorem last_apply (v : FVec Ideal S256x1024 .f32) (x0 : Vec Ideal S1x256x1024 .f32) (x12 : Vec Ideal S1x1x1024 .f32) (x22 : Vec Ideal S1024x1024 .bf16)
    (i : Fin 256) (q : Fin 1024) :
    k0_pay1 (F := Ideal) v (k0_pay62 x0) x12 x22 (ix3 0 i q) = x0 (ix3 0 i q) + x12 (ix3 0 0 q) * proj (fun n => v (ix2 i n)) x22 q := by
  unfold_payloads
  pointwise [proj, dot_S256x1024_S1024x1024_S256x1024_1_0_0_1_n_n]

/-- The lanes' read-out row from the blocks. -/
def rowAt (x1 : Vec Ideal S1x8x256x128 .f32) (x2 : Vec Ideal S1x8x256x128 .f32) (x3 : Vec Ideal S1x8x256x128 .bf16) (x4 : Vec Ideal S1x8x256x128 .bf16) (x5 : Vec Ideal S1x8x256x128 .bf16) (x6 : Vec Ideal S1x1x256x128 .bf16) (x13 : Vec Ideal S128x1024 .bf16) (x14 : Vec Ideal S1x1024 .f32) (x15 : Vec Ideal S1x1024 .f32) (x16 : Vec Ideal S1x1024 .f32)
    (i : Fin 256) (p : Fin 8) (l : Fin 128) : EReal :=
  lOut (fun j => x1 (ix4 0 p i j) + x2 (ix4 0 p i j)) (fun j => x3 (ix4 0 p i j)) (fun j => x4 (ix4 0 p i j)) (fun j => x5 (ix4 0 p i j))
    (fun j => x14 (ix2 0 (lane p j))) (fun j => x15 (ix2 0 (lane p j))) (fun j => x16 (ix2 0 (lane p j))) l
    * gateOut (fun j => x6 (ix4 0 0 i j)) x13 (lane p l)

/-- The block entry by entry. -/
theorem res_apply (x0 : Vec Ideal S1x256x1024 .f32) (x1 : Vec Ideal S1x8x256x128 .f32) (x2 : Vec Ideal S1x8x256x128 .f32) (x3 : Vec Ideal S1x8x256x128 .bf16) (x4 : Vec Ideal S1x8x256x128 .bf16) (x5 : Vec Ideal S1x8x256x128 .bf16) (x6 : Vec Ideal S1x1x256x128 .bf16) (x7 : Vec Ideal S1x256x512 .f32) (x8 : Vec Ideal S1x256x512 .bf16) (x9 : Vec Ideal S1x256x1024 .bf16) (x10 : Vec Ideal S1x256x1024 .bf16) (x11 : Vec Ideal S1x256x1024 .bf16) (x12 : Vec Ideal S1x1x1024 .f32) (x13 : Vec Ideal S128x1024 .bf16) (x14 : Vec Ideal S1x1024 .f32) (x15 : Vec Ideal S1x1024 .f32) (x16 : Vec Ideal S1x1024 .f32) (x17 : Vec Ideal S1x512 .f32) (x18 : Vec Ideal S1x512 .f32) (x19 : Vec Ideal S1024x1024 .bf16) (x20 : Vec Ideal S512x1024 .bf16) (x21 : Vec Ideal S512x1024 .bf16) (x22 : Vec Ideal S1024x1024 .bf16)
    (i : Fin 256) (q : Fin 1024) :
    res x0 x1 x2 x3 x4 x5 x6 x7 x8 x9 x10 x11 x12 x13 x14 x15 x16 x17 x18 x19 x20 x21 x22 (ix3 0 i q)
      = step (fun k => x0 (ix3 0 i k)) (fun k => x12 (ix3 0 0 k))
          (fun n => rowAt x1 x2 x3 x4 x5 x6 x13 x14 x15 x16 i ⟨n.val / 128, by omega⟩ ⟨n.val % 128, by omega⟩) x19
          (convOut (fun j => x7 (ix3 0 i j)) (fun j => x17 (ix2 0 j)) (fun j => x18 (ix2 0 j)) x20) (spatialOut (fun j => x8 (ix3 0 i j)) x21)
          (fun k => x9 (ix3 0 i k)) (fun k => x10 (ix3 0 i k)) (fun k => x11 (ix3 0 i k)) x22 q := by
  unfold res step
  rw [last_apply]
  refine congrArg₂ (· + ·) rfl (congrArg₂ (· * ·) rfl (congrArg (fun f => proj f x22 q) (funext fun n => ?_)))
  rw [mix_apply, out_proj, conv_apply, spatial_apply]
  unfold mixed
  refine congrArg₂ (· + ·) (congrArg₂ (· + ·) (congrArg₂ (· * ·) (congrArg (fun f => proj f x19 n) (funext fun k => ?_)) rfl) rfl) rfl
  unfold rowOf rowAt
  rw [at_apply, gate_apply]

end Cert.MergeIdeal.Block

end
-- ==== Proof.MergeArray.lean ====
/- The result array of the merge after its run: what each grid point writes back is its block of one function of the
   arguments, and the blocks tile the array. -/
module

public import proofs.«01_k».proof.Proof.MergeHost
public import proofs.«01_k».proof.Proof.MergeValue

@[expose] public section

set_option maxRecDepth 65536

noncomputable section

namespace Cert.MergeIdeal.Arr

open Cert.MergeIdeal Cert.MergeIdeal.Gen Cert.Rows Cert.MergeSpec Idealize.ShloMosaic Idealize.ShloMosaic.TcCoe Idealize.SL.Sem
open Idealize.ShloMosaic.Pipeline (Dat)

variable (m : (ℓ : Loc nD τ sig) → Buf (Elt Ideal) ℓ)

/-! ## The blocks -/

/-- Where the result's blocks lie. -/
theorem idx_out : ∀ t : Fin cfg0.N, win0_23.index t (0 : Fin 3) < 16 ∧ win0_23.index t (1 : Fin 3) < 9 ∧ win0_23.index t (2 : Fin 3) = 0 :=
  (by decide +kernel : ∀ t : Fin grid0.N, _)

/-- Every block of the result is some point's. -/
theorem idx_onto : ∀ (b : Fin 16) (s : Fin 9), ∃ t : Fin cfg0.N, win0_23.index t = ![b.val, s.val, 0] :=
  (by decide +kernel : ∀ (b : Fin 16) (s : Fin 9), ∃ t : Fin grid0.N, win0_23.index t = ![b.val, s.val, 0])

/-- The batch of point `t`. -/
def bat (t : Fin cfg0.N) : Fin 16 := ⟨win0_23.index t (0 : Fin 3), (idx_out t).1⟩
/-- The token that row `r` of point `t`'s block is. -/
def tok (t : Fin cfg0.N) (r : Fin 256) : Fin 2304 :=
  ⟨win0_23.index t (1 : Fin 3) * 256 + r.val, by have := (idx_out t).2.1; omega⟩

theorem idx_0 : ∀ t : Fin cfg0.N, win0_0.index t (0 : Fin 3) = win0_23.index t (0 : Fin 3) ∧ win0_0.index t (1 : Fin 3) = win0_23.index t (1 : Fin 3) ∧ win0_0.index t (2 : Fin 3) = 0 :=
  (by decide +kernel : ∀ t : Fin grid0.N, _)
theorem blk_tokens (c : Dev nD) (t : Fin cfg0.N) (r : Fin 256) (k : Fin 1024) :
    (iblk m c 0 t : Vec Ideal S1x256x1024 .f32) (ix3 0 r k) = token (m ((c : Thread nD τ).loc main_arg0)) (m ((c : Thread nD τ).loc main_arg1)) (bat t) (tok t r) k := by
  obtain ⟨e0, e1, e2⟩ := idx_0 t
  refine Eq.trans ?_ (V_tokens m c (bat t) (tok t r) k)
  show V m c main_v0 (((cfg0.win 0).blk t).view.emb (ix3 0 r k)) = V m c main_v0 (ix3 (bat t) (tok t r) k)
  refine congrArg (V m c main_v0) (funext fun a => Fin.ext ?_)
  match a with
  | ⟨0, _⟩ => show win0_0.index t (0 : Fin 3) * 1 + 1 * 0 = win0_23.index t (0 : Fin 3); omega
  | ⟨1, _⟩ => show win0_0.index t (1 : Fin 3) * 256 + 1 * r.val = win0_23.index t (1 : Fin 3) * 256 + r.val; omega
  | ⟨2, _⟩ => show win0_0.index t (2 : Fin 3) * 1024 + 1 * k.val = k.val; omega

theorem idx_1 : ∀ t : Fin cfg0.N, win0_1.index t (0 : Fin 4) = win0_23.index t (0 : Fin 3) ∧ win0_1.index t (1 : Fin 4) = 0 ∧ win0_1.index t (2 : Fin 4) = win0_23.index t (1 : Fin 3) ∧ win0_1.index t (3 : Fin 4) = 0 :=
  (by decide +kernel : ∀ t : Fin grid0.N, _)
theorem blk_yf (c : Dev nD) (t : Fin cfg0.N) (p : Fin 8) (r : Fin 256) (l : Fin 128) :
    (iblk m c 1 t : Vec Ideal S1x8x256x128 .f32) (ix4 0 p r l) = ((m ((c : Thread nD τ).loc main_arg4)) : Heads) (ix4 (bat t) (tok t r) (hd (lane p l)) (dm (lane p l))) := by
  obtain ⟨e0, e1, e2, e3⟩ := idx_1 t
  refine Eq.trans ?_ (V_yf m c (bat t) p (tok t r) l)
  show V m c main_v2 (((cfg0.win 1).blk t).view.emb (ix4 0 p r l)) = V m c main_v2 (ix4 (bat t) p (tok t r) l)
  refine congrArg (V m c main_v2) (funext fun a => Fin.ext ?_)
  match a with
  | ⟨0, _⟩ => show win0_1.index t (0 : Fin 4) * 1 + 1 * 0 = win0_23.index t (0 : Fin 3); omega
  | ⟨1, _⟩ => show win0_1.index t (1 : Fin 4) * 8 + 1 * p.val = p.val; omega
  | ⟨2, _⟩ => show win0_1.index t (2 : Fin 4) * 256 + 1 * r.val = win0_23.index t (1 : Fin 3) * 256 + r.val; omega
  | ⟨3, _⟩ => show win0_1.index t (3 : Fin 4) * 128 + 1 * l.val = l.val; omega

theorem idx_2 : ∀ t : Fin cfg0.N, win0_2.index t (0 : Fin 4) = win0_23.index t (0 : Fin 3) ∧ win0_2.index t (1 : Fin 4) = 0 ∧ win0_2.index t (2 : Fin 4) = win0_23.index t (1 : Fin 3) ∧ win0_2.index t (3 : Fin 4) = 0 :=
  (by decide +kernel : ∀ t : Fin grid0.N, _)
theorem blk_yb (c : Dev nD) (t : Fin cfg0.N) (p : Fin 8) (r : Fin 256) (l : Fin 128) :
    (iblk m c 2 t : Vec Ideal S1x8x256x128 .f32) (ix4 0 p r l) = ((m ((c : Thread nD τ).loc main_arg5)) : Heads) (ix4 (bat t) (tok t r) (hd (lane p l)) (dm (lane p l))) := by
  obtain ⟨e0, e1, e2, e3⟩ := idx_2 t
  refine Eq.trans ?_ (V_yb m c (bat t) p (tok t r) l)
  show V m c main_v4 (((cfg0.win 2).blk t).view.emb (ix4 0 p r l)) = V m c main_v4 (ix4 (bat t) p (tok t r) l)
  refine congrArg (V m c main_v4) (funext fun a => Fin.ext ?_)
  match a with
  | ⟨0, _⟩ => show win0_2.index t (0 : Fin 4) * 1 + 1 * 0 = win0_23.index t (0 : Fin 3); omega
  | ⟨1, _⟩ => show win0_2.index t (1 : Fin 4) * 8 + 1 * p.val = p.val; omega
  | ⟨2, _⟩ => show win0_2.index t (2 : Fin 4) * 256 + 1 * r.val = win0_23.index t (1 : Fin 3) * 256 + r.val; omega
  | ⟨3, _⟩ => show win0_2.index t (3 : Fin 4) * 128 + 1 * l.val = l.val; omega

theorem idx_3 : ∀ t : Fin cfg0.N, win0_3.index t (0 : Fin 4) = win0_23.index t (0 : Fin 3) ∧ win0_3.index t (1 : Fin 4) = 0 ∧ win0_3.index t (2 : Fin 4) = win0_23.index t (1 : Fin 3) ∧ win0_3.index t (3 : Fin 4) = 0 :=
  (by decide +kernel : ∀ t : Fin grid0.N, _)
theorem blk_r (c : Dev nD) (t : Fin cfg0.N) (p : Fin 8) (r : Fin 256) (l : Fin 128) :
    (X0_3 m c t : Vec Ideal S1x8x256x128 .bf16) (ix4 0 p r l) = ((m ((c : Thread nD τ).loc main_arg6)) : Zr) (ix3 (bat t) (tok t r) ⟨(lane p l).val, by have := (lane p l).isLt; omega⟩) := by
  obtain ⟨e0, e1, e2, e3⟩ := idx_3 t
  refine Eq.trans ?_ ((V_zr m c (bat t) ⟨0 + p.val, by omega⟩ (tok t r) l).trans (congrArg (fun k => ((m ((c : Thread nD τ).loc main_arg6)) : Zr) (ix3 (bat t) (tok t r) k)) (Fin.ext (by show 128 * (0 + p.val) + l.val = (128 * p.val + l.val); omega))))
  unfold X0_3 Pipeline.Window.fill
  refine (dif_pos (moved0_3 t (ix4 0 p r l))).trans ?_
  refine congrArg (V m c main_v7) (funext fun a => Fin.ext ?_)
  match a with
  | ⟨0, _⟩ => show win0_3.index t (0 : Fin 4) * 1 + 1 * 0 = win0_23.index t (0 : Fin 3); omega
  | ⟨1, _⟩ => show win0_3.index t (1 : Fin 4) * 8 + 1 * p.val = 0 + p.val; omega
  | ⟨2, _⟩ => show win0_3.index t (2 : Fin 4) * 256 + 1 * r.val = win0_23.index t (1 : Fin 3) * 256 + r.val; omega
  | ⟨3, _⟩ => show win0_3.index t (3 : Fin 4) * 128 + 1 * l.val = l.val; omega

theorem idx_4 : ∀ t : Fin cfg0.N, win0_4.index t (0 : Fin 4) = win0_23.index t (0 : Fin 3) ∧ win0_4.index t (1 : Fin 4) = 1 ∧ win0_4.index t (2 : Fin 4) = win0_23.index t (1 : Fin 3) ∧ win0_4.index t (3 : Fin 4) = 0 :=
  (by decide +kernel : ∀ t : Fin grid0.N, _)
theorem blk_k (c : Dev nD) (t : Fin cfg0.N) (p : Fin 8) (r : Fin 256) (l : Fin 128) :
    (X0_4 m c t : Vec Ideal S1x8x256x128 .bf16) (ix4 0 p r l) = ((m ((c : Thread nD τ).loc main_arg6)) : Zr) (ix3 (bat t) (tok t r) ⟨1024 + (lane p l).val, by have := (lane p l).isLt; omega⟩) := by
  obtain ⟨e0, e1, e2, e3⟩ := idx_4 t
  refine Eq.trans ?_ ((V_zr m c (bat t) ⟨8 + p.val, by omega⟩ (tok t r) l).trans (congrArg (fun k => ((m ((c : Thread nD τ).loc main_arg6)) : Zr) (ix3 (bat t) (tok t r) k)) (Fin.ext (by show 128 * (8 + p.val) + l.val = 1024 + (128 * p.val + l.val); omega))))
  unfold X0_4 Pipeline.Window.fill
  refine (dif_pos (moved0_4 t (ix4 0 p r l))).trans ?_
  refine congrArg (V m c main_v7) (funext fun a => Fin.ext ?_)
  match a with
  | ⟨0, _⟩ => show win0_4.index t (0 : Fin 4) * 1 + 1 * 0 = win0_23.index t (0 : Fin 3); omega
  | ⟨1, _⟩ => show win0_4.index t (1 : Fin 4) * 8 + 1 * p.val = 8 + p.val; omega
  | ⟨2, _⟩ => show win0_4.index t (2 : Fin 4) * 256 + 1 * r.val = win0_23.index t (1 : Fin 3) * 256 + r.val; omega
  | ⟨3, _⟩ => show win0_4.index t (3 : Fin 4) * 128 + 1 * l.val = l.val; omega

theorem idx_5 : ∀ t : Fin cfg0.N, win0_5.index t (0 : Fin 4) = win0_23.index t (0 : Fin 3) ∧ win0_5.index t (1 : Fin 4) = 2 ∧ win0_5.index t (2 : Fin 4) = win0_23.index t (1 : Fin 3) ∧ win0_5.index t (3 : Fin 4) = 0 :=
  (by decide +kernel : ∀ t : Fin grid0.N, _)
theorem blk_v (c : Dev nD) (t : Fin cfg0.N) (p : Fin 8) (r : Fin 256) (l : Fin 128) :
    (X0_5 m c t : Vec Ideal S1x8x256x128 .bf16) (ix4 0 p r l) = ((m ((c : Thread nD τ).loc main_arg6)) : Zr) (ix3 (bat t) (tok t r) ⟨2048 + (lane p l).val, by have := (lane p l).isLt; omega⟩) := by
  obtain ⟨e0, e1, e2, e3⟩ := idx_5 t
  refine Eq.trans ?_ ((V_zr m c (bat t) ⟨16 + p.val, by omega⟩ (tok t r) l).trans (congrArg (fun k => ((m ((c : Thread nD τ).loc main_arg6)) : Zr) (ix3 (bat t) (tok t r) k)) (Fin.ext (by show 128 * (16 + p.val) + l.val = 2048 + (128 * p.val + l.val); omega))))
  unfold X0_5 Pipeline.Window.fill
  refine (dif_pos (moved0_5 t (ix4 0 p r l))).trans ?_
  refine congrArg (V m c main_v7) (funext fun a => Fin.ext ?_)
  match a with
  | ⟨0, _⟩ => show win0_5.index t (0 : Fin 4) * 1 + 1 * 0 = win0_23.index t (0 : Fin 3); omega
  | ⟨1, _⟩ => show win0_5.index t (1 : Fin 4) * 8 + 1 * p.val = 16 + p.val; omega
  | ⟨2, _⟩ => show win0_5.index t (2 : Fin 4) * 256 + 1 * r.val = win0_23.index t (1 : Fin 3) * 256 + r.val; omega
  | ⟨3, _⟩ => show win0_5.index t (3 : Fin 4) * 128 + 1 * l.val = l.val; omega

theorem idx_6 : ∀ t : Fin cfg0.N, win0_6.index t (0 : Fin 4) = win0_23.index t (0 : Fin 3) ∧ win0_6.index t (1 : Fin 4) = 26 ∧ win0_6.index t (2 : Fin 4) = win0_23.index t (1 : Fin 3) ∧ win0_6.index t (3 : Fin 4) = 0 :=
  (by decide +kernel : ∀ t : Fin grid0.N, _)
theorem blk_gz (c : Dev nD) (t : Fin cfg0.N) (r : Fin 256) (j : Fin 128) :
    (iblk m c 6 t : Vec Ideal S1x1x256x128 .bf16) (ix4 0 0 r j) = ((m ((c : Thread nD τ).loc main_arg6)) : Zr) (ix3 (bat t) (tok t r) ⟨3328 + j.val, by omega⟩) := by
  obtain ⟨e0, e1, e2, e3⟩ := idx_6 t
  refine Eq.trans ?_ (V_zr m c (bat t) 26 (tok t r) j)
  show V m c main_v7 (((cfg0.win 6).blk t).view.emb (ix4 0 0 r j)) = V m c main_v7 (ix4 (bat t) 26 (tok t r) j)
  refine congrArg (V m c main_v7) (funext fun a => Fin.ext ?_)
  match a with
  | ⟨0, _⟩ => show win0_6.index t (0 : Fin 4) * 1 + 1 * 0 = win0_23.index t (0 : Fin 3); omega
  | ⟨1, _⟩ => show win0_6.index t (1 : Fin 4) * 1 + 1 * 0 = 26; omega
  | ⟨2, _⟩ => show win0_6.index t (2 : Fin 4) * 256 + 1 * r.val = win0_23.index t (1 : Fin 3) * 256 + r.val; omega
  | ⟨3, _⟩ => show win0_6.index t (3 : Fin 4) * 128 + 1 * j.val = j.val; omega

theorem idx_7 : ∀ t : Fin cfg0.N, win0_7.index t (0 : Fin 3) = win0_23.index t (0 : Fin 3) ∧ win0_7.index t (1 : Fin 3) = win0_23.index t (1 : Fin 3) ∧ win0_7.index t (2 : Fin 3) = 0 :=
  (by decide +kernel : ∀ t : Fin grid0.N, _)
theorem blk_conv (c : Dev nD) (t : Fin cfg0.N) (r : Fin 256) (j : Fin 512) :
    (iblk m c 7 t : Vec Ideal S1x256x512 .f32) (ix3 0 r j) = ((m ((c : Thread nD τ).loc main_arg8)) : Row512) (ix3 (bat t) (tok t r) j) := by
  obtain ⟨e0, e1, e2⟩ := idx_7 t
  refine Eq.trans ?_ (congrFun (V_conv m c) (ix3 (bat t) (tok t r) j))
  show V m c main_arg8 (((cfg0.win 7).blk t).view.emb (ix3 0 r j)) = V m c main_arg8 (ix3 (bat t) (tok t r) j)
  refine congrArg (V m c main_arg8) (funext fun a => Fin.ext ?_)
  match a with
  | ⟨0, _⟩ => show win0_7.index t (0 : Fin 3) * 1 + 1 * 0 = win0_23.index t (0 : Fin 3); omega
  | ⟨1, _⟩ => show win0_7.index t (1 : Fin 3) * 256 + 1 * r.val = win0_23.index t (1 : Fin 3) * 256 + r.val; omega
  | ⟨2, _⟩ => show win0_7.index t (2 : Fin 3) * 512 + 1 * j.val = j.val; omega

theorem idx_8 : ∀ t : Fin cfg0.N, win0_8.index t (0 : Fin 3) = win0_23.index t (0 : Fin 3) ∧ win0_8.index t (1 : Fin 3) = win0_23.index t (1 : Fin 3) ∧ win0_8.index t (2 : Fin 3) = 0 :=
  (by decide +kernel : ∀ t : Fin grid0.N, _)
theorem blk_cpre (c : Dev nD) (t : Fin cfg0.N) (r : Fin 256) (j : Fin 512) :
    (iblk m c 8 t : Vec Ideal S1x256x512 .bf16) (ix3 0 r j) = ((m ((c : Thread nD τ).loc main_arg9)) : Row512) (ix3 (bat t) (tok t r) j) := by
  obtain ⟨e0, e1, e2⟩ := idx_8 t
  refine Eq.trans ?_ (congrFun (V_cpre m c) (ix3 (bat t) (tok t r) j))
  show V m c main_v8 (((cfg0.win 8).blk t).view.emb (ix3 0 r j)) = V m c main_v8 (ix3 (bat t) (tok t r) j)
  refine congrArg (V m c main_v8) (funext fun a => Fin.ext ?_)
  match a with
  | ⟨0, _⟩ => show win0_8.index t (0 : Fin 3) * 1 + 1 * 0 = win0_23.index t (0 : Fin 3); omega
  | ⟨1, _⟩ => show win0_8.index t (1 : Fin 3) * 256 + 1 * r.val = win0_23.index t (1 : Fin 3) * 256 + r.val; omega
  | ⟨2, _⟩ => show win0_8.index t (2 : Fin 3) * 512 + 1 * j.val = j.val; omega

theorem idx_9 : ∀ t : Fin cfg0.N, win0_9.index t (0 : Fin 3) = win0_23.index t (0 : Fin 3) ∧ win0_9.index t (1 : Fin 3) = win0_23.index t (1 : Fin 3) ∧ win0_9.index t (2 : Fin 3) = 0 :=
  (by decide +kernel : ∀ t : Fin grid0.N, _)
theorem blk_z0 (c : Dev nD) (t : Fin cfg0.N) (r : Fin 256) (k : Fin 1024) :
    (iblk m c 9 t : Vec Ideal S1x256x1024 .bf16) (ix3 0 r k) = ((m ((c : Thread nD τ).loc main_arg7)) : Zed) (ix3 (bat t) (tok t r) ⟨5504 + k.val, by omega⟩) := by
  obtain ⟨e0, e1, e2⟩ := idx_9 t
  refine Eq.trans ?_ ((V_z m c (bat t) (tok t r) ⟨0 + k.val, by omega⟩ (by show 0 + k.val < 3072; omega)).trans (congrArg (fun k => ((m ((c : Thread nD τ).loc main_arg7)) : Zed) (ix3 (bat t) (tok t r) k)) (Fin.ext (by show 5504 + (0 + k.val) = 5504 + k.val; omega))))
  show V m c main_v12 (((cfg0.win 9).blk t).view.emb (ix3 0 r k)) = V m c main_v12 (ix3 (bat t) (tok t r) ⟨0 + k.val, by omega⟩)
  refine congrArg (V m c main_v12) (funext fun a => Fin.ext ?_)
  match a with
  | ⟨0, _⟩ => show win0_9.index t (0 : Fin 3) * 1 + 1 * 0 = win0_23.index t (0 : Fin 3); omega
  | ⟨1, _⟩ => show win0_9.index t (1 : Fin 3) * 256 + 1 * r.val = win0_23.index t (1 : Fin 3) * 256 + r.val; omega
  | ⟨2, _⟩ => show win0_9.index t (2 : Fin 3) * 1024 + 1 * k.val = 0 + k.val; omega

theorem idx_10 : ∀ t : Fin cfg0.N, win0_10.index t (0 : Fin 3) = win0_23.index t (0 : Fin 3) ∧ win0_10.index t (1 : Fin 3) = win0_23.index t (1 : Fin 3) ∧ win0_10.index t (2 : Fin 3) = 1 :=
  (by decide +kernel : ∀ t : Fin grid0.N, _)
theorem blk_z1 (c : Dev nD) (t : Fin cfg0.N) (r : Fin 256) (k : Fin 1024) :
    (iblk m c 10 t : Vec Ideal S1x256x1024 .bf16) (ix3 0 r k) = ((m ((c : Thread nD τ).loc main_arg7)) : Zed) (ix3 (bat t) (tok t r) ⟨6528 + k.val, by omega⟩) := by
  obtain ⟨e0, e1, e2⟩ := idx_10 t
  refine Eq.trans ?_ ((V_z m c (bat t) (tok t r) ⟨1024 + k.val, by omega⟩ (by show 1024 + k.val < 3072; omega)).trans (congrArg (fun k => ((m ((c : Thread nD τ).loc main_arg7)) : Zed) (ix3 (bat t) (tok t r) k)) (Fin.ext (by show 5504 + (1024 + k.val) = 6528 + k.val; omega))))
  show V m c main_v12 (((cfg0.win 10).blk t).view.emb (ix3 0 r k)) = V m c main_v12 (ix3 (bat t) (tok t r) ⟨1024 + k.val, by omega⟩)
  refine congrArg (V m c main_v12) (funext fun a => Fin.ext ?_)
  match a with
  | ⟨0, _⟩ => show win0_10.index t (0 : Fin 3) * 1 + 1 * 0 = win0_23.index t (0 : Fin 3); omega
  | ⟨1, _⟩ => show win0_10.index t (1 : Fin 3) * 256 + 1 * r.val = win0_23.index t (1 : Fin 3) * 256 + r.val; omega
  | ⟨2, _⟩ => show win0_10.index t (2 : Fin 3) * 1024 + 1 * k.val = 1024 + k.val; omega

theorem idx_11 : ∀ t : Fin cfg0.N, win0_11.index t (0 : Fin 3) = win0_23.index t (0 : Fin 3) ∧ win0_11.index t (1 : Fin 3) = win0_23.index t (1 : Fin 3) ∧ win0_11.index t (2 : Fin 3) = 2 :=
  (by decide +kernel : ∀ t : Fin grid0.N, _)
theorem blk_z2 (c : Dev nD) (t : Fin cfg0.N) (r : Fin 256) (k : Fin 1024) :
    (iblk m c 11 t : Vec Ideal S1x256x1024 .bf16) (ix3 0 r k) = ((m ((c : Thread nD τ).loc main_arg7)) : Zed) (ix3 (bat t) (tok t r) ⟨7552 + k.val, by omega⟩) := by
  obtain ⟨e0, e1, e2⟩ := idx_11 t
  refine Eq.trans ?_ ((V_z m c (bat t) (tok t r) ⟨2048 + k.val, by omega⟩ (by show 2048 + k.val < 3072; omega)).trans (congrArg (fun k => ((m ((c : Thread nD τ).loc main_arg7)) : Zed) (ix3 (bat t) (tok t r) k)) (Fin.ext (by show 5504 + (2048 + k.val) = 7552 + k.val; omega))))
  show V m c main_v12 (((cfg0.win 11).blk t).view.emb (ix3 0 r k)) = V m c main_v12 (ix3 (bat t) (tok t r) ⟨2048 + k.val, by omega⟩)
  refine congrArg (V m c main_v12) (funext fun a => Fin.ext ?_)
  match a with
  | ⟨0, _⟩ => show win0_11.index t (0 : Fin 3) * 1 + 1 * 0 = win0_23.index t (0 : Fin 3); omega
  | ⟨1, _⟩ => show win0_11.index t (1 : Fin 3) * 256 + 1 * r.val = win0_23.index t (1 : Fin 3) * 256 + r.val; omega
  | ⟨2, _⟩ => show win0_11.index t (2 : Fin 3) * 1024 + 1 * k.val = 2048 + k.val; omega

theorem idx_12 : ∀ t : Fin cfg0.N, win0_12.index t (0 : Fin 3) = 2 * win0_23.index t (0 : Fin 3) + win0_23.index t (1 : Fin 3) / 8 ∧ win0_12.index t (1 : Fin 3) = 0 ∧ win0_12.index t (2 : Fin 3) = 0 :=
  (by decide +kernel : ∀ t : Fin grid0.N, _)
/-- The layer's gate: the batch's own on the latent rows, the shared one on the context rows. -/
theorem blk_mod (c : Dev nD) (t : Fin cfg0.N) (r : Fin 256) (k : Fin 1024) :
    (iblk m c 12 t : Vec Ideal S1x1x1024 .f32) (ix3 0 0 k) = modOf (m ((c : Thread nD τ).loc main_arg2)) (m ((c : Thread nD τ).loc main_arg3)) (bat t) (tok t r) k := by
  obtain ⟨e0, e1, e2⟩ := idx_12 t
  have hs := (idx_out t).2.1
  refine Eq.trans ?_ ((V_mod m c (bat t) ⟨win0_23.index t (1 : Fin 3) / 8, by omega⟩ k).trans ?_)
  · show V m c main_v17 (((cfg0.win 12).blk t).view.emb (ix3 0 0 k)) = V m c main_v17 (ix3 _ 0 k)
    refine congrArg (V m c main_v17) (funext fun a => Fin.ext ?_)
    match a with
    | ⟨0, _⟩ => show win0_12.index t (0 : Fin 3) * 1 + 1 * 0 = 2 * win0_23.index t (0 : Fin 3) + win0_23.index t (1 : Fin 3) / 8; omega
    | ⟨1, _⟩ => show win0_12.index t (1 : Fin 3) * 1 + 1 * 0 = 0; omega
    | ⟨2, _⟩ => show win0_12.index t (2 : Fin 3) * 1024 + 1 * k.val = k.val; omega
  · unfold modOf
    have hr := r.isLt
    have ht : (tok t r).val = win0_23.index t (1 : Fin 3) * 256 + r.val := rfl
    by_cases h : win0_23.index t (1 : Fin 3) / 8 = 0
    · rw [if_pos (show (⟨win0_23.index t (1 : Fin 3) / 8, by omega⟩ : Fin 2).val = 0 from h), if_pos (by rw [ht]; omega)]
    · rw [if_neg (show ¬ (⟨win0_23.index t (1 : Fin 3) / 8, by omega⟩ : Fin 2).val = 0 from h), if_neg (by rw [ht]; omega)]

theorem idx_14 : ∀ t : Fin cfg0.N, win0_14.index t (0 : Fin 2) = 0 ∧ win0_14.index t (1 : Fin 2) = 0 :=
  (by decide +kernel : ∀ t : Fin grid0.N, _)
theorem blk_ga (c : Dev nD) (t : Fin cfg0.N) (k : Fin 1024) :
    (iblk m c 14 t : Vec Ideal S1x1024 .f32) (ix2 0 k) = ((m ((c : Thread nD τ).loc main_arg10)) : Gain) (ix1 k) := by
  obtain ⟨e0, e1⟩ := idx_14 t
  refine Eq.trans ?_ (V_ga m c k)
  show V m c main_v19 (((cfg0.win 14).blk t).view.emb (ix2 0 k)) = V m c main_v19 (ix2 0 k)
  refine congrArg (V m c main_v19) (funext fun a => Fin.ext ?_)
  match a with
  | ⟨0, _⟩ => show win0_14.index t (0 : Fin 2) * 1 + 1 * 0 = 0; omega
  | ⟨1, _⟩ => show win0_14.index t (1 : Fin 2) * 1024 + 1 * k.val = k.val; omega

theorem idx_15 : ∀ t : Fin cfg0.N, win0_15.index t (0 : Fin 2) = 0 ∧ win0_15.index t (1 : Fin 2) = 0 :=
  (by decide +kernel : ∀ t : Fin grid0.N, _)
theorem blk_be (c : Dev nD) (t : Fin cfg0.N) (k : Fin 1024) :
    (iblk m c 15 t : Vec Ideal S1x1024 .f32) (ix2 0 k) = ((m ((c : Thread nD τ).loc main_arg11)) : Gain) (ix1 k) := by
  obtain ⟨e0, e1⟩ := idx_15 t
  refine Eq.trans ?_ (V_be m c k)
  show V m c main_v20 (((cfg0.win 15).blk t).view.emb (ix2 0 k)) = V m c main_v20 (ix2 0 k)
  refine congrArg (V m c main_v20) (funext fun a => Fin.ext ?_)
  match a with
  | ⟨0, _⟩ => show win0_15.index t (0 : Fin 2) * 1 + 1 * 0 = 0; omega
  | ⟨1, _⟩ => show win0_15.index t (1 : Fin 2) * 1024 + 1 * k.val = k.val; omega

theorem idx_16 : ∀ t : Fin cfg0.N, win0_16.index t (0 : Fin 2) = 0 ∧ win0_16.index t (1 : Fin 2) = 0 :=
  (by decide +kernel : ∀ t : Fin grid0.N, _)
theorem blk_rk (c : Dev nD) (t : Fin cfg0.N) (k : Fin 1024) :
    (iblk m c 16 t : Vec Ideal S1x1024 .f32) (ix2 0 k) = ((m ((c : Thread nD τ).loc main_arg12)) : Gain) (ix1 k) := by
  obtain ⟨e0, e1⟩ := idx_16 t
  refine Eq.trans ?_ (V_rk m c k)
  show V m c main_v21 (((cfg0.win 16).blk t).view.emb (ix2 0 k)) = V m c main_v21 (ix2 0 k)
  refine congrArg (V m c main_v21) (funext fun a => Fin.ext ?_)
  match a with
  | ⟨0, _⟩ => show win0_16.index t (0 : Fin 2) * 1 + 1 * 0 = 0; omega
  | ⟨1, _⟩ => show win0_16.index t (1 : Fin 2) * 1024 + 1 * k.val = k.val; omega

theorem idx_17 : ∀ t : Fin cfg0.N, win0_17.index t (0 : Fin 2) = 0 ∧ win0_17.index t (1 : Fin 2) = 0 :=
  (by decide +kernel : ∀ t : Fin grid0.N, _)
theorem blk_lg (c : Dev nD) (t : Fin cfg0.N) (k : Fin 512) :
    (iblk m c 17 t : Vec Ideal S1x512 .f32) (ix2 0 k) = ((m ((c : Thread nD τ).loc main_arg14)) : Vec512) (ix1 k) := by
  obtain ⟨e0, e1⟩ := idx_17 t
  refine Eq.trans ?_ (V_lg m c k)
  show V m c main_v22 (((cfg0.win 17).blk t).view.emb (ix2 0 k)) = V m c main_v22 (ix2 0 k)
  refine congrArg (V m c main_v22) (funext fun a => Fin.ext ?_)
  match a with
  | ⟨0, _⟩ => show win0_17.index t (0 : Fin 2) * 1 + 1 * 0 = 0; omega
  | ⟨1, _⟩ => show win0_17.index t (1 : Fin 2) * 512 + 1 * k.val = k.val; omega

theorem idx_18 : ∀ t : Fin cfg0.N, win0_18.index t (0 : Fin 2) = 0 ∧ win0_18.index t (1 : Fin 2) = 0 :=
  (by decide +kernel : ∀ t : Fin grid0.N, _)
theorem blk_lb (c : Dev nD) (t : Fin cfg0.N) (k : Fin 512) :
    (iblk m c 18 t : Vec Ideal S1x512 .f32) (ix2 0 k) = ((m ((c : Thread nD τ).loc main_arg15)) : Vec512) (ix1 k) := by
  obtain ⟨e0, e1⟩ := idx_18 t
  refine Eq.trans ?_ (V_lb m c k)
  show V m c main_v23 (((cfg0.win 18).blk t).view.emb (ix2 0 k)) = V m c main_v23 (ix2 0 k)
  refine congrArg (V m c main_v23) (funext fun a => Fin.ext ?_)
  match a with
  | ⟨0, _⟩ => show win0_18.index t (0 : Fin 2) * 1 + 1 * 0 = 0; omega
  | ⟨1, _⟩ => show win0_18.index t (1 : Fin 2) * 512 + 1 * k.val = k.val; omega

theorem idx_13 : ∀ t : Fin cfg0.N, win0_13.index t (0 : Fin 2) = 0 ∧ win0_13.index t (1 : Fin 2) = 0 :=
  (by decide +kernel : ∀ t : Fin grid0.N, _)
theorem blk_gup (c : Dev nD) (t : Fin cfg0.N) : (iblk m c 13 t : Vec Ideal S128x1024 .bf16) = (m ((c : Thread nD τ).loc main_arg13)) := by
  obtain ⟨e0, e1⟩ := idx_13 t
  refine Eq.trans ?_ (V_gup m c)
  funext y
  show V m c main_v18 (((cfg0.win 13).blk t).view.emb y) = V m c main_v18 y
  refine congrArg (V m c main_v18) (funext fun a => Fin.ext ?_)
  match a with
  | ⟨0, _⟩ => show win0_13.index t (0 : Fin 2) * 128 + 1 * (y 0).val = (y 0).val; omega
  | ⟨1, _⟩ => show win0_13.index t (1 : Fin 2) * 1024 + 1 * (y 1).val = (y 1).val; omega

theorem idx_19 : ∀ t : Fin cfg0.N, win0_19.index t (0 : Fin 2) = 0 ∧ win0_19.index t (1 : Fin 2) = 0 :=
  (by decide +kernel : ∀ t : Fin grid0.N, _)
theorem blk_wro (c : Dev nD) (t : Fin cfg0.N) : (iblk m c 19 t : Vec Ideal S1024x1024 .bf16) = (m ((c : Thread nD τ).loc main_arg16)) := by
  obtain ⟨e0, e1⟩ := idx_19 t
  refine Eq.trans ?_ (V_wro m c)
  funext y
  show V m c main_v24 (((cfg0.win 19).blk t).view.emb y) = V m c main_v24 y
  refine congrArg (V m c main_v24) (funext fun a => Fin.ext ?_)
  match a with
  | ⟨0, _⟩ => show win0_19.index t (0 : Fin 2) * 1024 + 1 * (y 0).val = (y 0).val; omega
  | ⟨1, _⟩ => show win0_19.index t (1 : Fin 2) * 1024 + 1 * (y 1).val = (y 1).val; omega

theorem idx_20 : ∀ t : Fin cfg0.N, win0_20.index t (0 : Fin 2) = 0 ∧ win0_20.index t (1 : Fin 2) = 0 :=
  (by decide +kernel : ∀ t : Fin grid0.N, _)
theorem blk_wco (c : Dev nD) (t : Fin cfg0.N) : (iblk m c 20 t : Vec Ideal S512x1024 .bf16) = (m ((c : Thread nD τ).loc main_arg17)) := by
  obtain ⟨e0, e1⟩ := idx_20 t
  refine Eq.trans ?_ (V_wco m c)
  funext y
  show V m c main_v25 (((cfg0.win 20).blk t).view.emb y) = V m c main_v25 y
  refine congrArg (V m c main_v25) (funext fun a => Fin.ext ?_)
  match a with
  | ⟨0, _⟩ => show win0_20.index t (0 : Fin 2) * 512 + 1 * (y 0).val = (y 0).val; omega
  | ⟨1, _⟩ => show win0_20.index t (1 : Fin 2) * 1024 + 1 * (y 1).val = (y 1).val; omega

theorem idx_21 : ∀ t : Fin cfg0.N, win0_21.index t (0 : Fin 2) = 0 ∧ win0_21.index t (1 : Fin 2) = 0 :=
  (by decide +kernel : ∀ t : Fin grid0.N, _)
theorem blk_wso (c : Dev nD) (t : Fin cfg0.N) : (iblk m c 21 t : Vec Ideal S512x1024 .bf16) = (m ((c : Thread nD τ).loc main_arg18)) := by
  obtain ⟨e0, e1⟩ := idx_21 t
  refine Eq.trans ?_ (V_wso m c)
  funext y
  show V m c main_v26 (((cfg0.win 21).blk t).view.emb y) = V m c main_v26 y
  refine congrArg (V m c main_v26) (funext fun a => Fin.ext ?_)
  match a with
  | ⟨0, _⟩ => show win0_21.index t (0 : Fin 2) * 512 + 1 * (y 0).val = (y 0).val; omega
  | ⟨1, _⟩ => show win0_21.index t (1 : Fin 2) * 1024 + 1 * (y 1).val = (y 1).val; omega

theorem idx_22 : ∀ t : Fin cfg0.N, win0_22.index t (0 : Fin 2) = 0 ∧ win0_22.index t (1 : Fin 2) = 0 :=
  (by decide +kernel : ∀ t : Fin grid0.N, _)
theorem blk_wm (c : Dev nD) (t : Fin cfg0.N) : (iblk m c 22 t : Vec Ideal S1024x1024 .bf16) = (m ((c : Thread nD τ).loc main_arg19)) := by
  obtain ⟨e0, e1⟩ := idx_22 t
  refine Eq.trans ?_ (V_wm m c)
  funext y
  show V m c main_v27 (((cfg0.win 22).blk t).view.emb y) = V m c main_v27 y
  refine congrArg (V m c main_v27) (funext fun a => Fin.ext ?_)
  match a with
  | ⟨0, _⟩ => show win0_22.index t (0 : Fin 2) * 1024 + 1 * (y 0).val = (y 0).val; omega
  | ⟨1, _⟩ => show win0_22.index t (1 : Fin 2) * 1024 + 1 * (y 1).val = (y 1).val; omega

/-! ## The array -/

/-- What the arguments hold where the heads' sums are taken is finite. -/
def Finite (c : Dev nD) : Prop :=
  AllReal ((m ((c : Thread nD τ).loc main_arg4)) : Heads) ∧ AllReal ((m ((c : Thread nD τ).loc main_arg5)) : Heads) ∧ RkReal ((m ((c : Thread nD τ).loc main_arg6)) : Zr) ∧ AllReal ((m ((c : Thread nD τ).loc main_arg12)) : Gain)

/-- The result array as one function of the arguments. -/
def G (c : Dev nD) : Buf (Elt Ideal) ((c : Thread nD τ).loc main_v28) := fun i =>
  merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (i 0) (i 1) (i 2)

/-- `G` at the place a point's block puts its row `r` and column `q`. -/
theorem G_at (c : Dev nD) (t : Fin cfg0.N) (r : Fin 256) (q : Fin 1024) :
    G m c (((cfg0.win 23).blk t).view.emb (ix3 0 r q)) = merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (bat t) (tok t r) q := by
  obtain ⟨-, -, e2⟩ := idx_out t
  unfold G
  congr 1 <;> apply Fin.ext
  · show win0_23.index t (0 : Fin 3) * 1 + 1 * 0 = win0_23.index t (0 : Fin 3); omega
  · show win0_23.index t (1 : Fin 3) * 256 + 1 * r.val = win0_23.index t (1 : Fin 3) * 256 + r.val; omega
  · show win0_23.index t (2 : Fin 3) * 1024 + 1 * q.val = q.val; omega

/-- One lane's read-out from the blocks is its column's. -/
theorem row_eq (c : Dev nD) (hf : Finite m c) (t : Fin cfg0.N) (r : Fin 256) (p : Fin 8) (l : Fin 128) :
    Block.rowAt (iblk m c 1 t) (iblk m c 2 t) (X0_3 m c t) (X0_4 m c t) (X0_5 m c t) (iblk m c 6 t) (iblk m c 13 t) (iblk m c 14 t) (iblk m c 15 t) (iblk m c 16 t) r p l
      = readOut (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (bat t) (tok t r) (lane p l) := by
  obtain ⟨h4, h5, h6, h12⟩ := hf
  unfold Block.rowAt readOut
  simp only [blk_yf m c t, blk_yb m c t, blk_r m c t, blk_k m c t, blk_v m c t, blk_gz m c t, blk_gup m c t, blk_ga m c t, blk_be m c t, blk_rk m c t]
  refine congrArg₂ (· * ·) ?_ rfl
  exact lOut_eq (both (m ((c : Thread nD τ).loc main_arg4)) (m ((c : Thread nD τ).loc main_arg5)) (bat t) (tok t r))
    (fun n => ((m ((c : Thread nD τ).loc main_arg6)) : Zr) (ix3 (bat t) (tok t r) ⟨n.val, by omega⟩)) (fun n => ((m ((c : Thread nD τ).loc main_arg6)) : Zr) (ix3 (bat t) (tok t r) ⟨1024 + n.val, by omega⟩))
    (fun n => ((m ((c : Thread nD τ).loc main_arg6)) : Zr) (ix3 (bat t) (tok t r) ⟨2048 + n.val, by omega⟩)) (fun n => ((m ((c : Thread nD τ).loc main_arg10)) : Gain) (ix1 n)) (fun n => ((m ((c : Thread nD τ).loc main_arg11)) : Gain) (ix1 n))
    (fun n => ((m ((c : Thread nD τ).loc main_arg12)) : Gain) (ix1 n)) p l
    (both_real _ _ h4 h5 (bat t) (tok t r))
    (fun n => h6 _ _ ⟨n.val, by omega⟩) (fun n => h6 _ _ ⟨1024 + n.val, by omega⟩) (fun n => h12 _)

/-- What the body leaves at a point's row and column is `G` there. -/
theorem pay_eq (c : Dev nD) (hf : Finite m c) (t : Fin cfg0.N) (r : Fin 256) (q : Fin 1024) :
    Block.res (iblk m c 0 t) (iblk m c 1 t) (iblk m c 2 t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (ix3 0 r q)
      = G m c (((cfg0.win 23).blk t).view.emb (ix3 0 r q)) := by
  rw [G_at]
  refine (Block.res_apply _ _ _ _ _ _ _ _ _ _ _ _ _ _ _ _ _ _ _ _ _ _ _ r q).trans ?_
  unfold merge
  rw [blk_wro m c t, blk_wco m c t, blk_wso m c t, blk_wm m c t]
  rw [show (fun k => (iblk m c 0 t : Vec Ideal S1x256x1024 .f32) (ix3 0 r k)) = _ from funext fun k => blk_tokens m c t r k,
    show (fun k => (iblk m c 12 t : Vec Ideal S1x1x1024 .f32) (ix3 0 0 k)) = _ from funext fun k => blk_mod m c t r k,
    show (fun j => (iblk m c 7 t : Vec Ideal S1x256x512 .f32) (ix3 0 r j)) = _ from funext fun j => blk_conv m c t r j,
    show (fun j => (iblk m c 8 t : Vec Ideal S1x256x512 .bf16) (ix3 0 r j)) = _ from funext fun j => blk_cpre m c t r j,
    show (fun k => (iblk m c 9 t : Vec Ideal S1x256x1024 .bf16) (ix3 0 r k)) = _ from funext fun k => blk_z0 m c t r k,
    show (fun k => (iblk m c 10 t : Vec Ideal S1x256x1024 .bf16) (ix3 0 r k)) = _ from funext fun k => blk_z1 m c t r k,
    show (fun k => (iblk m c 11 t : Vec Ideal S1x256x1024 .bf16) (ix3 0 r k)) = _ from funext fun k => blk_z2 m c t r k,
    show (fun j => (iblk m c 17 t : Vec Ideal S1x512 .f32) (ix2 0 j)) = _ from funext fun j => blk_lg m c t j,
    show (fun j => (iblk m c 18 t : Vec Ideal S1x512 .f32) (ix2 0 j)) = _ from funext fun j => blk_lb m c t j]
  refine congrArg (fun h => step (token (m ((c : Thread nD τ).loc main_arg0)) (m ((c : Thread nD τ).loc main_arg1)) (bat t) (tok t r)) (modOf (m ((c : Thread nD τ).loc main_arg2)) (m ((c : Thread nD τ).loc main_arg3)) (bat t) (tok t r)) h _ _ _ _ _ _ _ q) (funext fun n => ?_)
  rw [row_eq m c hf]
  refine congrArg (readOut (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (bat t) (tok t r)) (Fin.ext ?_)
  show 128 * (n.val / 128) + n.val % 128 = n.val
  omega

/-- What point `t` writes back is its block of `G`. -/
theorem flushed_eq (c : Dev nD) (hf : Finite m c) (t : Fin cfg0.N) :
    (Own.dats m 0 c).flushed 23 t = ((cfg0.win 23).blk t).view.read (Elt Ideal) (G m c) := by
  rw [Own.flushed23]
  unfold Own.leftAt
  rw [Block.left_res]
  funext y
  have hy : y = ix3 0 (y 1) (y 2) := by
    funext a; apply Fin.ext
    match a with
    | ⟨0, _⟩ => have : (y 0).val < 1 := (y 0).isLt; show (y 0).val = 0; omega
    | ⟨1, _⟩ => rfl
    | ⟨2, _⟩ => rfl
  rw [hy]
  exact pay_eq m c hf t _ _

/-- An index of the array is in point `t`'s block iff each coordinate is in the block's range on its axis. -/
theorem mem_blk (t : Fin cfg0.N) (i : S16x2304x1024.Idx) :
    i ∈ ((cfg0.win 23).blk t).view.set ↔ ∀ a : Fin 3, win0_23.index t a * S1x256x1024.size a ≤ (i a).val ∧ (i a).val < win0_23.index t a * S1x256x1024.size a + S1x256x1024.size a := by
  show i ∈ ((View.whole main_v28).slice (win0_23.rect t)).set ↔ _
  rw [View.set_slice_whole, Rect.mem_set_unit]
  exact Iff.rfl

/-- The blocks tile the array. -/
theorem cover (i : S16x2304x1024.Idx) :
    ∃ t : Fin cfg0.N, (cfg0.win 23).flush t = true ∧ i ∈ ((cfg0.win 23).blk t).view.set := by
  have h0 : (i 0).val < 16 := (i 0).isLt
  have h1 : (i 1).val < 2304 := (i 1).isLt
  have h2 : (i 2).val < 1024 := (i 2).isLt
  obtain ⟨t, ht⟩ := idx_onto ⟨(i 0).val, h0⟩ ⟨(i 1).val / 256, by omega⟩
  have q0 : win0_23.index t (0 : Fin 3) = (i 0).val := congrFun ht 0
  have q1 : win0_23.index t (1 : Fin 3) = (i 1).val / 256 := congrFun ht 1
  have q2 : win0_23.index t (2 : Fin 3) = 0 := congrFun ht 2
  refine ⟨t, flush0_23 t, ?_⟩
  rw [mem_blk]
  intro a
  match a with
  | ⟨0, _⟩ => show win0_23.index t (0 : Fin 3) * 1 ≤ (i 0).val ∧ (i 0).val < win0_23.index t (0 : Fin 3) * 1 + 1; omega
  | ⟨1, _⟩ => show win0_23.index t (1 : Fin 3) * 256 ≤ (i 1).val ∧ (i 1).val < win0_23.index t (1 : Fin 3) * 256 + 256; omega
  | ⟨2, _⟩ => show win0_23.index t (2 : Fin 3) * 1024 ≤ (i 2).val ∧ (i 2).val < win0_23.index t (2 : Fin 3) * 1024 + 1024; omega

/-- So the array ends holding `G`. -/
theorem final (c : Dev nD) (hf : Finite m c) : (Own.dats m 0 c).arrAt 23 cfg0.N = G m c :=
  (Own.dats m 0 c).arrAt_eq_of_cover 23 (G m c) (fun t _ => flushed_eq m c hf t) cover

end Cert.MergeIdeal.Arr

end
-- ==== Proof.MergeRef.lean ====
/- What the merge's reference computes, element by element. -/
module

public import proofs.«01_k».proof.Proof.Gen.MergeRefIdeal.Read
public import proofs.«01_k».proof.Proof.MergeSpec

@[expose] public section

set_option maxRecDepth 65536

noncomputable section

namespace Cert.MergeRefIdeal.Ref

open Cert.MergeRefIdeal Cert.MergeRefIdeal.Gen Cert.MergeRefIdeal.Read Cert.Rows Cert.MergeSpec Idealize.ShloMosaic

/-- The read-out before the gate. -/
theorem head_apply (x4 x5 : Heads) (x6 : Zr) (x10 x11 x12 : Gain) (b : Fin 16) (i : Fin 2304) (n : Fin 1024) :
    val_main_v41 (F := Ideal) x4 x5 x6 x10 x11 x12 (ix3 b i n)
      = headOut (both x4 x5 b i) (fun n => x6 (ix3 b i ⟨n.val, by omega⟩))
          (fun n => x6 (ix3 b i ⟨1024 + n.val, by omega⟩)) (fun n => x6 (ix3 b i ⟨2048 + n.val, by omega⟩))
          (fun n => x10 (ix1 n)) (fun n => x11 (ix1 n)) (fun n => x12 (ix1 n)) n := by
  pointwise [headOut, both, dev, invStd, mean, hd, dm, col,
      val_main_v0, val_main_v1, val_main_v2, val_main_v3, val_main_v4, val_main_v5,
      val_main_v7, val_main_v8, val_main_v9, val_main_v10, val_main_v11, val_main_v12, val_main_v13, val_main_v14,
      val_main_v15, val_main_v16, val_main_v17, val_main_v18, val_main_v19, val_main_v20, val_main_v21, val_main_v22,
      val_main_v23, val_main_v24, val_main_v25, val_main_v26, val_main_v27, val_main_v28, val_main_v29, val_main_v30,
      val_main_v31, val_main_v32, val_main_v33, val_main_v34, val_main_v35, val_main_v36, val_main_v37, val_main_v38,
      val_main_v39, val_main_v40, val_main_v41, val_main_cst, val_main_cst_0, val_main_cst_1, val_main_cst_2,
      val_main_cst_3, val_main_cst_4]
  refine congrArg₂ (· + ·) rfl (congrArg₂ (· * ·) (Finset.sum_congr rfl fun d _ => ?_) rfl)
  have e : n.val / 64 * 64 + d.val = 64 * (n.val / 64) + d.val := by omega
  exact congrArg₂ (· * ·) (congrArg₂ (· * ·) (congrArg (fun k => x6 (ix3 b i k)) (Fin.ext e))
    (congrArg (fun k => x6 (ix3 b i k)) (Fin.ext (congrArg (1024 + ·) e)))) (congrArg (fun k => x12 (ix1 k)) (Fin.ext e))

/-- The read-out's gate. -/
theorem gate_apply (x6 : Zr) (x13 : Lora) (b : Fin 16) (i : Fin 2304) (n : Fin 1024) :
    val_main_v48 (F := Ideal) x6 x13 (ix3 b i n) = gateOut (fun j => x6 (ix3 b i ⟨3328 + j.val, by omega⟩)) x13 n := by
  pointwise [gateOut, Ideal.logistic, dot_S16x2304x128_S128x1024_S16x2304x1024_2_0_01_1_n_n,
      val_main_v6, val_main_v42, val_main_v43, val_main_v44, val_main_v45, val_main_v46, val_main_v47, val_main_v48, val_main_cst_5,
      val_main_cst_6]

/-- The convolution's branch. -/
theorem conv_apply (x8 : Row512) (x14 x15 : Vec512) (x17 : Half) (b : Fin 16) (i : Fin 2304) (q : Fin 1024) :
    val_main_v80 (F := Ideal) x8 x14 x15 x17 (ix3 b i q)
      = convOut (fun j => x8 (ix3 b i j)) (fun j => x14 (ix1 j)) (fun j => x15 (ix1 j)) x17 q := by
  pointwise [convOut, layerNorm, mean512, Ideal.logistic, dot_S16x2304x512_S512x1024_S16x2304x1024_2_0_01_1_n_n,
      val_main_v51, val_main_v52, val_main_v53, val_main_v54, val_main_v55, val_main_v56, val_main_v57, val_main_v58,
      val_main_v59, val_main_v60, val_main_v61, val_main_v62, val_main_v63, val_main_v64, val_main_v65, val_main_v66,
      val_main_v67, val_main_v68, val_main_v69, val_main_v70, val_main_v71, val_main_v72, val_main_v73, val_main_v74,
      val_main_v75, val_main_v76, val_main_v77, val_main_v78, val_main_v79, val_main_v80, val_main_cst_7,
      val_main_cst_8, val_main_cst_9, val_main_cst_10, val_main_cst_11, val_main_cst_12, val_main_cst_13]

/-- The spatial branch. -/
theorem spatial_apply (x9 : Row512) (x18 : Half) (b : Fin 16) (i : Fin 2304) (q : Fin 1024) :
    val_main_v81 (F := Ideal) x9 x18 (ix3 b i q) = spatialOut (fun j => x9 (ix3 b i j)) x18 q := by
  pointwise [spatialOut, dot_S16x2304x512_S512x1024_S16x2304x1024_2_0_01_1_n_n, val_main_v81]

/-- The three gates. -/
theorem z0_apply (x7 : Zed) (b : Fin 16) (i : Fin 2304) (q : Fin 1024) :
    val_main_v91 (F := Ideal) x7 (ix3 b i q) = Ideal.logistic (x7 (ix3 b i ⟨5504 + q.val, by omega⟩)) := by
  pointwise [Ideal.logistic, val_main_v82, val_main_v83, val_main_v84, val_main_v85, val_main_v86, val_main_v87, val_main_v88, val_main_v89,
      val_main_v90, val_main_v91, val_main_cst_14, val_main_cst_15]
theorem z1_apply (x7 : Zed) (b : Fin 16) (i : Fin 2304) (q : Fin 1024) :
    val_main_v94 (F := Ideal) x7 (ix3 b i q) = Ideal.logistic (x7 (ix3 b i ⟨6528 + q.val, by omega⟩)) := by
  pointwise [Ideal.logistic, val_main_v82, val_main_v83, val_main_v84, val_main_v85, val_main_v86, val_main_v87, val_main_v88, val_main_v89,
      val_main_cst_14, val_main_cst_15, val_main_v93, val_main_v94]
  exact congrArg (fun c => Ideal.div 1 (1 + Ideal.exp (-x7 (ix3 b i c)))) (Fin.ext (by show 5504 + (1024 + q.val) = 6528 + q.val; omega))
theorem z2_apply (x7 : Zed) (b : Fin 16) (i : Fin 2304) (q : Fin 1024) :
    val_main_v98 (F := Ideal) x7 (ix3 b i q) = Ideal.logistic (x7 (ix3 b i ⟨7552 + q.val, by omega⟩)) := by
  pointwise [Ideal.logistic, val_main_v82, val_main_v83, val_main_v84, val_main_v85, val_main_v86, val_main_v87, val_main_v88, val_main_v89,
      val_main_cst_14, val_main_cst_15, val_main_v97, val_main_v98]
  exact congrArg (fun c => Ideal.div 1 (1 + Ideal.exp (-x7 (ix3 b i c)))) (Fin.ext (by show 5504 + (2048 + q.val) = 7552 + q.val; omega))

/-- The gated read-out's product. -/
theorem out_apply (x4 x5 : Heads) (x6 : Zr) (x10 x11 x12 : Gain) (x13 : Lora) (x16 : Sq) (b : Fin 16) (i : Fin 2304) (q : Fin 1024) :
    val_main_v50 (F := Ideal) x4 x5 x6 x10 x11 x12 x13 x16 (ix3 b i q) = proj (readOut x4 x5 x6 x10 x11 x12 x13 b i) x16 q := by
  have e : val_main_v50 (F := Ideal) x4 x5 x6 x10 x11 x12 x13 x16 (ix3 b i q)
      = ∑ n : Fin 1024, val_main_v41 (F := Ideal) x4 x5 x6 x10 x11 x12 (ix3 b i n) * val_main_v48 (F := Ideal) x6 x13 (ix3 b i n) * x16 (ix2 n q) := by
    pointwise [dot_S16x2304x1024_S1024x1024_S16x2304x1024_2_0_01_1_n_n, val_main_v49, val_main_v50]
  rw [e]
  unfold proj readOut
  refine Finset.sum_congr rfl fun n _ => ?_
  rw [head_apply, gate_apply]

/-- The three branches under their gates, times the last matrix. -/
theorem mix_apply (x4 x5 : Heads) (x6 : Zr) (x7 : Zed) (x8 x9 : Row512) (x10 x11 x12 : Gain) (x13 : Lora) (x14 x15 : Vec512) (x16 : Sq)
    (x17 x18 : Half) (x19 : Sq) (b : Fin 16) (i : Fin 2304) (q : Fin 1024) :
    val_main_v101 (F := Ideal) x4 x5 x6 x7 x8 x9 x10 x11 x12 x13 x14 x15 x16 x17 x18 x19 (ix3 b i q)
      = proj (mixed (proj (readOut x4 x5 x6 x10 x11 x12 x13 b i) x16)
          (convOut (fun j => x8 (ix3 b i j)) (fun j => x14 (ix1 j)) (fun j => x15 (ix1 j)) x17) (spatialOut (fun j => x9 (ix3 b i j)) x18)
          (fun k => x7 (ix3 b i ⟨5504 + k.val, by omega⟩)) (fun k => x7 (ix3 b i ⟨6528 + k.val, by omega⟩))
          (fun k => x7 (ix3 b i ⟨7552 + k.val, by omega⟩))) x19 q := by
  have e : val_main_v101 (F := Ideal) x4 x5 x6 x7 x8 x9 x10 x11 x12 x13 x14 x15 x16 x17 x18 x19 (ix3 b i q)
      = ∑ n : Fin 1024, (val_main_v50 (F := Ideal) x4 x5 x6 x10 x11 x12 x13 x16 (ix3 b i n) * val_main_v91 (F := Ideal) x7 (ix3 b i n)
          + val_main_v80 (F := Ideal) x8 x14 x15 x17 (ix3 b i n) * val_main_v94 (F := Ideal) x7 (ix3 b i n)
          + val_main_v81 (F := Ideal) x9 x18 (ix3 b i n) * val_main_v98 (F := Ideal) x7 (ix3 b i n)) * x19 (ix2 n q) := by
    pointwise [dot_S16x2304x1024_S1024x1024_S16x2304x1024_2_0_01_1_n_n, val_main_v92, val_main_v95, val_main_v96, val_main_v99,
      val_main_v100, val_main_v101]
  rw [e, proj]
  refine Finset.sum_congr rfl fun n _ => ?_
  rw [out_apply, conv_apply, spatial_apply, z0_apply, z1_apply, z2_apply]
  rfl

/-- The reference's result. -/
theorem result_apply (x0 : Lat) (x1 : Ctx) (x2 : PerBatch) (x3 : Gain) (x4 x5 : Heads) (x6 : Zr) (x7 : Zed) (x8 x9 : Row512)
    (x10 x11 x12 : Gain) (x13 : Lora) (x14 x15 : Vec512) (x16 : Sq) (x17 x18 : Half) (x19 : Sq) (b : Fin 16) (i : Fin 2304) (q : Fin 1024) :
    val_main_v112 (F := Ideal) x0 x1 x2 x3 x4 x5 x6 x7 x8 x9 x10 x11 x12 x13 x14 x15 x16 x17 x18 x19 (ix3 b i q)
      = merge x0 x1 x2 x3 x4 x5 x6 x7 x8 x9 x10 x11 x12 x13 x14 x15 x16 x17 x18 x19 b i q := by
  have key : val_main_v112 (F := Ideal) x0 x1 x2 x3 x4 x5 x6 x7 x8 x9 x10 x11 x12 x13 x14 x15 x16 x17 x18 x19 (ix3 b i q)
      = token x0 x1 b i q + modOf x2 x3 b i q
          * val_main_v101 (F := Ideal) x4 x5 x6 x7 x8 x9 x10 x11 x12 x13 x14 x15 x16 x17 x18 x19 (ix3 b i q) := by
    by_cases h : i.val < 2048
    · have e1 : token x0 x1 b i q = x0 (ix3 b ⟨i.val, h⟩ q) := dif_pos h
      have e2 : modOf x2 x3 b i q = x2 (ix2 b q) := if_pos h
      rw [e1, e2]
      pointwise [h, val_main_v102, val_main_v103, val_main_v104, val_main_v105, val_main_v106, val_main_v107, val_main_v108, val_main_v109,
        val_main_v110, val_main_v111, val_main_v112]
    · have e1 : token x0 x1 b i q = x1 (ix3 b ⟨i.val - 2048, by omega⟩ q) := dif_neg h
      have e2 : modOf x2 x3 b i q = x3 (ix1 q) := if_neg h
      rw [e1, e2]
      pointwise [h, val_main_v102, val_main_v103, val_main_v104, val_main_v105, val_main_v106, val_main_v107, val_main_v108, val_main_v109,
        val_main_v110, val_main_v111, val_main_v112]
      refine congrArg₂ (· + ·) rfl (congrArg₂ (· * ·) rfl
        (congrArg (fun k => val_main_v101 (F := Ideal) x4 x5 x6 x7 x8 x9 x10 x11 x12 x13 x14 x15 x16 x17 x18 x19 (ix3 b k q)) (Fin.ext ?_)))
      show 2048 + (i.val - 2048) = i.val
      omega
  rw [key, mix_apply]
  rfl

end Cert.MergeRefIdeal.Ref

end
-- ==== Proof.MergeEquation.lean ====
/- The merge and its reference end with the same array, where the heads' entries are finite. -/
module

public import proofs.«01_k».proof.Defs
public import proofs.«01_k».proof.Proof.MergeArray
public import proofs.«01_k».proof.Proof.MergeRef
public import proofs.«01_k».proof.Proof.Gen.MergeRefIdeal.Run
public import proofs.«01_k».proof.Proof.Gen.MergeRefIdeal.Read
public import Idealize.ShloMosaic.Lib.ReduceAll

@[expose] public section

set_option maxRecDepth 16384

noncomputable section

namespace Cert.MergeIdeal.Eqn

open Cert.Rows Cert.MergeSpec Idealize.ShloMosaic Idealize.ShloMosaic.TcCoe Idealize.SL.Sem

/-! ## The precondition -/

theorem and_left {a b : BitVec 1} (h : IntOp.andi a b = 1#1) : a = 1#1 := by
  revert a b; decide
theorem and_right {a b : BitVec 1} (h : IntOp.andi a b = 1#1) : b = 1#1 := by
  revert a b; decide

/-- An absolute value below the infinity is a real number's. -/
theorem real_of_olt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := by
    by_contra hn
    have : Ideal.cmp .olt (max x (-x)) ⊤ = 0#1 := by
      unfold Ideal.cmp
      simp [hn]
    rw [this] at h
    exact absurd h (by decide)
  refine real_of ⟨fun e => ?_, fun e => ?_⟩
  · rw [e] at hlt; simp at hlt
  · rw [e] at hlt; simp at hlt

theorem one_index : Subsingleton Cert.Pre_heads_finite.S_.Idx := ⟨fun a b => funext fun k => k.elim0⟩

/-- What the precondition says of the arrays. -/
theorem finite [hP : Cert.Pre_heads_finite.Facts] (x0 : Lat) (x1 : Ctx) (x2 : PerBatch) (x3 : Gain) (x4 x5 : Heads) (x6 : Zr) (x7 : Zed) (x8 x9 : Row512)
    (x10 x11 x12 : Gain) (x13 : Lora) (x14 x15 : Vec512) (x16 : Sq) (x17 x18 : Half) (x19 : Sq)
    (h : Cert.Pre_heads_finite.fn (F := Ideal) x0 x1 x2 x3 x4 x5 x6 x7 x8 x9 x10 x11 x12 x13 x14 x15 x16 x17 x18 x19 = fun _ => 1#1) :
    AllReal x4 ∧ AllReal x5 ∧ RkReal x6 ∧ AllReal x12 := by
  haveI := one_index
  have h0 := congrFun h (fun k => k.elim0)
  dsimp only [Cert.Pre_heads_finite.fn, Cert.Pre_heads_finite.fn_part1] at h0
  have hl := and_left h0
  have h12 := and_right h0
  have hl' := and_left hl
  have h6 := and_right hl
  have h4 := and_left hl'
  have h5 := and_right hl'
  refine ⟨fun j => real_of_olt _ (Host.reduce_andi_all _ _ _ _ _ h4 j), fun j => real_of_olt _ (Host.reduce_andi_all _ _ _ _ _ h5 j),
    fun b i k => ?_, fun j => real_of_olt _ (Host.reduce_andi_all _ _ _ _ _ h12 j)⟩
  obtain ⟨r, hr⟩ := real_of_olt _ (Host.reduce_andi_all _ _ _ _ _ h6 (ix3 b i k))
  refine ⟨r, Eq.trans ?_ hr⟩
  pointwise

/-! ## The claim -/

/-- The algebraic claim: from equal arguments, their heads finite, both runs end with `Arr.G` of them. -/
theorem algebraic [hP : Cert.Pre_heads_finite.Facts] : Cert.algebraic_MergeIdeal_MergeRefIdeal_pre_heads_finite := by
  intro m g m' g' hpre hag
  refine ⟨fun c => Arr.G m c, (θ_run Cert.MergeIdeal.defs _ _).mono (fun r h c => ?_) (Cert.MergeIdeal.Own.run_blocks m g),
    (θ_run Cert.MergeRefIdeal.defs _ _).mono (fun r h c => ?_) (Cert.MergeRefIdeal.Value.run m' g')⟩
  · exact ⟨(h c).1.trans (Arr.final m c (finite _ _ _ _ _ _ _ _ _ _ _ _ _ _ _ _ _ _ _ _ (hpre c))), (h c).2⟩
  · refine ⟨(h c).1.trans ?_, (h c).2⟩
    obtain ⟨a0, a1, a2, a3, a4, a5, a6, a7, a8, a9, a10, a11, a12, a13, a14, a15, a16, a17, a18, a19⟩ := hag c
    rw [Cert.MergeRefIdeal.Read.val_main_v112_eq, a0, a1, a2, a3, a4, a5, a6, a7, a8, a9, a10, a11, a12, a13, a14, a15, a16, a17, a18, a19]
    funext i
    have hi : i = ix3 (i 0) (i 1) (i 2) := by
      funext a
      match a with
      | ⟨0, _⟩ => rfl
      | ⟨1, _⟩ => rfl
      | ⟨2, _⟩ => rfl
    rw [hi]
    exact Cert.MergeRefIdeal.Ref.result_apply _ _ _ _ _ _ _ _ _ _ _ _ _ _ _ _ _ _ _ _ _ _ _

end Cert.MergeIdeal.Eqn

end
-- ==== Proof.MergeFrameBits.lean ====
/- The merge's launch in its own arithmetic: every run ends, faults nowhere, leaves its arguments as they were and every semaphore at
   zero, and its result array holds what the grid's points wrote back. -/
module

public import proofs.«01_k».proof.Proof.MergeRunBits
public import Idealize.ShloMosaic.Lib.Claim

@[expose] public section

set_option maxRecDepth 16384

noncomputable section

namespace Cert.Merge.Own

open Cert.Merge Cert.Merge.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The one store covers the result's block. -/
theorem covers (c : Dev nD) (i : grid0.Coords) (arg2 : Memref sig .tc .vmem S1x256x1024 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .bf16) (harg5 : arg5.IsWhole) (arg6 : Memref sig .tc .vmem S1x8x256x128 .bf16) (harg6 : arg6.IsWhole) (arg7 : Memref sig .tc .vmem S1x8x256x128 .bf16) (harg7 : arg7.IsWhole) (arg8 : Memref sig .tc .vmem S1x1x256x128 .bf16) (harg8 : arg8.IsWhole) (arg9 : Memref sig .tc .vmem S1x256x512 .f32) (harg9 : arg9.IsWhole) (arg10 : Memref sig .tc .vmem S1x256x512 .bf16) (harg10 : arg10.IsWhole) (arg11 : Memref sig .tc .vmem S1x256x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S1x1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S1024x1024 .bf16) (harg24 : arg24.IsWhole) (arg25 : Memref sig .tc .vmem S1x256x1024 .f32) (harg25 : arg25.IsWhole)
    (x0 : Vec F S1x256x1024 .f32) (x1 : Vec F S1x8x256x128 .f32) (x2 : Vec F S1x8x256x128 .f32) (x3 : Vec F S1x8x256x128 .bf16) (x4 : Vec F S1x8x256x128 .bf16) (x5 : Vec F S1x8x256x128 .bf16) (x6 : Vec F S1x1x256x128 .bf16) (x7 : Vec F S1x256x512 .f32) (x8 : Vec F S1x256x512 .bf16) (x9 : Vec F S1x256x1024 .bf16) (x10 : Vec F S1x256x1024 .bf16) (x11 : Vec F S1x256x1024 .bf16) (x12 : Vec F S1x1x1024 .f32) (x13 : Vec F S128x1024 .bf16) (x14 : Vec F S1x1024 .f32) (x15 : Vec F S1x1024 .f32) (x16 : Vec F S1x1024 .f32) (x17 : Vec F S1x512 .f32) (x18 : Vec F S1x512 .f32) (x19 : Vec F S1024x1024 .bf16) (x20 : Vec F S512x1024 .bf16) (x21 : Vec F S512x1024 .bf16) (x22 : Vec F S1024x1024 .bf16) (y : S1x256x1024.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1, y ∈ pc.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1 S1x256x1024.size (by sl_kernel_rfl) y

/-- What the body leaves in the result's staging buffer. -/
def left (c : Dev nD) (i : grid0.Coords) (arg2 : Memref sig .tc .vmem S1x256x1024 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .bf16) (harg5 : arg5.IsWhole) (arg6 : Memref sig .tc .vmem S1x8x256x128 .bf16) (harg6 : arg6.IsWhole) (arg7 : Memref sig .tc .vmem S1x8x256x128 .bf16) (harg7 : arg7.IsWhole) (arg8 : Memref sig .tc .vmem S1x1x256x128 .bf16) (harg8 : arg8.IsWhole) (arg9 : Memref sig .tc .vmem S1x256x512 .f32) (harg9 : arg9.IsWhole) (arg10 : Memref sig .tc .vmem S1x256x512 .bf16) (harg10 : arg10.IsWhole) (arg11 : Memref sig .tc .vmem S1x256x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S1x1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S1024x1024 .bf16) (harg24 : arg24.IsWhole) (arg25 : Memref sig .tc .vmem S1x256x1024 .f32) (harg25 : arg25.IsWhole)
    (x0 : Vec F S1x256x1024 .f32) (x1 : Vec F S1x8x256x128 .f32) (x2 : Vec F S1x8x256x128 .f32) (x3 : Vec F S1x8x256x128 .bf16) (x4 : Vec F S1x8x256x128 .bf16) (x5 : Vec F S1x8x256x128 .bf16) (x6 : Vec F S1x1x256x128 .bf16) (x7 : Vec F S1x256x512 .f32) (x8 : Vec F S1x256x512 .bf16) (x9 : Vec F S1x256x1024 .bf16) (x10 : Vec F S1x256x1024 .bf16) (x11 : Vec F S1x256x1024 .bf16) (x12 : Vec F S1x1x1024 .f32) (x13 : Vec F S128x1024 .bf16) (x14 : Vec F S1x1024 .f32) (x15 : Vec F S1x1024 .f32) (x16 : Vec F S1x1024 .f32) (x17 : Vec F S1x512 .f32) (x18 : Vec F S1x512 .f32) (x19 : Vec F S1024x1024 .bf16) (x20 : Vec F S512x1024 .bf16) (x21 : Vec F S512x1024 .bf16) (x22 : Vec F S1024x1024 .bf16) : Vec F S1x256x1024 .f32 :=
  VO0_23.read (Elt F) (VO0_23.writes (Elt F) VO0_23.junk (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1)

/-- The same at a grid point, from the point's blocks. -/
def leftAt (c : Dev nD) (t : Fin cfg0.N) : Vec F S1x256x1024 .f32 :=
  left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)

/-- The data of the pipeline: the arrays as the launch finds them, each input's buffer at its block after the body, the result's at `leftAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X0_4 m c t
    | ⟨5, _⟩ => X0_5 m c t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (leftAt m c t)
    | ⟨_ + 24, h⟩ => absurd h (Nat.not_lt.2 (Nat.le_add_left _ _))
  Φ _ := Pipeline.ΦA spec0 c
  q w := Pipeline.shareOf spec0 w
  owed _ := 0

/-- The arrays are those the launch finds. -/
theorem A_eq (c : Dev nD) (w : Fin cfg0.W) : (dats m 0 c).A w = V m c (Pipeline.arrRef spec0 w) := by
  dsimp only [dats]

/-- What the body leaves, buffer by buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = (leftAt m c t) := by dsimp only [dats]

/-- Each input's buffer holds its block when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 0 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  unfold leftAt
  unfold left
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((bodyRun c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, ⟨%e23, H23⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  unfold owns; iexists _; isplitr
  swap; · iexact H23
  ipureintro; exact View.read_writes_of_cover _ _ _ _ _ (covers c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body at a point's slots. -/
theorem defs₀_row (t : Fin cfg0.N) :
    defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every run ends with every array at what the pipeline leaves. -/
theorem run_main : θ_run defs (onTc (τ := τ) (main (F := F))) (s₀ m ρ) (Pipeline.FramePost cfgs (dats m) 0 (V m)) :=
  (θ_run defs _ _).mono (fun _ h => h.1) (run_main_quiescent m ρ)

/-- Every run leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- Every run ends, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.Merge.Own

end
-- ==== Proof.lean ====
/- The certificate's claims, put together: the frames of the scan (Proof/ScanFrames.lean) and of the merge
   (Proof/MergeFrame.lean, Proof/MergeFrameBits.lean), the generated frames of the five other calls and of the
   references, and the six equations (Proof/FfnLastEquation.lean, Proof/FfnEquation.lean, Proof/ZProjEquation.lean,
   Proof/RProjEquation.lean, Proof/SguEquation.lean, Proof/MergeEquation.lean). -/
module

public import proofs.«01_k».proof.Defs
public import proofs.«01_k».proof.Proof.Gen.Kernel
public import proofs.«01_k».proof.Proof.Gen.KernelIdeal
public import proofs.«01_k».proof.Proof.ScanFrames
public import proofs.«01_k».proof.Proof.Gen.FfnLast.Frame
public import proofs.«01_k».proof.Proof.Gen.FfnLastIdeal.Frame
public import proofs.«01_k».proof.Proof.Gen.FfnLastRefIdeal.Run
public import proofs.«01_k».proof.Proof.FfnLastEquation
public import proofs.«01_k».proof.Proof.Gen.Ffn.Frame
public import proofs.«01_k».proof.Proof.Gen.FfnIdeal.Frame
public import proofs.«01_k».proof.Proof.Gen.FfnRefIdeal.Run
public import proofs.«01_k».proof.Proof.FfnEquation
public import proofs.«01_k».proof.Proof.Gen.ZProj.Frame
public import proofs.«01_k».proof.Proof.Gen.ZProjIdeal.Frame
public import proofs.«01_k».proof.Proof.Gen.ZProjRefIdeal.Run
public import proofs.«01_k».proof.Proof.ZProjEquation
public import proofs.«01_k».proof.Proof.Gen.RProj.Frame
public import proofs.«01_k».proof.Proof.Gen.RProjIdeal.Frame
public import proofs.«01_k».proof.Proof.Gen.RProjRefIdeal.Run
public import proofs.«01_k».proof.Proof.RProjEquation
public import proofs.«01_k».proof.Proof.Gen.Sgu.Frame
public import proofs.«01_k».proof.Proof.Gen.SguIdeal.Frame
public import proofs.«01_k».proof.Proof.Gen.SguRefIdeal.Run
public import proofs.«01_k».proof.Proof.SguEquation
public import proofs.«01_k».proof.Proof.MergeFrame
public import proofs.«01_k».proof.Proof.MergeEquation
public import proofs.«01_k».proof.Proof.MergeFrameBits
public import proofs.«01_k».proof.Proof.Gen.MergeRefIdeal.Run
public import Idealize.ShloMosaic.Adequacy
public import Idealize.ShloMosaic.Init

@[expose] public section

noncomputable section

namespace Cert.Proof

open Idealize.ShloMosaic Idealize.SL.Sem Cert.Kernel

/-- The reference of the feed-forward layer with the final norm is host code without semaphores: its run leaves the arguments alone. -/
theorem frame_FfnLastRef : Cert.quiescent_FfnLastRefIdeal := fun m ρ _ =>
  (θ_run Cert.FfnLastRefIdeal.defs _ _).mono (fun r h => ⟨fun c => (h c).2, sem_eq_zero_of_no_sems (by decide) r.2⟩)
    (Cert.FfnLastRefIdeal.Value.run (F := Ideal) m ρ)

/-- The reference of the feed-forward layer is host code without semaphores: its run leaves the arguments alone. -/
theorem frame_FfnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The reference of the first in-projection is host code without semaphores: its run leaves the arguments alone. -/
theorem frame_ZProjRef : Cert.quiescent_ZProjRefIdeal := fun m ρ _ =>
  (θ_run Cert.ZProjRefIdeal.defs _ _).mono (fun r h => ⟨fun c => (h c).2, sem_eq_zero_of_no_sems (by decide) r.2⟩)
    (Cert.ZProjRefIdeal.Value.run (F := Ideal) m ρ)

/-- The reference of the token-shift in-projection is host code without semaphores: its run leaves the arguments alone. -/
theorem frame_RProjRef : Cert.quiescent_RProjRefIdeal := fun m ρ _ =>
  (θ_run Cert.RProjRefIdeal.defs _ _).mono (fun r h => ⟨fun c => (h c).2, sem_eq_zero_of_no_sems (by decide) r.2⟩)
    (Cert.RProjRefIdeal.Value.run (F := Ideal) m ρ)

/-- The reference of the spatial gate is host code without semaphores: its run leaves the arguments alone. -/
theorem frame_SguRef : Cert.quiescent_SguRefIdeal := fun m ρ _ =>
  (θ_run Cert.SguRefIdeal.defs _ _).mono (fun r h => ⟨fun c => (h c).2, sem_eq_zero_of_no_sems (by decide) r.2⟩)
    (Cert.SguRefIdeal.Value.run (F := Ideal) m ρ)

/-- The reference of the merge is host code without semaphores: its run leaves the arguments alone. -/
theorem frame_MergeRef : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The shape conditions of the precondition's operations. -/
theorem facts_heads_finite : Cert.Pre_heads_finite.Facts where
  bcast_S_S16x2304x16x64 := by decide
  reducesTo_S16x2304x16x64_S_d0_1_2_3 := by decide
  h_S_ := by decide
  slices_S16x2304x3456_S16x2304x2048_0_0_0 := by decide
  bcast_S_S16x2304x2048 := by decide
  reducesTo_S16x2304x2048_S_d0_1_2 := by decide
  bcast_S_S1024 := by decide
  reducesTo_S1024_S_d0 := by decide

/-- Every claim of the certificate. -/
theorem claim : Cert.Claim := ⟨Cert.Kernel.Gen.facts,
    Cert.KernelIdeal.Gen.facts,
    Cert.FfnLast.Gen.facts,
    Cert.FfnLastIdeal.Gen.facts,
    Cert.FfnLastRefIdeal.Gen.facts,
    Cert.Ffn.Gen.facts,
    Cert.FfnIdeal.Gen.facts,
    Cert.FfnRefIdeal.Gen.facts,
    Cert.ZProj.Gen.facts,
    Cert.ZProjIdeal.Gen.facts,
    Cert.ZProjRefIdeal.Gen.facts,
    Cert.RProj.Gen.facts,
    Cert.RProjIdeal.Gen.facts,
    Cert.RProjRefIdeal.Gen.facts,
    Cert.Sgu.Gen.facts,
    Cert.SguIdeal.Gen.facts,
    Cert.SguRefIdeal.Gen.facts,
    Cert.Merge.Gen.facts,
    Cert.MergeIdeal.Gen.facts,
    Cert.MergeRefIdeal.Gen.facts,
    facts_heads_finite,
    Cert.KernelIdeal.Scan.frame_kernel,
    Cert.KernelIdeal.Scan.frame_ideal,
    fun m ρ _ => Cert.FfnLast.Gen.frame m ρ,
    fun m ρ _ => Cert.FfnLastIdeal.Gen.frame m ρ,
    frame_FfnLastRef,
    fun m ρ _ => Cert.Ffn.Gen.frame m ρ,
    fun m ρ _ => Cert.FfnIdeal.Gen.frame m ρ,
    frame_FfnRef,
    fun m ρ _ => Cert.ZProj.Gen.frame m ρ,
    fun m ρ _ => Cert.ZProjIdeal.Gen.frame m ρ,
    frame_ZProjRef,
    fun m ρ _ => Cert.RProj.Gen.frame m ρ,
    fun m ρ _ => Cert.RProjIdeal.Gen.frame m ρ,
    frame_RProjRef,
    fun m ρ _ => Cert.Sgu.Gen.frame m ρ,
    fun m ρ _ => Cert.SguIdeal.Gen.frame m ρ,
    frame_SguRef,
    fun m ρ _ => Cert.Merge.Own.frame m ρ,
    fun m ρ _ => Cert.MergeIdeal.Own.frame m ρ,
    fun m ρ _ => Cert.MergeIdeal.Own.frame m ρ,
    frame_MergeRef,
    fun m ρ _ => frame_MergeRef m ρ trivial,
    trivial,
    trivial,
    Cert.FfnLastIdeal.Eqn.algebraic,
    trivial,
    Cert.FfnIdeal.Eqn.algebraic,
    trivial,
    Cert.ZProjIdeal.Eqn.algebraic,
    trivial,
    Cert.RProjIdeal.Eqn.algebraic,
    trivial,
    Cert.SguIdeal.Eqn.algebraic,
    trivial,
    Cert.MergeIdeal.Eqn.algebraic (hP := facts_heads_finite)⟩

end Cert.Proof

end
